-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_tail [hPre_finite_tail : Cert.Pre_finite_tail.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_tail.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_tail [hPre_finite_tail : Cert.Pre_finite_tail.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_tail.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_tail [hKernel6Ideal : Cert.Kernel6Ideal.Facts] [hPre_finite_tail : Cert.Pre_finite_tail.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_tail m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_tail [hReference6Ideal : Cert.Reference6Ideal.Facts] [hPre_finite_tail : Cert.Pre_finite_tail.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_tail m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_tail [hKernel6Ideal : Cert.Kernel6Ideal.Facts] [hReference6Ideal : Cert.Reference6Ideal.Facts] [hPre_finite_tail : Cert.Pre_finite_tail.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_tail m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_finite_gate : Cert.Pre_finite_gate.Facts) (hPre_finite_tail : Cert.Pre_finite_tail.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_tail (hKernel6Ideal := hKernel6Ideal) (hPre_finite_tail := hPre_finite_tail)
    ∧ quiescent_Reference6Ideal (hReference6Ideal := hReference6Ideal)
    ∧ quiescent_Reference6Ideal_pre_finite_tail (hReference6Ideal := hReference6Ideal) (hPre_finite_tail := hPre_finite_tail)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_tail (hKernel6Ideal := hKernel6Ideal) (hReference6Ideal := hReference6Ideal) (hPre_finite_tail := hPre_finite_tail)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_gate.lean ====
abbrev S8704x4096 : Shape := ⟨2, ![8704, 4096]⟩
abbrev S4096x11008 : Shape := ⟨2, ![4096, 11008]⟩
abbrev S3x11008 : Shape := ⟨2, ![3, 11008]⟩
abbrev S1x11008 : Shape := ⟨2, ![1, 11008]⟩
abbrev S11008x4096 : Shape := ⟨2, ![11008, 4096]⟩
abbrev S_ : Shape := ⟨0, ![]⟩

class Facts : Prop where
  bcast_S_S8704x4096 : S_.BroadcastsInDim S8704x4096 (![] : Fin 0 → Fin S8704x4096.rank)
  reducesTo_S8704x4096_S_d0_1 : S8704x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S3x11008 : S_.BroadcastsInDim S3x11008 (![] : Fin 0 → Fin S3x11008.rank)
  reducesTo_S3x11008_S_d0_1 : S3x11008.ReducesTo [0, 1] S_
  bcast_S_S1x11008 : S_.BroadcastsInDim S1x11008 (![] : Fin 0 → Fin S1x11008.rank)
  reducesTo_S1x11008_S_d0_1 : S1x11008.ReducesTo [0, 1] S_

variable [Facts]

def fn_part1 {F : FTy → Type} [FloatOps F] (main_v13 : IVec S_ 1) (main_v16 : IVec S1x11008 1) : IVec S_ 1 :=
  let main_c_5 : IVec S_ 1 := constantI S_ 1 1#1
  let main_v17 : IVec S_ 1 := (fun x v => Host.reduce IntOp.andi x v reducesTo_S1x11008_S_d0_1 h_S_) main_v16 main_c_5
  let main_v18 : IVec S_ 1 := andi main_v13 main_v17
  main_v18

def fn {F : FTy → Type} [FloatOps F] (main_arg0 : FVec F S8704x4096 .bf16) (main_arg1 : FVec F S4096x11008 .bf16) (main_arg2 : FVec F S4096x11008 .bf16) (main_arg3 : FVec F S3x11008 .f32) (main_arg4 : FVec F S1x11008 .f32) (main_arg5 : FVec F S11008x4096 .f32) : IVec S_ 1 :=
  let main_v0 : FVec F S8704x4096 .bf16 := Host.absf main_arg0
  let main_cst : FVec F S_ .bf16 := constant S_ .bf16 0x7F80#16
  let main_v1 : FVec F S8704x4096 .bf16 := broadcastInDim S8704x4096 ![] bcast_S_S8704x4096 main_cst
  let main_v2 : IVec S8704x4096 1 := cmpf .olt main_v0 main_v1
  let main_c : IVec S_ 1 := constantI S_ 1 1#1
  let main_v3 : IVec S_ 1 := (fun x v => Host.reduce IntOp.andi x v reducesTo_S8704x4096_S_d0_1 h_S_) main_v2 main_c
  let main_v4 : FVec F S4096x11008 .bf16 := Host.absf main_arg1
  let main_cst_0 : FVec F S_ .bf16 := constant S_ .bf16 0x7F80#16
  let main_v5 : FVec F S4096x11008 .bf16 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S3x11008 .f32 := Host.absf main_arg3
  let main_cst_2 : FVec F S_ .f32 := constant S_ .f32 0x7F800000#32
  let main_v10 : FVec F S3x11008 .f32 := broadcastInDim S3x11008 ![] bcast_S_S3x11008 main_cst_2
  let main_v11 : IVec S3x11008 1 := cmpf .olt main_v9 main_v10
  let main_c_3 : IVec S_ 1 := constantI S_ 1 1#1
  let main_v12 : IVec S_ 1 := (fun x v => Host.reduce IntOp.andi x v reducesTo_S3x11008_S_d0_1 h_S_) main_v11 main_c_3
  let main_v13 : IVec S_ 1 := andi main_v8 main_v12
  let main_v14 : FVec F S1x11008 .f32 := Host.absf main_arg4
  let main_cst_4 : FVec F S_ .f32 := constant S_ .f32 0x7F800000#32
  let main_v15 : FVec F S1x11008 .f32 := broadcastInDim S1x11008 ![] bcast_S_S1x11008 main_cst_4
  let main_v16 : IVec S1x11008 1 := cmpf .olt main_v14 main_v15
  fn_part1 (F := F) main_v13 main_v16
-- ==== Pre_finite_scores.lean ====
abbrev S8192x6144 : Shape := ⟨2, ![8192, 6144]⟩
abbrev S256x4096 : Shape := ⟨2, ![256, 4096]⟩
abbrev S1x16x15x31 : Shape := ⟨4, ![1, 16, 15, 31]⟩
abbrev S1x4096x22016 : Shape := ⟨3, ![1, 4096, 22016]⟩
abbrev S8192x4096 : Shape := ⟨2, ![8192, 4096]⟩
abbrev S_ : Shape := ⟨0, ![]⟩
abbrev S256x2048 : Shape := ⟨2, ![256, 2048]⟩

class Facts : Prop where
  slices_S8192x6144_S8192x4096_0_0 : S8192x6144.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S256x4096_S256x2048_0_0 : S256x4096.Slices ![0, 0] S256x2048
  bcast_S_S256x2048 : S_.BroadcastsInDim S256x2048 (![] : Fin 0 → Fin S256x2048.rank)
  reducesTo_S256x2048_S_d0_1 : S256x2048.ReducesTo [0, 1] S_
  bcast_S_S1x16x15x31 : S_.BroadcastsInDim S1x16x15x31 (![] : Fin 0 → Fin S1x16x15x31.rank)
  reducesTo_S1x16x15x31_S_d0_1_2_3 : S1x16x15x31.ReducesTo [0, 1, 2, 3] S_

variable [Facts]

def fn {F : FTy → Type} [FloatOps F] (main_arg0 : FVec F S8192x6144 .bf16) (main_arg1 : FVec F S256x4096 .bf16) (main_arg2 : FVec F S1x16x15x31 .f32) (main_arg3 : FVec F S1x4096x22016 .f32) : IVec S_ 1 :=
  let main_v0 : FVec F S8192x4096 .bf16 := (extractStridedSlice S8192x4096 ![0, 0] · slices_S8192x6144_S8192x4096_0_0) main_arg0
  let main_v1 : FVec F S8192x4096 .bf16 := Host.absf main_v0
  let main_cst : FVec F S_ .bf16 := constant S_ .bf16 0x7F80#16
  let main_v2 : FVec F S8192x4096 .bf16 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S256x2048 .bf16 := (extractStridedSlice S256x2048 ![0, 0] · slices_S256x4096_S256x2048_0_0) main_arg1
  let main_v6 : FVec F S256x2048 .bf16 := Host.absf main_v5
  let main_cst_0 : FVec F S_ .bf16 := constant S_ .bf16 0x7F80#16
  let main_v7 : FVec F S256x2048 .bf16 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S1x16x15x31 .f32 := Host.absf main_arg2
  let main_cst_2 : FVec F S_ .f32 := constant S_ .f32 0x7F800000#32
  let main_v12 : FVec F S1x16x15x31 .f32 := broadcastInDim S1x16x15x31 ![] bcast_S_S1x16x15x31 main_cst_2
  let main_v13 : IVec S1x16x15x31 1 := cmpf .olt main_v11 main_v12
  let main_c_3 : IVec S_ 1 := constantI S_ 1 1#1
  let main_v14 : IVec S_ 1 := (fun x v => Host.reduce IntOp.andi x v reducesTo_S1x16x15x31_S_d0_1_2_3 h_S_) main_v13 main_c_3
  let main_v15 : IVec S_ 1 := andi main_v10 main_v14
  main_v15
-- ==== Pre_finite_tail.lean ====
abbrev S8704x4096 : Shape := ⟨2, ![8704, 4096]⟩
abbrev S4096x11008 : Shape := ⟨2, ![4096, 11008]⟩
abbrev S3x11008 : Shape := ⟨2, ![3, 11008]⟩
abbrev S1x11008 : Shape := ⟨2, ![1, 11008]⟩
abbrev S_ : Shape := ⟨0, ![]⟩

class Facts : Prop where
  bcast_S_S8704x4096 : S_.BroadcastsInDim S8704x4096 (![] : Fin 0 → Fin S8704x4096.rank)
  reducesTo_S8704x4096_S_d0_1 : S8704x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S3x11008 : S_.BroadcastsInDim S3x11008 (![] : Fin 0 → Fin S3x11008.rank)
  reducesTo_S3x11008_S_d0_1 : S3x11008.ReducesTo [0, 1] S_
  bcast_S_S1x11008 : S_.BroadcastsInDim S1x11008 (![] : Fin 0 → Fin S1x11008.rank)
  reducesTo_S1x11008_S_d0_1 : S1x11008.ReducesTo [0, 1] S_

variable [Facts]

def fn_part1 {F : FTy → Type} [FloatOps F] (main_v13 : IVec S_ 1) (main_v16 : IVec S1x11008 1) : IVec S_ 1 :=
  let main_c_5 : IVec S_ 1 := constantI S_ 1 1#1
  let main_v17 : IVec S_ 1 := (fun x v => Host.reduce IntOp.andi x v reducesTo_S1x11008_S_d0_1 h_S_) main_v16 main_c_5
  let main_v18 : IVec S_ 1 := andi main_v13 main_v17
  main_v18

def fn {F : FTy → Type} [FloatOps F] (main_arg0 : FVec F S8704x4096 .bf16) (main_arg1 : FVec F S4096x11008 .bf16) (main_arg2 : FVec F S4096x11008 .bf16) (main_arg3 : FVec F S3x11008 .f32) (main_arg4 : FVec F S1x11008 .f32) : IVec S_ 1 :=
  let main_v0 : FVec F S8704x4096 .bf16 := Host.absf main_arg0
  let main_cst : FVec F S_ .bf16 := constant S_ .bf16 0x7F80#16
  let main_v1 : FVec F S8704x4096 .bf16 := broadcastInDim S8704x4096 ![] bcast_S_S8704x4096 main_cst
  let main_v2 : IVec S8704x4096 1 := cmpf .olt main_v0 main_v1
  let main_c : IVec S_ 1 := constantI S_ 1 1#1
  let main_v3 : IVec S_ 1 := (fun x v => Host.reduce IntOp.andi x v reducesTo_S8704x4096_S_d0_1 h_S_) main_v2 main_c
  let main_v4 : FVec F S4096x11008 .bf16 := Host.absf main_arg1
  let main_cst_0 : FVec F S_ .bf16 := constant S_ .bf16 0x7F80#16
  let main_v5 : FVec F S4096x11008 .bf16 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S3x11008 .f32 := Host.absf main_arg3
  let main_cst_2 : FVec F S_ .f32 := constant S_ .f32 0x7F800000#32
  let main_v10 : FVec F S3x11008 .f32 := broadcastInDim S3x11008 ![] bcast_S_S3x11008 main_cst_2
  let main_v11 : IVec S3x11008 1 := cmpf .olt main_v9 main_v10
  let main_c_3 : IVec S_ 1 := constantI S_ 1 1#1
  let main_v12 : IVec S_ 1 := (fun x v => Host.reduce IntOp.andi x v reducesTo_S3x11008_S_d0_1 h_S_) main_v11 main_c_3
  let main_v13 : IVec S_ 1 := andi main_v8 main_v12
  let main_v14 : FVec F S1x11008 .f32 := Host.absf main_arg4
  let main_cst_4 : FVec F S_ .f32 := constant S_ .f32 0x7F800000#32
  let main_v15 : FVec F S1x11008 .f32 := broadcastInDim S1x11008 ![] bcast_S_S1x11008 main_cst_4
  let main_v16 : IVec S1x11008 1 := cmpf .olt main_v14 main_v15
  fn_part1 (F := F) main_v13 main_v16
-- ==== Kernel.lean ====
abbrev S8192x6144 : Shape := ⟨2, ![8192, 6144]⟩
abbrev S256x4096 : Shape := ⟨2, ![256, 4096]⟩
abbrev S1x16x15x31 : Shape := ⟨4, ![1, 16, 15, 31]⟩
abbrev S1x4096x22016 : Shape := ⟨3, ![1, 4096, 22016]⟩
abbrev S4096x22016 : Shape := ⟨2, ![4096, 22016]⟩
abbrev S16x15x31 : Shape := ⟨3, ![16, 15, 31]⟩
abbrev S16x465 : Shape := ⟨2, ![16, 465]⟩
abbrev S16x44x64x128 : Shape := ⟨4, ![16, 44, 64, 128]⟩
abbrev S1x44x64x128 : Shape := ⟨4, ![1, 44, 64, 128]⟩
abbrev S64x128 : Shape := ⟨2, ![64, 128]⟩
abbrev S1x1 : Shape := ⟨2, ![1, 1]⟩
abbrev S1x1x64x128 : Shape := ⟨4, ![1, 1, 64, 128]⟩
abbrev S8192x2048 : Shape := ⟨2, ![8192, 2048]⟩
abbrev S4096x11008 : Shape := ⟨2, ![4096, 11008]⟩
abbrev S2048x128 : Shape := ⟨2, ![2048, 128]⟩
abbrev S8192x128 : Shape := ⟨2, ![8192, 128]⟩
abbrev S256x128 : Shape := ⟨2, ![256, 128]⟩
abbrev S4096x256 : Shape := ⟨2, ![4096, 256]⟩
abbrev S8x256x768 : Shape := ⟨3, ![8, 256, 768]⟩
abbrev S8x256x256 : Shape := ⟨3, ![8, 256, 256]⟩
abbrev S768x128 : Shape := ⟨2, ![768, 128]⟩
abbrev S256x768 : Shape := ⟨2, ![256, 768]⟩
abbrev S1x256x768 : Shape := ⟨3, ![1, 256, 768]⟩
abbrev S256x256 : Shape := ⟨2, ![256, 256]⟩
abbrev S1x256x256 : Shape := ⟨3, ![1, 256, 256]⟩
abbrev S64x512 : Shape := ⟨2, ![64, 512]⟩
abbrev S1x64x512 : Shape := ⟨3, ![1, 64, 512]⟩
abbrev S1x64x256 : Shape := ⟨3, ![1, 64, 256]⟩
abbrev S64x256 : Shape := ⟨2, ![64, 256]⟩
abbrev S64 : Shape := ⟨1, ![64]⟩
abbrev S64x1 : Shape := ⟨2, ![64, 1]⟩
abbrev S256x1 : Shape := ⟨2, ![256, 1]⟩
abbrev S64x640 : Shape := ⟨2, ![64, 640]⟩
abbrev S1x64x640 : Shape := ⟨3, ![1, 64, 640]⟩
abbrev S1x64x128 : Shape := ⟨3, ![1, 64, 128]⟩

abbrev nBuf : Space → Nat
  | .hbm => 10
  | .vmem => 24
  | .smem => 1
  | _ => 0

abbrev bufTy : (tb : Table) → Fin (tcTables nBuf tb) → BufTy
  | .hbm, ⟨0, _⟩ => ⟨S8192x6144, .bf16⟩
  | .hbm, ⟨1, _⟩ => ⟨S256x4096, .bf16⟩
  | .hbm, ⟨2, _⟩ => ⟨S1x16x15x31, .f32⟩
  | .hbm, ⟨3, _⟩ => ⟨S1x4096x22016, .f32⟩
  | .hbm, ⟨4, _⟩ => ⟨S4096x22016, .f32⟩
  | .hbm, ⟨5, _⟩ => ⟨S16x15x31, .f32⟩
  | .hbm, ⟨6, _⟩ => ⟨S16x465, .f32⟩
  | .hbm, ⟨7, _⟩ => ⟨S16x44x64x128, .f32⟩
  | .hbm, ⟨8, _⟩ => ⟨S8192x2048, .bf16⟩
  | .hbm, ⟨9, _⟩ => ⟨S4096x11008, .bf16⟩
  | .local _ .vmem, ⟨0, _⟩ => ⟨S1x44x64x128, .f32⟩
  | .local _ .vmem, ⟨1, _⟩ => ⟨S1x44x64x128, .f32⟩
  | .local _ .vmem, ⟨2, _⟩ => ⟨S2048x128, .bf16⟩
  | .local _ .vmem, ⟨3, _⟩ => ⟨S2048x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S1x44x64x128, .f32⟩
  | .local _ .vmem, ⟨13, _⟩ => ⟨S1x44x64x128, .f32⟩
  | .local _ .vmem, ⟨14, _⟩ => ⟨S4096x256, .f32⟩
  | .local _ .vmem, ⟨15, _⟩ => ⟨S4096x256, .f32⟩
  | .local _ .vmem, ⟨16, _⟩ => ⟨S2048x128, .bf16⟩
  | .local _ .vmem, ⟨17, _⟩ => ⟨S2048x128, .bf16⟩
  | .local _ .vmem, ⟨18, _⟩ => ⟨S4096x256, .bf16⟩
  | .local _ .vmem, ⟨19, _⟩ => ⟨S4096x256, .bf16⟩
  | .local _ .vmem, ⟨20, _⟩ => ⟨S8x256x768, .f32⟩
  | .local _ .vmem, ⟨21, _⟩ => ⟨S8x256x256, .f32⟩
  | .local _ .vmem, ⟨22, _⟩ => ⟨S8x256x768, .bf16⟩
  | .local _ .vmem, ⟨23, _⟩ => ⟨S8x256x256, .bf16⟩
  | .local _ .smem, ⟨0, _⟩ => ⟨S16x465, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v88 : Index := Scalar.indexCast arg0
  let c0 : Index := 0#32
  ![v88.toNat, 0]
def k0_off2 (i : grid0.Coords) : Fin 2 → Nat :=
  let arg0 : BitVec 32 := BitVec.ofNat 32 (i 0).val
  let v92 : Index := Scalar.indexCast arg0
  let c1 : Index := 1#32
  ![v92.toNat, 1]
def k0_off3 (i : grid0.Coords) : Fin 2 → Nat :=
  let arg0 : BitVec 32 := BitVec.ofNat 32 (i 0).val
  let v96 : Index := Scalar.indexCast arg0
  let c2 : Index := 2#32
  ![v96.toNat, 2]
def k0_off4 (i : grid0.Coords) : Fin 2 → Nat :=
  let arg0 : BitVec 32 := BitVec.ofNat 32 (i 0).val
  let v100 : Index := Scalar.indexCast arg0
  let c3 : Index := 3#32
  ![v100.toNat, 3]
def k0_off5 (i : grid0.Coords) : Fin 2 → Nat :=
  let arg0 : BitVec 32 := BitVec.ofNat 32 (i 0).val
  let v104 : Index := Scalar.indexCast arg0
  let c4 : Index := 4#32
  ![v104.toNat, 4]
def k0_off6 (i : grid0.Coords) : Fin 2 → Nat :=
  let arg0 : BitVec 32 := BitVec.ofNat 32 (i 0).val
  let v108 : Index := Scalar.indexCast arg0
  let c5 : Index := 5#32
  ![v108.toNat, 5]
def k0_off7 (i : grid0.Coords) : Fin 2 → Nat :=
  let arg0 : BitVec 32 := BitVec.ofNat 32 (i 0).val
  let v112 : Index := Scalar.indexCast arg0
  let c6 : Index := 6#32
  ![v112.toNat, 6]
def k0_off8 (i : grid0.Coords) : Fin 2 → Nat :=
  let arg0 : BitVec 32 := BitVec.ofNat 32 (i 0).val
  let v116 : Index := Scalar.indexCast arg0
  let c7 : Index := 7#32
  ![v116.toNat, 7]
def k0_off9 (i : grid0.Coords) : Fin 2 → Nat :=
  let arg0 : BitVec 32 := BitVec.ofNat 32 (i 0).val
  let v120 : Index := Scalar.indexCast arg0
  let c8 : Index := 8#32
  ![v120.toNat, 8]
def k0_off10 (i : grid0.Coords) : Fin 2 → Nat :=
  let arg0 : BitVec 32 := BitVec.ofNat 32 (i 0).val
  let v124 : Index := Scalar.indexCast arg0
  let c9 : Index := 9#32
  ![v124.toNat, 9]
def k0_off11 (i : grid0.Coords) : Fin 2 → Nat :=
  let arg0 : BitVec 32 := BitVec.ofNat 32 (i 0).val
  let v128 : Index := Scalar.indexCast arg0
  let c10 : Index := 10#32
  ![v128.toNat, 10]
def k0_off12 (i : grid0.Coords) : Fin 2 → Nat :=
  let arg0 : BitVec 32 := BitVec.ofNat 32 (i 0).val
  let v132 : Index := Scalar.indexCast arg0
  let c11 : Index := 11#32
  ![v132.toNat, 11]
def k0_off13 (i : grid0.Coords) : Fin 2 → Nat :=
  let arg0 : BitVec 32 := BitVec.ofNat 32 (i 0).val
  let v136 : Index := Scalar.indexCast arg0
  let c12 : Index := 12#32
  ![v136.toNat, 12]
def k0_off14 (i : grid0.Coords) : Fin 2 → Nat :=
  let arg0 : BitVec 32 := BitVec.ofNat 32 (i 0).val
  let v140 : Index := Scalar.indexCast arg0
  let c13 : Index := 13#32
  ![v140.toNat, 13]
def k0_off15 (i : grid0.Coords) : Fin 2 → Nat :=
  let arg0 : BitVec 32 := BitVec.ofNat 32 (i 0).val
  let v144 : Index := Scalar.indexCast arg0
  let c14 : Index := 14#32
  ![v144.toNat, 14]
def k0_off16 (i : grid0.Coords) : Fin 2 → Nat :=
  let arg0 : BitVec 32 := BitVec.ofNat 32 (i 0).val
  let v148 : Index := Scalar.indexCast arg0
  let c15 : Index := 15#32
  ![v148.toNat, 15]
def k0_off17 (i : grid0.Coords) : Fin 2 → Nat :=
  let arg0 : BitVec 32 := BitVec.ofNat 32 (i 0).val
  let v152 : Index := Scalar.indexCast arg0
  let c16 : Index := 16#32
  ![v152.toNat, 16]
def k0_off18 (i : grid0.Coords) : Fin 2 → Nat :=
  let arg0 : BitVec 32 := BitVec.ofNat 32 (i 0).val
  let v156 : Index := Scalar.indexCast arg0
  let c17 : Index := 17#32
  ![v156.toNat, 17]
def k0_off19 (i : grid0.Coords) : Fin 2 → Nat :=
  let arg0 : BitVec 32 := BitVec.ofNat 32 (i 0).val
  let v160 : Index := Scalar.indexCast arg0
  let c18 : Index := 18#32
  ![v160.toNat, 18]
def k0_off20 (i : grid0.Coords) : Fin 2 → Nat :=
  let arg0 : BitVec 32 := BitVec.ofNat 32 (i 0).val
  let v164 : Index := Scalar.indexCast arg0
  let c19 : Index := 19#32
  ![v164.toNat, 19]
def k0_off21 (i : grid0.Coords) : Fin 2 → Nat :=
  let arg0 : BitVec 32 := BitVec.ofNat 32 (i 0).val
  let v168 : Index := Scalar.indexCast arg0
  let c20 : Index := 20#32
  ![v168.toNat, 20]
def k0_off22 (i : grid0.Coords) : Fin 2 → Nat :=
  let arg0 : BitVec 32 := BitVec.ofNat 32 (i 0).val
  let v172 : Index := Scalar.indexCast arg0
  let c21 : Index := 21#32
  ![v172.toNat, 21]
def k0_off23 (i : grid0.Coords) : Fin 2 → Nat :=
  let arg0 : BitVec 32 := BitVec.ofNat 32 (i 0).val
  let v176 : Index := Scalar.indexCast arg0
  let c22 : Index := 22#32
  ![v176.toNat, 22]
def k0_off24 (i : grid0.Coords) : Fin 2 → Nat :=
  let arg0 : BitVec 32 := BitVec.ofNat 32 (i 0).val
  let v180 : Index := Scalar.indexCast arg0
  let c23 : Index := 23#32
  ![v180.toNat, 23]
def k0_off25 (i : grid0.Coords) : Fin 2 → Nat :=
  let arg0 : BitVec 32 := BitVec.ofNat 32 (i 0).val
  let v184 : Index := Scalar.indexCast arg0
  let c24 : Index := 24#32
  ![v184.toNat, 24]
def k0_off26 (i : grid0.Coords) : Fin 2 → Nat :=
  let arg0 : BitVec 32 := BitVec.ofNat 32 (i 0).val
  let v188 : Index := Scalar.indexCast arg0
  let c25 : Index := 25#32
  ![v188.toNat, 25]
def k0_off27 (i : grid0.Coords) : Fin 2 → Nat :=
  let arg0 : BitVec 32 := BitVec.ofNat 32 (i 0).val
  let v192 : Index := Scalar.indexCast arg0
  let c26 : Index := 26#32
  ![v192.toNat, 26]
def k0_off28 (i : grid0.Coords) : Fin 2 → Nat :=
  let arg0 : BitVec 32 := BitVec.ofNat 32 (i 0).val
  let v196 : Index := Scalar.indexCast arg0
  let c27 : Index := 27#32
  ![v196.toNat, 27]
def k0_off29 (i : grid0.Coords) : Fin 2 → Nat :=
  let arg0 : BitVec 32 := BitVec.ofNat 32 (i 0).val
  let v200 : Index := Scalar.indexCast arg0
  let c28 : Index := 28#32
  ![v200.toNat, 28]
def k0_off30 (i : grid0.Coords) : Fin 2 → Nat :=
  let arg0 : BitVec 32 := BitVec.ofNat 32 (i 0).val
  let v204 : Index := Scalar.indexCast arg0
  let c29 : Index := 29#32
  ![v204.toNat, 29]
def k0_off31 (i : grid0.Coords) : Fin 2 → Nat :=
  let arg0 : BitVec 32 := BitVec.ofNat 32 (i 0).val
  let v208 : Index := Scalar.indexCast arg0
  let c30 : Index := 30#32
  ![v208.toNat, 30]
def k0_off32 (i : grid0.Coords) : Fin 2 → Nat :=
  let arg0 : BitVec 32 := BitVec.ofNat 32 (i 0).val
  let v214 : Index := Scalar.indexCast arg0
  let c31 : Index := 31#32
  ![v214.toNat, 31]
def k0_off33 (i : grid0.Coords) : Fin 2 → Nat :=
  let arg0 : BitVec 32 := BitVec.ofNat 32 (i 0).val
  let v218 : Index := Scalar.indexCast arg0
  let c32 : Index := 32#32
  ![v218.toNat, 32]
def k0_off34 (i : grid0.Coords) : Fin 2 → Nat :=
  let arg0 : BitVec 32 := BitVec.ofNat 32 (i 0).val
  let v222 : Index := Scalar.indexCast arg0
  let c33 : Index := 33#32
  ![v222.toNat, 33]
def k0_off35 (i : grid0.Coords) : Fin 2 → Nat :=
  let arg0 : BitVec 32 := BitVec.ofNat 32 (i 0).val
  let v226 : Index := Scalar.indexCast arg0
  let c34 : Index := 34#32
  ![v226.toNat, 34]
def k0_off36 (i : grid0.Coords) : Fin 2 → Nat :=
  let arg0 : BitVec 32 := BitVec.ofNat 32 (i 0).val
  let v230 : Index := Scalar.indexCast arg0
  let c35 : Index := 35#32
  ![v230.toNat, 35]
def k0_off37 (i : grid0.Coords) : Fin 2 → Nat :=
  let arg0 : BitVec 32 := BitVec.ofNat 32 (i 0).val
  let v234 : Index := Scalar.indexCast arg0
  let c36 : Index := 36#32
  ![v234.toNat, 36]
def k0_off38 (i : grid0.Coords) : Fin 2 → Nat :=
  let arg0 : BitVec 32 := BitVec.ofNat 32 (i 0).val
  let v238 : Index := Scalar.indexCast arg0
  let c37 : Index := 37#32
  ![v238.toNat, 37]
def k0_off39 (i : grid0.Coords) : Fin 2 → Nat :=
  let arg0 : BitVec 32 := BitVec.ofNat 32 (i 0).val
  let v242 : Index := Scalar.indexCast arg0
  let c38 : Index := 38#32
  ![v242.toNat, 38]
def k0_off40 (i : grid0.Coords) : Fin 2 → Nat :=
  let arg0 : BitVec 32 := BitVec.ofNat 32 (i 0).val
  let v246 : Index := Scalar.indexCast arg0
  let c39 : Index := 39#32
  ![v246.toNat, 39]
def k0_off41 (i : grid0.Coords) : Fin 2 → Nat :=
  let arg0 : BitVec 32 := BitVec.ofNat 32 (i 0).val
  let v250 : Index := Scalar.indexCast arg0
  let c40 : Index := 40#32
  ![v250.toNat, 40]
def k0_off42 (i : grid0.Coords) : Fin 2 → Nat :=
  let arg0 : BitVec 32 := BitVec.ofNat 32 (i 0).val
  let v254 : Index := Scalar.indexCast arg0
  let c41 : Index := 41#32
  ![v254.toNat, 41]
def k0_off43 (i : grid0.Coords) : Fin 2 → Nat :=
  let arg0 : BitVec 32 := BitVec.ofNat 32 (i 0).val
  let v258 : Index := Scalar.indexCast arg0
  let c42 : Index := 42#32
  ![v258.toNat, 42]
def k0_off44 (i : grid0.Coords) : Fin 2 → Nat :=
  let arg0 : BitVec 32 := BitVec.ofNat 32 (i 0).val
  let v262 : Index := Scalar.indexCast arg0
  let c43 : Index := 43#32
  ![v262.toNat, 43]
def k0_off45 (i : grid0.Coords) : Fin 2 → Nat :=
  let arg0 : BitVec 32 := BitVec.ofNat 32 (i 0).val
  let v266 : Index := Scalar.indexCast arg0
  let c44 : Index := 44#32
  ![v266.toNat, 44]
def k0_off46 (i : grid0.Coords) : Fin 2 → Nat :=
  let arg0 : BitVec 32 := BitVec.ofNat 32 (i 0).val
  let v270 : Index := Scalar.indexCast arg0
  let c45 : Index := 45#32
  ![v270.toNat, 45]
def k0_off47 (i : grid0.Coords) : Fin 2 → Nat :=
  let arg0 : BitVec 32 := BitVec.ofNat 32 (i 0).val
  let v274 : Index := Scalar.indexCast arg0
  let c46 : Index := 46#32
  ![v274.toNat, 46]
def k0_off48 (i : grid0.Coords) : Fin 2 → Nat :=
  let arg0 : BitVec 32 := BitVec.ofNat 32 (i 0).val
  let v278 : Index := Scalar.indexCast arg0
  let c47 : Index := 47#32
  ![v278.toNat, 47]
def k0_off49 (i : grid0.Coords) : Fin 2 → Nat :=
  let arg0 : BitVec 32 := BitVec.ofNat 32 (i 0).val
  let v282 : Index := Scalar.indexCast arg0
  let c48 : Index := 48#32
  ![v282.toNat, 48]
def k0_off50 (i : grid0.Coords) : Fin 2 → Nat :=
  let arg0 : BitVec 32 := BitVec.ofNat 32 (i 0).val
  let v286 : Index := Scalar.indexCast arg0
  let c49 : Index := 49#32
  ![v286.toNat, 49]
def k0_off51 (i : grid0.Coords) : Fin 2 → Nat :=
  let arg0 : BitVec 32 := BitVec.ofNat 32 (i 0).val
  let v290 : Index := Scalar.indexCast arg0
  let c50 : Index := 50#32
  ![v290.toNat, 50]
def k0_off52 (i : grid0.Coords) : Fin 2 → Nat :=
  let arg0 : BitVec 32 := BitVec.ofNat 32 (i 0).val
  let v294 : Index := Scalar.indexCast arg0
  let c51 : Index := 51#32
  ![v294.toNat, 51]
def k0_off53 (i : grid0.Coords) : Fin 2 → Nat :=
  let arg0 : BitVec 32 := BitVec.ofNat 32 (i 0).val
  let v298 : Index := Scalar.indexCast arg0
  let c52 : Index := 52#32
  ![v298.toNat, 52]
def k0_off54 (i : grid0.Coords) : Fin 2 → Nat :=
  let arg0 : BitVec 32 := BitVec.ofNat 32 (i 0).val
  let v302 : Index := Scalar.indexCast arg0
  let c53 : Index := 53#32
  ![v302.toNat, 53]
def k0_off55 (i : grid0.Coords) : Fin 2 → Nat :=
  let arg0 : BitVec 32 := BitVec.ofNat 32 (i 0).val
  let v306 : Index := Scalar.indexCast arg0
  let c54 : Index := 54#32
  ![v306.toNat, 54]
def k0_off56 (i : grid0.Coords) : Fin 2 → Nat :=
  let arg0 : BitVec 32 := BitVec.ofNat 32 (i 0).val
  let v310 : Index := Scalar.indexCast arg0
  let c55 : Index := 55#32
  ![v310.toNat, 55]
def k0_off57 (i : grid0.Coords) : Fin 2 → Nat :=
  let arg0 : BitVec 32 := BitVec.ofNat 32 (i 0).val
  let v314 : Index := Scalar.indexCast arg0
  let c56 : Index := 56#32
  ![v314.toNat, 56]
def k0_off58 (i : grid0.Coords) : Fin 2 → Nat :=
  let arg0 : BitVec 32 := BitVec.ofNat 32 (i 0).val
  let v318 : Index := Scalar.indexCast arg0
  let c57 : Index := 57#32
  ![v318.toNat, 57]
def k0_off59 (i : grid0.Coords) : Fin 2 → Nat :=
  let arg0 : BitVec 32 := BitVec.ofNat 32 (i 0).val
  let v322 : Index := Scalar.indexCast arg0
  let c58 : Index := 58#32
  ![v322.toNat, 58]
def k0_off60 (i : grid0.Coords) : Fin 2 → Nat :=
  let arg0 : BitVec 32 := BitVec.ofNat 32 (i 0).val
  let v326 : Index := Scalar.indexCast arg0
  let c59 : Index := 59#32
  ![v326.toNat, 59]
def k0_off61 (i : grid0.Coords) : Fin 2 → Nat :=
  let arg0 : BitVec 32 := BitVec.ofNat 32 (i 0).val
  let v330 : Index := Scalar.indexCast arg0
  let c60 : Index := 60#32
  ![v330.toNat, 60]
def k0_off62 (i : grid0.Coords) : Fin 2 → Nat :=
  let arg0 : BitVec 32 := BitVec.ofNat 32 (i 0).val
  let v334 : Index := Scalar.indexCast arg0
  let c61 : Index := 61#32
  ![v334.toNat, 61]
def k0_off63 (i : grid0.Coords) : Fin 2 → Nat :=
  let arg0 : BitVec 32 := BitVec.ofNat 32 (i 0).val
  let v340 : Index := Scalar.indexCast arg0
  let c62 : Index := 62#32
  ![v340.toNat, 62]
def k0_off64 (i : grid0.Coords) : Fin 2 → Nat :=
  let arg0 : BitVec 32 := BitVec.ofNat 32 (i 0).val
  let v344 : Index := Scalar.indexCast arg0
  let c63 : Index := 63#32
  ![v344.toNat, 63]
def k0_off65 (i : grid0.Coords) : Fin 2 → Nat :=
  let arg0 : BitVec 32 := BitVec.ofNat 32 (i 0).val
  let v348 : Index := Scalar.indexCast arg0
  let c64 : Index := 64#32
  ![v348.toNat, 64]
def k0_off66 (i : grid0.Coords) : Fin 2 → Nat :=
  let arg0 : BitVec 32 := BitVec.ofNat 32 (i 0).val
  let v352 : Index := Scalar.indexCast arg0
  let c65 : Index := 65#32
  ![v352.toNat, 65]
def k0_off67 (i : grid0.Coords) : Fin 2 → Nat :=
  let arg0 : BitVec 32 := BitVec.ofNat 32 (i 0).val
  let v356 : Index := Scalar.indexCast arg0
  let c66 : Index := 66#32
  ![v356.toNat, 66]
def k0_off68 (i : grid0.Coords) : Fin 2 → Nat :=
  let arg0 : BitVec 32 := BitVec.ofNat 32 (i 0).val
  let v360 : Index := Scalar.indexCast arg0
  let c67 : Index := 67#32
  ![v360.toNat, 67]
def k0_off69 (i : grid0.Coords) : Fin 2 → Nat :=
  let arg0 : BitVec 32 := BitVec.ofNat 32 (i 0).val
  let v364 : Index := Scalar.indexCast arg0
  let c68 : Index := 68#32
  ![v364.toNat, 68]
def k0_off70 (i : grid0.Coords) : Fin 2 → Nat :=
  let arg0 : BitVec 32 := BitVec.ofNat 32 (i 0).val
  let v368 : Index := Scalar.indexCast arg0
  let c69 : Index := 69#32
  ![v368.toNat, 69]
def k0_off71 (i : grid0.Coords) : Fin 2 → Nat :=
  let arg0 : BitVec 32 := BitVec.ofNat 32 (i 0).val
  let v372 : Index := Scalar.indexCast arg0
  let c70 : Index := 70#32
  ![v372.toNat, 70]
def k0_off72 (i : grid0.Coords) : Fin 2 → Nat :=
  let arg0 : BitVec 32 := BitVec.ofNat 32 (i 0).val
  let v376 : Index := Scalar.indexCast arg0
  let c71 : Index := 71#32
  ![v376.toNat, 71]
def k0_off73 (i : grid0.Coords) : Fin 2 → Nat :=
  let arg0 : BitVec 32 := BitVec.ofNat 32 (i 0).val
  let v380 : Index := Scalar.indexCast arg0
  let c72 : Index := 72#32
  ![v380.toNat, 72]
def k0_off74 (i : grid0.Coords) : Fin 2 → Nat :=
  let arg0 : BitVec 32 := BitVec.ofNat 32 (i 0).val
  let v384 : Index := Scalar.indexCast arg0
  let c73 : Index := 73#32
  ![v384.toNat, 73]
def k0_off75 (i : grid0.Coords) : Fin 2 → Nat :=
  let arg0 : BitVec 32 := BitVec.ofNat 32 (i 0).val
  let v388 : Index := Scalar.indexCast arg0
  let c74 : Index := 74#32
  ![v388.toNat, 74]
def k0_off76 (i : grid0.Coords) : Fin 2 → Nat :=
  let arg0 : BitVec 32 := BitVec.ofNat 32 (i 0).val
  let v392 : Index := Scalar.indexCast arg0
  let c75 : Index := 75#32
  ![v392.toNat, 75]
def k0_off77 (i : grid0.Coords) : Fin 2 → Nat :=
  let arg0 : BitVec 32 := BitVec.ofNat 32 (i 0).val
  let v396 : Index := Scalar.indexCast arg0
  let c76 : Index := 76#32
  ![v396.toNat, 76]
def k0_off78 (i : grid0.Coords) : Fin 2 → Nat :=
  let arg0 : BitVec 32 := BitVec.ofNat 32 (i 0).val
  let v400 : Index := Scalar.indexCast arg0
  let c77 : Index := 77#32
  ![v400.toNat, 77]
def k0_off79 (i : grid0.Coords) : Fin 2 → Nat :=
  let arg0 : BitVec 32 := BitVec.ofNat 32 (i 0).val
  let v404 : Index := Scalar.indexCast arg0
  let c78 : Index := 78#32
  ![v404.toNat, 78]
def k0_off80 (i : grid0.Coords) : Fin 2 → Nat :=
  let arg0 : BitVec 32 := BitVec.ofNat 32 (i 0).val
  let v408 : Index := Scalar.indexCast arg0
  let c79 : Index := 79#32
  ![v408.toNat, 79]
def k0_off81 (i : grid0.Coords) : Fin 2 → Nat :=
  let arg0 : BitVec 32 := BitVec.ofNat 32 (i 0).val
  let v412 : Index := Scalar.indexCast arg0
  let c80 : Index := 80#32
  ![v412.toNat, 80]
def k0_off82 (i : grid0.Coords) : Fin 2 → Nat :=
  let arg0 : BitVec 32 := BitVec.ofNat 32 (i 0).val
  let v416 : Index := Scalar.indexCast arg0
  let c81 : Index := 81#32
  ![v416.toNat, 81]
def k0_off83 (i : grid0.Coords) : Fin 2 → Nat :=
  let arg0 : BitVec 32 := BitVec.ofNat 32 (i 0).val
  let v420 : Index := Scalar.indexCast arg0
  let c82 : Index := 82#32
  ![v420.toNat, 82]
def k0_off84 (i : grid0.Coords) : Fin 2 → Nat :=
  let arg0 : BitVec 32 := BitVec.ofNat 32 (i 0).val
  let v424 : Index := Scalar.indexCast arg0
  let c83 : Index := 83#32
  ![v424.toNat, 83]
def k0_off85 (i : grid0.Coords) : Fin 2 → Nat :=
  let arg0 : BitVec 32 := BitVec.ofNat 32 (i 0).val
  let v428 : Index := Scalar.indexCast arg0
  let c84 : Index := 84#32
  ![v428.toNat, 84]
def k0_off86 (i : grid0.Coords) : Fin 2 → Nat :=
  let arg0 : BitVec 32 := BitVec.ofNat 32 (i 0).val
  let v432 : Index := Scalar.indexCast arg0
  let c85 : Index := 85#32
  ![v432.toNat, 85]
def k0_off87 (i : grid0.Coords) : Fin 2 → Nat :=
  let arg0 : BitVec 32 := BitVec.ofNat 32 (i 0).val
  let v436 : Index := Scalar.indexCast arg0
  let c86 : Index := 86#32
  ![v436.toNat, 86]
def k0_off88 (i : grid0.Coords) : Fin 2 → Nat :=
  let arg0 : BitVec 32 := BitVec.ofNat 32 (i 0).val
  let v440 : Index := Scalar.indexCast arg0
  let c87 : Index := 87#32
  ![v440.toNat, 87]
def k0_off89 (i : grid0.Coords) : Fin 2 → Nat :=
  let arg0 : BitVec 32 := BitVec.ofNat 32 (i 0).val
  let v444 : Index := Scalar.indexCast arg0
  let c88 : Index := 88#32
  ![v444.toNat, 88]
def k0_off90 (i : grid0.Coords) : Fin 2 → Nat :=
  let arg0 : BitVec 32 := BitVec.ofNat 32 (i 0).val
  let v448 : Index := Scalar.indexCast arg0
  let c89 : Index := 89#32
  ![v448.toNat, 89]
def k0_off91 (i : grid0.Coords) : Fin 2 → Nat :=
  let arg0 : BitVec 32 := BitVec.ofNat 32 (i 0).val
  let v452 : Index := Scalar.indexCast arg0
  let c90 : Index := 90#32
  ![v452.toNat, 90]
def k0_off92 (i : grid0.Coords) : Fin 2 → Nat :=
  let arg0 : BitVec 32 := BitVec.ofNat 32 (i 0).val
  let v456 : Index := Scalar.indexCast arg0
  let c91 : Index := 91#32
  ![v456.toNat, 91]
def k0_off93 (i : grid0.Coords) : Fin 2 → Nat :=
  let arg0 : BitVec 32 := BitVec.ofNat 32 (i 0).val
  let v460 : Index := Scalar.indexCast arg0
  let c92 : Index := 92#32
  ![v460.toNat, 92]
def k0_off94 (i : grid0.Coords) : Fin 2 → Nat :=
  let arg0 : BitVec 32 := BitVec.ofNat 32 (i 0).val
  let v466 : Index := Scalar.indexCast arg0
  let c93 : Index := 93#32
  ![v466.toNat, 93]
def k0_off95 (i : grid0.Coords) : Fin 2 → Nat :=
  let arg0 : BitVec 32 := BitVec.ofNat 32 (i 0).val
  let v470 : Index := Scalar.indexCast arg0
  let c94 : Index := 94#32
  ![v470.toNat, 94]
def k0_off96 (i : grid0.Coords) : Fin 2 → Nat :=
  let arg0 : BitVec 32 := BitVec.ofNat 32 (i 0).val
  let v474 : Index := Scalar.indexCast arg0
  let c95 : Index := 95#32
  ![v474.toNat, 95]
def k0_off97 (i : grid0.Coords) : Fin 2 → Nat :=
  let arg0 : BitVec 32 := BitVec.ofNat 32 (i 0).val
  let v478 : Index := Scalar.indexCast arg0
  let c96 : Index := 96#32
  ![v478.toNat, 96]
def k0_off98 (i : grid0.Coords) : Fin 2 → Nat :=
  let arg0 : BitVec 32 := BitVec.ofNat 32 (i 0).val
  let v482 : Index := Scalar.indexCast arg0
  let c97 : Index := 97#32
  ![v482.toNat, 97]
def k0_off99 (i : grid0.Coords) : Fin 2 → Nat :=
  let arg0 : BitVec 32 := BitVec.ofNat 32 (i 0).val
  let v486 : Index := Scalar.indexCast arg0
  let c98 : Index := 98#32
  ![v486.toNat, 98]
def k0_off100 (i : grid0.Coords) : Fin 2 → Nat :=
  let arg0 : BitVec 32 := BitVec.ofNat 32 (i 0).val
  let v490 : Index := Scalar.indexCast arg0
  let c99 : Index := 99#32
  ![v490.toNat, 99]
def k0_off101 (i : grid0.Coords) : Fin 2 → Nat :=
  let arg0 : BitVec 32 := BitVec.ofNat 32 (i 0).val
  let v494 : Index := Scalar.indexCast arg0
  let c100 : Index := 100#32
  ![v494.toNat, 100]
def k0_off102 (i : grid0.Coords) : Fin 2 → Nat :=
  let arg0 : BitVec 32 := BitVec.ofNat 32 (i 0).val
  let v498 : Index := Scalar.indexCast arg0
  let c101 : Index := 101#32
  ![v498.toNat, 101]
def k0_off103 (i : grid0.Coords) : Fin 2 → Nat :=
  let arg0 : BitVec 32 := BitVec.ofNat 32 (i 0).val
  let v502 : Index := Scalar.indexCast arg0
  let c102 : Index := 102#32
  ![v502.toNat, 102]
def k0_off104 (i : grid0.Coords) : Fin 2 → Nat :=
  let arg0 : BitVec 32 := BitVec.ofNat 32 (i 0).val
  let v506 : Index := Scalar.indexCast arg0
  let c103 : Index := 103#32
  ![v506.toNat, 103]
def k0_off105 (i : grid0.Coords) : Fin 2 → Nat :=
  let arg0 : BitVec 32 := BitVec.ofNat 32 (i 0).val
  let v510 : Index := Scalar.indexCast arg0
  let c104 : Index := 104#32
  ![v510.toNat, 104]
def k0_off106 (i : grid0.Coords) : Fin 2 → Nat :=
  let arg0 : BitVec 32 := BitVec.ofNat 32 (i 0).val
  let v514 : Index := Scalar.indexCast arg0
  let c105 : Index := 105#32
  ![v514.toNat, 105]
def k0_off107 (i : grid0.Coords) : Fin 2 → Nat :=
  let arg0 : BitVec 32 := BitVec.ofNat 32 (i 0).val
  let v518 : Index := Scalar.indexCast arg0
  let c106 : Index := 106#32
  ![v518.toNat, 106]
def k0_off108 (i : grid0.Coords) : Fin 2 → Nat :=
  let arg0 : BitVec 32 := BitVec.ofNat 32 (i 0).val
  let v522 : Index := Scalar.indexCast arg0
  let c107 : Index := 107#32
  ![v522.toNat, 107]
def k0_off109 (i : grid0.Coords) : Fin 2 → Nat :=
  let arg0 : BitVec 32 := BitVec.ofNat 32 (i 0).val
  let v526 : Index := Scalar.indexCast arg0
  let c108 : Index := 108#32
  ![v526.toNat, 108]
def k0_off110 (i : grid0.Coords) : Fin 2 → Nat :=
  let arg0 : BitVec 32 := BitVec.ofNat 32 (i 0).val
  let v530 : Index := Scalar.indexCast arg0
  let c109 : Index := 109#32
  ![v530.toNat, 109]
def k0_off111 (i : grid0.Coords) : Fin 2 → Nat :=
  let arg0 : BitVec 32 := BitVec.ofNat 32 (i 0).val
  let v534 : Index := Scalar.indexCast arg0
  let c110 : Index := 110#32
  ![v534.toNat, 110]
def k0_off112 (i : grid0.Coords) : Fin 2 → Nat :=
  let arg0 : BitVec 32 := BitVec.ofNat 32 (i 0).val
  let v538 : Index := Scalar.indexCast arg0
  let c111 : Index := 111#32
  ![v538.toNat, 111]
def k0_off113 (i : grid0.Coords) : Fin 2 → Nat :=
  let arg0 : BitVec 32 := BitVec.ofNat 32 (i 0).val
  let v542 : Index := Scalar.indexCast arg0
  let c112 : Index := 112#32
  ![v542.toNat, 112]
def k0_off114 (i : grid0.Coords) : Fin 2 → Nat :=
  let arg0 : BitVec 32 := BitVec.ofNat 32 (i 0).val
  let v546 : Index := Scalar.indexCast arg0
  let c113 : Index := 113#32
  ![v546.toNat, 113]
def k0_off115 (i : grid0.Coords) : Fin 2 → Nat :=
  let arg0 : BitVec 32 := BitVec.ofNat 32 (i 0).val
  let v550 : Index := Scalar.indexCast arg0
  let c114 : Index := 114#32
  ![v550.toNat, 114]
def k0_off116 (i : grid0.Coords) : Fin 2 → Nat :=
  let arg0 : BitVec 32 := BitVec.ofNat 32 (i 0).val
  let v554 : Index := Scalar.indexCast arg0
  let c115 : Index := 115#32
  ![v554.toNat, 115]
def k0_off117 (i : grid0.Coords) : Fin 2 → Nat :=
  let arg0 : BitVec 32 := BitVec.ofNat 32 (i 0).val
  let v558 : Index := Scalar.indexCast arg0
  let c116 : Index := 116#32
  ![v558.toNat, 116]
def k0_off118 (i : grid0.Coords) : Fin 2 → Nat :=
  let arg0 : BitVec 32 := BitVec.ofNat 32 (i 0).val
  let v562 : Index := Scalar.indexCast arg0
  let c117 : Index := 117#32
  ![v562.toNat, 117]
def k0_off119 (i : grid0.Coords) : Fin 2 → Nat :=
  let arg0 : BitVec 32 := BitVec.ofNat 32 (i 0).val
  let v566 : Index := Scalar.indexCast arg0
  let c118 : Index := 118#32
  ![v566.toNat, 118]
def k0_off120 (i : grid0.Coords) : Fin 2 → Nat :=
  let arg0 : BitVec 32 := BitVec.ofNat 32 (i 0).val
  let v570 : Index := Scalar.indexCast arg0
  let c119 : Index := 119#32
  ![v570.toNat, 119]
def k0_off121 (i : grid0.Coords) : Fin 2 → Nat :=
  let arg0 : BitVec 32 := BitVec.ofNat 32 (i 0).val
  let v574 : Index := Scalar.indexCast arg0
  let c120 : Index := 120#32
  ![v574.toNat, 120]
def k0_off122 (i : grid0.Coords) : Fin 2 → Nat :=
  let arg0 : BitVec 32 := BitVec.ofNat 32 (i 0).val
  let v578 : Index := Scalar.indexCast arg0
  let c121 : Index := 121#32
  ![v578.toNat, 121]
def k0_off123 (i : grid0.Coords) : Fin 2 → Nat :=
  let arg0 : BitVec 32 := BitVec.ofNat 32 (i 0).val
  let v582 : Index := Scalar.indexCast arg0
  let c122 : Index := 122#32
  ![v582.toNat, 122]
def k0_off124 (i : grid0.Coords) : Fin 2 → Nat :=
  let arg0 : BitVec 32 := BitVec.ofNat 32 (i 0).val
  let v586 : Index := Scalar.indexCast arg0
  let c123 : Index := 123#32
  ![v586.toNat, 123]
def k0_off125 (i : grid0.Coords) : Fin 2 → Nat :=
  let arg0 : BitVec 32 := BitVec.ofNat 32 (i 0).val
  let v592 : Index := Scalar.indexCast arg0
  let c124 : Index := 124#32
  ![v592.toNat, 124]
def k0_off126 (i : grid0.Coords) : Fin 2 → Nat :=
  let arg0 : BitVec 32 := BitVec.ofNat 32 (i 0).val
  let v596 : Index := Scalar.indexCast arg0
  let c125 : Index := 125#32
  ![v596.toNat, 125]
def k0_off127 (i : grid0.Coords) : Fin 2 → Nat :=
  let arg0 : BitVec 32 := BitVec.ofNat 32 (i 0).val
  let v600 : Index := Scalar.indexCast arg0
  let c126 : Index := 126#32
  ![v600.toNat, 126]
def k0_off128 (i : grid0.Coords) : Fin 2 → Nat :=
  let arg0 : BitVec 32 := BitVec.ofNat 32 (i 0).val
  let v604 : Index := Scalar.indexCast arg0
  let c127 : Index := 127#32
  ![v604.toNat, 127]
def k0_off129 (i : grid0.Coords) : Fin 2 → Nat :=
  let arg0 : BitVec 32 := BitVec.ofNat 32 (i 0).val
  let v608 : Index := Scalar.indexCast arg0
  let c128 : Index := 128#32
  ![v608.toNat, 128]
def k0_off130 (i : grid0.Coords) : Fin 2 → Nat :=
  let arg0 : BitVec 32 := BitVec.ofNat 32 (i 0).val
  let v612 : Index := Scalar.indexCast arg0
  let c129 : Index := 129#32
  ![v612.toNat, 129]
def k0_off131 (i : grid0.Coords) : Fin 2 → Nat :=
  let arg0 : BitVec 32 := BitVec.ofNat 32 (i 0).val
  let v616 : Index := Scalar.indexCast arg0
  let c130 : Index := 130#32
  ![v616.toNat, 130]
def k0_off132 (i : grid0.Coords) : Fin 2 → Nat :=
  let arg0 : BitVec 32 := BitVec.ofNat 32 (i 0).val
  let v620 : Index := Scalar.indexCast arg0
  let c131 : Index := 131#32
  ![v620.toNat, 131]
def k0_off133 (i : grid0.Coords) : Fin 2 → Nat :=
  let arg0 : BitVec 32 := BitVec.ofNat 32 (i 0).val
  let v624 : Index := Scalar.indexCast arg0
  let c132 : Index := 132#32
  ![v624.toNat, 132]
def k0_off134 (i : grid0.Coords) : Fin 2 → Nat :=
  let arg0 : BitVec 32 := BitVec.ofNat 32 (i 0).val
  let v628 : Index := Scalar.indexCast arg0
  let c133 : Index := 133#32
  ![v628.toNat, 133]
def k0_off135 (i : grid0.Coords) : Fin 2 → Nat :=
  let arg0 : BitVec 32 := BitVec.ofNat 32 (i 0).val
  let v632 : Index := Scalar.indexCast arg0
  let c134 : Index := 134#32
  ![v632.toNat, 134]
def k0_off136 (i : grid0.Coords) : Fin 2 → Nat :=
  let arg0 : BitVec 32 := BitVec.ofNat 32 (i 0).val
  let v636 : Index := Scalar.indexCast arg0
  let c135 : Index := 135#32
  ![v636.toNat, 135]
def k0_off137 (i : grid0.Coords) : Fin 2 → Nat :=
  let arg0 : BitVec 32 := BitVec.ofNat 32 (i 0).val
  let v640 : Index := Scalar.indexCast arg0
  let c136 : Index := 136#32
  ![v640.toNat, 136]
def k0_off138 (i : grid0.Coords) : Fin 2 → Nat :=
  let arg0 : BitVec 32 := BitVec.ofNat 32 (i 0).val
  let v644 : Index := Scalar.indexCast arg0
  let c137 : Index := 137#32
  ![v644.toNat, 137]
def k0_off139 (i : grid0.Coords) : Fin 2 → Nat :=
  let arg0 : BitVec 32 := BitVec.ofNat 32 (i 0).val
  let v648 : Index := Scalar.indexCast arg0
  let c138 : Index := 138#32
  ![v648.toNat, 138]
def k0_off140 (i : grid0.Coords) : Fin 2 → Nat :=
  let arg0 : BitVec 32 := BitVec.ofNat 32 (i 0).val
  let v652 : Index := Scalar.indexCast arg0
  let c139 : Index := 139#32
  ![v652.toNat, 139]
def k0_off141 (i : grid0.Coords) : Fin 2 → Nat :=
  let arg0 : BitVec 32 := BitVec.ofNat 32 (i 0).val
  let v656 : Index := Scalar.indexCast arg0
  let c140 : Index := 140#32
  ![v656.toNat, 140]
def k0_off142 (i : grid0.Coords) : Fin 2 → Nat :=
  let arg0 : BitVec 32 := BitVec.ofNat 32 (i 0).val
  let v660 : Index := Scalar.indexCast arg0
  let c141 : Index := 141#32
  ![v660.toNat, 141]
def k0_off143 (i : grid0.Coords) : Fin 2 → Nat :=
  let arg0 : BitVec 32 := BitVec.ofNat 32 (i 0).val
  let v664 : Index := Scalar.indexCast arg0
  let c142 : Index := 142#32
  ![v664.toNat, 142]
def k0_off144 (i : grid0.Coords) : Fin 2 → Nat :=
  let arg0 : BitVec 32 := BitVec.ofNat 32 (i 0).val
  let v668 : Index := Scalar.indexCast arg0
  let c143 : Index := 143#32
  ![v668.toNat, 143]
def k0_off145 (i : grid0.Coords) : Fin 2 → Nat :=
  let arg0 : BitVec 32 := BitVec.ofNat 32 (i 0).val
  let v672 : Index := Scalar.indexCast arg0
  let c144 : Index := 144#32
  ![v672.toNat, 144]
def k0_off146 (i : grid0.Coords) : Fin 2 → Nat :=
  let arg0 : BitVec 32 := BitVec.ofNat 32 (i 0).val
  let v676 : Index := Scalar.indexCast arg0
  let c145 : Index := 145#32
  ![v676.toNat, 145]
def k0_off147 (i : grid0.Coords) : Fin 2 → Nat :=
  let arg0 : BitVec 32 := BitVec.ofNat 32 (i 0).val
  let v680 : Index := Scalar.indexCast arg0
  let c146 : Index := 146#32
  ![v680.toNat, 146]
def k0_off148 (i : grid0.Coords) : Fin 2 → Nat :=
  let arg0 : BitVec 32 := BitVec.ofNat 32 (i 0).val
  let v684 : Index := Scalar.indexCast arg0
  let c147 : Index := 147#32
  ![v684.toNat, 147]
def k0_off149 (i : grid0.Coords) : Fin 2 → Nat :=
  let arg0 : BitVec 32 := BitVec.ofNat 32 (i 0).val
  let v688 : Index := Scalar.indexCast arg0
  let c148 : Index := 148#32
  ![v688.toNat, 148]
def k0_off150 (i : grid0.Coords) : Fin 2 → Nat :=
  let arg0 : BitVec 32 := BitVec.ofNat 32 (i 0).val
  let v692 : Index := Scalar.indexCast arg0
  let c149 : Index := 149#32
  ![v692.toNat, 149]
def k0_off151 (i : grid0.Coords) : Fin 2 → Nat :=
  let arg0 : BitVec 32 := BitVec.ofNat 32 (i 0).val
  let v696 : Index := Scalar.indexCast arg0
  let c150 : Index := 150#32
  ![v696.toNat, 150]
def k0_off152 (i : grid0.Coords) : Fin 2 → Nat :=
  let arg0 : BitVec 32 := BitVec.ofNat 32 (i 0).val
  let v700 : Index := Scalar.indexCast arg0
  let c151 : Index := 151#32
  ![v700.toNat, 151]
def k0_off153 (i : grid0.Coords) : Fin 2 → Nat :=
  let arg0 : BitVec 32 := BitVec.ofNat 32 (i 0).val
  let v704 : Index := Scalar.indexCast arg0
  let c152 : Index := 152#32
  ![v704.toNat, 152]
def k0_off154 (i : grid0.Coords) : Fin 2 → Nat :=
  let arg0 : BitVec 32 := BitVec.ofNat 32 (i 0).val
  let v708 : Index := Scalar.indexCast arg0
  let c153 : Index := 153#32
  ![v708.toNat, 153]
def k0_off155 (i : grid0.Coords) : Fin 2 → Nat :=
  let arg0 : BitVec 32 := BitVec.ofNat 32 (i 0).val
  let v712 : Index := Scalar.indexCast arg0
  let c154 : Index := 154#32
  ![v712.toNat, 154]
def k0_off156 (i : grid0.Coords) : Fin 2 → Nat :=
  let arg0 : BitVec 32 := BitVec.ofNat 32 (i 0).val
  let v718 : Index := Scalar.indexCast arg0
  let c155 : Index := 155#32
  ![v718.toNat, 155]
def k0_off157 (i : grid0.Coords) : Fin 2 → Nat :=
  let arg0 : BitVec 32 := BitVec.ofNat 32 (i 0).val
  let v722 : Index := Scalar.indexCast arg0
  let c156 : Index := 156#32
  ![v722.toNat, 156]
def k0_off158 (i : grid0.Coords) : Fin 2 → Nat :=
  let arg0 : BitVec 32 := BitVec.ofNat 32 (i 0).val
  let v726 : Index := Scalar.indexCast arg0
  let c157 : Index := 157#32
  ![v726.toNat, 157]
def k0_off159 (i : grid0.Coords) : Fin 2 → Nat :=
  let arg0 : BitVec 32 := BitVec.ofNat 32 (i 0).val
  let v730 : Index := Scalar.indexCast arg0
  let c158 : Index := 158#32
  ![v730.toNat, 158]
def k0_off160 (i : grid0.Coords) : Fin 2 → Nat :=
  let arg0 : BitVec 32 := BitVec.ofNat 32 (i 0).val
  let v734 : Index := Scalar.indexCast arg0
  let c159 : Index := 159#32
  ![v734.toNat, 159]
def k0_off161 (i : grid0.Coords) : Fin 2 → Nat :=
  let arg0 : BitVec 32 := BitVec.ofNat 32 (i 0).val
  let v738 : Index := Scalar.indexCast arg0
  let c160 : Index := 160#32
  ![v738.toNat, 160]
def k0_off162 (i : grid0.Coords) : Fin 2 → Nat :=
  let arg0 : BitVec 32 := BitVec.ofNat 32 (i 0).val
  let v742 : Index := Scalar.indexCast arg0
  let c161 : Index := 161#32
  ![v742.toNat, 161]
def k0_off163 (i : grid0.Coords) : Fin 2 → Nat :=
  let arg0 : BitVec 32 := BitVec.ofNat 32 (i 0).val
  let v746 : Index := Scalar.indexCast arg0
  let c162 : Index := 162#32
  ![v746.toNat, 162]
def k0_off164 (i : grid0.Coords) : Fin 2 → Nat :=
  let arg0 : BitVec 32 := BitVec.ofNat 32 (i 0).val
  let v750 : Index := Scalar.indexCast arg0
  let c163 : Index := 163#32
  ![v750.toNat, 163]
def k0_off165 (i : grid0.Coords) : Fin 2 → Nat :=
  let arg0 : BitVec 32 := BitVec.ofNat 32 (i 0).val
  let v754 : Index := Scalar.indexCast arg0
  let c164 : Index := 164#32
  ![v754.toNat, 164]
def k0_off166 (i : grid0.Coords) : Fin 2 → Nat :=
  let arg0 : BitVec 32 := BitVec.ofNat 32 (i 0).val
  let v758 : Index := Scalar.indexCast arg0
  let c165 : Index := 165#32
  ![v758.toNat, 165]
def k0_off167 (i : grid0.Coords) : Fin 2 → Nat :=
  let arg0 : BitVec 32 := BitVec.ofNat 32 (i 0).val
  let v762 : Index := Scalar.indexCast arg0
  let c166 : Index := 166#32
  ![v762.toNat, 166]
def k0_off168 (i : grid0.Coords) : Fin 2 → Nat :=
  let arg0 : BitVec 32 := BitVec.ofNat 32 (i 0).val
  let v766 : Index := Scalar.indexCast arg0
  let c167 : Index := 167#32
  ![v766.toNat, 167]
def k0_off169 (i : grid0.Coords) : Fin 2 → Nat :=
  let arg0 : BitVec 32 := BitVec.ofNat 32 (i 0).val
  let v770 : Index := Scalar.indexCast arg0
  let c168 : Index := 168#32
  ![v770.toNat, 168]
def k0_off170 (i : grid0.Coords) : Fin 2 → Nat :=
  let arg0 : BitVec 32 := BitVec.ofNat 32 (i 0).val
  let v774 : Index := Scalar.indexCast arg0
  let c169 : Index := 169#32
  ![v774.toNat, 169]
def k0_off171 (i : grid0.Coords) : Fin 2 → Nat :=
  let arg0 : BitVec 32 := BitVec.ofNat 32 (i 0).val
  let v778 : Index := Scalar.indexCast arg0
  let c170 : Index := 170#32
  ![v778.toNat, 170]
def k0_off172 (i : grid0.Coords) : Fin 2 → Nat :=
  let arg0 : BitVec 32 := BitVec.ofNat 32 (i 0).val
  let v782 : Index := Scalar.indexCast arg0
  let c171 : Index := 171#32
  ![v782.toNat, 171]
def k0_off173 (i : grid0.Coords) : Fin 2 → Nat :=
  let arg0 : BitVec 32 := BitVec.ofNat 32 (i 0).val
  let v786 : Index := Scalar.indexCast arg0
  let c172 : Index := 172#32
  ![v786.toNat, 172]
def k0_off174 (i : grid0.Coords) : Fin 2 → Nat :=
  let arg0 : BitVec 32 := BitVec.ofNat 32 (i 0).val
  let v790 : Index := Scalar.indexCast arg0
  let c173 : Index := 173#32
  ![v790.toNat, 173]
def k0_off175 (i : grid0.Coords) : Fin 2 → Nat :=
  let arg0 : BitVec 32 := BitVec.ofNat 32 (i 0).val
  let v794 : Index := Scalar.indexCast arg0
  let c174 : Index := 174#32
  ![v794.toNat, 174]
def k0_off176 (i : grid0.Coords) : Fin 2 → Nat :=
  let arg0 : BitVec 32 := BitVec.ofNat 32 (i 0).val
  let v798 : Index := Scalar.indexCast arg0
  let c175 : Index := 175#32
  ![v798.toNat, 175]
def k0_off177 (i : grid0.Coords) : Fin 2 → Nat :=
  let arg0 : BitVec 32 := BitVec.ofNat 32 (i 0).val
  let v802 : Index := Scalar.indexCast arg0
  let c176 : Index := 176#32
  ![v802.toNat, 176]
def k0_off178 (i : grid0.Coords) : Fin 2 → Nat :=
  let arg0 : BitVec 32 := BitVec.ofNat 32 (i 0).val
  let v806 : Index := Scalar.indexCast arg0
  let c177 : Index := 177#32
  ![v806.toNat, 177]
def k0_off179 (i : grid0.Coords) : Fin 2 → Nat :=
  let arg0 : BitVec 32 := BitVec.ofNat 32 (i 0).val
  let v810 : Index := Scalar.indexCast arg0
  let c178 : Index := 178#32
  ![v810.toNat, 178]
def k0_off180 (i : grid0.Coords) : Fin 2 → Nat :=
  let arg0 : BitVec 32 := BitVec.ofNat 32 (i 0).val
  let v814 : Index := Scalar.indexCast arg0
  let c179 : Index := 179#32
  ![v814.toNat, 179]
def k0_off181 (i : grid0.Coords) : Fin 2 → Nat :=
  let arg0 : BitVec 32 := BitVec.ofNat 32 (i 0).val
  let v818 : Index := Scalar.indexCast arg0
  let c180 : Index := 180#32
  ![v818.toNat, 180]
def k0_off182 (i : grid0.Coords) : Fin 2 → Nat :=
  let arg0 : BitVec 32 := BitVec.ofNat 32 (i 0).val
  let v822 : Index := Scalar.indexCast arg0
  let c181 : Index := 181#32
  ![v822.toNat, 181]
def k0_off183 (i : grid0.Coords) : Fin 2 → Nat :=
  let arg0 : BitVec 32 := BitVec.ofNat 32 (i 0).val
  let v826 : Index := Scalar.indexCast arg0
  let c182 : Index := 182#32
  ![v826.toNat, 182]
def k0_off184 (i : grid0.Coords) : Fin 2 → Nat :=
  let arg0 : BitVec 32 := BitVec.ofNat 32 (i 0).val
  let v830 : Index := Scalar.indexCast arg0
  let c183 : Index := 183#32
  ![v830.toNat, 183]
def k0_off185 (i : grid0.Coords) : Fin 2 → Nat :=
  let arg0 : BitVec 32 := BitVec.ofNat 32 (i 0).val
  let v834 : Index := Scalar.indexCast arg0
  let c184 : Index := 184#32
  ![v834.toNat, 184]
def k0_off186 (i : grid0.Coords) : Fin 2 → Nat :=
  let arg0 : BitVec 32 := BitVec.ofNat 32 (i 0).val
  let v838 : Index := Scalar.indexCast arg0
  let c185 : Index := 185#32
  ![v838.toNat, 185]
def k0_off187 (i : grid0.Coords) : Fin 2 → Nat :=
  let arg0 : BitVec 32 := BitVec.ofNat 32 (i 0).val
  let v844 : Index := Scalar.indexCast arg0
  let c186 : Index := 186#32
  ![v844.toNat, 186]
def k0_off188 (i : grid0.Coords) : Fin 2 → Nat :=
  let arg0 : BitVec 32 := BitVec.ofNat 32 (i 0).val
  let v848 : Index := Scalar.indexCast arg0
  let c187 : Index := 187#32
  ![v848.toNat, 187]
def k0_off189 (i : grid0.Coords) : Fin 2 → Nat :=
  let arg0 : BitVec 32 := BitVec.ofNat 32 (i 0).val
  let v852 : Index := Scalar.indexCast arg0
  let c188 : Index := 188#32
  ![v852.toNat, 188]
def k0_off190 (i : grid0.Coords) : Fin 2 → Nat :=
  let arg0 : BitVec 32 := BitVec.ofNat 32 (i 0).val
  let v856 : Index := Scalar.indexCast arg0
  let c189 : Index := 189#32
  ![v856.toNat, 189]
def k0_off191 (i : grid0.Coords) : Fin 2 → Nat :=
  let arg0 : BitVec 32 := BitVec.ofNat 32 (i 0).val
  let v860 : Index := Scalar.indexCast arg0
  let c190 : Index := 190#32
  ![v860.toNat, 190]
def k0_off192 (i : grid0.Coords) : Fin 2 → Nat :=
  let arg0 : BitVec 32 := BitVec.ofNat 32 (i 0).val
  let v864 : Index := Scalar.indexCast arg0
  let c191 : Index := 191#32
  ![v864.toNat, 191]
def k0_off193 (i : grid0.Coords) : Fin 2 → Nat :=
  let arg0 : BitVec 32 := BitVec.ofNat 32 (i 0).val
  let v868 : Index := Scalar.indexCast arg0
  let c192 : Index := 192#32
  ![v868.toNat, 192]
def k0_off194 (i : grid0.Coords) : Fin 2 → Nat :=
  let arg0 : BitVec 32 := BitVec.ofNat 32 (i 0).val
  let v872 : Index := Scalar.indexCast arg0
  let c193 : Index := 193#32
  ![v872.toNat, 193]
def k0_off195 (i : grid0.Coords) : Fin 2 → Nat :=
  let arg0 : BitVec 32 := BitVec.ofNat 32 (i 0).val
  let v876 : Index := Scalar.indexCast arg0
  let c194 : Index := 194#32
  ![v876.toNat, 194]
def k0_off196 (i : grid0.Coords) : Fin 2 → Nat :=
  let arg0 : BitVec 32 := BitVec.ofNat 32 (i 0).val
  let v880 : Index := Scalar.indexCast arg0
  let c195 : Index := 195#32
  ![v880.toNat, 195]
def k0_off197 (i : grid0.Coords) : Fin 2 → Nat :=
  let arg0 : BitVec 32 := BitVec.ofNat 32 (i 0).val
  let v884 : Index := Scalar.indexCast arg0
  let c196 : Index := 196#32
  ![v884.toNat, 196]
def k0_off198 (i : grid0.Coords) : Fin 2 → Nat :=
  let arg0 : BitVec 32 := BitVec.ofNat 32 (i 0).val
  let v888 : Index := Scalar.indexCast arg0
  let c197 : Index := 197#32
  ![v888.toNat, 197]
def k0_off199 (i : grid0.Coords) : Fin 2 → Nat :=
  let arg0 : BitVec 32 := BitVec.ofNat 32 (i 0).val
  let v892 : Index := Scalar.indexCast arg0
  let c198 : Index := 198#32
  ![v892.toNat, 198]
def k0_off200 (i : grid0.Coords) : Fin 2 → Nat :=
  let arg0 : BitVec 32 := BitVec.ofNat 32 (i 0).val
  let v896 : Index := Scalar.indexCast arg0
  let c199 : Index := 199#32
  ![v896.toNat, 199]
def k0_off201 (i : grid0.Coords) : Fin 2 → Nat :=
  let arg0 : BitVec 32 := BitVec.ofNat 32 (i 0).val
  let v900 : Index := Scalar.indexCast arg0
  let c200 : Index := 200#32
  ![v900.toNat, 200]
def k0_off202 (i : grid0.Coords) : Fin 2 → Nat :=
  let arg0 : BitVec 32 := BitVec.ofNat 32 (i 0).val
  let v904 : Index := Scalar.indexCast arg0
  let c201 : Index := 201#32
  ![v904.toNat, 201]
def k0_off203 (i : grid0.Coords) : Fin 2 → Nat :=
  let arg0 : BitVec 32 := BitVec.ofNat 32 (i 0).val
  let v908 : Index := Scalar.indexCast arg0
  let c202 : Index := 202#32
  ![v908.toNat, 202]
def k0_off204 (i : grid0.Coords) : Fin 2 → Nat :=
  let arg0 : BitVec 32 := BitVec.ofNat 32 (i 0).val
  let v912 : Index := Scalar.indexCast arg0
  let c203 : Index := 203#32
  ![v912.toNat, 203]
def k0_off205 (i : grid0.Coords) : Fin 2 → Nat :=
  let arg0 : BitVec 32 := BitVec.ofNat 32 (i 0).val
  let v916 : Index := Scalar.indexCast arg0
  let c204 : Index := 204#32
  ![v916.toNat, 204]
def k0_off206 (i : grid0.Coords) : Fin 2 → Nat :=
  let arg0 : BitVec 32 := BitVec.ofNat 32 (i 0).val
  let v920 : Index := Scalar.indexCast arg0
  let c205 : Index := 205#32
  ![v920.toNat, 205]
def k0_off207 (i : grid0.Coords) : Fin 2 → Nat :=
  let arg0 : BitVec 32 := BitVec.ofNat 32 (i 0).val
  let v924 : Index := Scalar.indexCast arg0
  let c206 : Index := 206#32
  ![v924.toNat, 206]
def k0_off208 (i : grid0.Coords) : Fin 2 → Nat :=
  let arg0 : BitVec 32 := BitVec.ofNat 32 (i 0).val
  let v928 : Index := Scalar.indexCast arg0
  let c207 : Index := 207#32
  ![v928.toNat, 207]
def k0_off209 (i : grid0.Coords) : Fin 2 → Nat :=
  let arg0 : BitVec 32 := BitVec.ofNat 32 (i 0).val
  let v932 : Index := Scalar.indexCast arg0
  let c208 : Index := 208#32
  ![v932.toNat, 208]
def k0_off210 (i : grid0.Coords) : Fin 2 → Nat :=
  let arg0 : BitVec 32 := BitVec.ofNat 32 (i 0).val
  let v936 : Index := Scalar.indexCast arg0
  let c209 : Index := 209#32
  ![v936.toNat, 209]
def k0_off211 (i : grid0.Coords) : Fin 2 → Nat :=
  let arg0 : BitVec 32 := BitVec.ofNat 32 (i 0).val
  let v940 : Index := Scalar.indexCast arg0
  let c210 : Index := 210#32
  ![v940.toNat, 210]
def k0_off212 (i : grid0.Coords) : Fin 2 → Nat :=
  let arg0 : BitVec 32 := BitVec.ofNat 32 (i 0).val
  let v944 : Index := Scalar.indexCast arg0
  let c211 : Index := 211#32
  ![v944.toNat, 211]
def k0_off213 (i : grid0.Coords) : Fin 2 → Nat :=
  let arg0 : BitVec 32 := BitVec.ofNat 32 (i 0).val
  let v948 : Index := Scalar.indexCast arg0
  let c212 : Index := 212#32
  ![v948.toNat, 212]
def k0_off214 (i : grid0.Coords) : Fin 2 → Nat :=
  let arg0 : BitVec 32 := BitVec.ofNat 32 (i 0).val
  let v952 : Index := Scalar.indexCast arg0
  let c213 : Index := 213#32
  ![v952.toNat, 213]
def k0_off215 (i : grid0.Coords) : Fin 2 → Nat :=
  let arg0 : BitVec 32 := BitVec.ofNat 32 (i 0).val
  let v956 : Index := Scalar.indexCast arg0
  let c214 : Index := 214#32
  ![v956.toNat, 214]
def k0_off216 (i : grid0.Coords) : Fin 2 → Nat :=
  let arg0 : BitVec 32 := BitVec.ofNat 32 (i 0).val
  let v960 : Index := Scalar.indexCast arg0
  let c215 : Index := 215#32
  ![v960.toNat, 215]
def k0_off217 (i : grid0.Coords) : Fin 2 → Nat :=
  let arg0 : BitVec 32 := BitVec.ofNat 32 (i 0).val
  let v964 : Index := Scalar.indexCast arg0
  let c216 : Index := 216#32
  ![v964.toNat, 216]
def k0_off218 (i : grid0.Coords) : Fin 2 → Nat :=
  let arg0 : BitVec 32 := BitVec.ofNat 32 (i 0).val
  let v970 : Index := Scalar.indexCast arg0
  let c217 : Index := 217#32
  ![v970.toNat, 217]
def k0_off219 (i : grid0.Coords) : Fin 2 → Nat :=
  let arg0 : BitVec 32 := BitVec.ofNat 32 (i 0).val
  let v974 : Index := Scalar.indexCast arg0
  let c218 : Index := 218#32
  ![v974.toNat, 218]
def k0_off220 (i : grid0.Coords) : Fin 2 → Nat :=
  let arg0 : BitVec 32 := BitVec.ofNat 32 (i 0).val
  let v978 : Index := Scalar.indexCast arg0
  let c219 : Index := 219#32
  ![v978.toNat, 219]
def k0_off221 (i : grid0.Coords) : Fin 2 → Nat :=
  let arg0 : BitVec 32 := BitVec.ofNat 32 (i 0).val
  let v982 : Index := Scalar.indexCast arg0
  let c220 : Index := 220#32
  ![v982.toNat, 220]
def k0_off222 (i : grid0.Coords) : Fin 2 → Nat :=
  let arg0 : BitVec 32 := BitVec.ofNat 32 (i 0).val
  let v986 : Index := Scalar.indexCast arg0
  let c221 : Index := 221#32
  ![v986.toNat, 221]
def k0_off223 (i : grid0.Coords) : Fin 2 → Nat :=
  let arg0 : BitVec 32 := BitVec.ofNat 32 (i 0).val
  let v990 : Index := Scalar.indexCast arg0
  let c222 : Index := 222#32
  ![v990.toNat, 222]
def k0_off224 (i : grid0.Coords) : Fin 2 → Nat :=
  let arg0 : BitVec 32 := BitVec.ofNat 32 (i 0).val
  let v994 : Index := Scalar.indexCast arg0
  let c223 : Index := 223#32
  ![v994.toNat, 223]
def k0_off225 (i : grid0.Coords) : Fin 2 → Nat :=
  let arg0 : BitVec 32 := BitVec.ofNat 32 (i 0).val
  let v998 : Index := Scalar.indexCast arg0
  let c224 : Index := 224#32
  ![v998.toNat, 224]
def k0_off226 (i : grid0.Coords) : Fin 2 → Nat :=
  let arg0 : BitVec 32 := BitVec.ofNat 32 (i 0).val
  let v1002 : Index := Scalar.indexCast arg0
  let c225 : Index := 225#32
  ![v1002.toNat, 225]
def k0_off227 (i : grid0.Coords) : Fin 2 → Nat :=
  let arg0 : BitVec 32 := BitVec.ofNat 32 (i 0).val
  let v1006 : Index := Scalar.indexCast arg0
  let c226 : Index := 226#32
  ![v1006.toNat, 226]
def k0_off228 (i : grid0.Coords) : Fin 2 → Nat :=
  let arg0 : BitVec 32 := BitVec.ofNat 32 (i 0).val
  let v1010 : Index := Scalar.indexCast arg0
  let c227 : Index := 227#32
  ![v1010.toNat, 227]
def k0_off229 (i : grid0.Coords) : Fin 2 → Nat :=
  let arg0 : BitVec 32 := BitVec.ofNat 32 (i 0).val
  let v1014 : Index := Scalar.indexCast arg0
  let c228 : Index := 228#32
  ![v1014.toNat, 228]
def k0_off230 (i : grid0.Coords) : Fin 2 → Nat :=
  let arg0 : BitVec 32 := BitVec.ofNat 32 (i 0).val
  let v1018 : Index := Scalar.indexCast arg0
  let c229 : Index := 229#32
  ![v1018.toNat, 229]
def k0_off231 (i : grid0.Coords) : Fin 2 → Nat :=
  let arg0 : BitVec 32 := BitVec.ofNat 32 (i 0).val
  let v1022 : Index := Scalar.indexCast arg0
  let c230 : Index := 230#32
  ![v1022.toNat, 230]
def k0_off232 (i : grid0.Coords) : Fin 2 → Nat :=
  let arg0 : BitVec 32 := BitVec.ofNat 32 (i 0).val
  let v1026 : Index := Scalar.indexCast arg0
  let c231 : Index := 231#32
  ![v1026.toNat, 231]
def k0_off233 (i : grid0.Coords) : Fin 2 → Nat :=
  let arg0 : BitVec 32 := BitVec.ofNat 32 (i 0).val
  let v1030 : Index := Scalar.indexCast arg0
  let c232 : Index := 232#32
  ![v1030.toNat, 232]
def k0_off234 (i : grid0.Coords) : Fin 2 → Nat :=
  let arg0 : BitVec 32 := BitVec.ofNat 32 (i 0).val
  let v1034 : Index := Scalar.indexCast arg0
  let c233 : Index := 233#32
  ![v1034.toNat, 233]
def k0_off235 (i : grid0.Coords) : Fin 2 → Nat :=
  let arg0 : BitVec 32 := BitVec.ofNat 32 (i 0).val
  let v1038 : Index := Scalar.indexCast arg0
  let c234 : Index := 234#32
  ![v1038.toNat, 234]
def k0_off236 (i : grid0.Coords) : Fin 2 → Nat :=
  let arg0 : BitVec 32 := BitVec.ofNat 32 (i 0).val
  let v1042 : Index := Scalar.indexCast arg0
  let c235 : Index := 235#32
  ![v1042.toNat, 235]
def k0_off237 (i : grid0.Coords) : Fin 2 → Nat :=
  let arg0 : BitVec 32 := BitVec.ofNat 32 (i 0).val
  let v1046 : Index := Scalar.indexCast arg0
  let c236 : Index := 236#32
  ![v1046.toNat, 236]
def k0_off238 (i : grid0.Coords) : Fin 2 → Nat :=
  let arg0 : BitVec 32 := BitVec.ofNat 32 (i 0).val
  let v1050 : Index := Scalar.indexCast arg0
  let c237 : Index := 237#32
  ![v1050.toNat, 237]
def k0_off239 (i : grid0.Coords) : Fin 2 → Nat :=
  let arg0 : BitVec 32 := BitVec.ofNat 32 (i 0).val
  let v1054 : Index := Scalar.indexCast arg0
  let c238 : Index := 238#32
  ![v1054.toNat, 238]
def k0_off240 (i : grid0.Coords) : Fin 2 → Nat :=
  let arg0 : BitVec 32 := BitVec.ofNat 32 (i 0).val
  let v1058 : Index := Scalar.indexCast arg0
  let c239 : Index := 239#32
  ![v1058.toNat, 239]
def k0_off241 (i : grid0.Coords) : Fin 2 → Nat :=
  let arg0 : BitVec 32 := BitVec.ofNat 32 (i 0).val
  let v1062 : Index := Scalar.indexCast arg0
  let c240 : Index := 240#32
  ![v1062.toNat, 240]
def k0_off242 (i : grid0.Coords) : Fin 2 → Nat :=
  let arg0 : BitVec 32 := BitVec.ofNat 32 (i 0).val
  let v1066 : Index := Scalar.indexCast arg0
  let c241 : Index := 241#32
  ![v1066.toNat, 241]
def k0_off243 (i : grid0.Coords) : Fin 2 → Nat :=
  let arg0 : BitVec 32 := BitVec.ofNat 32 (i 0).val
  let v1070 : Index := Scalar.indexCast arg0
  let c242 : Index := 242#32
  ![v1070.toNat, 242]
def k0_off244 (i : grid0.Coords) : Fin 2 → Nat :=
  let arg0 : BitVec 32 := BitVec.ofNat 32 (i 0).val
  let v1074 : Index := Scalar.indexCast arg0
  let c243 : Index := 243#32
  ![v1074.toNat, 243]
def k0_off245 (i : grid0.Coords) : Fin 2 → Nat :=
  let arg0 : BitVec 32 := BitVec.ofNat 32 (i 0).val
  let v1078 : Index := Scalar.indexCast arg0
  let c244 : Index := 244#32
  ![v1078.toNat, 244]
def k0_off246 (i : grid0.Coords) : Fin 2 → Nat :=
  let arg0 : BitVec 32 := BitVec.ofNat 32 (i 0).val
  let v1082 : Index := Scalar.indexCast arg0
  let c245 : Index := 245#32
  ![v1082.toNat, 245]
def k0_off247 (i : grid0.Coords) : Fin 2 → Nat :=
  let arg0 : BitVec 32 := BitVec.ofNat 32 (i 0).val
  let v1086 : Index := Scalar.indexCast arg0
  let c246 : Index := 246#32
  ![v1086.toNat, 246]
def k0_off248 (i : grid0.Coords) : Fin 2 → Nat :=
  let arg0 : BitVec 32 := BitVec.ofNat 32 (i 0).val
  let v1090 : Index := Scalar.indexCast arg0
  let c247 : Index := 247#32
  ![v1090.toNat, 247]
def k0_off249 (i : grid0.Coords) : Fin 2 → Nat :=
  let arg0 : BitVec 32 := BitVec.ofNat 32 (i 0).val
  let v1096 : Index := Scalar.indexCast arg0
  let c248 : Index := 248#32
  ![v1096.toNat, 248]
def k0_off250 (i : grid0.Coords) : Fin 2 → Nat :=
  let arg0 : BitVec 32 := BitVec.ofNat 32 (i 0).val
  let v1100 : Index := Scalar.indexCast arg0
  let c249 : Index := 249#32
  ![v1100.toNat, 249]
def k0_off251 (i : grid0.Coords) : Fin 2 → Nat :=
  let arg0 : BitVec 32 := BitVec.ofNat 32 (i 0).val
  let v1104 : Index := Scalar.indexCast arg0
  let c250 : Index := 250#32
  ![v1104.toNat, 250]
def k0_off252 (i : grid0.Coords) : Fin 2 → Nat :=
  let arg0 : BitVec 32 := BitVec.ofNat 32 (i 0).val
  let v1108 : Index := Scalar.indexCast arg0
  let c251 : Index := 251#32
  ![v1108.toNat, 251]
def k0_off253 (i : grid0.Coords) : Fin 2 → Nat :=
  let arg0 : BitVec 32 := BitVec.ofNat 32 (i 0).val
  let v1112 : Index := Scalar.indexCast arg0
  let c252 : Index := 252#32
  ![v1112.toNat, 252]
def k0_off254 (i : grid0.Coords) : Fin 2 → Nat :=
  let arg0 : BitVec 32 := BitVec.ofNat 32 (i 0).val
  let v1116 : Index := Scalar.indexCast arg0
  let c253 : Index := 253#32
  ![v1116.toNat, 253]
def k0_off255 (i : grid0.Coords) : Fin 2 → Nat :=
  let arg0 : BitVec 32 := BitVec.ofNat 32 (i 0).val
  let v1120 : Index := Scalar.indexCast arg0
  let c254 : Index := 254#32
  ![v1120.toNat, 254]
def k0_off256 (i : grid0.Coords) : Fin 2 → Nat :=
  let arg0 : BitVec 32 := BitVec.ofNat 32 (i 0).val
  let v1124 : Index := Scalar.indexCast arg0
  let c255 : Index := 255#32
  ![v1124.toNat, 255]
def k0_off257 (i : grid0.Coords) : Fin 2 → Nat :=
  let arg0 : BitVec 32 := BitVec.ofNat 32 (i 0).val
  let v1128 : Index := Scalar.indexCast arg0
  let c256 : Index := 256#32
  ![v1128.toNat, 256]
def k0_off258 (i : grid0.Coords) : Fin 2 → Nat :=
  let arg0 : BitVec 32 := BitVec.ofNat 32 (i 0).val
  let v1132 : Index := Scalar.indexCast arg0
  let c257 : Index := 257#32
  ![v1132.toNat, 257]
def k0_off259 (i : grid0.Coords) : Fin 2 → Nat :=
  let arg0 : BitVec 32 := BitVec.ofNat 32 (i 0).val
  let v1136 : Index := Scalar.indexCast arg0
  let c258 : Index := 258#32
  ![v1136.toNat, 258]
def k0_off260 (i : grid0.Coords) : Fin 2 → Nat :=
  let arg0 : BitVec 32 := BitVec.ofNat 32 (i 0).val
  let v1140 : Index := Scalar.indexCast arg0
  let c259 : Index := 259#32
  ![v1140.toNat, 259]
def k0_off261 (i : grid0.Coords) : Fin 2 → Nat :=
  let arg0 : BitVec 32 := BitVec.ofNat 32 (i 0).val
  let v1144 : Index := Scalar.indexCast arg0
  let c260 : Index := 260#32
  ![v1144.toNat, 260]
def k0_off262 (i : grid0.Coords) : Fin 2 → Nat :=
  let arg0 : BitVec 32 := BitVec.ofNat 32 (i 0).val
  let v1148 : Index := Scalar.indexCast arg0
  let c261 : Index := 261#32
  ![v1148.toNat, 261]
def k0_off263 (i : grid0.Coords) : Fin 2 → Nat :=
  let arg0 : BitVec 32 := BitVec.ofNat 32 (i 0).val
  let v1152 : Index := Scalar.indexCast arg0
  let c262 : Index := 262#32
  ![v1152.toNat, 262]
def k0_off264 (i : grid0.Coords) : Fin 2 → Nat :=
  let arg0 : BitVec 32 := BitVec.ofNat 32 (i 0).val
  let v1156 : Index := Scalar.indexCast arg0
  let c263 : Index := 263#32
  ![v1156.toNat, 263]
def k0_off265 (i : grid0.Coords) : Fin 2 → Nat :=
  let arg0 : BitVec 32 := BitVec.ofNat 32 (i 0).val
  let v1160 : Index := Scalar.indexCast arg0
  let c264 : Index := 264#32
  ![v1160.toNat, 264]
def k0_off266 (i : grid0.Coords) : Fin 2 → Nat :=
  let arg0 : BitVec 32 := BitVec.ofNat 32 (i 0).val
  let v1164 : Index := Scalar.indexCast arg0
  let c265 : Index := 265#32
  ![v1164.toNat, 265]
def k0_off267 (i : grid0.Coords) : Fin 2 → Nat :=
  let arg0 : BitVec 32 := BitVec.ofNat 32 (i 0).val
  let v1168 : Index := Scalar.indexCast arg0
  let c266 : Index := 266#32
  ![v1168.toNat, 266]
def k0_off268 (i : grid0.Coords) : Fin 2 → Nat :=
  let arg0 : BitVec 32 := BitVec.ofNat 32 (i 0).val
  let v1172 : Index := Scalar.indexCast arg0
  let c267 : Index := 267#32
  ![v1172.toNat, 267]
def k0_off269 (i : grid0.Coords) : Fin 2 → Nat :=
  let arg0 : BitVec 32 := BitVec.ofNat 32 (i 0).val
  let v1176 : Index := Scalar.indexCast arg0
  let c268 : Index := 268#32
  ![v1176.toNat, 268]
def k0_off270 (i : grid0.Coords) : Fin 2 → Nat :=
  let arg0 : BitVec 32 := BitVec.ofNat 32 (i 0).val
  let v1180 : Index := Scalar.indexCast arg0
  let c269 : Index := 269#32
  ![v1180.toNat, 269]
def k0_off271 (i : grid0.Coords) : Fin 2 → Nat :=
  let arg0 : BitVec 32 := BitVec.ofNat 32 (i 0).val
  let v1184 : Index := Scalar.indexCast arg0
  let c270 : Index := 270#32
  ![v1184.toNat, 270]
def k0_off272 (i : grid0.Coords) : Fin 2 → Nat :=
  let arg0 : BitVec 32 := BitVec.ofNat 32 (i 0).val
  let v1188 : Index := Scalar.indexCast arg0
  let c271 : Index := 271#32
  ![v1188.toNat, 271]
def k0_off273 (i : grid0.Coords) : Fin 2 → Nat :=
  let arg0 : BitVec 32 := BitVec.ofNat 32 (i 0).val
  let v1192 : Index := Scalar.indexCast arg0
  let c272 : Index := 272#32
  ![v1192.toNat, 272]
def k0_off274 (i : grid0.Coords) : Fin 2 → Nat :=
  let arg0 : BitVec 32 := BitVec.ofNat 32 (i 0).val
  let v1196 : Index := Scalar.indexCast arg0
  let c273 : Index := 273#32
  ![v1196.toNat, 273]
def k0_off275 (i : grid0.Coords) : Fin 2 → Nat :=
  let arg0 : BitVec 32 := BitVec.ofNat 32 (i 0).val
  let v1200 : Index := Scalar.indexCast arg0
  let c274 : Index := 274#32
  ![v1200.toNat, 274]
def k0_off276 (i : grid0.Coords) : Fin 2 → Nat :=
  let arg0 : BitVec 32 := BitVec.ofNat 32 (i 0).val
  let v1204 : Index := Scalar.indexCast arg0
  let c275 : Index := 275#32
  ![v1204.toNat, 275]
def k0_off277 (i : grid0.Coords) : Fin 2 → Nat :=
  let arg0 : BitVec 32 := BitVec.ofNat 32 (i 0).val
  let v1208 : Index := Scalar.indexCast arg0
  let c276 : Index := 276#32
  ![v1208.toNat, 276]
def k0_off278 (i : grid0.Coords) : Fin 2 → Nat :=
  let arg0 : BitVec 32 := BitVec.ofNat 32 (i 0).val
  let v1212 : Index := Scalar.indexCast arg0
  let c277 : Index := 277#32
  ![v1212.toNat, 277]
def k0_off279 (i : grid0.Coords) : Fin 2 → Nat :=
  let arg0 : BitVec 32 := BitVec.ofNat 32 (i 0).val
  let v1216 : Index := Scalar.indexCast arg0
  let c278 : Index := 278#32
  ![v1216.toNat, 278]
def k0_off280 (i : grid0.Coords) : Fin 2 → Nat :=
  let arg0 : BitVec 32 := BitVec.ofNat 32 (i 0).val
  let v1222 : Index := Scalar.indexCast arg0
  let c279 : Index := 279#32
  ![v1222.toNat, 279]
def k0_off281 (i : grid0.Coords) : Fin 2 → Nat :=
  let arg0 : BitVec 32 := BitVec.ofNat 32 (i 0).val
  let v1226 : Index := Scalar.indexCast arg0
  let c280 : Index := 280#32
  ![v1226.toNat, 280]
def k0_off282 (i : grid0.Coords) : Fin 2 → Nat :=
  let arg0 : BitVec 32 := BitVec.ofNat 32 (i 0).val
  let v1230 : Index := Scalar.indexCast arg0
  let c281 : Index := 281#32
  ![v1230.toNat, 281]
def k0_off283 (i : grid0.Coords) : Fin 2 → Nat :=
  let arg0 : BitVec 32 := BitVec.ofNat 32 (i 0).val
  let v1234 : Index := Scalar.indexCast arg0
  let c282 : Index := 282#32
  ![v1234.toNat, 282]
def k0_off284 (i : grid0.Coords) : Fin 2 → Nat :=
  let arg0 : BitVec 32 := BitVec.ofNat 32 (i 0).val
  let v1238 : Index := Scalar.indexCast arg0
  let c283 : Index := 283#32
  ![v1238.toNat, 283]
def k0_off285 (i : grid0.Coords) : Fin 2 → Nat :=
  let arg0 : BitVec 32 := BitVec.ofNat 32 (i 0).val
  let v1242 : Index := Scalar.indexCast arg0
  let c284 : Index := 284#32
  ![v1242.toNat, 284]
def k0_off286 (i : grid0.Coords) : Fin 2 → Nat :=
  let arg0 : BitVec 32 := BitVec.ofNat 32 (i 0).val
  let v1246 : Index := Scalar.indexCast arg0
  let c285 : Index := 285#32
  ![v1246.toNat, 285]
def k0_off287 (i : grid0.Coords) : Fin 2 → Nat :=
  let arg0 : BitVec 32 := BitVec.ofNat 32 (i 0).val
  let v1250 : Index := Scalar.indexCast arg0
  let c286 : Index := 286#32
  ![v1250.toNat, 286]
def k0_off288 (i : grid0.Coords) : Fin 2 → Nat :=
  let arg0 : BitVec 32 := BitVec.ofNat 32 (i 0).val
  let v1254 : Index := Scalar.indexCast arg0
  let c287 : Index := 287#32
  ![v1254.toNat, 287]
def k0_off289 (i : grid0.Coords) : Fin 2 → Nat :=
  let arg0 : BitVec 32 := BitVec.ofNat 32 (i 0).val
  let v1258 : Index := Scalar.indexCast arg0
  let c288 : Index := 288#32
  ![v1258.toNat, 288]
def k0_off290 (i : grid0.Coords) : Fin 2 → Nat :=
  let arg0 : BitVec 32 := BitVec.ofNat 32 (i 0).val
  let v1262 : Index := Scalar.indexCast arg0
  let c289 : Index := 289#32
  ![v1262.toNat, 289]
def k0_off291 (i : grid0.Coords) : Fin 2 → Nat :=
  let arg0 : BitVec 32 := BitVec.ofNat 32 (i 0).val
  let v1266 : Index := Scalar.indexCast arg0
  let c290 : Index := 290#32
  ![v1266.toNat, 290]
def k0_off292 (i : grid0.Coords) : Fin 2 → Nat :=
  let arg0 : BitVec 32 := BitVec.ofNat 32 (i 0).val
  let v1270 : Index := Scalar.indexCast arg0
  let c291 : Index := 291#32
  ![v1270.toNat, 291]
def k0_off293 (i : grid0.Coords) : Fin 2 → Nat :=
  let arg0 : BitVec 32 := BitVec.ofNat 32 (i 0).val
  let v1274 : Index := Scalar.indexCast arg0
  let c292 : Index := 292#32
  ![v1274.toNat, 292]
def k0_off294 (i : grid0.Coords) : Fin 2 → Nat :=
  let arg0 : BitVec 32 := BitVec.ofNat 32 (i 0).val
  let v1278 : Index := Scalar.indexCast arg0
  let c293 : Index := 293#32
  ![v1278.toNat, 293]
def k0_off295 (i : grid0.Coords) : Fin 2 → Nat :=
  let arg0 : BitVec 32 := BitVec.ofNat 32 (i 0).val
  let v1282 : Index := Scalar.indexCast arg0
  let c294 : Index := 294#32
  ![v1282.toNat, 294]
def k0_off296 (i : grid0.Coords) : Fin 2 → Nat :=
  let arg0 : BitVec 32 := BitVec.ofNat 32 (i 0).val
  let v1286 : Index := Scalar.indexCast arg0
  let c295 : Index := 295#32
  ![v1286.toNat, 295]
def k0_off297 (i : grid0.Coords) : Fin 2 → Nat :=
  let arg0 : BitVec 32 := BitVec.ofNat 32 (i 0).val
  let v1290 : Index := Scalar.indexCast arg0
  let c296 : Index := 296#32
  ![v1290.toNat, 296]
def k0_off298 (i : grid0.Coords) : Fin 2 → Nat :=
  let arg0 : BitVec 32 := BitVec.ofNat 32 (i 0).val
  let v1294 : Index := Scalar.indexCast arg0
  let c297 : Index := 297#32
  ![v1294.toNat, 297]
def k0_off299 (i : grid0.Coords) : Fin 2 → Nat :=
  let arg0 : BitVec 32 := BitVec.ofNat 32 (i 0).val
  let v1298 : Index := Scalar.indexCast arg0
  let c298 : Index := 298#32
  ![v1298.toNat, 298]
def k0_off300 (i : grid0.Coords) : Fin 2 → Nat :=
  let arg0 : BitVec 32 := BitVec.ofNat 32 (i 0).val
  let v1302 : Index := Scalar.indexCast arg0
  let c299 : Index := 299#32
  ![v1302.toNat, 299]
def k0_off301 (i : grid0.Coords) : Fin 2 → Nat :=
  let arg0 : BitVec 32 := BitVec.ofNat 32 (i 0).val
  let v1306 : Index := Scalar.indexCast arg0
  let c300 : Index := 300#32
  ![v1306.toNat, 300]
def k0_off302 (i : grid0.Coords) : Fin 2 → Nat :=
  let arg0 : BitVec 32 := BitVec.ofNat 32 (i 0).val
  let v1310 : Index := Scalar.indexCast arg0
  let c301 : Index := 301#32
  ![v1310.toNat, 301]
def k0_off303 (i : grid0.Coords) : Fin 2 → Nat :=
  let arg0 : BitVec 32 := BitVec.ofNat 32 (i 0).val
  let v1314 : Index := Scalar.indexCast arg0
  let c302 : Index := 302#32
  ![v1314.toNat, 302]
def k0_off304 (i : grid0.Coords) : Fin 2 → Nat :=
  let arg0 : BitVec 32 := BitVec.ofNat 32 (i 0).val
  let v1318 : Index := Scalar.indexCast arg0
  let c303 : Index := 303#32
  ![v1318.toNat, 303]
def k0_off305 (i : grid0.Coords) : Fin 2 → Nat :=
  let arg0 : BitVec 32 := BitVec.ofNat 32 (i 0).val
  let v1322 : Index := Scalar.indexCast arg0
  let c304 : Index := 304#32
  ![v1322.toNat, 304]
def k0_off306 (i : grid0.Coords) : Fin 2 → Nat :=
  let arg0 : BitVec 32 := BitVec.ofNat 32 (i 0).val
  let v1326 : Index := Scalar.indexCast arg0
  let c305 : Index := 305#32
  ![v1326.toNat, 305]
def k0_off307 (i : grid0.Coords) : Fin 2 → Nat :=
  let arg0 : BitVec 32 := BitVec.ofNat 32 (i 0).val
  let v1330 : Index := Scalar.indexCast arg0
  let c306 : Index := 306#32
  ![v1330.toNat, 306]
def k0_off308 (i : grid0.Coords) : Fin 2 → Nat :=
  let arg0 : BitVec 32 := BitVec.ofNat 32 (i 0).val
  let v1334 : Index := Scalar.indexCast arg0
  let c307 : Index := 307#32
  ![v1334.toNat, 307]
def k0_off309 (i : grid0.Coords) : Fin 2 → Nat :=
  let arg0 : BitVec 32 := BitVec.ofNat 32 (i 0).val
  let v1338 : Index := Scalar.indexCast arg0
  let c308 : Index := 308#32
  ![v1338.toNat, 308]
def k0_off310 (i : grid0.Coords) : Fin 2 → Nat :=
  let arg0 : BitVec 32 := BitVec.ofNat 32 (i 0).val
  let v1342 : Index := Scalar.indexCast arg0
  let c309 : Index := 309#32
  ![v1342.toNat, 309]
def k0_off311 (i : grid0.Coords) : Fin 2 → Nat :=
  let arg0 : BitVec 32 := BitVec.ofNat 32 (i 0).val
  let v1348 : Index := Scalar.indexCast arg0
  let c310 : Index := 310#32
  ![v1348.toNat, 310]
def k0_off312 (i : grid0.Coords) : Fin 2 → Nat :=
  let arg0 : BitVec 32 := BitVec.ofNat 32 (i 0).val
  let v1352 : Index := Scalar.indexCast arg0
  let c311 : Index := 311#32
  ![v1352.toNat, 311]
def k0_off313 (i : grid0.Coords) : Fin 2 → Nat :=
  let arg0 : BitVec 32 := BitVec.ofNat 32 (i 0).val
  let v1356 : Index := Scalar.indexCast arg0
  let c312 : Index := 312#32
  ![v1356.toNat, 312]
def k0_off314 (i : grid0.Coords) : Fin 2 → Nat :=
  let arg0 : BitVec 32 := BitVec.ofNat 32 (i 0).val
  let v1360 : Index := Scalar.indexCast arg0
  let c313 : Index := 313#32
  ![v1360.toNat, 313]
def k0_off315 (i : grid0.Coords) : Fin 2 → Nat :=
  let arg0 : BitVec 32 := BitVec.ofNat 32 (i 0).val
  let v1364 : Index := Scalar.indexCast arg0
  let c314 : Index := 314#32
  ![v1364.toNat, 314]
def k0_off316 (i : grid0.Coords) : Fin 2 → Nat :=
  let arg0 : BitVec 32 := BitVec.ofNat 32 (i 0).val
  let v1368 : Index := Scalar.indexCast arg0
  let c315 : Index := 315#32
  ![v1368.toNat, 315]
def k0_off317 (i : grid0.Coords) : Fin 2 → Nat :=
  let arg0 : BitVec 32 := BitVec.ofNat 32 (i 0).val
  let v1372 : Index := Scalar.indexCast arg0
  let c316 : Index := 316#32
  ![v1372.toNat, 316]
def k0_off318 (i : grid0.Coords) : Fin 2 → Nat :=
  let arg0 : BitVec 32 := BitVec.ofNat 32 (i 0).val
  let v1376 : Index := Scalar.indexCast arg0
  let c317 : Index := 317#32
  ![v1376.toNat, 317]
def k0_off319 (i : grid0.Coords) : Fin 2 → Nat :=
  let arg0 : BitVec 32 := BitVec.ofNat 32 (i 0).val
  let v1380 : Index := Scalar.indexCast arg0
  let c318 : Index := 318#32
  ![v1380.toNat, 318]
def k0_off320 (i : grid0.Coords) : Fin 2 → Nat :=
  let arg0 : BitVec 32 := BitVec.ofNat 32 (i 0).val
  let v1384 : Index := Scalar.indexCast arg0
  let c319 : Index := 319#32
  ![v1384.toNat, 319]
def k0_off321 (i : grid0.Coords) : Fin 2 → Nat :=
  let arg0 : BitVec 32 := BitVec.ofNat 32 (i 0).val
  let v1388 : Index := Scalar.indexCast arg0
  let c320 : Index := 320#32
  ![v1388.toNat, 320]
def k0_off322 (i : grid0.Coords) : Fin 2 → Nat :=
  let arg0 : BitVec 32 := BitVec.ofNat 32 (i 0).val
  let v1392 : Index := Scalar.indexCast arg0
  let c321 : Index := 321#32
  ![v1392.toNat, 321]
def k0_off323 (i : grid0.Coords) : Fin 2 → Nat :=
  let arg0 : BitVec 32 := BitVec.ofNat 32 (i 0).val
  let v1396 : Index := Scalar.indexCast arg0
  let c322 : Index := 322#32
  ![v1396.toNat, 322]
def k0_off324 (i : grid0.Coords) : Fin 2 → Nat :=
  let arg0 : BitVec 32 := BitVec.ofNat 32 (i 0).val
  let v1400 : Index := Scalar.indexCast arg0
  let c323 : Index := 323#32
  ![v1400.toNat, 323]
def k0_off325 (i : grid0.Coords) : Fin 2 → Nat :=
  let arg0 : BitVec 32 := BitVec.ofNat 32 (i 0).val
  let v1404 : Index := Scalar.indexCast arg0
  let c324 : Index := 324#32
  ![v1404.toNat, 324]
def k0_off326 (i : grid0.Coords) : Fin 2 → Nat :=
  let arg0 : BitVec 32 := BitVec.ofNat 32 (i 0).val
  let v1408 : Index := Scalar.indexCast arg0
  let c325 : Index := 325#32
  ![v1408.toNat, 325]
def k0_off327 (i : grid0.Coords) : Fin 2 → Nat :=
  let arg0 : BitVec 32 := BitVec.ofNat 32 (i 0).val
  let v1412 : Index := Scalar.indexCast arg0
  let c326 : Index := 326#32
  ![v1412.toNat, 326]
def k0_off328 (i : grid0.Coords) : Fin 2 → Nat :=
  let arg0 : BitVec 32 := BitVec.ofNat 32 (i 0).val
  let v1416 : Index := Scalar.indexCast arg0
  let c327 : Index := 327#32
  ![v1416.toNat, 327]
def k0_off329 (i : grid0.Coords) : Fin 2 → Nat :=
  let arg0 : BitVec 32 := BitVec.ofNat 32 (i 0).val
  let v1420 : Index := Scalar.indexCast arg0
  let c328 : Index := 328#32
  ![v1420.toNat, 328]
def k0_off330 (i : grid0.Coords) : Fin 2 → Nat :=
  let arg0 : BitVec 32 := BitVec.ofNat 32 (i 0).val
  let v1424 : Index := Scalar.indexCast arg0
  let c329 : Index := 329#32
  ![v1424.toNat, 329]
def k0_off331 (i : grid0.Coords) : Fin 2 → Nat :=
  let arg0 : BitVec 32 := BitVec.ofNat 32 (i 0).val
  let v1428 : Index := Scalar.indexCast arg0
  let c330 : Index := 330#32
  ![v1428.toNat, 330]
def k0_off332 (i : grid0.Coords) : Fin 2 → Nat :=
  let arg0 : BitVec 32 := BitVec.ofNat 32 (i 0).val
  let v1432 : Index := Scalar.indexCast arg0
  let c331 : Index := 331#32
  ![v1432.toNat, 331]
def k0_off333 (i : grid0.Coords) : Fin 2 → Nat :=
  let arg0 : BitVec 32 := BitVec.ofNat 32 (i 0).val
  let v1436 : Index := Scalar.indexCast arg0
  let c332 : Index := 332#32
  ![v1436.toNat, 332]
def k0_off334 (i : grid0.Coords) : Fin 2 → Nat :=
  let arg0 : BitVec 32 := BitVec.ofNat 32 (i 0).val
  let v1440 : Index := Scalar.indexCast arg0
  let c333 : Index := 333#32
  ![v1440.toNat, 333]
def k0_off335 (i : grid0.Coords) : Fin 2 → Nat :=
  let arg0 : BitVec 32 := BitVec.ofNat 32 (i 0).val
  let v1444 : Index := Scalar.indexCast arg0
  let c334 : Index := 334#32
  ![v1444.toNat, 334]
def k0_off336 (i : grid0.Coords) : Fin 2 → Nat :=
  let arg0 : BitVec 32 := BitVec.ofNat 32 (i 0).val
  let v1448 : Index := Scalar.indexCast arg0
  let c335 : Index := 335#32
  ![v1448.toNat, 335]
def k0_off337 (i : grid0.Coords) : Fin 2 → Nat :=
  let arg0 : BitVec 32 := BitVec.ofNat 32 (i 0).val
  let v1452 : Index := Scalar.indexCast arg0
  let c336 : Index := 336#32
  ![v1452.toNat, 336]
def k0_off338 (i : grid0.Coords) : Fin 2 → Nat :=
  let arg0 : BitVec 32 := BitVec.ofNat 32 (i 0).val
  let v1456 : Index := Scalar.indexCast arg0
  let c337 : Index := 337#32
  ![v1456.toNat, 337]
def k0_off339 (i : grid0.Coords) : Fin 2 → Nat :=
  let arg0 : BitVec 32 := BitVec.ofNat 32 (i 0).val
  let v1460 : Index := Scalar.indexCast arg0
  let c338 : Index := 338#32
  ![v1460.toNat, 338]
def k0_off340 (i : grid0.Coords) : Fin 2 → Nat :=
  let arg0 : BitVec 32 := BitVec.ofNat 32 (i 0).val
  let v1464 : Index := Scalar.indexCast arg0
  let c339 : Index := 339#32
  ![v1464.toNat, 339]
def k0_off341 (i : grid0.Coords) : Fin 2 → Nat :=
  let arg0 : BitVec 32 := BitVec.ofNat 32 (i 0).val
  let v1468 : Index := Scalar.indexCast arg0
  let c340 : Index := 340#32
  ![v1468.toNat, 340]
def k0_off342 (i : grid0.Coords) : Fin 2 → Nat :=
  let arg0 : BitVec 32 := BitVec.ofNat 32 (i 0).val
  let v1474 : Index := Scalar.indexCast arg0
  let c341 : Index := 341#32
  ![v1474.toNat, 341]
def k0_off343 (i : grid0.Coords) : Fin 2 → Nat :=
  let arg0 : BitVec 32 := BitVec.ofNat 32 (i 0).val
  let v1478 : Index := Scalar.indexCast arg0
  let c342 : Index := 342#32
  ![v1478.toNat, 342]
def k0_off344 (i : grid0.Coords) : Fin 2 → Nat :=
  let arg0 : BitVec 32 := BitVec.ofNat 32 (i 0).val
  let v1482 : Index := Scalar.indexCast arg0
  let c343 : Index := 343#32
  ![v1482.toNat, 343]
def k0_off345 (i : grid0.Coords) : Fin 2 → Nat :=
  let arg0 : BitVec 32 := BitVec.ofNat 32 (i 0).val
  let v1486 : Index := Scalar.indexCast arg0
  let c344 : Index := 344#32
  ![v1486.toNat, 344]
def k0_off346 (i : grid0.Coords) : Fin 2 → Nat :=
  let arg0 : BitVec 32 := BitVec.ofNat 32 (i 0).val
  let v1490 : Index := Scalar.indexCast arg0
  let c345 : Index := 345#32
  ![v1490.toNat, 345]
def k0_off347 (i : grid0.Coords) : Fin 2 → Nat :=
  let arg0 : BitVec 32 := BitVec.ofNat 32 (i 0).val
  let v1494 : Index := Scalar.indexCast arg0
  let c346 : Index := 346#32
  ![v1494.toNat, 346]
def k0_off348 (i : grid0.Coords) : Fin 2 → Nat :=
  let arg0 : BitVec 32 := BitVec.ofNat 32 (i 0).val
  let v1498 : Index := Scalar.indexCast arg0
  let c347 : Index := 347#32
  ![v1498.toNat, 347]
def k0_off349 (i : grid0.Coords) : Fin 2 → Nat :=
  let arg0 : BitVec 32 := BitVec.ofNat 32 (i 0).val
  let v1502 : Index := Scalar.indexCast arg0
  let c348 : Index := 348#32
  ![v1502.toNat, 348]
def k0_off350 (i : grid0.Coords) : Fin 2 → Nat :=
  let arg0 : BitVec 32 := BitVec.ofNat 32 (i 0).val
  let v1506 : Index := Scalar.indexCast arg0
  let c349 : Index := 349#32
  ![v1506.toNat, 349]
def k0_off351 (i : grid0.Coords) : Fin 2 → Nat :=
  let arg0 : BitVec 32 := BitVec.ofNat 32 (i 0).val
  let v1510 : Index := Scalar.indexCast arg0
  let c350 : Index := 350#32
  ![v1510.toNat, 350]
def k0_off352 (i : grid0.Coords) : Fin 2 → Nat :=
  let arg0 : BitVec 32 := BitVec.ofNat 32 (i 0).val
  let v1514 : Index := Scalar.indexCast arg0
  let c351 : Index := 351#32
  ![v1514.toNat, 351]
def k0_off353 (i : grid0.Coords) : Fin 2 → Nat :=
  let arg0 : BitVec 32 := BitVec.ofNat 32 (i 0).val
  let v1518 : Index := Scalar.indexCast arg0
  let c352 : Index := 352#32
  ![v1518.toNat, 352]
def k0_off354 (i : grid0.Coords) : Fin 2 → Nat :=
  let arg0 : BitVec 32 := BitVec.ofNat 32 (i 0).val
  let v1522 : Index := Scalar.indexCast arg0
  let c353 : Index := 353#32
  ![v1522.toNat, 353]
def k0_off355 (i : grid0.Coords) : Fin 2 → Nat :=
  let arg0 : BitVec 32 := BitVec.ofNat 32 (i 0).val
  let v1526 : Index := Scalar.indexCast arg0
  let c354 : Index := 354#32
  ![v1526.toNat, 354]
def k0_off356 (i : grid0.Coords) : Fin 2 → Nat :=
  let arg0 : BitVec 32 := BitVec.ofNat 32 (i 0).val
  let v1530 : Index := Scalar.indexCast arg0
  let c355 : Index := 355#32
  ![v1530.toNat, 355]
def k0_off357 (i : grid0.Coords) : Fin 2 → Nat :=
  let arg0 : BitVec 32 := BitVec.ofNat 32 (i 0).val
  let v1534 : Index := Scalar.indexCast arg0
  let c356 : Index := 356#32
  ![v1534.toNat, 356]
def k0_off358 (i : grid0.Coords) : Fin 2 → Nat :=
  let arg0 : BitVec 32 := BitVec.ofNat 32 (i 0).val
  let v1538 : Index := Scalar.indexCast arg0
  let c357 : Index := 357#32
  ![v1538.toNat, 357]
def k0_off359 (i : grid0.Coords) : Fin 2 → Nat :=
  let arg0 : BitVec 32 := BitVec.ofNat 32 (i 0).val
  let v1542 : Index := Scalar.indexCast arg0
  let c358 : Index := 358#32
  ![v1542.toNat, 358]
def k0_off360 (i : grid0.Coords) : Fin 2 → Nat :=
  let arg0 : BitVec 32 := BitVec.ofNat 32 (i 0).val
  let v1546 : Index := Scalar.indexCast arg0
  let c359 : Index := 359#32
  ![v1546.toNat, 359]
def k0_off361 (i : grid0.Coords) : Fin 2 → Nat :=
  let arg0 : BitVec 32 := BitVec.ofNat 32 (i 0).val
  let v1550 : Index := Scalar.indexCast arg0
  let c360 : Index := 360#32
  ![v1550.toNat, 360]
def k0_off362 (i : grid0.Coords) : Fin 2 → Nat :=
  let arg0 : BitVec 32 := BitVec.ofNat 32 (i 0).val
  let v1554 : Index := Scalar.indexCast arg0
  let c361 : Index := 361#32
  ![v1554.toNat, 361]
def k0_off363 (i : grid0.Coords) : Fin 2 → Nat :=
  let arg0 : BitVec 32 := BitVec.ofNat 32 (i 0).val
  let v1558 : Index := Scalar.indexCast arg0
  let c362 : Index := 362#32
  ![v1558.toNat, 362]
def k0_off364 (i : grid0.Coords) : Fin 2 → Nat :=
  let arg0 : BitVec 32 := BitVec.ofNat 32 (i 0).val
  let v1562 : Index := Scalar.indexCast arg0
  let c363 : Index := 363#32
  ![v1562.toNat, 363]
def k0_off365 (i : grid0.Coords) : Fin 2 → Nat :=
  let arg0 : BitVec 32 := BitVec.ofNat 32 (i 0).val
  let v1566 : Index := Scalar.indexCast arg0
  let c364 : Index := 364#32
  ![v1566.toNat, 364]
def k0_off366 (i : grid0.Coords) : Fin 2 → Nat :=
  let arg0 : BitVec 32 := BitVec.ofNat 32 (i 0).val
  let v1570 : Index := Scalar.indexCast arg0
  let c365 : Index := 365#32
  ![v1570.toNat, 365]
def k0_off367 (i : grid0.Coords) : Fin 2 → Nat :=
  let arg0 : BitVec 32 := BitVec.ofNat 32 (i 0).val
  let v1574 : Index := Scalar.indexCast arg0
  let c366 : Index := 366#32
  ![v1574.toNat, 366]
def k0_off368 (i : grid0.Coords) : Fin 2 → Nat :=
  let arg0 : BitVec 32 := BitVec.ofNat 32 (i 0).val
  let v1578 : Index := Scalar.indexCast arg0
  let c367 : Index := 367#32
  ![v1578.toNat, 367]
def k0_off369 (i : grid0.Coords) : Fin 2 → Nat :=
  let arg0 : BitVec 32 := BitVec.ofNat 32 (i 0).val
  let v1582 : Index := Scalar.indexCast arg0
  let c368 : Index := 368#32
  ![v1582.toNat, 368]
def k0_off370 (i : grid0.Coords) : Fin 2 → Nat :=
  let arg0 : BitVec 32 := BitVec.ofNat 32 (i 0).val
  let v1586 : Index := Scalar.indexCast arg0
  let c369 : Index := 369#32
  ![v1586.toNat, 369]
def k0_off371 (i : grid0.Coords) : Fin 2 → Nat :=
  let arg0 : BitVec 32 := BitVec.ofNat 32 (i 0).val
  let v1590 : Index := Scalar.indexCast arg0
  let c370 : Index := 370#32
  ![v1590.toNat, 370]
def k0_off372 (i : grid0.Coords) : Fin 2 → Nat :=
  let arg0 : BitVec 32 := BitVec.ofNat 32 (i 0).val
  let v1594 : Index := Scalar.indexCast arg0
  let c371 : Index := 371#32
  ![v1594.toNat, 371]
def k0_off373 (i : grid0.Coords) : Fin 2 → Nat :=
  let arg0 : BitVec 32 := BitVec.ofNat 32 (i 0).val
  let v1600 : Index := Scalar.indexCast arg0
  let c372 : Index := 372#32
  ![v1600.toNat, 372]
def k0_off374 (i : grid0.Coords) : Fin 2 → Nat :=
  let arg0 : BitVec 32 := BitVec.ofNat 32 (i 0).val
  let v1604 : Index := Scalar.indexCast arg0
  let c373 : Index := 373#32
  ![v1604.toNat, 373]
def k0_off375 (i : grid0.Coords) : Fin 2 → Nat :=
  let arg0 : BitVec 32 := BitVec.ofNat 32 (i 0).val
  let v1608 : Index := Scalar.indexCast arg0
  let c374 : Index := 374#32
  ![v1608.toNat, 374]
def k0_off376 (i : grid0.Coords) : Fin 2 → Nat :=
  let arg0 : BitVec 32 := BitVec.ofNat 32 (i 0).val
  let v1612 : Index := Scalar.indexCast arg0
  let c375 : Index := 375#32
  ![v1612.toNat, 375]
def k0_off377 (i : grid0.Coords) : Fin 2 → Nat :=
  let arg0 : BitVec 32 := BitVec.ofNat 32 (i 0).val
  let v1616 : Index := Scalar.indexCast arg0
  let c376 : Index := 376#32
  ![v1616.toNat, 376]
def k0_off378 (i : grid0.Coords) : Fin 2 → Nat :=
  let arg0 : BitVec 32 := BitVec.ofNat 32 (i 0).val
  let v1620 : Index := Scalar.indexCast arg0
  let c377 : Index := 377#32
  ![v1620.toNat, 377]
def k0_off379 (i : grid0.Coords) : Fin 2 → Nat :=
  let arg0 : BitVec 32 := BitVec.ofNat 32 (i 0).val
  let v1624 : Index := Scalar.indexCast arg0
  let c378 : Index := 378#32
  ![v1624.toNat, 378]
def k0_off380 (i : grid0.Coords) : Fin 2 → Nat :=
  let arg0 : BitVec 32 := BitVec.ofNat 32 (i 0).val
  let v1628 : Index := Scalar.indexCast arg0
  let c379 : Index := 379#32
  ![v1628.toNat, 379]
def k0_off381 (i : grid0.Coords) : Fin 2 → Nat :=
  let arg0 : BitVec 32 := BitVec.ofNat 32 (i 0).val
  let v1632 : Index := Scalar.indexCast arg0
  let c380 : Index := 380#32
  ![v1632.toNat, 380]
def k0_off382 (i : grid0.Coords) : Fin 2 → Nat :=
  let arg0 : BitVec 32 := BitVec.ofNat 32 (i 0).val
  let v1636 : Index := Scalar.indexCast arg0
  let c381 : Index := 381#32
  ![v1636.toNat, 381]
def k0_off383 (i : grid0.Coords) : Fin 2 → Nat :=
  let arg0 : BitVec 32 := BitVec.ofNat 32 (i 0).val
  let v1640 : Index := Scalar.indexCast arg0
  let c382 : Index := 382#32
  ![v1640.toNat, 382]
def k0_off384 (i : grid0.Coords) : Fin 2 → Nat :=
  let arg0 : BitVec 32 := BitVec.ofNat 32 (i 0).val
  let v1644 : Index := Scalar.indexCast arg0
  let c383 : Index := 383#32
  ![v1644.toNat, 383]
def k0_off385 (i : grid0.Coords) : Fin 2 → Nat :=
  let arg0 : BitVec 32 := BitVec.ofNat 32 (i 0).val
  let v1648 : Index := Scalar.indexCast arg0
  let c384 : Index := 384#32
  ![v1648.toNat, 384]
def k0_off386 (i : grid0.Coords) : Fin 2 → Nat :=
  let arg0 : BitVec 32 := BitVec.ofNat 32 (i 0).val
  let v1652 : Index := Scalar.indexCast arg0
  let c385 : Index := 385#32
  ![v1652.toNat, 385]
def k0_off387 (i : grid0.Coords) : Fin 2 → Nat :=
  let arg0 : BitVec 32 := BitVec.ofNat 32 (i 0).val
  let v1656 : Index := Scalar.indexCast arg0
  let c386 : Index := 386#32
  ![v1656.toNat, 386]
def k0_off388 (i : grid0.Coords) : Fin 2 → Nat :=
  let arg0 : BitVec 32 := BitVec.ofNat 32 (i 0).val
  let v1660 : Index := Scalar.indexCast arg0
  let c387 : Index := 387#32
  ![v1660.toNat, 387]
def k0_off389 (i : grid0.Coords) : Fin 2 → Nat :=
  let arg0 : BitVec 32 := BitVec.ofNat 32 (i 0).val
  let v1664 : Index := Scalar.indexCast arg0
  let c388 : Index := 388#32
  ![v1664.toNat, 388]
def k0_off390 (i : grid0.Coords) : Fin 2 → Nat :=
  let arg0 : BitVec 32 := BitVec.ofNat 32 (i 0).val
  let v1668 : Index := Scalar.indexCast arg0
  let c389 : Index := 389#32
  ![v1668.toNat, 389]
def k0_off391 (i : grid0.Coords) : Fin 2 → Nat :=
  let arg0 : BitVec 32 := BitVec.ofNat 32 (i 0).val
  let v1672 : Index := Scalar.indexCast arg0
  let c390 : Index := 390#32
  ![v1672.toNat, 390]
def k0_off392 (i : grid0.Coords) : Fin 2 → Nat :=
  let arg0 : BitVec 32 := BitVec.ofNat 32 (i 0).val
  let v1676 : Index := Scalar.indexCast arg0
  let c391 : Index := 391#32
  ![v1676.toNat, 391]
def k0_off393 (i : grid0.Coords) : Fin 2 → Nat :=
  let arg0 : BitVec 32 := BitVec.ofNat 32 (i 0).val
  let v1680 : Index := Scalar.indexCast arg0
  let c392 : Index := 392#32
  ![v1680.toNat, 392]
def k0_off394 (i : grid0.Coords) : Fin 2 → Nat :=
  let arg0 : BitVec 32 := BitVec.ofNat 32 (i 0).val
  let v1684 : Index := Scalar.indexCast arg0
  let c393 : Index := 393#32
  ![v1684.toNat, 393]
def k0_off395 (i : grid0.Coords) : Fin 2 → Nat :=
  let arg0 : BitVec 32 := BitVec.ofNat 32 (i 0).val
  let v1688 : Index := Scalar.indexCast arg0
  let c394 : Index := 394#32
  ![v1688.toNat, 394]
def k0_off396 (i : grid0.Coords) : Fin 2 → Nat :=
  let arg0 : BitVec 32 := BitVec.ofNat 32 (i 0).val
  let v1692 : Index := Scalar.indexCast arg0
  let c395 : Index := 395#32
  ![v1692.toNat, 395]
def k0_off397 (i : grid0.Coords) : Fin 2 → Nat :=
  let arg0 : BitVec 32 := BitVec.ofNat 32 (i 0).val
  let v1696 : Index := Scalar.indexCast arg0
  let c396 : Index := 396#32
  ![v1696.toNat, 396]
def k0_off398 (i : grid0.Coords) : Fin 2 → Nat :=
  let arg0 : BitVec 32 := BitVec.ofNat 32 (i 0).val
  let v1700 : Index := Scalar.indexCast arg0
  let c397 : Index := 397#32
  ![v1700.toNat, 397]
def k0_off399 (i : grid0.Coords) : Fin 2 → Nat :=
  let arg0 : BitVec 32 := BitVec.ofNat 32 (i 0).val
  let v1704 : Index := Scalar.indexCast arg0
  let c398 : Index := 398#32
  ![v1704.toNat, 398]
def k0_off400 (i : grid0.Coords) : Fin 2 → Nat :=
  let arg0 : BitVec 32 := BitVec.ofNat 32 (i 0).val
  let v1708 : Index := Scalar.indexCast arg0
  let c399 : Index := 399#32
  ![v1708.toNat, 399]
def k0_off401 (i : grid0.Coords) : Fin 2 → Nat :=
  let arg0 : BitVec 32 := BitVec.ofNat 32 (i 0).val
  let v1712 : Index := Scalar.indexCast arg0
  let c400 : Index := 400#32
  ![v1712.toNat, 400]
def k0_off402 (i : grid0.Coords) : Fin 2 → Nat :=
  let arg0 : BitVec 32 := BitVec.ofNat 32 (i 0).val
  let v1716 : Index := Scalar.indexCast arg0
  let c401 : Index := 401#32
  ![v1716.toNat, 401]
def k0_off403 (i : grid0.Coords) : Fin 2 → Nat :=
  let arg0 : BitVec 32 := BitVec.ofNat 32 (i 0).val
  let v1720 : Index := Scalar.indexCast arg0
  let c402 : Index := 402#32
  ![v1720.toNat, 402]
def k0_off404 (i : grid0.Coords) : Fin 2 → Nat :=
  let arg0 : BitVec 32 := BitVec.ofNat 32 (i 0).val
  let v1726 : Index := Scalar.indexCast arg0
  let c403 : Index := 403#32
  ![v1726.toNat, 403]
def k0_off405 (i : grid0.Coords) : Fin 2 → Nat :=
  let arg0 : BitVec 32 := BitVec.ofNat 32 (i 0).val
  let v1730 : Index := Scalar.indexCast arg0
  let c404 : Index := 404#32
  ![v1730.toNat, 404]
def k0_off406 (i : grid0.Coords) : Fin 2 → Nat :=
  let arg0 : BitVec 32 := BitVec.ofNat 32 (i 0).val
  let v1734 : Index := Scalar.indexCast arg0
  let c405 : Index := 405#32
  ![v1734.toNat, 405]
def k0_off407 (i : grid0.Coords) : Fin 2 → Nat :=
  let arg0 : BitVec 32 := BitVec.ofNat 32 (i 0).val
  let v1738 : Index := Scalar.indexCast arg0
  let c406 : Index := 406#32
  ![v1738.toNat, 406]
def k0_off408 (i : grid0.Coords) : Fin 2 → Nat :=
  let arg0 : BitVec 32 := BitVec.ofNat 32 (i 0).val
  let v1742 : Index := Scalar.indexCast arg0
  let c407 : Index := 407#32
  ![v1742.toNat, 407]
def k0_off409 (i : grid0.Coords) : Fin 2 → Nat :=
  let arg0 : BitVec 32 := BitVec.ofNat 32 (i 0).val
  let v1746 : Index := Scalar.indexCast arg0
  let c408 : Index := 408#32
  ![v1746.toNat, 408]
def k0_off410 (i : grid0.Coords) : Fin 2 → Nat :=
  let arg0 : BitVec 32 := BitVec.ofNat 32 (i 0).val
  let v1750 : Index := Scalar.indexCast arg0
  let c409 : Index := 409#32
  ![v1750.toNat, 409]
def k0_off411 (i : grid0.Coords) : Fin 2 → Nat :=
  let arg0 : BitVec 32 := BitVec.ofNat 32 (i 0).val
  let v1754 : Index := Scalar.indexCast arg0
  let c410 : Index := 410#32
  ![v1754.toNat, 410]
def k0_off412 (i : grid0.Coords) : Fin 2 → Nat :=
  let arg0 : BitVec 32 := BitVec.ofNat 32 (i 0).val
  let v1758 : Index := Scalar.indexCast arg0
  let c411 : Index := 411#32
  ![v1758.toNat, 411]
def k0_off413 (i : grid0.Coords) : Fin 2 → Nat :=
  let arg0 : BitVec 32 := BitVec.ofNat 32 (i 0).val
  let v1762 : Index := Scalar.indexCast arg0
  let c412 : Index := 412#32
  ![v1762.toNat, 412]
def k0_off414 (i : grid0.Coords) : Fin 2 → Nat :=
  let arg0 : BitVec 32 := BitVec.ofNat 32 (i 0).val
  let v1766 : Index := Scalar.indexCast arg0
  let c413 : Index := 413#32
  ![v1766.toNat, 413]
def k0_off415 (i : grid0.Coords) : Fin 2 → Nat :=
  let arg0 : BitVec 32 := BitVec.ofNat 32 (i 0).val
  let v1770 : Index := Scalar.indexCast arg0
  let c414 : Index := 414#32
  ![v1770.toNat, 414]
def k0_off416 (i : grid0.Coords) : Fin 2 → Nat :=
  let arg0 : BitVec 32 := BitVec.ofNat 32 (i 0).val
  let v1774 : Index := Scalar.indexCast arg0
  let c415 : Index := 415#32
  ![v1774.toNat, 415]
def k0_off417 (i : grid0.Coords) : Fin 2 → Nat :=
  let arg0 : BitVec 32 := BitVec.ofNat 32 (i 0).val
  let v1778 : Index := Scalar.indexCast arg0
  let c416 : Index := 416#32
  ![v1778.toNat, 416]
def k0_off418 (i : grid0.Coords) : Fin 2 → Nat :=
  let arg0 : BitVec 32 := BitVec.ofNat 32 (i 0).val
  let v1782 : Index := Scalar.indexCast arg0
  let c417 : Index := 417#32
  ![v1782.toNat, 417]
def k0_off419 (i : grid0.Coords) : Fin 2 → Nat :=
  let arg0 : BitVec 32 := BitVec.ofNat 32 (i 0).val
  let v1786 : Index := Scalar.indexCast arg0
  let c418 : Index := 418#32
  ![v1786.toNat, 418]
def k0_off420 (i : grid0.Coords) : Fin 2 → Nat :=
  let arg0 : BitVec 32 := BitVec.ofNat 32 (i 0).val
  let v1790 : Index := Scalar.indexCast arg0
  let c419 : Index := 419#32
  ![v1790.toNat, 419]
def k0_off421 (i : grid0.Coords) : Fin 2 → Nat :=
  let arg0 : BitVec 32 := BitVec.ofNat 32 (i 0).val
  let v1794 : Index := Scalar.indexCast arg0
  let c420 : Index := 420#32
  ![v1794.toNat, 420]
def k0_off422 (i : grid0.Coords) : Fin 2 → Nat :=
  let arg0 : BitVec 32 := BitVec.ofNat 32 (i 0).val
  let v1798 : Index := Scalar.indexCast arg0
  let c421 : Index := 421#32
  ![v1798.toNat, 421]
def k0_off423 (i : grid0.Coords) : Fin 2 → Nat :=
  let arg0 : BitVec 32 := BitVec.ofNat 32 (i 0).val
  let v1802 : Index := Scalar.indexCast arg0
  let c422 : Index := 422#32
  ![v1802.toNat, 422]
def k0_off424 (i : grid0.Coords) : Fin 2 → Nat :=
  let arg0 : BitVec 32 := BitVec.ofNat 32 (i 0).val
  let v1806 : Index := Scalar.indexCast arg0
  let c423 : Index := 423#32
  ![v1806.toNat, 423]
def k0_off425 (i : grid0.Coords) : Fin 2 → Nat :=
  let arg0 : BitVec 32 := BitVec.ofNat 32 (i 0).val
  let v1810 : Index := Scalar.indexCast arg0
  let c424 : Index := 424#32
  ![v1810.toNat, 424]
def k0_off426 (i : grid0.Coords) : Fin 2 → Nat :=
  let arg0 : BitVec 32 := BitVec.ofNat 32 (i 0).val
  let v1814 : Index := Scalar.indexCast arg0
  let c425 : Index := 425#32
  ![v1814.toNat, 425]
def k0_off427 (i : grid0.Coords) : Fin 2 → Nat :=
  let arg0 : BitVec 32 := BitVec.ofNat 32 (i 0).val
  let v1818 : Index := Scalar.indexCast arg0
  let c426 : Index := 426#32
  ![v1818.toNat, 426]
def k0_off428 (i : grid0.Coords) : Fin 2 → Nat :=
  let arg0 : BitVec 32 := BitVec.ofNat 32 (i 0).val
  let v1822 : Index := Scalar.indexCast arg0
  let c427 : Index := 427#32
  ![v1822.toNat, 427]
def k0_off429 (i : grid0.Coords) : Fin 2 → Nat :=
  let arg0 : BitVec 32 := BitVec.ofNat 32 (i 0).val
  let v1826 : Index := Scalar.indexCast arg0
  let c428 : Index := 428#32
  ![v1826.toNat, 428]
def k0_off430 (i : grid0.Coords) : Fin 2 → Nat :=
  let arg0 : BitVec 32 := BitVec.ofNat 32 (i 0).val
  let v1830 : Index := Scalar.indexCast arg0
  let c429 : Index := 429#32
  ![v1830.toNat, 429]
def k0_off431 (i : grid0.Coords) : Fin 2 → Nat :=
  let arg0 : BitVec 32 := BitVec.ofNat 32 (i 0).val
  let v1834 : Index := Scalar.indexCast arg0
  let c430 : Index := 430#32
  ![v1834.toNat, 430]
def k0_off432 (i : grid0.Coords) : Fin 2 → Nat :=
  let arg0 : BitVec 32 := BitVec.ofNat 32 (i 0).val
  let v1838 : Index := Scalar.indexCast arg0
  let c431 : Index := 431#32
  ![v1838.toNat, 431]
def k0_off433 (i : grid0.Coords) : Fin 2 → Nat :=
  let arg0 : BitVec 32 := BitVec.ofNat 32 (i 0).val
  let v1842 : Index := Scalar.indexCast arg0
  let c432 : Index := 432#32
  ![v1842.toNat, 432]
def k0_off434 (i : grid0.Coords) : Fin 2 → Nat :=
  let arg0 : BitVec 32 := BitVec.ofNat 32 (i 0).val
  let v1846 : Index := Scalar.indexCast arg0
  let c433 : Index := 433#32
  ![v1846.toNat, 433]
def k0_off435 (i : grid0.Coords) : Fin 2 → Nat :=
  let arg0 : BitVec 32 := BitVec.ofNat 32 (i 0).val
  let v1852 : Index := Scalar.indexCast arg0
  let c434 : Index := 434#32
  ![v1852.toNat, 434]
def k0_off436 (i : grid0.Coords) : Fin 2 → Nat :=
  let arg0 : BitVec 32 := BitVec.ofNat 32 (i 0).val
  let v1856 : Index := Scalar.indexCast arg0
  let c435 : Index := 435#32
  ![v1856.toNat, 435]
def k0_off437 (i : grid0.Coords) : Fin 2 → Nat :=
  let arg0 : BitVec 32 := BitVec.ofNat 32 (i 0).val
  let v1860 : Index := Scalar.indexCast arg0
  let c436 : Index := 436#32
  ![v1860.toNat, 436]
def k0_off438 (i : grid0.Coords) : Fin 2 → Nat :=
  let arg0 : BitVec 32 := BitVec.ofNat 32 (i 0).val
  let v1864 : Index := Scalar.indexCast arg0
  let c437 : Index := 437#32
  ![v1864.toNat, 437]
def k0_off439 (i : grid0.Coords) : Fin 2 → Nat :=
  let arg0 : BitVec 32 := BitVec.ofNat 32 (i 0).val
  let v1868 : Index := Scalar.indexCast arg0
  let c438 : Index := 438#32
  ![v1868.toNat, 438]
def k0_off440 (i : grid0.Coords) : Fin 2 → Nat :=
  let arg0 : BitVec 32 := BitVec.ofNat 32 (i 0).val
  let v1872 : Index := Scalar.indexCast arg0
  let c439 : Index := 439#32
  ![v1872.toNat, 439]
def k0_off441 (i : grid0.Coords) : Fin 2 → Nat :=
  let arg0 : BitVec 32 := BitVec.ofNat 32 (i 0).val
  let v1876 : Index := Scalar.indexCast arg0
  let c440 : Index := 440#32
  ![v1876.toNat, 440]
def k0_off442 (i : grid0.Coords) : Fin 2 → Nat :=
  let arg0 : BitVec 32 := BitVec.ofNat 32 (i 0).val
  let v1880 : Index := Scalar.indexCast arg0
  let c441 : Index := 441#32
  ![v1880.toNat, 441]
def k0_off443 (i : grid0.Coords) : Fin 2 → Nat :=
  let arg0 : BitVec 32 := BitVec.ofNat 32 (i 0).val
  let v1884 : Index := Scalar.indexCast arg0
  let c442 : Index := 442#32
  ![v1884.toNat, 442]
def k0_off444 (i : grid0.Coords) : Fin 2 → Nat :=
  let arg0 : BitVec 32 := BitVec.ofNat 32 (i 0).val
  let v1888 : Index := Scalar.indexCast arg0
  let c443 : Index := 443#32
  ![v1888.toNat, 443]
def k0_off445 (i : grid0.Coords) : Fin 2 → Nat :=
  let arg0 : BitVec 32 := BitVec.ofNat 32 (i 0).val
  let v1892 : Index := Scalar.indexCast arg0
  let c444 : Index := 444#32
  ![v1892.toNat, 444]
def k0_off446 (i : grid0.Coords) : Fin 2 → Nat :=
  let arg0 : BitVec 32 := BitVec.ofNat 32 (i 0).val
  let v1896 : Index := Scalar.indexCast arg0
  let c445 : Index := 445#32
  ![v1896.toNat, 445]
def k0_off447 (i : grid0.Coords) : Fin 2 → Nat :=
  let arg0 : BitVec 32 := BitVec.ofNat 32 (i 0).val
  let v1900 : Index := Scalar.indexCast arg0
  let c446 : Index := 446#32
  ![v1900.toNat, 446]
def k0_off448 (i : grid0.Coords) : Fin 2 → Nat :=
  let arg0 : BitVec 32 := BitVec.ofNat 32 (i 0).val
  let v1904 : Index := Scalar.indexCast arg0
  let c447 : Index := 447#32
  ![v1904.toNat, 447]
def k0_off449 (i : grid0.Coords) : Fin 2 → Nat :=
  let arg0 : BitVec 32 := BitVec.ofNat 32 (i 0).val
  let v1908 : Index := Scalar.indexCast arg0
  let c448 : Index := 448#32
  ![v1908.toNat, 448]
def k0_off450 (i : grid0.Coords) : Fin 2 → Nat :=
  let arg0 : BitVec 32 := BitVec.ofNat 32 (i 0).val
  let v1912 : Index := Scalar.indexCast arg0
  let c449 : Index := 449#32
  ![v1912.toNat, 449]
def k0_off451 (i : grid0.Coords) : Fin 2 → Nat :=
  let arg0 : BitVec 32 := BitVec.ofNat 32 (i 0).val
  let v1916 : Index := Scalar.indexCast arg0
  let c450 : Index := 450#32
  ![v1916.toNat, 450]
def k0_off452 (i : grid0.Coords) : Fin 2 → Nat :=
  let arg0 : BitVec 32 := BitVec.ofNat 32 (i 0).val
  let v1920 : Index := Scalar.indexCast arg0
  let c451 : Index := 451#32
  ![v1920.toNat, 451]
def k0_off453 (i : grid0.Coords) : Fin 2 → Nat :=
  let arg0 : BitVec 32 := BitVec.ofNat 32 (i 0).val
  let v1924 : Index := Scalar.indexCast arg0
  let c452 : Index := 452#32
  ![v1924.toNat, 452]
def k0_off454 (i : grid0.Coords) : Fin 2 → Nat :=
  let arg0 : BitVec 32 := BitVec.ofNat 32 (i 0).val
  let v1928 : Index := Scalar.indexCast arg0
  let c453 : Index := 453#32
  ![v1928.toNat, 453]
def k0_off455 (i : grid0.Coords) : Fin 2 → Nat :=
  let arg0 : BitVec 32 := BitVec.ofNat 32 (i 0).val
  let v1932 : Index := Scalar.indexCast arg0
  let c454 : Index := 454#32
  ![v1932.toNat, 454]
def k0_off456 (i : grid0.Coords) : Fin 2 → Nat :=
  let arg0 : BitVec 32 := BitVec.ofNat 32 (i 0).val
  let v1936 : Index := Scalar.indexCast arg0
  let c455 : Index := 455#32
  ![v1936.toNat, 455]
def k0_off457 (i : grid0.Coords) : Fin 2 → Nat :=
  let arg0 : BitVec 32 := BitVec.ofNat 32 (i 0).val
  let v1940 : Index := Scalar.indexCast arg0
  let c456 : Index := 456#32
  ![v1940.toNat, 456]
def k0_off458 (i : grid0.Coords) : Fin 2 → Nat :=
  let arg0 : BitVec 32 := BitVec.ofNat 32 (i 0).val
  let v1944 : Index := Scalar.indexCast arg0
  let c457 : Index := 457#32
  ![v1944.toNat, 457]
def k0_off459 (i : grid0.Coords) : Fin 2 → Nat :=
  let arg0 : BitVec 32 := BitVec.ofNat 32 (i 0).val
  let v1948 : Index := Scalar.indexCast arg0
  let c458 : Index := 458#32
  ![v1948.toNat, 458]
def k0_off460 (i : grid0.Coords) : Fin 2 → Nat :=
  let arg0 : BitVec 32 := BitVec.ofNat 32 (i 0).val
  let v1952 : Index := Scalar.indexCast arg0
  let c459 : Index := 459#32
  ![v1952.toNat, 459]
def k0_off461 (i : grid0.Coords) : Fin 2 → Nat :=
  let arg0 : BitVec 32 := BitVec.ofNat 32 (i 0).val
  let v1956 : Index := Scalar.indexCast arg0
  let c460 : Index := 460#32
  ![v1956.toNat, 460]
def k0_off462 (i : grid0.Coords) : Fin 2 → Nat :=
  let arg0 : BitVec 32 := BitVec.ofNat 32 (i 0).val
  let v1960 : Index := Scalar.indexCast arg0
  let c461 : Index := 461#32
  ![v1960.toNat, 461]
def k0_off463 (i : grid0.Coords) : Fin 2 → Nat :=
  let arg0 : BitVec 32 := BitVec.ofNat 32 (i 0).val
  let v1964 : Index := Scalar.indexCast arg0
  let c462 : Index := 462#32
  ![v1964.toNat, 462]
def k0_off464 (i : grid0.Coords) : Fin 2 → Nat :=
  let arg0 : BitVec 32 := BitVec.ofNat 32 (i 0).val
  let v1968 : Index := Scalar.indexCast arg0
  let c463 : Index := 463#32
  ![v1968.toNat, 463]
def k0_off465 (i : grid0.Coords) : Fin 2 → Nat :=
  let arg0 : BitVec 32 := BitVec.ofNat 32 (i 0).val
  let v1972 : Index := Scalar.indexCast arg0
  let c464 : Index := 464#32
  ![v1972.toNat, 464]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S16x465 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x44x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_mult1 (i : grid1.Coords) : BitVec 32 :=
  let c116_i32 : BitVec 32 := 116#32
  let c0_i32_10 : BitVec 32 := 0#32
  let arg1 : BitVec 32 := BitVec.ofNat 32 (i 1).val
  let c8_i32 : BitVec 32 := 8#32
  let v15 : BitVec 32 := Scalar.muli arg1 c8_i32
  let c0_i32_8 : BitVec 32 := 0#32
  let v16 : BitVec 32 := Scalar.addi v15 c0_i32_8
  let c4_i32 : BitVec 32 := 4#32
  let v17 : BitVec 32 := Scalar.muli v16 c4_i32
  let c4_i32_9 : BitVec 32 := 4#32
  let v18 : BitVec 32 := Scalar.subi v17 c4_i32_9
  let v19 : BitVec 32 := Scalar.maxsi c0_i32_10 v18
  let v20 : BitVec 32 := Scalar.minsi c116_i32 v19
  let c64_i32 : BitVec 32 := 64#32
  let v21 : BitVec 32 := Scalar.muli v20 c64_i32
  v21
def k1_off1 (i : grid1.Coords) (c0_i32_8 : BitVec 32) : Fin 2 → Nat :=
  let c116_i32 : BitVec 32 := 116#32
  let c0_i32_10 : BitVec 32 := 0#32
  let arg1 : BitVec 32 := BitVec.ofNat 32 (i 1).val
  let c8_i32 : BitVec 32 := 8#32
  let v15 : BitVec 32 := Scalar.muli arg1 c8_i32
  let v16 : BitVec 32 := Scalar.addi v15 c0_i32_8
  let c4_i32 : BitVec 32 := 4#32
  let v17 : BitVec 32 := Scalar.muli v16 c4_i32
  let c4_i32_9 : BitVec 32 := 4#32
  let v18 : BitVec 32 := Scalar.subi v17 c4_i32_9
  let v19 : BitVec 32 := Scalar.maxsi c0_i32_10 v18
  let v20 : BitVec 32 := Scalar.minsi c116_i32 v19
  let c64_i32 : BitVec 32 := 64#32
  let v21 : BitVec 32 := Scalar.muli v20 c64_i32
  let v22 : BitVec 32 := v21
  let v24 : Index := Scalar.indexCast v22
  let c0_13 : Index := 0#32
  ![v24.toNat, 0]
def k1_mult2 (i : grid1.Coords) : BitVec 32 :=
  let c116_i32_27 : BitVec 32 := 116#32
  let c0_i32_26 : BitVec 32 := 0#32
  let arg1 : BitVec 32 := BitVec.ofNat 32 (i 1).val
  let c8_i32_23 : BitVec 32 := 8#32
  let v35 : BitVec 32 := Scalar.muli arg1 c8_i32_23
  let c1_i32 : BitVec 32 := 1#32
  let v36 : BitVec 32 := Scalar.addi v35 c1_i32
  let c4_i32_24 : BitVec 32 := 4#32
  let v37 : BitVec 32 := Scalar.muli v36 c4_i32_24
  let c4_i32_25 : BitVec 32 := 4#32
  let v38 : BitVec 32 := Scalar.subi v37 c4_i32_25
  let v39 : BitVec 32 := Scalar.maxsi c0_i32_26 v38
  let v40 : BitVec 32 := Scalar.minsi c116_i32_27 v39
  let c64_i32_28 : BitVec 32 := 64#32
  let v41 : BitVec 32 := Scalar.muli v40 c64_i32_28
  v41
def k1_mult3 (i : grid1.Coords) : BitVec 32 :=
  let c116_i32_182 : BitVec 32 := 116#32
  let c0_i32_181 : BitVec 32 := 0#32
  let arg1 : BitVec 32 := BitVec.ofNat 32 (i 1).val
  let c8_i32_178 : BitVec 32 := 8#32
  let v240 : BitVec 32 := Scalar.muli arg1 c8_i32_178
  let c2_i32 : BitVec 32 := 2#32
  let v241 : BitVec 32 := Scalar.addi v240 c2_i32
  let c4_i32_179 : BitVec 32 := 4#32
  let v242 : BitVec 32 := Scalar.muli v241 c4_i32_179
  let c4_i32_180 : BitVec 32 := 4#32
  let v243 : BitVec 32 := Scalar.subi v242 c4_i32_180
  let v244 : BitVec 32 := Scalar.maxsi c0_i32_181 v243
  let v245 : BitVec 32 := Scalar.minsi c116_i32_182 v244
  let c64_i32_183 : BitVec 32 := 64#32
  let v246 : BitVec 32 := Scalar.muli v245 c64_i32_183
  v246
def k1_mult4 (i : grid1.Coords) : BitVec 32 :=
  let c116_i32_361 : BitVec 32 := 116#32
  let c0_i32_360 : BitVec 32 := 0#32
  let arg1 : BitVec 32 := BitVec.ofNat 32 (i 1).val
  let c8_i32_356 : BitVec 32 := 8#32
  let v453 : BitVec 32 := Scalar.muli arg1 c8_i32_356
  let c0_i32_357 : BitVec 32 := 0#32
  let v454 : BitVec 32 := Scalar.addi v453 c0_i32_357
  let c4_i32_358 : BitVec 32 := 4#32
  let v455 : BitVec 32 := Scalar.muli v454 c4_i32_358
  let c4_i32_359 : BitVec 32 := 4#32
  let v456 : BitVec 32 := Scalar.subi v455 c4_i32_359
  let v457 : BitVec 32 := Scalar.maxsi c0_i32_360 v456
  let v458 : BitVec 32 := Scalar.minsi c116_i32_361 v457
  let c64_i32_362 : BitVec 32 := 64#32
  let v459 : BitVec 32 := Scalar.muli v458 c64_i32_362
  v459
def k1_mult5 (i : grid1.Coords) : BitVec 32 :=
  let c116_i32_381 : BitVec 32 := 116#32
  let c0_i32_380 : BitVec 32 := 0#32
  let arg1 : BitVec 32 := BitVec.ofNat 32 (i 1).val
  let c8_i32_376 : BitVec 32 := 8#32
  let v475 : BitVec 32 := Scalar.muli arg1 c8_i32_376
  let c3_i32_377 : BitVec 32 := 3#32
  let v476 : BitVec 32 := Scalar.addi v475 c3_i32_377
  let c4_i32_378 : BitVec 32 := 4#32
  let v477 : BitVec 32 := Scalar.muli v476 c4_i32_378
  let c4_i32_379 : BitVec 32 := 4#32
  let v478 : BitVec 32 := Scalar.subi v477 c4_i32_379
  let v479 : BitVec 32 := Scalar.maxsi c0_i32_380 v478
  let v480 : BitVec 32 := Scalar.minsi c116_i32_381 v479
  let c64_i32_382 : BitVec 32 := 64#32
  let v481 : BitVec 32 := Scalar.muli v480 c64_i32_382
  v481
def k1_mult6 (i : grid1.Coords) : BitVec 32 :=
  let c116_i32_564 : BitVec 32 := 116#32
  let c0_i32_563 : BitVec 32 := 0#32
  let arg1 : BitVec 32 := BitVec.ofNat 32 (i 1).val
  let c8_i32_559 : BitVec 32 := 8#32
  let v688 : BitVec 32 := Scalar.muli arg1 c8_i32_559
  let c1_i32_560 : BitVec 32 := 1#32
  let v689 : BitVec 32 := Scalar.addi v688 c1_i32_560
  let c4_i32_561 : BitVec 32 := 4#32
  let v690 : BitVec 32 := Scalar.muli v689 c4_i32_561
  let c4_i32_562 : BitVec 32 := 4#32
  let v691 : BitVec 32 := Scalar.subi v690 c4_i32_562
  let v692 : BitVec 32 := Scalar.maxsi c0_i32_563 v691
  let v693 : BitVec 32 := Scalar.minsi c116_i32_564 v692
  let c64_i32_565 : BitVec 32 := 64#32
  let v694 : BitVec 32 := Scalar.muli v693 c64_i32_565
  v694
def k1_mult7 (i : grid1.Coords) : BitVec 32 :=
  let c116_i32_584 : BitVec 32 := 116#32
  let c0_i32_583 : BitVec 32 := 0#32
  let arg1 : BitVec 32 := BitVec.ofNat 32 (i 1).val
  let c8_i32_579 : BitVec 32 := 8#32
  let v710 : BitVec 32 := Scalar.muli arg1 c8_i32_579
  let c4_i32_580 : BitVec 32 := 4#32
  let v711 : BitVec 32 := Scalar.addi v710 c4_i32_580
  let c4_i32_581 : BitVec 32 := 4#32
  let v712 : BitVec 32 := Scalar.muli v711 c4_i32_581
  let c4_i32_582 : BitVec 32 := 4#32
  let v713 : BitVec 32 := Scalar.subi v712 c4_i32_582
  let v714 : BitVec 32 := Scalar.maxsi c0_i32_583 v713
  let v715 : BitVec 32 := Scalar.minsi c116_i32_584 v714
  let c64_i32_585 : BitVec 32 := 64#32
  let v716 : BitVec 32 := Scalar.muli v715 c64_i32_585
  v716
def k1_mult8 (i : grid1.Coords) : BitVec 32 :=
  let c116_i32_767 : BitVec 32 := 116#32
  let c0_i32_766 : BitVec 32 := 0#32
  let arg1 : BitVec 32 := BitVec.ofNat 32 (i 1).val
  let c8_i32_762 : BitVec 32 := 8#32
  let v923 : BitVec 32 := Scalar.muli arg1 c8_i32_762
  let c2_i32_763 : BitVec 32 := 2#32
  let v924 : BitVec 32 := Scalar.addi v923 c2_i32_763
  let c4_i32_764 : BitVec 32 := 4#32
  let v925 : BitVec 32 := Scalar.muli v924 c4_i32_764
  let c4_i32_765 : BitVec 32 := 4#32
  let v926 : BitVec 32 := Scalar.subi v925 c4_i32_765
  let v927 : BitVec 32 := Scalar.maxsi c0_i32_766 v926
  let v928 : BitVec 32 := Scalar.minsi c116_i32_767 v927
  let c64_i32_768 : BitVec 32 := 64#32
  let v929 : BitVec 32 := Scalar.muli v928 c64_i32_768
  v929
def k1_mult9 (i : grid1.Coords) : BitVec 32 :=
  let c116_i32_786 : BitVec 32 := 116#32
  let c0_i32_785 : BitVec 32 := 0#32
  let arg1 : BitVec 32 := BitVec.ofNat 32 (i 1).val
  let c8_i32_782 : BitVec 32 := 8#32
  let v945 : BitVec 32 := Scalar.muli arg1 c8_i32_782
  let c5_i32 : BitVec 32 := 5#32
  let v946 : BitVec 32 := Scalar.addi v945 c5_i32
  let c4_i32_783 : BitVec 32 := 4#32
  let v947 : BitVec 32 := Scalar.muli v946 c4_i32_783
  let c4_i32_784 : BitVec 32 := 4#32
  let v948 : BitVec 32 := Scalar.subi v947 c4_i32_784
  let v949 : BitVec 32 := Scalar.maxsi c0_i32_785 v948
  let v950 : BitVec 32 := Scalar.minsi c116_i32_786 v949
  let c64_i32_787 : BitVec 32 := 64#32
  let v951 : BitVec 32 := Scalar.muli v950 c64_i32_787
  v951
def k1_mult10 (i : grid1.Coords) : BitVec 32 :=
  let c116_i32_969 : BitVec 32 := 116#32
  let c0_i32_968 : BitVec 32 := 0#32
  let arg1 : BitVec 32 := BitVec.ofNat 32 (i 1).val
  let c8_i32_964 : BitVec 32 := 8#32
  let v1158 : BitVec 32 := Scalar.muli arg1 c8_i32_964
  let c3_i32_965 : BitVec 32 := 3#32
  let v1159 : BitVec 32 := Scalar.addi v1158 c3_i32_965
  let c4_i32_966 : BitVec 32 := 4#32
  let v1160 : BitVec 32 := Scalar.muli v1159 c4_i32_966
  let c4_i32_967 : BitVec 32 := 4#32
  let v1161 : BitVec 32 := Scalar.subi v1160 c4_i32_967
  let v1162 : BitVec 32 := Scalar.maxsi c0_i32_968 v1161
  let v1163 : BitVec 32 := Scalar.minsi c116_i32_969 v1162
  let c64_i32_970 : BitVec 32 := 64#32
  let v1164 : BitVec 32 := Scalar.muli v1163 c64_i32_970
  v1164
def k1_mult11 (i : grid1.Coords) : BitVec 32 :=
  let c116_i32_988 : BitVec 32 := 116#32
  let c0_i32_987 : BitVec 32 := 0#32
  let arg1 : BitVec 32 := BitVec.ofNat 32 (i 1).val
  let c8_i32_984 : BitVec 32 := 8#32
  let v1180 : BitVec 32 := Scalar.muli arg1 c8_i32_984
  let c6_i32 : BitVec 32 := 6#32
  let v1181 : BitVec 32 := Scalar.addi v1180 c6_i32
  let c4_i32_985 : BitVec 32 := 4#32
  let v1182 : BitVec 32 := Scalar.muli v1181 c4_i32_985
  let c4_i32_986 : BitVec 32 := 4#32
  let v1183 : BitVec 32 := Scalar.subi v1182 c4_i32_986
  let v1184 : BitVec 32 := Scalar.maxsi c0_i32_987 v1183
  let v1185 : BitVec 32 := Scalar.minsi c116_i32_988 v1184
  let c64_i32_989 : BitVec 32 := 64#32
  let v1186 : BitVec 32 := Scalar.muli v1185 c64_i32_989
  v1186
def k1_mult12 (i : grid1.Coords) : BitVec 32 :=
  let c116_i32_1171 : BitVec 32 := 116#32
  let c0_i32_1170 : BitVec 32 := 0#32
  let arg1 : BitVec 32 := BitVec.ofNat 32 (i 1).val
  let c8_i32_1166 : BitVec 32 := 8#32
  let v1393 : BitVec 32 := Scalar.muli arg1 c8_i32_1166
  let c4_i32_1167 : BitVec 32 := 4#32
  let v1394 : BitVec 32 := Scalar.addi v1393 c4_i32_1167
  let c4_i32_1168 : BitVec 32 := 4#32
  let v1395 : BitVec 32 := Scalar.muli v1394 c4_i32_1168
  let c4_i32_1169 : BitVec 32 := 4#32
  let v1396 : BitVec 32 := Scalar.subi v1395 c4_i32_1169
  let v1397 : BitVec 32 := Scalar.maxsi c0_i32_1170 v1396
  let v1398 : BitVec 32 := Scalar.minsi c116_i32_1171 v1397
  let c64_i32_1172 : BitVec 32 := 64#32
  let v1399 : BitVec 32 := Scalar.muli v1398 c64_i32_1172
  v1399
def k1_mult13 (i : grid1.Coords) : BitVec 32 :=
  let c116_i32_1190 : BitVec 32 := 116#32
  let c0_i32_1189 : BitVec 32 := 0#32
  let arg1 : BitVec 32 := BitVec.ofNat 32 (i 1).val
  let c8_i32_1186 : BitVec 32 := 8#32
  let v1415 : BitVec 32 := Scalar.muli arg1 c8_i32_1186
  let c7_i32 : BitVec 32 := 7#32
  let v1416 : BitVec 32 := Scalar.addi v1415 c7_i32
  let c4_i32_1187 : BitVec 32 := 4#32
  let v1417 : BitVec 32 := Scalar.muli v1416 c4_i32_1187
  let c4_i32_1188 : BitVec 32 := 4#32
  let v1418 : BitVec 32 := Scalar.subi v1417 c4_i32_1188
  let v1419 : BitVec 32 := Scalar.maxsi c0_i32_1189 v1418
  let v1420 : BitVec 32 := Scalar.minsi c116_i32_1190 v1419
  let c64_i32_1191 : BitVec 32 := 64#32
  let v1421 : BitVec 32 := Scalar.muli v1420 c64_i32_1191
  v1421
def k1_mult14 (i : grid1.Coords) : BitVec 32 :=
  let c116_i32_1373 : BitVec 32 := 116#32
  let c0_i32_1372 : BitVec 32 := 0#32
  let arg1 : BitVec 32 := BitVec.ofNat 32 (i 1).val
  let c8_i32_1368 : BitVec 32 := 8#32
  let v1628 : BitVec 32 := Scalar.muli arg1 c8_i32_1368
  let c5_i32_1369 : BitVec 32 := 5#32
  let v1629 : BitVec 32 := Scalar.addi v1628 c5_i32_1369
  let c4_i32_1370 : BitVec 32 := 4#32
  let v1630 : BitVec 32 := Scalar.muli v1629 c4_i32_1370
  let c4_i32_1371 : BitVec 32 := 4#32
  let v1631 : BitVec 32 := Scalar.subi v1630 c4_i32_1371
  let v1632 : BitVec 32 := Scalar.maxsi c0_i32_1372 v1631
  let v1633 : BitVec 32 := Scalar.minsi c116_i32_1373 v1632
  let c64_i32_1374 : BitVec 32 := 64#32
  let v1634 : BitVec 32 := Scalar.muli v1633 c64_i32_1374
  v1634
def k1_mult15 (i : grid1.Coords) : BitVec 32 :=
  let c116_i32_1557 : BitVec 32 := 116#32
  let c0_i32_1556 : BitVec 32 := 0#32
  let arg1 : BitVec 32 := BitVec.ofNat 32 (i 1).val
  let c8_i32_1552 : BitVec 32 := 8#32
  let v1843 : BitVec 32 := Scalar.muli arg1 c8_i32_1552
  let c6_i32_1553 : BitVec 32 := 6#32
  let v1844 : BitVec 32 := Scalar.addi v1843 c6_i32_1553
  let c4_i32_1554 : BitVec 32 := 4#32
  let v1845 : BitVec 32 := Scalar.muli v1844 c4_i32_1554
  let c4_i32_1555 : BitVec 32 := 4#32
  let v1846 : BitVec 32 := Scalar.subi v1845 c4_i32_1555
  let v1847 : BitVec 32 := Scalar.maxsi c0_i32_1556 v1846
  let v1848 : BitVec 32 := Scalar.minsi c116_i32_1557 v1847
  let c64_i32_1558 : BitVec 32 := 64#32
  let v1849 : BitVec 32 := Scalar.muli v1848 c64_i32_1558
  v1849
def k1_mult16 (i : grid1.Coords) : BitVec 32 :=
  let c116_i32_1577 : BitVec 32 := 116#32
  let c0_i32_1576 : BitVec 32 := 0#32
  let arg1 : BitVec 32 := BitVec.ofNat 32 (i 1).val
  let c8_i32_1572 : BitVec 32 := 8#32
  let v1865 : BitVec 32 := Scalar.muli arg1 c8_i32_1572
  let c7_i32_1573 : BitVec 32 := 7#32
  let v1866 : BitVec 32 := Scalar.addi v1865 c7_i32_1573
  let c4_i32_1574 : BitVec 32 := 4#32
  let v1867 : BitVec 32 := Scalar.muli v1866 c4_i32_1574
  let c4_i32_1575 : BitVec 32 := 4#32
  let v1868 : BitVec 32 := Scalar.subi v1867 c4_i32_1575
  let v1869 : BitVec 32 := Scalar.maxsi c0_i32_1576 v1868
  let v1870 : BitVec 32 := Scalar.minsi c116_i32_1577 v1869
  let c64_i32_1578 : BitVec 32 := 64#32
  let v1871 : BitVec 32 := Scalar.muli v1870 c64_i32_1578
  v1871
def k1_cond2 (i : grid1.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k1_mult17 (i : grid1.Coords) : BitVec 32 :=
  let c116_i32 : BitVec 32 := 116#32
  let c0_i32_10 : BitVec 32 := 0#32
  let arg1 : BitVec 32 := BitVec.ofNat 32 (i 1).val
  let c8_i32 : BitVec 32 := 8#32
  let v15 : BitVec 32 := Scalar.muli arg1 c8_i32
  let c0_i32_8 : BitVec 32 := 0#32
  let v16 : BitVec 32 := Scalar.addi v15 c0_i32_8
  let c4_i32 : BitVec 32 := 4#32
  let v17 : BitVec 32 := Scalar.muli v16 c4_i32
  let c4_i32_9 : BitVec 32 := 4#32
  let v18 : BitVec 32 := Scalar.subi v17 c4_i32_9
  let v19 : BitVec 32 := Scalar.maxsi c0_i32_10 v18
  let v20 : BitVec 32 := Scalar.minsi c116_i32 v19
  let c64_i32 : BitVec 32 := 64#32
  let v21 : BitVec 32 := Scalar.muli v20 c64_i32
  v21
def k1_off2 (i : grid1.Coords) (c0_i32_8 : BitVec 32) : Fin 2 → Nat :=
  let c116_i32 : BitVec 32 := 116#32
  let c0_i32_10 : BitVec 32 := 0#32
  let arg1 : BitVec 32 := BitVec.ofNat 32 (i 1).val
  let c8_i32 : BitVec 32 := 8#32
  let v15 : BitVec 32 := Scalar.muli arg1 c8_i32
  let v16 : BitVec 32 := Scalar.addi v15 c0_i32_8
  let c4_i32 : BitVec 32 := 4#32
  let v17 : BitVec 32 := Scalar.muli v16 c4_i32
  let c4_i32_9 : BitVec 32 := 4#32
  let v18 : BitVec 32 := Scalar.subi v17 c4_i32_9
  let v19 : BitVec 32 := Scalar.maxsi c0_i32_10 v18
  let v20 : BitVec 32 := Scalar.minsi c116_i32 v19
  let c64_i32 : BitVec 32 := 64#32
  let v21 : BitVec 32 := Scalar.muli v20 c64_i32
  let v22 : BitVec 32 := v21
  let v24 : Index := Scalar.indexCast v22
  let c0_13 : Index := 0#32
  ![v24.toNat, 0]
def k1_mult18 (i : grid1.Coords) : BitVec 32 :=
  let c116_i32_27 : BitVec 32 := 116#32
  let c0_i32_26 : BitVec 32 := 0#32
  let arg1 : BitVec 32 := BitVec.ofNat 32 (i 1).val
  let c8_i32_23 : BitVec 32 := 8#32
  let v35 : BitVec 32 := Scalar.muli arg1 c8_i32_23
  let c1_i32 : BitVec 32 := 1#32
  let v36 : BitVec 32 := Scalar.addi v35 c1_i32
  let c4_i32_24 : BitVec 32 := 4#32
  let v37 : BitVec 32 := Scalar.muli v36 c4_i32_24
  let c4_i32_25 : BitVec 32 := 4#32
  let v38 : BitVec 32 := Scalar.subi v37 c4_i32_25
  let v39 : BitVec 32 := Scalar.maxsi c0_i32_26 v38
  let v40 : BitVec 32 := Scalar.minsi c116_i32_27 v39
  let c64_i32_28 : BitVec 32 := 64#32
  let v41 : BitVec 32 := Scalar.muli v40 c64_i32_28
  v41
def k1_mult19 (i : grid1.Coords) : BitVec 32 :=
  let c116_i32_194 : BitVec 32 := 116#32
  let c0_i32_193 : BitVec 32 := 0#32
  let arg1 : BitVec 32 := BitVec.ofNat 32 (i 1).val
  let c8_i32_190 : BitVec 32 := 8#32
  let v248 : BitVec 32 := Scalar.muli arg1 c8_i32_190
  let c2_i32 : BitVec 32 := 2#32
  let v249 : BitVec 32 := Scalar.addi v248 c2_i32
  let c4_i32_191 : BitVec 32 := 4#32
  let v250 : BitVec 32 := Scalar.muli v249 c4_i32_191
  let c4_i32_192 : BitVec 32 := 4#32
  let v251 : BitVec 32 := Scalar.subi v250 c4_i32_192
  let v252 : BitVec 32 := Scalar.maxsi c0_i32_193 v251
  let v253 : BitVec 32 := Scalar.minsi c116_i32_194 v252
  let c64_i32_195 : BitVec 32 := 64#32
  let v254 : BitVec 32 := Scalar.muli v253 c64_i32_195
  v254
def k1_mult20 (i : grid1.Coords) : BitVec 32 :=
  let c116_i32_377 : BitVec 32 := 116#32
  let c0_i32_376 : BitVec 32 := 0#32
  let arg1 : BitVec 32 := BitVec.ofNat 32 (i 1).val
  let c8_i32_372 : BitVec 32 := 8#32
  let v461 : BitVec 32 := Scalar.muli arg1 c8_i32_372
  let c0_i32_373 : BitVec 32 := 0#32
  let v462 : BitVec 32 := Scalar.addi v461 c0_i32_373
  let c4_i32_374 : BitVec 32 := 4#32
  let v463 : BitVec 32 := Scalar.muli v462 c4_i32_374
  let c4_i32_375 : BitVec 32 := 4#32
  let v464 : BitVec 32 := Scalar.subi v463 c4_i32_375
  let v465 : BitVec 32 := Scalar.maxsi c0_i32_376 v464
  let v466 : BitVec 32 := Scalar.minsi c116_i32_377 v465
  let c64_i32_378 : BitVec 32 := 64#32
  let v467 : BitVec 32 := Scalar.muli v466 c64_i32_378
  v467
def k1_mult21 (i : grid1.Coords) : BitVec 32 :=
  let c116_i32_397 : BitVec 32 := 116#32
  let c0_i32_396 : BitVec 32 := 0#32
  let arg1 : BitVec 32 := BitVec.ofNat 32 (i 1).val
  let c8_i32_392 : BitVec 32 := 8#32
  let v483 : BitVec 32 := Scalar.muli arg1 c8_i32_392
  let c3_i32_393 : BitVec 32 := 3#32
  let v484 : BitVec 32 := Scalar.addi v483 c3_i32_393
  let c4_i32_394 : BitVec 32 := 4#32
  let v485 : BitVec 32 := Scalar.muli v484 c4_i32_394
  let c4_i32_395 : BitVec 32 := 4#32
  let v486 : BitVec 32 := Scalar.subi v485 c4_i32_395
  let v487 : BitVec 32 := Scalar.maxsi c0_i32_396 v486
  let v488 : BitVec 32 := Scalar.minsi c116_i32_397 v487
  let c64_i32_398 : BitVec 32 := 64#32
  let v489 : BitVec 32 := Scalar.muli v488 c64_i32_398
  v489
def k1_mult22 (i : grid1.Coords) : BitVec 32 :=
  let c116_i32_580 : BitVec 32 := 116#32
  let c0_i32_579 : BitVec 32 := 0#32
  let arg1 : BitVec 32 := BitVec.ofNat 32 (i 1).val
  let c8_i32_575 : BitVec 32 := 8#32
  let v696 : BitVec 32 := Scalar.muli arg1 c8_i32_575
  let c1_i32_576 : BitVec 32 := 1#32
  let v697 : BitVec 32 := Scalar.addi v696 c1_i32_576
  let c4_i32_577 : BitVec 32 := 4#32
  let v698 : BitVec 32 := Scalar.muli v697 c4_i32_577
  let c4_i32_578 : BitVec 32 := 4#32
  let v699 : BitVec 32 := Scalar.subi v698 c4_i32_578
  let v700 : BitVec 32 := Scalar.maxsi c0_i32_579 v699
  let v701 : BitVec 32 := Scalar.minsi c116_i32_580 v700
  let c64_i32_581 : BitVec 32 := 64#32
  let v702 : BitVec 32 := Scalar.muli v701 c64_i32_581
  v702
def k1_mult23 (i : grid1.Coords) : BitVec 32 :=
  let c116_i32_600 : BitVec 32 := 116#32
  let c0_i32_599 : BitVec 32 := 0#32
  let arg1 : BitVec 32 := BitVec.ofNat 32 (i 1).val
  let c8_i32_595 : BitVec 32 := 8#32
  let v718 : BitVec 32 := Scalar.muli arg1 c8_i32_595
  let c4_i32_596 : BitVec 32 := 4#32
  let v719 : BitVec 32 := Scalar.addi v718 c4_i32_596
  let c4_i32_597 : BitVec 32 := 4#32
  let v720 : BitVec 32 := Scalar.muli v719 c4_i32_597
  let c4_i32_598 : BitVec 32 := 4#32
  let v721 : BitVec 32 := Scalar.subi v720 c4_i32_598
  let v722 : BitVec 32 := Scalar.maxsi c0_i32_599 v721
  let v723 : BitVec 32 := Scalar.minsi c116_i32_600 v722
  let c64_i32_601 : BitVec 32 := 64#32
  let v724 : BitVec 32 := Scalar.muli v723 c64_i32_601
  v724
def k1_mult24 (i : grid1.Coords) : BitVec 32 :=
  let c116_i32_783 : BitVec 32 := 116#32
  let c0_i32_782 : BitVec 32 := 0#32
  let arg1 : BitVec 32 := BitVec.ofNat 32 (i 1).val
  let c8_i32_778 : BitVec 32 := 8#32
  let v931 : BitVec 32 := Scalar.muli arg1 c8_i32_778
  let c2_i32_779 : BitVec 32 := 2#32
  let v932 : BitVec 32 := Scalar.addi v931 c2_i32_779
  let c4_i32_780 : BitVec 32 := 4#32
  let v933 : BitVec 32 := Scalar.muli v932 c4_i32_780
  let c4_i32_781 : BitVec 32 := 4#32
  let v934 : BitVec 32 := Scalar.subi v933 c4_i32_781
  let v935 : BitVec 32 := Scalar.maxsi c0_i32_782 v934
  let v936 : BitVec 32 := Scalar.minsi c116_i32_783 v935
  let c64_i32_784 : BitVec 32 := 64#32
  let v937 : BitVec 32 := Scalar.muli v936 c64_i32_784
  v937
def k1_mult25 (i : grid1.Coords) : BitVec 32 :=
  let c116_i32_802 : BitVec 32 := 116#32
  let c0_i32_801 : BitVec 32 := 0#32
  let arg1 : BitVec 32 := BitVec.ofNat 32 (i 1).val
  let c8_i32_798 : BitVec 32 := 8#32
  let v953 : BitVec 32 := Scalar.muli arg1 c8_i32_798
  let c5_i32 : BitVec 32 := 5#32
  let v954 : BitVec 32 := Scalar.addi v953 c5_i32
  let c4_i32_799 : BitVec 32 := 4#32
  let v955 : BitVec 32 := Scalar.muli v954 c4_i32_799
  let c4_i32_800 : BitVec 32 := 4#32
  let v956 : BitVec 32 := Scalar.subi v955 c4_i32_800
  let v957 : BitVec 32 := Scalar.maxsi c0_i32_801 v956
  let v958 : BitVec 32 := Scalar.minsi c116_i32_802 v957
  let c64_i32_803 : BitVec 32 := 64#32
  let v959 : BitVec 32 := Scalar.muli v958 c64_i32_803
  v959
def k1_mult26 (i : grid1.Coords) : BitVec 32 :=
  let c116_i32_985 : BitVec 32 := 116#32
  let c0_i32_984 : BitVec 32 := 0#32
  let arg1 : BitVec 32 := BitVec.ofNat 32 (i 1).val
  let c8_i32_980 : BitVec 32 := 8#32
  let v1166 : BitVec 32 := Scalar.muli arg1 c8_i32_980
  let c3_i32_981 : BitVec 32 := 3#32
  let v1167 : BitVec 32 := Scalar.addi v1166 c3_i32_981
  let c4_i32_982 : BitVec 32 := 4#32
  let v1168 : BitVec 32 := Scalar.muli v1167 c4_i32_982
  let c4_i32_983 : BitVec 32 := 4#32
  let v1169 : BitVec 32 := Scalar.subi v1168 c4_i32_983
  let v1170 : BitVec 32 := Scalar.maxsi c0_i32_984 v1169
  let v1171 : BitVec 32 := Scalar.minsi c116_i32_985 v1170
  let c64_i32_986 : BitVec 32 := 64#32
  let v1172 : BitVec 32 := Scalar.muli v1171 c64_i32_986
  v1172
def k1_mult27 (i : grid1.Coords) : BitVec 32 :=
  let c116_i32_1004 : BitVec 32 := 116#32
  let c0_i32_1003 : BitVec 32 := 0#32
  let arg1 : BitVec 32 := BitVec.ofNat 32 (i 1).val
  let c8_i32_1000 : BitVec 32 := 8#32
  let v1188 : BitVec 32 := Scalar.muli arg1 c8_i32_1000
  let c6_i32 : BitVec 32 := 6#32
  let v1189 : BitVec 32 := Scalar.addi v1188 c6_i32
  let c4_i32_1001 : BitVec 32 := 4#32
  let v1190 : BitVec 32 := Scalar.muli v1189 c4_i32_1001
  let c4_i32_1002 : BitVec 32 := 4#32
  let v1191 : BitVec 32 := Scalar.subi v1190 c4_i32_1002
  let v1192 : BitVec 32 := Scalar.maxsi c0_i32_1003 v1191
  let v1193 : BitVec 32 := Scalar.minsi c116_i32_1004 v1192
  let c64_i32_1005 : BitVec 32 := 64#32
  let v1194 : BitVec 32 := Scalar.muli v1193 c64_i32_1005
  v1194
def k1_mult28 (i : grid1.Coords) : BitVec 32 :=
  let c116_i32_1187 : BitVec 32 := 116#32
  let c0_i32_1186 : BitVec 32 := 0#32
  let arg1 : BitVec 32 := BitVec.ofNat 32 (i 1).val
  let c8_i32_1182 : BitVec 32 := 8#32
  let v1401 : BitVec 32 := Scalar.muli arg1 c8_i32_1182
  let c4_i32_1183 : BitVec 32 := 4#32
  let v1402 : BitVec 32 := Scalar.addi v1401 c4_i32_1183
  let c4_i32_1184 : BitVec 32 := 4#32
  let v1403 : BitVec 32 := Scalar.muli v1402 c4_i32_1184
  let c4_i32_1185 : BitVec 32 := 4#32
  let v1404 : BitVec 32 := Scalar.subi v1403 c4_i32_1185
  let v1405 : BitVec 32 := Scalar.maxsi c0_i32_1186 v1404
  let v1406 : BitVec 32 := Scalar.minsi c116_i32_1187 v1405
  let c64_i32_1188 : BitVec 32 := 64#32
  let v1407 : BitVec 32 := Scalar.muli v1406 c64_i32_1188
  v1407
def k1_mult29 (i : grid1.Coords) : BitVec 32 :=
  let c116_i32_1206 : BitVec 32 := 116#32
  let c0_i32_1205 : BitVec 32 := 0#32
  let arg1 : BitVec 32 := BitVec.ofNat 32 (i 1).val
  let c8_i32_1202 : BitVec 32 := 8#32
  let v1423 : BitVec 32 := Scalar.muli arg1 c8_i32_1202
  let c7_i32 : BitVec 32 := 7#32
  let v1424 : BitVec 32 := Scalar.addi v1423 c7_i32
  let c4_i32_1203 : BitVec 32 := 4#32
  let v1425 : BitVec 32 := Scalar.muli v1424 c4_i32_1203
  let c4_i32_1204 : BitVec 32 := 4#32
  let v1426 : BitVec 32 := Scalar.subi v1425 c4_i32_1204
  let v1427 : BitVec 32 := Scalar.maxsi c0_i32_1205 v1426
  let v1428 : BitVec 32 := Scalar.minsi c116_i32_1206 v1427
  let c64_i32_1207 : BitVec 32 := 64#32
  let v1429 : BitVec 32 := Scalar.muli v1428 c64_i32_1207
  v1429
def k1_mult30 (i : grid1.Coords) : BitVec 32 :=
  let c116_i32_1389 : BitVec 32 := 116#32
  let c0_i32_1388 : BitVec 32 := 0#32
  let arg1 : BitVec 32 := BitVec.ofNat 32 (i 1).val
  let c8_i32_1384 : BitVec 32 := 8#32
  let v1636 : BitVec 32 := Scalar.muli arg1 c8_i32_1384
  let c5_i32_1385 : BitVec 32 := 5#32
  let v1637 : BitVec 32 := Scalar.addi v1636 c5_i32_1385
  let c4_i32_1386 : BitVec 32 := 4#32
  let v1638 : BitVec 32 := Scalar.muli v1637 c4_i32_1386
  let c4_i32_1387 : BitVec 32 := 4#32
  let v1639 : BitVec 32 := Scalar.subi v1638 c4_i32_1387
  let v1640 : BitVec 32 := Scalar.maxsi c0_i32_1388 v1639
  let v1641 : BitVec 32 := Scalar.minsi c116_i32_1389 v1640
  let c64_i32_1390 : BitVec 32 := 64#32
  let v1642 : BitVec 32 := Scalar.muli v1641 c64_i32_1390
  v1642
def k1_mult31 (i : grid1.Coords) : BitVec 32 :=
  let c116_i32_1573 : BitVec 32 := 116#32
  let c0_i32_1572 : BitVec 32 := 0#32
  let arg1 : BitVec 32 := BitVec.ofNat 32 (i 1).val
  let c8_i32_1568 : BitVec 32 := 8#32
  let v1851 : BitVec 32 := Scalar.muli arg1 c8_i32_1568
  let c6_i32_1569 : BitVec 32 := 6#32
  let v1852 : BitVec 32 := Scalar.addi v1851 c6_i32_1569
  let c4_i32_1570 : BitVec 32 := 4#32
  let v1853 : BitVec 32 := Scalar.muli v1852 c4_i32_1570
  let c4_i32_1571 : BitVec 32 := 4#32
  let v1854 : BitVec 32 := Scalar.subi v1853 c4_i32_1571
  let v1855 : BitVec 32 := Scalar.maxsi c0_i32_1572 v1854
  let v1856 : BitVec 32 := Scalar.minsi c116_i32_1573 v1855
  let c64_i32_1574 : BitVec 32 := 64#32
  let v1857 : BitVec 32 := Scalar.muli v1856 c64_i32_1574
  v1857
def k1_mult32 (i : grid1.Coords) : BitVec 32 :=
  let c116_i32_1593 : BitVec 32 := 116#32
  let c0_i32_1592 : BitVec 32 := 0#32
  let arg1 : BitVec 32 := BitVec.ofNat 32 (i 1).val
  let c8_i32_1588 : BitVec 32 := 8#32
  let v1873 : BitVec 32 := Scalar.muli arg1 c8_i32_1588
  let c7_i32_1589 : BitVec 32 := 7#32
  let v1874 : BitVec 32 := Scalar.addi v1873 c7_i32_1589
  let c4_i32_1590 : BitVec 32 := 4#32
  let v1875 : BitVec 32 := Scalar.muli v1874 c4_i32_1590
  let c4_i32_1591 : BitVec 32 := 4#32
  let v1876 : BitVec 32 := Scalar.subi v1875 c4_i32_1591
  let v1877 : BitVec 32 := Scalar.maxsi c0_i32_1592 v1876
  let v1878 : BitVec 32 := Scalar.minsi c116_i32_1593 v1877
  let c64_i32_1594 : BitVec 32 := 64#32
  let v1879 : BitVec 32 := Scalar.muli v1878 c64_i32_1594
  v1879
def k1_cond3 (i : grid1.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def k1_mult33 (i : grid1.Coords) : BitVec 32 :=
  let c116_i32 : BitVec 32 := 116#32
  let c0_i32_10 : BitVec 32 := 0#32
  let arg1 : BitVec 32 := BitVec.ofNat 32 (i 1).val
  let c8_i32 : BitVec 32 := 8#32
  let v15 : BitVec 32 := Scalar.muli arg1 c8_i32
  let c0_i32_8 : BitVec 32 := 0#32
  let v16 : BitVec 32 := Scalar.addi v15 c0_i32_8
  let c4_i32 : BitVec 32 := 4#32
  let v17 : BitVec 32 := Scalar.muli v16 c4_i32
  let c4_i32_9 : BitVec 32 := 4#32
  let v18 : BitVec 32 := Scalar.subi v17 c4_i32_9
  let v19 : BitVec 32 := Scalar.maxsi c0_i32_10 v18
  let v20 : BitVec 32 := Scalar.minsi c116_i32 v19
  let c64_i32 : BitVec 32 := 64#32
  let v21 : BitVec 32 := Scalar.muli v20 c64_i32
  v21
def k1_off3 (i : grid1.Coords) (c0_i32_8 : BitVec 32) : Fin 2 → Nat :=
  let c116_i32 : BitVec 32 := 116#32
  let c0_i32_10 : BitVec 32 := 0#32
  let arg1 : BitVec 32 := BitVec.ofNat 32 (i 1).val
  let c8_i32 : BitVec 32 := 8#32
  let v15 : BitVec 32 := Scalar.muli arg1 c8_i32
  let v16 : BitVec 32 := Scalar.addi v15 c0_i32_8
  let c4_i32 : BitVec 32 := 4#32
  let v17 : BitVec 32 := Scalar.muli v16 c4_i32
  let c4_i32_9 : BitVec 32 := 4#32
  let v18 : BitVec 32 := Scalar.subi v17 c4_i32_9
  let v19 : BitVec 32 := Scalar.maxsi c0_i32_10 v18
  let v20 : BitVec 32 := Scalar.minsi c116_i32 v19
  let c64_i32 : BitVec 32 := 64#32
  let v21 : BitVec 32 := Scalar.muli v20 c64_i32
  let v22 : BitVec 32 := v21
  let v24 : Index := Scalar.indexCast v22
  let c0_13 : Index := 0#32
  ![v24.toNat, 0]
def k1_mult34 (i : grid1.Coords) : BitVec 32 :=
  let c116_i32_27 : BitVec 32 := 116#32
  let c0_i32_26 : BitVec 32 := 0#32
  let arg1 : BitVec 32 := BitVec.ofNat 32 (i 1).val
  let c8_i32_23 : BitVec 32 := 8#32
  let v35 : BitVec 32 := Scalar.muli arg1 c8_i32_23
  let c1_i32 : BitVec 32 := 1#32
  let v36 : BitVec 32 := Scalar.addi v35 c1_i32
  let c4_i32_24 : BitVec 32 := 4#32
  let v37 : BitVec 32 := Scalar.muli v36 c4_i32_24
  let c4_i32_25 : BitVec 32 := 4#32
  let v38 : BitVec 32 := Scalar.subi v37 c4_i32_25
  let v39 : BitVec 32 := Scalar.maxsi c0_i32_26 v38
  let v40 : BitVec 32 := Scalar.minsi c116_i32_27 v39
  let c64_i32_28 : BitVec 32 := 64#32
  let v41 : BitVec 32 := Scalar.muli v40 c64_i32_28
  v41
def k1_mult35 (i : grid1.Coords) : BitVec 32 :=
  let c116_i32_194 : BitVec 32 := 116#32
  let c0_i32_193 : BitVec 32 := 0#32
  let arg1 : BitVec 32 := BitVec.ofNat 32 (i 1).val
  let c8_i32_190 : BitVec 32 := 8#32
  let v248 : BitVec 32 := Scalar.muli arg1 c8_i32_190
  let c2_i32 : BitVec 32 := 2#32
  let v249 : BitVec 32 := Scalar.addi v248 c2_i32
  let c4_i32_191 : BitVec 32 := 4#32
  let v250 : BitVec 32 := Scalar.muli v249 c4_i32_191
  let c4_i32_192 : BitVec 32 := 4#32
  let v251 : BitVec 32 := Scalar.subi v250 c4_i32_192
  let v252 : BitVec 32 := Scalar.maxsi c0_i32_193 v251
  let v253 : BitVec 32 := Scalar.minsi c116_i32_194 v252
  let c64_i32_195 : BitVec 32 := 64#32
  let v254 : BitVec 32 := Scalar.muli v253 c64_i32_195
  v254
def k1_mult36 (i : grid1.Coords) : BitVec 32 :=
  let c116_i32_377 : BitVec 32 := 116#32
  let c0_i32_376 : BitVec 32 := 0#32
  let arg1 : BitVec 32 := BitVec.ofNat 32 (i 1).val
  let c8_i32_372 : BitVec 32 := 8#32
  let v461 : BitVec 32 := Scalar.muli arg1 c8_i32_372
  let c0_i32_373 : BitVec 32 := 0#32
  let v462 : BitVec 32 := Scalar.addi v461 c0_i32_373
  let c4_i32_374 : BitVec 32 := 4#32
  let v463 : BitVec 32 := Scalar.muli v462 c4_i32_374
  let c4_i32_375 : BitVec 32 := 4#32
  let v464 : BitVec 32 := Scalar.subi v463 c4_i32_375
  let v465 : BitVec 32 := Scalar.maxsi c0_i32_376 v464
  let v466 : BitVec 32 := Scalar.minsi c116_i32_377 v465
  let c64_i32_378 : BitVec 32 := 64#32
  let v467 : BitVec 32 := Scalar.muli v466 c64_i32_378
  v467
def k1_mult37 (i : grid1.Coords) : BitVec 32 :=
  let c116_i32_397 : BitVec 32 := 116#32
  let c0_i32_396 : BitVec 32 := 0#32
  let arg1 : BitVec 32 := BitVec.ofNat 32 (i 1).val
  let c8_i32_392 : BitVec 32 := 8#32
  let v483 : BitVec 32 := Scalar.muli arg1 c8_i32_392
  let c3_i32_393 : BitVec 32 := 3#32
  let v484 : BitVec 32 := Scalar.addi v483 c3_i32_393
  let c4_i32_394 : BitVec 32 := 4#32
  let v485 : BitVec 32 := Scalar.muli v484 c4_i32_394
  let c4_i32_395 : BitVec 32 := 4#32
  let v486 : BitVec 32 := Scalar.subi v485 c4_i32_395
  let v487 : BitVec 32 := Scalar.maxsi c0_i32_396 v486
  let v488 : BitVec 32 := Scalar.minsi c116_i32_397 v487
  let c64_i32_398 : BitVec 32 := 64#32
  let v489 : BitVec 32 := Scalar.muli v488 c64_i32_398
  v489
def k1_mult38 (i : grid1.Coords) : BitVec 32 :=
  let c116_i32_580 : BitVec 32 := 116#32
  let c0_i32_579 : BitVec 32 := 0#32
  let arg1 : BitVec 32 := BitVec.ofNat 32 (i 1).val
  let c8_i32_575 : BitVec 32 := 8#32
  let v696 : BitVec 32 := Scalar.muli arg1 c8_i32_575
  let c1_i32_576 : BitVec 32 := 1#32
  let v697 : BitVec 32 := Scalar.addi v696 c1_i32_576
  let c4_i32_577 : BitVec 32 := 4#32
  let v698 : BitVec 32 := Scalar.muli v697 c4_i32_577
  let c4_i32_578 : BitVec 32 := 4#32
  let v699 : BitVec 32 := Scalar.subi v698 c4_i32_578
  let v700 : BitVec 32 := Scalar.maxsi c0_i32_579 v699
  let v701 : BitVec 32 := Scalar.minsi c116_i32_580 v700
  let c64_i32_581 : BitVec 32 := 64#32
  let v702 : BitVec 32 := Scalar.muli v701 c64_i32_581
  v702
def k1_mult39 (i : grid1.Coords) : BitVec 32 :=
  let c116_i32_600 : BitVec 32 := 116#32
  let c0_i32_599 : BitVec 32 := 0#32
  let arg1 : BitVec 32 := BitVec.ofNat 32 (i 1).val
  let c8_i32_595 : BitVec 32 := 8#32
  let v718 : BitVec 32 := Scalar.muli arg1 c8_i32_595
  let c4_i32_596 : BitVec 32 := 4#32
  let v719 : BitVec 32 := Scalar.addi v718 c4_i32_596
  let c4_i32_597 : BitVec 32 := 4#32
  let v720 : BitVec 32 := Scalar.muli v719 c4_i32_597
  let c4_i32_598 : BitVec 32 := 4#32
  let v721 : BitVec 32 := Scalar.subi v720 c4_i32_598
  let v722 : BitVec 32 := Scalar.maxsi c0_i32_599 v721
  let v723 : BitVec 32 := Scalar.minsi c116_i32_600 v722
  let c64_i32_601 : BitVec 32 := 64#32
  let v724 : BitVec 32 := Scalar.muli v723 c64_i32_601
  v724
def k1_mult40 (i : grid1.Coords) : BitVec 32 :=
  let c116_i32_783 : BitVec 32 := 116#32
  let c0_i32_782 : BitVec 32 := 0#32
  let arg1 : BitVec 32 := BitVec.ofNat 32 (i 1).val
  let c8_i32_778 : BitVec 32 := 8#32
  let v931 : BitVec 32 := Scalar.muli arg1 c8_i32_778
  let c2_i32_779 : BitVec 32 := 2#32
  let v932 : BitVec 32 := Scalar.addi v931 c2_i32_779
  let c4_i32_780 : BitVec 32 := 4#32
  let v933 : BitVec 32 := Scalar.muli v932 c4_i32_780
  let c4_i32_781 : BitVec 32 := 4#32
  let v934 : BitVec 32 := Scalar.subi v933 c4_i32_781
  let v935 : BitVec 32 := Scalar.maxsi c0_i32_782 v934
  let v936 : BitVec 32 := Scalar.minsi c116_i32_783 v935
  let c64_i32_784 : BitVec 32 := 64#32
  let v937 : BitVec 32 := Scalar.muli v936 c64_i32_784
  v937
def k1_mult41 (i : grid1.Coords) : BitVec 32 :=
  let c116_i32_802 : BitVec 32 := 116#32
  let c0_i32_801 : BitVec 32 := 0#32
  let arg1 : BitVec 32 := BitVec.ofNat 32 (i 1).val
  let c8_i32_798 : BitVec 32 := 8#32
  let v953 : BitVec 32 := Scalar.muli arg1 c8_i32_798
  let c5_i32 : BitVec 32 := 5#32
  let v954 : BitVec 32 := Scalar.addi v953 c5_i32
  let c4_i32_799 : BitVec 32 := 4#32
  let v955 : BitVec 32 := Scalar.muli v954 c4_i32_799
  let c4_i32_800 : BitVec 32 := 4#32
  let v956 : BitVec 32 := Scalar.subi v955 c4_i32_800
  let v957 : BitVec 32 := Scalar.maxsi c0_i32_801 v956
  let v958 : BitVec 32 := Scalar.minsi c116_i32_802 v957
  let c64_i32_803 : BitVec 32 := 64#32
  let v959 : BitVec 32 := Scalar.muli v958 c64_i32_803
  v959
def k1_mult42 (i : grid1.Coords) : BitVec 32 :=
  let c116_i32_985 : BitVec 32 := 116#32
  let c0_i32_984 : BitVec 32 := 0#32
  let arg1 : BitVec 32 := BitVec.ofNat 32 (i 1).val
  let c8_i32_980 : BitVec 32 := 8#32
  let v1166 : BitVec 32 := Scalar.muli arg1 c8_i32_980
  let c3_i32_981 : BitVec 32 := 3#32
  let v1167 : BitVec 32 := Scalar.addi v1166 c3_i32_981
  let c4_i32_982 : BitVec 32 := 4#32
  let v1168 : BitVec 32 := Scalar.muli v1167 c4_i32_982
  let c4_i32_983 : BitVec 32 := 4#32
  let v1169 : BitVec 32 := Scalar.subi v1168 c4_i32_983
  let v1170 : BitVec 32 := Scalar.maxsi c0_i32_984 v1169
  let v1171 : BitVec 32 := Scalar.minsi c116_i32_985 v1170
  let c64_i32_986 : BitVec 32 := 64#32
  let v1172 : BitVec 32 := Scalar.muli v1171 c64_i32_986
  v1172
def k1_mult43 (i : grid1.Coords) : BitVec 32 :=
  let c116_i32_1004 : BitVec 32 := 116#32
  let c0_i32_1003 : BitVec 32 := 0#32
  let arg1 : BitVec 32 := BitVec.ofNat 32 (i 1).val
  let c8_i32_1000 : BitVec 32 := 8#32
  let v1188 : BitVec 32 := Scalar.muli arg1 c8_i32_1000
  let c6_i32 : BitVec 32 := 6#32
  let v1189 : BitVec 32 := Scalar.addi v1188 c6_i32
  let c4_i32_1001 : BitVec 32 := 4#32
  let v1190 : BitVec 32 := Scalar.muli v1189 c4_i32_1001
  let c4_i32_1002 : BitVec 32 := 4#32
  let v1191 : BitVec 32 := Scalar.subi v1190 c4_i32_1002
  let v1192 : BitVec 32 := Scalar.maxsi c0_i32_1003 v1191
  let v1193 : BitVec 32 := Scalar.minsi c116_i32_1004 v1192
  let c64_i32_1005 : BitVec 32 := 64#32
  let v1194 : BitVec 32 := Scalar.muli v1193 c64_i32_1005
  v1194
def k1_mult44 (i : grid1.Coords) : BitVec 32 :=
  let c116_i32_1187 : BitVec 32 := 116#32
  let c0_i32_1186 : BitVec 32 := 0#32
  let arg1 : BitVec 32 := BitVec.ofNat 32 (i 1).val
  let c8_i32_1182 : BitVec 32 := 8#32
  let v1401 : BitVec 32 := Scalar.muli arg1 c8_i32_1182
  let c4_i32_1183 : BitVec 32 := 4#32
  let v1402 : BitVec 32 := Scalar.addi v1401 c4_i32_1183
  let c4_i32_1184 : BitVec 32 := 4#32
  let v1403 : BitVec 32 := Scalar.muli v1402 c4_i32_1184
  let c4_i32_1185 : BitVec 32 := 4#32
  let v1404 : BitVec 32 := Scalar.subi v1403 c4_i32_1185
  let v1405 : BitVec 32 := Scalar.maxsi c0_i32_1186 v1404
  let v1406 : BitVec 32 := Scalar.minsi c116_i32_1187 v1405
  let c64_i32_1188 : BitVec 32 := 64#32
  let v1407 : BitVec 32 := Scalar.muli v1406 c64_i32_1188
  v1407
def k1_mult45 (i : grid1.Coords) : BitVec 32 :=
  let c116_i32_1206 : BitVec 32 := 116#32
  let c0_i32_1205 : BitVec 32 := 0#32
  let arg1 : BitVec 32 := BitVec.ofNat 32 (i 1).val
  let c8_i32_1202 : BitVec 32 := 8#32
  let v1423 : BitVec 32 := Scalar.muli arg1 c8_i32_1202
  let c7_i32 : BitVec 32 := 7#32
  let v1424 : BitVec 32 := Scalar.addi v1423 c7_i32
  let c4_i32_1203 : BitVec 32 := 4#32
  let v1425 : BitVec 32 := Scalar.muli v1424 c4_i32_1203
  let c4_i32_1204 : BitVec 32 := 4#32
  let v1426 : BitVec 32 := Scalar.subi v1425 c4_i32_1204
  let v1427 : BitVec 32 := Scalar.maxsi c0_i32_1205 v1426
  let v1428 : BitVec 32 := Scalar.minsi c116_i32_1206 v1427
  let c64_i32_1207 : BitVec 32 := 64#32
  let v1429 : BitVec 32 := Scalar.muli v1428 c64_i32_1207
  v1429
def k1_mult46 (i : grid1.Coords) : BitVec 32 :=
  let c116_i32_1389 : BitVec 32 := 116#32
  let c0_i32_1388 : BitVec 32 := 0#32
  let arg1 : BitVec 32 := BitVec.ofNat 32 (i 1).val
  let c8_i32_1384 : BitVec 32 := 8#32
  let v1636 : BitVec 32 := Scalar.muli arg1 c8_i32_1384
  let c5_i32_1385 : BitVec 32 := 5#32
  let v1637 : BitVec 32 := Scalar.addi v1636 c5_i32_1385
  let c4_i32_1386 : BitVec 32 := 4#32
  let v1638 : BitVec 32 := Scalar.muli v1637 c4_i32_1386
  let c4_i32_1387 : BitVec 32 := 4#32
  let v1639 : BitVec 32 := Scalar.subi v1638 c4_i32_1387
  let v1640 : BitVec 32 := Scalar.maxsi c0_i32_1388 v1639
  let v1641 : BitVec 32 := Scalar.minsi c116_i32_1389 v1640
  let c64_i32_1390 : BitVec 32 := 64#32
  let v1642 : BitVec 32 := Scalar.muli v1641 c64_i32_1390
  v1642
def k1_mult47 (i : grid1.Coords) : BitVec 32 :=
  let c116_i32_1561 : BitVec 32 := 116#32
  let c0_i32_1560 : BitVec 32 := 0#32
  let arg1 : BitVec 32 := BitVec.ofNat 32 (i 1).val
  let c8_i32_1556 : BitVec 32 := 8#32
  let v1843 : BitVec 32 := Scalar.muli arg1 c8_i32_1556
  let c6_i32_1557 : BitVec 32 := 6#32
  let v1844 : BitVec 32 := Scalar.addi v1843 c6_i32_1557
  let c4_i32_1558 : BitVec 32 := 4#32
  let v1845 : BitVec 32 := Scalar.muli v1844 c4_i32_1558
  let c4_i32_1559 : BitVec 32 := 4#32
  let v1846 : BitVec 32 := Scalar.subi v1845 c4_i32_1559
  let v1847 : BitVec 32 := Scalar.maxsi c0_i32_1560 v1846
  let v1848 : BitVec 32 := Scalar.minsi c116_i32_1561 v1847
  let c64_i32_1562 : BitVec 32 := 64#32
  let v1849 : BitVec 32 := Scalar.muli v1848 c64_i32_1562
  v1849
def k1_mult48 (i : grid1.Coords) : BitVec 32 :=
  let c116_i32_1581 : BitVec 32 := 116#32
  let c0_i32_1580 : BitVec 32 := 0#32
  let arg1 : BitVec 32 := BitVec.ofNat 32 (i 1).val
  let c8_i32_1576 : BitVec 32 := 8#32
  let v1865 : BitVec 32 := Scalar.muli arg1 c8_i32_1576
  let c7_i32_1577 : BitVec 32 := 7#32
  let v1866 : BitVec 32 := Scalar.addi v1865 c7_i32_1577
  let c4_i32_1578 : BitVec 32 := 4#32
  let v1867 : BitVec 32 := Scalar.muli v1866 c4_i32_1578
  let c4_i32_1579 : BitVec 32 := 4#32
  let v1868 : BitVec 32 := Scalar.subi v1867 c4_i32_1579
  let v1869 : BitVec 32 := Scalar.maxsi c0_i32_1580 v1868
  let v1870 : BitVec 32 := Scalar.minsi c116_i32_1581 v1869
  let c64_i32_1582 : BitVec 32 := 64#32
  let v1871 : BitVec 32 := Scalar.muli v1870 c64_i32_1582
  v1871
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c42_i32 : BitVec 32 := 42#32
  let v2 : BitVec 32 := Scalar.minsi v1 c42_i32
  let c43_i32 : BitVec 32 := 43#32
  let v3 : BitVec 32 := Scalar.addi c43_i32 v2
  let c0_i32 : BitVec 32 := 0#32
  let c0_i32_0 : BitVec 32 := 0#32
  ![c0_i32.toNat, v3.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![c0_i32.toNat, v2.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x44x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4096x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8192x6144 : Shape := ⟨2, ![8192, 6144]⟩
abbrev S256x4096 : Shape := ⟨2, ![256, 4096]⟩
abbrev S1x16x15x31 : Shape := ⟨4, ![1, 16, 15, 31]⟩
abbrev S1x4096x22016 : Shape := ⟨3, ![1, 4096, 22016]⟩
abbrev S8192x2048 : Shape := ⟨2, ![8192, 2048]⟩
abbrev S128x64x16x128 : Shape := ⟨4, ![128, 64, 16, 128]⟩
abbrev S256x2048 : Shape := ⟨2, ![256, 2048]⟩
abbrev S256x16x128 : Shape := ⟨3, ![256, 16, 128]⟩
abbrev S16x15x31 : Shape := ⟨3, ![16, 15, 31]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S128x8x64x16x128 : Shape := ⟨5, ![128, 8, 64, 16, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S16x128x64x8x64 : Shape := ⟨5, ![16, 128, 64, 8, 64]⟩
abbrev S64x1x64 : Shape := ⟨3, ![64, 1, 64]⟩
abbrev S16x128x64x256 : Shape := ⟨4, ![16, 128, 64, 256]⟩
abbrev S16x128x64x512 : Shape := ⟨4, ![16, 128, 64, 512]⟩
abbrev S16x128x64x768 : Shape := ⟨4, ![16, 128, 64, 768]⟩
abbrev S16x128x64 : Shape := ⟨3, ![16, 128, 64]⟩
abbrev S16x128x64x1 : Shape := ⟨4, ![16, 128, 64, 1]⟩
abbrev S128x512x16x128 : Shape := ⟨4, ![128, 512, 16, 128]⟩
abbrev S128x16x128x64 : Shape := ⟨4, ![128, 16, 128, 64]⟩
abbrev S16x128x128x64 : Shape := ⟨4, ![16, 128, 128, 64]⟩
abbrev S4096x22016 : Shape := ⟨2, ![4096, 22016]⟩
abbrev S4096x11008 : Shape := ⟨2, ![4096, 11008]⟩

abbrev nBuf : Space → Nat
  | .hbm => 167
  | .vmem => 0
  | .smem => 0
  | _ => 0

abbrev hbmTy0_0 (i : Nat) : BufTy := match i % 128 with
  | 0 => ⟨S8192x6144, .bf16⟩
  | 1 => ⟨S256x4096, .bf16⟩
  | 2 => ⟨S1x16x15x31, .f32⟩
  | 3 => ⟨S1x4096x22016, .f32⟩
  | 4 => ⟨S8192x6144, .f32⟩
  | 5 => ⟨S256x4096, .f32⟩
  | 6 => ⟨S8192x2048, .f32⟩
  | 7 => ⟨S128x64x16x128, .f32⟩
  | 8 => ⟨S8192x2048, .f32⟩
  | 9 => ⟨S128x64x16x128, .f32⟩
  | 10 => ⟨S8192x2048, .f32⟩
  | 11 => ⟨S128x64x16x128, .f32⟩
  | 12 => ⟨S256x2048, .f32⟩
  | 13 => ⟨S256x16x128, .f32⟩
  | 14 => ⟨S256x2048, .f32⟩
  | 15 => ⟨S256x16x128, .f32⟩
  | 16 => ⟨S16x15x31, .f32⟩
  | 17 => ⟨S128, .i32⟩
  | 18 => ⟨S_, .i32⟩
  | 19 => ⟨S128, .i32⟩
  | 20 => ⟨S128, .i32⟩
  | 21 => ⟨S_, .i32⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i32⟩
  | 29 => ⟨S128x1, .i32⟩
  | 30 => ⟨S8, .i32⟩
  | 31 => ⟨S1x8, .i32⟩
  | 32 => ⟨S128x8, .i32⟩
  | 33 => ⟨S128x8, .i32⟩
  | 34 => ⟨S128x8, .i32⟩
  | 35 => ⟨S_, .i32⟩
  | 36 => ⟨S128x8, .i32⟩
  | 37 => ⟨S128x8, .i1⟩
  | 38 => ⟨S_, .i32⟩
  | 39 => ⟨S128x8, .i32⟩
  | 40 => ⟨S128x8, .i32⟩
  | 41 => ⟨S128x8, .i32⟩
  | 42 => ⟨S128x8x1, .i32⟩
  | 43 => ⟨S128x8x64x16x128, .f32⟩
  | 44 => ⟨S_, .i32⟩
  | 45 => ⟨S128x8, .i32⟩
  | 46 => ⟨S128x8, .i1⟩
  | 47 => ⟨S_, .i32⟩
  | 48 => ⟨S128x8, .i32⟩
  | 49 => ⟨S128x8, .i32⟩
  | 50 => ⟨S128x8, .i32⟩
  | 51 => ⟨S128x8x1, .i32⟩
  | 52 => ⟨S128x8x64x16x128, .f32⟩
  | 53 => ⟨S64, .i32⟩
  | 54 => ⟨S_, .i32⟩
  | 55 => ⟨S64, .i32⟩
  | 56 => ⟨S64, .i32⟩
  | 57 => ⟨S_, .i32⟩
  | 58 => ⟨S_, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S1x64, .i32⟩
  | 66 => ⟨S64x1, .i32⟩
  | 67 => ⟨S64x64, .i32⟩
  | 68 => ⟨S64x64, .i32⟩
  | 69 => ⟨S64x64, .i1⟩
  | 70 => ⟨S1x64, .i32⟩
  | 71 => ⟨S64x1, .i32⟩
  | 72 => ⟨S_, .i32⟩
  | 73 => ⟨S64x1, .i32⟩
  | 74 => ⟨S64x1, .i32⟩
  | 75 => ⟨S64x64, .i32⟩
  | 76 => ⟨S64x64, .i32⟩
  | 77 => ⟨S64x64, .i1⟩
  | 78 => ⟨S64x64, .i1⟩
  | 79 => ⟨S128x1, .i32⟩
  | 80 => ⟨S128x8, .i32⟩
  | 81 => ⟨S128x8, .i32⟩
  | 82 => ⟨S_, .i32⟩
  | 83 => ⟨S128x8, .i32⟩
  | 84 => ⟨S128x8, .i32⟩
  | 85 => ⟨S1x64, .i32⟩
  | 86 => ⟨S64x1, .i32⟩
  | 87 => ⟨S64x64, .i32⟩
  | 88 => ⟨S64x64, .i32⟩
  | 89 => ⟨S64x64, .i32⟩
  | 90 => ⟨S_, .i32⟩
  | 91 => ⟨S_, .i32⟩
  | 92 => ⟨S_, .i32⟩
  | 93 => ⟨S64x64, .i32⟩
  | 94 => ⟨S64x64, .i32⟩
  | 95 => ⟨S_, .i32⟩
  | 96 => ⟨S64x64, .i32⟩
  | 97 => ⟨S64x64, .i32⟩
  | 98 => ⟨S_, .i32⟩
  | 99 => ⟨S64x64, .i32⟩
  | 100 => ⟨S64x64, .i32⟩
  | 101 => ⟨S128x1x8x1, .i32⟩
  | 102 => ⟨S1x64x1x64, .i32⟩
  | 103 => ⟨S_, .i32⟩
  | 104 => ⟨S128x1x8x1, .i32⟩
  | 105 => ⟨S128x1x8x1, .i1⟩
  | 106 => ⟨S_, .i32⟩
  | 107 => ⟨S128x1x8x1, .i32⟩
  | 108 => ⟨S128x1x8x1, .i32⟩
  | 109 => ⟨S128x1x8x1, .i32⟩
  | 110 => ⟨S_, .i32⟩
  | 111 => ⟨S1x64x1x64, .i32⟩
  | 112 => ⟨S1x64x1x64, .i1⟩
  | 113 => ⟨S_, .i32⟩
  | 114 => ⟨S1x64x1x64, .i32⟩
  | 115 => ⟨S1x64x1x64, .i32⟩
  | 116 => ⟨S1x64x1x64, .i32⟩
  | 117 => ⟨S128x64x8x64, .i32⟩
  | 118 => ⟨S128x64x8x64, .i32⟩
  | 119 => ⟨S128x64x8x64x1, .i32⟩
  | 120 => ⟨S128x64x8x64x1, .i32⟩
  | 121 => ⟨S128x64x8x64x2, .i32⟩
  | 122 => ⟨S16x128x64x8x64, .f32⟩
  | 123 => ⟨S_, .f32⟩
  | 124 => ⟨S_, .f32⟩
  | 125 => ⟨S16x128x64x8x64, .f32⟩
  | 126 => ⟨S16x128x64x8x64, .f32⟩
  | 127 => ⟨S16x128x64x8x64, .f32⟩
  | _ => ⟨S8192x6144, .bf16⟩

abbrev hbmTy0_1 (i : Nat) : BufTy := match i % 128 with
  | 0 => ⟨S16x128x64x8x64, .f32⟩
  | 1 => ⟨S64x1x64, .i1⟩
  | 2 => ⟨S_, .f32⟩
  | 3 => ⟨S_, .f32⟩
  | 4 => ⟨S16x128x64x8x64, .i1⟩
  | 5 => ⟨S16x128x64x8x64, .f32⟩
  | 6 => ⟨S16x128x64x8x64, .f32⟩
  | 7 => ⟨S16x128x64x256, .f32⟩
  | 8 => ⟨S16x128x64x256, .f32⟩
  | 9 => ⟨S16x128x64x256, .f32⟩
  | 10 => ⟨S16x128x64x512, .f32⟩
  | 11 => ⟨S16x128x64x768, .f32⟩
  | 12 => ⟨S_, .f32⟩
  | 13 => ⟨S16x128x64, .f32⟩
  | 14 => ⟨S_, .f32⟩
  | 15 => ⟨S16x128x64, .f32⟩
  | 16 => ⟨S16x128x64, .f32⟩
  | 17 => ⟨S16x128x64x1, .f32⟩
  | 18 => ⟨S16x128x64x768, .f32⟩
  | 19 => ⟨S16x128x64x768, .f32⟩
  | 20 => ⟨S16x128x64x768, .f32⟩
  | 21 => ⟨S_, .f32⟩
  | 22 => ⟨S16x128x64, .f32⟩
  | 23 => ⟨S16x128x64x1, .f32⟩
  | 24 => ⟨S16x128x64x768, .f32⟩
  | 25 => ⟨S16x128x64x768, .f32⟩
  | 26 => ⟨S16x128x64x512, .f32⟩
  | 27 => ⟨S16x128x64x256, .f32⟩
  | 28 => ⟨S128x512x16x128, .f32⟩
  | 29 => ⟨S128x16x128x64, .f32⟩
  | 30 => ⟨S128x64x16x128, .f32⟩
  | 31 => ⟨S16x128x128x64, .f32⟩
  | 32 => ⟨S128x64x16x128, .f32⟩
  | 33 => ⟨S128x64x16x128, .f32⟩
  | 34 => ⟨S8192x2048, .f32⟩
  | 35 => ⟨S8192x2048, .bf16⟩
  | 36 => ⟨S4096x22016, .f32⟩
  | 37 => ⟨S4096x11008, .f32⟩
  | 38 => ⟨S4096x11008, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_c_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_c_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_c_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_19 : Ref sig .tc := ⟨.hbm, 140, rfl⟩
abbrev main_v97 : Ref sig .tc := ⟨.hbm, 141, rfl⟩
abbrev main_cst_20 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_21 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]
-- ==== Kernel2.lean ====
abbrev S8704x4096 : Shape := ⟨2, ![8704, 4096]⟩
abbrev S4096x11008 : Shape := ⟨2, ![4096, 11008]⟩
abbrev S3x11008 : Shape := ⟨2, ![3, 11008]⟩
abbrev S1x11008 : Shape := ⟨2, ![1, 11008]⟩
abbrev S11008x4096 : Shape := ⟨2, ![11008, 4096]⟩
abbrev S8192x10752 : Shape := ⟨2, ![8192, 10752]⟩
abbrev S1056x4096 : Shape := ⟨2, ![1056, 4096]⟩
abbrev S4096x512 : Shape := ⟨2, ![4096, 512]⟩
abbrev S3x512 : Shape := ⟨2, ![3, 512]⟩
abbrev S1x512 : Shape := ⟨2, ![1, 512]⟩
abbrev S128x4096 : Shape := ⟨2, ![128, 4096]⟩
abbrev S1024x512 : Shape := ⟨2, ![1024, 512]⟩
abbrev S1056x512 : Shape := ⟨2, ![1056, 512]⟩
abbrev S1024x4096 : Shape := ⟨2, ![1024, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8704x4096, .bf16⟩
  | .hbm, ⟨1, _⟩ => ⟨S4096x11008, .bf16⟩
  | .hbm, ⟨2, _⟩ => ⟨S4096x11008, .bf16⟩
  | .hbm, ⟨3, _⟩ => ⟨S3x11008, .f32⟩
  | .hbm, ⟨4, _⟩ => ⟨S1x11008, .f32⟩
  | .hbm, ⟨5, _⟩ => ⟨S11008x4096, .f32⟩
  | .hbm, ⟨6, _⟩ => ⟨S8192x10752, .bf16⟩
  | .hbm, ⟨7, _⟩ => ⟨S11008x4096, .bf16⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S128x4096, .f32⟩
  | .local _ .vmem, ⟨11, _⟩ => ⟨S128x4096, .f32⟩
  | .local _ .vmem, ⟨12, _⟩ => ⟨S1024x512, .bf16⟩
  | .local _ .vmem, ⟨13, _⟩ => ⟨S1024x512, .bf16⟩
  | .local _ .vmem, ⟨14, _⟩ => ⟨S128x4096, .bf16⟩
  | .local _ .vmem, ⟨15, _⟩ => ⟨S128x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 21], ![false, false]⟩

def k0_mult1 (i : grid0.Coords) : BitVec 32 :=
  let c240_i32 : BitVec 32 := 240#32
  let arg0 : BitVec 32 := BitVec.ofNat 32 (i 0).val
  let c1024_i32 : BitVec 32 := 1024#32
  let v0 : BitVec 32 := Scalar.muli arg0 c1024_i32
  let v1 : BitVec 32 := Scalar.addi c240_i32 v0
  v1
def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c240_i32 : BitVec 32 := 240#32
  let v1 : BitVec 32 := Scalar.addi c240_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c85_i32 : BitVec 32 := 85#32
  let v2 : BitVec 32 := Scalar.minsi v1 c85_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8704x4096 : Shape := ⟨2, ![8704, 4096]⟩
abbrev S4096x11008 : Shape := ⟨2, ![4096, 11008]⟩
abbrev S3x11008 : Shape := ⟨2, ![3, 11008]⟩
abbrev S1x11008 : Shape := ⟨2, ![1, 11008]⟩
abbrev S11008x4096 : Shape := ⟨2, ![11008, 4096]⟩
abbrev S8704x11008 : Shape := ⟨2, ![8704, 11008]⟩
abbrev S8192x4096 : Shape := ⟨2, ![8192, 4096]⟩
abbrev S8192x11008 : Shape := ⟨2, ![8192, 11008]⟩
abbrev S11008 : Shape := ⟨1, ![11008]⟩
abbrev S_ : Shape := ⟨0, ![]⟩
abbrev S8192x10752 : Shape := ⟨2, ![8192, 10752]⟩

abbrev nBuf : Space → Nat
  | .hbm => 50
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x11008, .bf16⟩
  | .hbm, ⟨2, _⟩ => ⟨S4096x11008, .bf16⟩
  | .hbm, ⟨3, _⟩ => ⟨S3x11008, .f32⟩
  | .hbm, ⟨4, _⟩ => ⟨S1x11008, .f32⟩
  | .hbm, ⟨5, _⟩ => ⟨S11008x4096, .f32⟩
  | .hbm, ⟨6, _⟩ => ⟨S8704x4096, .f32⟩
  | .hbm, ⟨7, _⟩ => ⟨S4096x11008, .f32⟩
  | .hbm, ⟨8, _⟩ => ⟨S4096x11008, .f32⟩
  | .hbm, ⟨9, _⟩ => ⟨S8704x11008, .f32⟩
  | .hbm, ⟨10, _⟩ => ⟨S8192x4096, .f32⟩
  | .hbm, ⟨11, _⟩ => ⟨S8192x11008, .f32⟩
  | .hbm, ⟨12, _⟩ => ⟨S8192x11008, .f32⟩
  | .hbm, ⟨13, _⟩ => ⟨S1x11008, .f32⟩
  | .hbm, ⟨14, _⟩ => ⟨S11008, .f32⟩
  | .hbm, ⟨15, _⟩ => ⟨S1x11008, .f32⟩
  | .hbm, ⟨16, _⟩ => ⟨S8192x11008, .f32⟩
  | .hbm, ⟨17, _⟩ => ⟨S8192x11008, .f32⟩
  | .hbm, ⟨18, _⟩ => ⟨S_, .f32⟩
  | .hbm, ⟨19, _⟩ => ⟨S8192x11008, .f32⟩
  | .hbm, ⟨20, _⟩ => ⟨S8192x11008, .f32⟩
  | .hbm, ⟨21, _⟩ => ⟨S8192x11008, .f32⟩
  | .hbm, ⟨22, _⟩ => ⟨S1x11008, .f32⟩
  | .hbm, ⟨23, _⟩ => ⟨S11008, .f32⟩
  | .hbm, ⟨24, _⟩ => ⟨S1x11008, .f32⟩
  | .hbm, ⟨25, _⟩ => ⟨S8192x11008, .f32⟩
  | .hbm, ⟨26, _⟩ => ⟨S8192x11008, .f32⟩
  | .hbm, ⟨27, _⟩ => ⟨S8192x11008, .f32⟩
  | .hbm, ⟨28, _⟩ => ⟨S8192x11008, .f32⟩
  | .hbm, ⟨29, _⟩ => ⟨S1x11008, .f32⟩
  | .hbm, ⟨30, _⟩ => ⟨S11008, .f32⟩
  | .hbm, ⟨31, _⟩ => ⟨S1x11008, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S_, .f32⟩
  | .hbm, ⟨40, _⟩ => ⟨S8192x11008, .f32⟩
  | .hbm, ⟨41, _⟩ => ⟨S8192x11008, .f32⟩
  | .hbm, ⟨42, _⟩ => ⟨S_, .f32⟩
  | .hbm, ⟨43, _⟩ => ⟨S8192x11008, .f32⟩
  | .hbm, ⟨44, _⟩ => ⟨S8192x11008, .f32⟩
  | .hbm, ⟨45, _⟩ => ⟨S8192x11008, .f32⟩
  | .hbm, ⟨46, _⟩ => ⟨S8192x11008, .f32⟩
  | .hbm, ⟨47, _⟩ => ⟨S8192x10752, .f32⟩
  | .hbm, ⟨48, _⟩ => ⟨S8192x10752, .bf16⟩
  | .hbm, ⟨49, _⟩ => ⟨S11008x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel3.lean ====
abbrev S8192x10752 : Shape := ⟨2, ![8192, 10752]⟩
abbrev S8192x256 : Shape := ⟨2, ![8192, 256]⟩
abbrev S11008x4096 : Shape := ⟨2, ![11008, 4096]⟩
abbrev S8192x4096 : Shape := ⟨2, ![8192, 4096]⟩
abbrev S1x4096 : Shape := ⟨2, ![1, 4096]⟩
abbrev S512x10752 : Shape := ⟨2, ![512, 10752]⟩
abbrev S512x256 : Shape := ⟨2, ![512, 256]⟩
abbrev S11008x512 : Shape := ⟨2, ![11008, 512]⟩
abbrev S512x512 : Shape := ⟨2, ![512, 512]⟩
abbrev S1x512 : Shape := ⟨2, ![1, 512]⟩
abbrev S10752x512 : Shape := ⟨2, ![10752, 512]⟩
abbrev S256x512 : Shape := ⟨2, ![256, 512]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 17
  | .smem => 0
  | _ => 0

abbrev bufTy : (tb : Table) → Fin (tcTables nBuf tb) → BufTy
  | .hbm, ⟨0, _⟩ => ⟨S8192x10752, .bf16⟩
  | .hbm, ⟨1, _⟩ => ⟨S8192x256, .bf16⟩
  | .hbm, ⟨2, _⟩ => ⟨S11008x4096, .bf16⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .local _ .vmem, ⟨0, _⟩ => ⟨S512x10752, .bf16⟩
  | .local _ .vmem, ⟨1, _⟩ => ⟨S512x10752, .bf16⟩
  | .local _ .vmem, ⟨2, _⟩ => ⟨S512x256, .bf16⟩
  | .local _ .vmem, ⟨3, _⟩ => ⟨S512x256, .bf16⟩
  | .local _ .vmem, ⟨4, _⟩ => ⟨S11008x512, .bf16⟩
  | .local _ .vmem, ⟨5, _⟩ => ⟨S11008x512, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .f32⟩
  | .local _ .vmem, ⟨16, _⟩ => ⟨S512x4096, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x10752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S11008x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference3Ideal.lean ====
abbrev S8192x10752 : Shape := ⟨2, ![8192, 10752]⟩
abbrev S8192x256 : Shape := ⟨2, ![8192, 256]⟩
abbrev S11008x4096 : Shape := ⟨2, ![11008, 4096]⟩
abbrev S8192x4096 : Shape := ⟨2, ![8192, 4096]⟩
abbrev S1x4096 : Shape := ⟨2, ![1, 4096]⟩
abbrev S8192x11008 : Shape := ⟨2, ![8192, 11008]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S8192x256, .bf16⟩
  | .hbm, ⟨2, _⟩ => ⟨S11008x4096, .bf16⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S8192x11008, .bf16⟩
  | .hbm, ⟨7, _⟩ => ⟨S8192x11008, .f32⟩
  | .hbm, ⟨8, _⟩ => ⟨S11008x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S8192x2048 : Shape := ⟨2, ![8192, 2048]⟩
abbrev S4096x4096 : Shape := ⟨2, ![4096, 4096]⟩
abbrev S8192x4096 : Shape := ⟨2, ![8192, 4096]⟩
abbrev S1x4096 : Shape := ⟨2, ![1, 4096]⟩
abbrev S1024x2048 : Shape := ⟨2, ![1024, 2048]⟩
abbrev S4096x1024 : Shape := ⟨2, ![4096, 1024]⟩
abbrev S1024x1024 : Shape := ⟨2, ![1024, 1024]⟩
abbrev S1x1024 : Shape := ⟨2, ![1, 1024]⟩
abbrev S2048x1024 : Shape := ⟨2, ![2048, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .f32⟩
  | .hbm, ⟨4, _⟩ => ⟨S1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x2048 : Shape := ⟨2, ![8192, 2048]⟩
abbrev S4096x4096 : Shape := ⟨2, ![4096, 4096]⟩
abbrev S8192x4096 : Shape := ⟨2, ![8192, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .f32⟩
  | .hbm, ⟨4, _⟩ => ⟨S1x4096, .f32⟩
  | .hbm, ⟨5, _⟩ => ⟨S8192x4096, .bf16⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S8192x4096 : Shape := ⟨2, ![8192, 4096]⟩
abbrev S4096x10240 : Shape := ⟨2, ![4096, 10240]⟩
abbrev S1x4096x22016 : Shape := ⟨3, ![1, 4096, 22016]⟩
abbrev S4096x22016 : Shape := ⟨2, ![4096, 22016]⟩
abbrev S8192x6144 : Shape := ⟨2, ![8192, 6144]⟩
abbrev S4096x11008 : Shape := ⟨2, ![4096, 11008]⟩
abbrev S1024x4096 : Shape := ⟨2, ![1024, 4096]⟩
abbrev S4096x1024 : Shape := ⟨2, ![4096, 1024]⟩
abbrev S4096x256 : Shape := ⟨2, ![4096, 256]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .bf16⟩
  | .hbm, ⟨2, _⟩ => ⟨S1x4096x22016, .f32⟩
  | .hbm, ⟨3, _⟩ => ⟨S4096x22016, .f32⟩
  | .hbm, ⟨4, _⟩ => ⟨S8192x6144, .bf16⟩
  | .hbm, ⟨5, _⟩ => ⟨S4096x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4096x256, .f32⟩
  | .local _ .vmem, ⟨5, _⟩ => ⟨S4096x256, .f32⟩
  | .local _ .vmem, ⟨6, _⟩ => ⟨S1024x1024, .bf16⟩
  | .local _ .vmem, ⟨7, _⟩ => ⟨S1024x1024, .bf16⟩
  | .local _ .vmem, ⟨8, _⟩ => ⟨S4096x256, .bf16⟩
  | .local _ .vmem, ⟨9, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c42_i32 : BitVec 32 := 42#32
  let v2 : BitVec 32 := Scalar.minsi v1 c42_i32
  let c0_i32 : BitVec 32 := 0#32
  let v3 : BitVec 32 := Scalar.addi c0_i32 v2
  let c0_i32_0 : BitVec 32 := 0#32
  let c0_i32_1 : BitVec 32 := 0#32
  ![c0_i32_0.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![c0_i32.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x4096 : Shape := ⟨2, ![8192, 4096]⟩
abbrev S4096x10240 : Shape := ⟨2, ![4096, 10240]⟩
abbrev S1x4096x22016 : Shape := ⟨3, ![1, 4096, 22016]⟩
abbrev S8192x10240 : Shape := ⟨2, ![8192, 10240]⟩
abbrev S8192x6144 : Shape := ⟨2, ![8192, 6144]⟩
abbrev S4096x22016 : Shape := ⟨2, ![4096, 22016]⟩
abbrev S4096x11008 : Shape := ⟨2, ![4096, 11008]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10240, .bf16⟩
  | .hbm, ⟨2, _⟩ => ⟨S1x4096x22016, .f32⟩
  | .hbm, ⟨3, _⟩ => ⟨S8192x4096, .f32⟩
  | .hbm, ⟨4, _⟩ => ⟨S4096x10240, .f32⟩
  | .hbm, ⟨5, _⟩ => ⟨S8192x10240, .f32⟩
  | .hbm, ⟨6, _⟩ => ⟨S8192x6144, .f32⟩
  | .hbm, ⟨7, _⟩ => ⟨S8192x6144, .bf16⟩
  | .hbm, ⟨8, _⟩ => ⟨S4096x22016, .f32⟩
  | .hbm, ⟨9, _⟩ => ⟨S4096x11008, .f32⟩
  | .hbm, ⟨10, _⟩ => ⟨S4096x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8704x4096 : Shape := ⟨2, ![8704, 4096]⟩
abbrev S4096x11008 : Shape := ⟨2, ![4096, 11008]⟩
abbrev S3x11008 : Shape := ⟨2, ![3, 11008]⟩
abbrev S1x11008 : Shape := ⟨2, ![1, 11008]⟩
abbrev S8192x256 : Shape := ⟨2, ![8192, 256]⟩
abbrev S1056x4096 : Shape := ⟨2, ![1056, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S1056x256 : Shape := ⟨2, ![1056, 256]⟩
abbrev S1024x4096 : Shape := ⟨2, ![1024, 4096]⟩

abbrev nBuf : Space → Nat
  | .hbm => 6
  | .vmem => 8
  | .smem => 0
  | _ => 0

abbrev bufTy : (tb : Table) → Fin (tcTables nBuf tb) → BufTy
  | .hbm, ⟨0, _⟩ => ⟨S8704x4096, .bf16⟩
  | .hbm, ⟨1, _⟩ => ⟨S4096x11008, .bf16⟩
  | .hbm, ⟨2, _⟩ => ⟨S4096x11008, .bf16⟩
  | .hbm, ⟨3, _⟩ => ⟨S3x11008, .f32⟩
  | .hbm, ⟨4, _⟩ => ⟨S1x11008, .f32⟩
  | .hbm, ⟨5, _⟩ => ⟨S8192x256, .bf16⟩
  | .local _ .vmem, ⟨0, _⟩ => ⟨S1056x4096, .bf16⟩
  | .local _ .vmem, ⟨1, _⟩ => ⟨S1056x4096, .bf16⟩
  | .local _ .vmem, ⟨2, _⟩ => ⟨S4096x256, .bf16⟩
  | .local _ .vmem, ⟨3, _⟩ => ⟨S4096x256, .bf16⟩
  | .local _ .vmem, ⟨4, _⟩ => ⟨S3x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c240_i32 : BitVec 32 := 240#32
  let arg0 : BitVec 32 := BitVec.ofNat 32 (i 0).val
  let c1024_i32 : BitVec 32 := 1024#32
  let v0 : BitVec 32 := Scalar.muli arg0 c1024_i32
  let v1 : BitVec 32 := Scalar.addi c240_i32 v0
  v1
def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c240_i32 : BitVec 32 := 240#32
  let v1 : BitVec 32 := Scalar.addi c240_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8704x4096 : Shape := ⟨2, ![8704, 4096]⟩
abbrev S4096x11008 : Shape := ⟨2, ![4096, 11008]⟩
abbrev S3x11008 : Shape := ⟨2, ![3, 11008]⟩
abbrev S1x11008 : Shape := ⟨2, ![1, 11008]⟩
abbrev S8704x11008 : Shape := ⟨2, ![8704, 11008]⟩
abbrev S8192x4096 : Shape := ⟨2, ![8192, 4096]⟩
abbrev S8192x11008 : Shape := ⟨2, ![8192, 11008]⟩
abbrev S11008 : Shape := ⟨1, ![11008]⟩
abbrev S_ : Shape := ⟨0, ![]⟩
abbrev S8192x256 : Shape := ⟨2, ![8192, 256]⟩

abbrev nBuf : Space → Nat
  | .hbm => 48
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x11008, .bf16⟩
  | .hbm, ⟨2, _⟩ => ⟨S4096x11008, .bf16⟩
  | .hbm, ⟨3, _⟩ => ⟨S3x11008, .f32⟩
  | .hbm, ⟨4, _⟩ => ⟨S1x11008, .f32⟩
  | .hbm, ⟨5, _⟩ => ⟨S8704x4096, .f32⟩
  | .hbm, ⟨6, _⟩ => ⟨S4096x11008, .f32⟩
  | .hbm, ⟨7, _⟩ => ⟨S4096x11008, .f32⟩
  | .hbm, ⟨8, _⟩ => ⟨S8704x11008, .f32⟩
  | .hbm, ⟨9, _⟩ => ⟨S8192x4096, .f32⟩
  | .hbm, ⟨10, _⟩ => ⟨S8192x11008, .f32⟩
  | .hbm, ⟨11, _⟩ => ⟨S8192x11008, .f32⟩
  | .hbm, ⟨12, _⟩ => ⟨S1x11008, .f32⟩
  | .hbm, ⟨13, _⟩ => ⟨S11008, .f32⟩
  | .hbm, ⟨14, _⟩ => ⟨S1x11008, .f32⟩
  | .hbm, ⟨15, _⟩ => ⟨S8192x11008, .f32⟩
  | .hbm, ⟨16, _⟩ => ⟨S8192x11008, .f32⟩
  | .hbm, ⟨17, _⟩ => ⟨S_, .f32⟩
  | .hbm, ⟨18, _⟩ => ⟨S8192x11008, .f32⟩
  | .hbm, ⟨19, _⟩ => ⟨S8192x11008, .f32⟩
  | .hbm, ⟨20, _⟩ => ⟨S8192x11008, .f32⟩
  | .hbm, ⟨21, _⟩ => ⟨S1x11008, .f32⟩
  | .hbm, ⟨22, _⟩ => ⟨S11008, .f32⟩
  | .hbm, ⟨23, _⟩ => ⟨S1x11008, .f32⟩
  | .hbm, ⟨24, _⟩ => ⟨S8192x11008, .f32⟩
  | .hbm, ⟨25, _⟩ => ⟨S8192x11008, .f32⟩
  | .hbm, ⟨26, _⟩ => ⟨S8192x11008, .f32⟩
  | .hbm, ⟨27, _⟩ => ⟨S8192x11008, .f32⟩
  | .hbm, ⟨28, _⟩ => ⟨S1x11008, .f32⟩
  | .hbm, ⟨29, _⟩ => ⟨S11008, .f32⟩
  | .hbm, ⟨30, _⟩ => ⟨S1x11008, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S_, .f32⟩
  | .hbm, ⟨39, _⟩ => ⟨S8192x11008, .f32⟩
  | .hbm, ⟨40, _⟩ => ⟨S8192x11008, .f32⟩
  | .hbm, ⟨41, _⟩ => ⟨S_, .f32⟩
  | .hbm, ⟨42, _⟩ => ⟨S8192x11008, .f32⟩
  | .hbm, ⟨43, _⟩ => ⟨S8192x11008, .f32⟩
  | .hbm, ⟨44, _⟩ => ⟨S8192x11008, .f32⟩
  | .hbm, ⟨45, _⟩ => ⟨S8192x11008, .f32⟩
  | .hbm, ⟨46, _⟩ => ⟨S8192x256, .f32⟩
  | .hbm, ⟨47, _⟩ => ⟨S8192x256, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel7.lean ====
abbrev S256x4096 : Shape := ⟨2, ![256, 4096]⟩
abbrev S1x4096 : Shape := ⟨2, ![1, 4096]⟩
abbrev S4096x10240 : Shape := ⟨2, ![4096, 10240]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x10240, .bf16⟩
  | .hbm, ⟨5, _⟩ => ⟨S256x4096, .bf16⟩
  | .local _ .vmem, ⟨0, _⟩ => ⟨S256x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S256x4096 : Shape := ⟨2, ![256, 4096]⟩
abbrev S1x4096 : Shape := ⟨2, ![1, 4096]⟩
abbrev S4096x10240 : Shape := ⟨2, ![4096, 10240]⟩
abbrev S_ : Shape := ⟨0, ![]⟩
abbrev S256 : Shape := ⟨1, ![256]⟩
abbrev S256x1 : Shape := ⟨2, ![256, 1]⟩
abbrev S4096x4096 : Shape := ⟨2, ![4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096x10240, .bf16⟩
  | .hbm, ⟨5, _⟩ => ⟨S256x4096, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x4096, .f32⟩
  | .hbm, ⟨17, _⟩ => ⟨S256x4096, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S256x4096, .f32⟩
  | .hbm, ⟨27, _⟩ => ⟨S4096x10240, .f32⟩
  | .hbm, ⟨28, _⟩ => ⟨S4096x4096, .f32⟩
  | .hbm, ⟨29, _⟩ => ⟨S256x4096, .f32⟩
  | .hbm, ⟨30, _⟩ => ⟨S256x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel8.lean ====
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel9.lean ====
abbrev S16x4096 : Shape := ⟨2, ![16, 4096]⟩
abbrev S4096x24576 : Shape := ⟨2, ![4096, 24576]⟩
abbrev S1x24576 : Shape := ⟨2, ![1, 24576]⟩
abbrev S16x24576 : Shape := ⟨2, ![16, 24576]⟩
abbrev S4096x512 : Shape := ⟨2, ![4096, 512]⟩
abbrev S1x512 : Shape := ⟨2, ![1, 512]⟩
abbrev S16x512 : Shape := ⟨2, ![16, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S4096x24576, .f32⟩
  | .hbm, ⟨2, _⟩ => ⟨S1x24576, .f32⟩
  | .hbm, ⟨3, _⟩ => ⟨S16x24576, .f32⟩
  | .local _ .vmem, ⟨0, _⟩ => ⟨S16x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16x4096 : Shape := ⟨2, ![16, 4096]⟩
abbrev S4096x24576 : Shape := ⟨2, ![4096, 24576]⟩
abbrev S1x24576 : Shape := ⟨2, ![1, 24576]⟩
abbrev S_ : Shape := ⟨0, ![]⟩
abbrev S16x24576 : Shape := ⟨2, ![16, 24576]⟩

abbrev nBuf : Space → Nat
  | .hbm => 15
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x24576, .f32⟩
  | .hbm, ⟨2, _⟩ => ⟨S1x24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x24576, .f32⟩
  | .hbm, ⟨13, _⟩ => ⟨S16x24576, .f32⟩
  | .hbm, ⟨14, _⟩ => ⟨S16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Row.lean ====
/- One row of the softmax, at the reals: what the kernel's operations compute on the scores of 64 queries against a
   stretch of `n` window keys and against the 256 context keys, read at an index. -/
module

public import proofs.«01_k».proof.KernelIdeal
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

noncomputable section

namespace Cert.Attn

open Idealize.ShloMosaic Idealize.ShloMosaic.ValueIdx

/-- The softmax scale, as the program names it. -/
def scale : EReal := Named.named (F := Ideal) Cert.KernelIdeal.κ "scale" (φ := .f32) 0x3DB504F3#32

/-- The greatest of `f` over the `n` positions from `lo`. -/
def lmax (f : ℕ → EReal) (lo n : ℕ) : EReal := (Finset.Ico lo (lo + n)).sup f

/-- The greatest window score or context score. -/
def rmax (f : ℕ → EReal) (lo n : ℕ) (g : ℕ → EReal) : EReal := max (lmax f lo n) (lmax g 0 256)

/-- The softmax denominator. -/
def rden (f : ℕ → EReal) (lo n : ℕ) (g : ℕ → EReal) : EReal :=
  ∑ l ∈ Finset.Ico lo (lo + n), Ideal.exp (f l - rmax f lo n g) + ∑ l ∈ Finset.Ico 0 (0 + 256), Ideal.exp (g l - rmax f lo n g)

theorem sum_fin_shift (f : ℕ → EReal) (lo n : ℕ) : ∑ k : Fin n, f (lo + k.val) = ∑ l ∈ Finset.Ico lo (lo + n), f l := by
  rw [Finset.sum_Ico_eq_sum_range, Nat.add_sub_cancel_left, Finset.sum_range]

theorem fold_max_shift (f : ℕ → EReal) (lo n : ℕ) :
    (Finset.univ : Finset (Fin n)).fold max ⊥ (fun k => f (lo + k.val)) = lmax f lo n := by
  unfold lmax
  show (Finset.univ : Finset (Fin n)).sup (fun k => f (lo + k.val)) = _
  apply le_antisymm
  · exact Finset.sup_le fun k _ => Finset.le_sup (f := f) (Finset.mem_Ico.mpr ⟨Nat.le_add_right _ _, by have := k.isLt; omega⟩)
  · refine Finset.sup_le fun l hl => ?_
    obtain ⟨h1, h2⟩ := Finset.mem_Ico.mp hl
    have := Finset.le_sup (f := fun k : Fin n => f (lo + k.val)) (Finset.mem_univ (⟨l - lo, by omega⟩ : Fin n))
    simpa [Nat.add_sub_cancel' h1] using this

theorem neutral_max : FloatOps.ofBits (F := Ideal) .f32 0xFF800000#32 = (⊥ : EReal) := by
  show Ideal.ofBits .f32 0xFF800000#32 = ⊥
  simp [Ideal.ofBits, Ideal.ieee]

section
variable {n : ℕ}

/-- A row's maximum, kept as a column. -/
theorem colmax_apply (S : FVec Ideal ⟨2, ![64, n]⟩ .f32) (h : (⟨2, ![64, n]⟩ : Shape).Reduces [1] ⟨1, ![64]⟩) (hφ) (hacc)
    (hc : (⟨1, ![64]⟩ : Shape).ShapeCasts ⟨2, ![64, 1]⟩) (f : ℕ → ℕ → EReal) (lo : ℕ)
    (hS : ∀ y, S y = f (y 0).val (lo + (y 1).val)) (y : (⟨2, ![64, 1]⟩ : Shape).Idx) :
    shapeCast ⟨2, ![64, 1]⟩ (multiReduction .maximumf [1] ⟨1, ![64]⟩ S 0xFF800000#32 h hφ hacc) hc y
      = lmax (f (y 0).val) lo n := by
  obtain ⟨a, b, rfl⟩ : ∃ (a : Fin 64) (b : Fin 1), y = ix2 a b := ⟨_, _, eq_ix2 y⟩
  rw [shapeCast_a_a1_apply, Ideal.multiReduction_maximumf_single, neutral_max, ← fold_max_shift]
  refine congrArg (Finset.fold max ⊥ · Finset.univ) (funext fun k => ?_)
  exact hS _

/-- A row's sum, kept as a column. -/
theorem colsum_apply (S : FVec Ideal ⟨2, ![64, n]⟩ .f32) (h : (⟨2, ![64, n]⟩ : Shape).Reduces [1] ⟨1, ![64]⟩) (hφ) (hacc)
    (hc : (⟨1, ![64]⟩ : Shape).ShapeCasts ⟨2, ![64, 1]⟩) (f : ℕ → ℕ → EReal) (lo : ℕ)
    (hS : ∀ y, S y = f (y 0).val (lo + (y 1).val)) (y : (⟨2, ![64, 1]⟩ : Shape).Idx) :
    shapeCast ⟨2, ![64, 1]⟩ (multiReduction .add [1] ⟨1, ![64]⟩ S 0x00000000#32 h hφ hacc) hc y
      = ∑ l ∈ Finset.Ico lo (lo + n), f (y 0).val l := by
  obtain ⟨a, b, rfl⟩ : ∃ (a : Fin 64) (b : Fin 1), y = ix2 a b := ⟨_, _, eq_ix2 y⟩
  rw [shapeCast_a_a1_apply, Ideal.multiReduction_add_single, ← sum_fin_shift]
  exact Finset.sum_congr rfl fun k _ => hS _

theorem bcol_apply (v : FVec Ideal ⟨2, ![64, 1]⟩ .f32) (h : (⟨2, ![64, 1]⟩ : Shape).Broadcasts ⟨2, ![64, n]⟩) (f : ℕ → EReal)
    (hv : ∀ y, v y = f (y 0).val) (y : (⟨2, ![64, n]⟩ : Shape).Idx) : broadcastTo ⟨2, ![64, n]⟩ v h y = f (y 0).val := by
  unfold broadcastTo
  rw [hv]
  rfl

/-- The stabilised exponentials of `n` scores. -/
theorem rowE_apply (S : FVec Ideal ⟨2, ![64, n]⟩ .f32) (M : FVec Ideal ⟨2, ![64, 1]⟩ .f32) (h : (⟨2, ![64, 1]⟩ : Shape).Broadcasts ⟨2, ![64, n]⟩)
    (f : ℕ → ℕ → EReal) (lo : ℕ) (g : ℕ → EReal) (hS : ∀ y, S y = f (y 0).val (lo + (y 1).val)) (hM : ∀ y, M y = g (y 0).val)
    (y : (⟨2, ![64, n]⟩ : Shape).Idx) :
    exp (subf S (broadcastTo ⟨2, ![64, n]⟩ M h)) y = Ideal.exp (f (y 0).val (lo + (y 1).val) - g (y 0).val) := by
  show Ideal.exp (S y - broadcastTo ⟨2, ![64, n]⟩ M h y) = _
  rw [bcol_apply M h g hM, hS]

/-- The row maximum over window and context, as the kernel takes it. -/
abbrev rowM (S : FVec Ideal ⟨2, ![64, n]⟩ .f32) (C : FVec Ideal ⟨2, ![64, 256]⟩ .f32)
    (h : (⟨2, ![64, n]⟩ : Shape).Reduces [1] ⟨1, ![64]⟩) (hφ : FKind.Formats .f32) (hacc : 0xFF800000#32 = FKind.maximumf.neutral .f32 hφ) (h' : (⟨2, ![64, 256]⟩ : Shape).Reduces [1] ⟨1, ![64]⟩) (hφ' : FKind.Formats .f32) (hacc' : 0xFF800000#32 = FKind.maximumf.neutral .f32 hφ')
    (hc : (⟨1, ![64]⟩ : Shape).ShapeCasts ⟨2, ![64, 1]⟩) : FVec Ideal ⟨2, ![64, 1]⟩ .f32 :=
  maximumf (shapeCast ⟨2, ![64, 1]⟩ (multiReduction .maximumf [1] ⟨1, ![64]⟩ S 0xFF800000#32 h hφ hacc) hc)
    (shapeCast ⟨2, ![64, 1]⟩ (multiReduction .maximumf [1] ⟨1, ![64]⟩ C 0xFF800000#32 h' hφ' hacc') hc)

variable (S : FVec Ideal ⟨2, ![64, n]⟩ .f32) (C : FVec Ideal ⟨2, ![64, 256]⟩ .f32)
    (h : (⟨2, ![64, n]⟩ : Shape).Reduces [1] ⟨1, ![64]⟩) (hφ : FKind.Formats .f32) (hacc : 0xFF800000#32 = FKind.maximumf.neutral .f32 hφ) (h' : (⟨2, ![64, 256]⟩ : Shape).Reduces [1] ⟨1, ![64]⟩) (hφ' : FKind.Formats .f32) (hacc' : 0xFF800000#32 = FKind.maximumf.neutral .f32 hφ')
    (hc : (⟨1, ![64]⟩ : Shape).ShapeCasts ⟨2, ![64, 1]⟩) (hb : (⟨2, ![64, 1]⟩ : Shape).Broadcasts ⟨2, ![64, n]⟩)
    (hb' : (⟨2, ![64, 1]⟩ : Shape).Broadcasts ⟨2, ![64, 256]⟩) (hk hk')
    (f : ℕ → ℕ → EReal) (lo : ℕ) (g : ℕ → ℕ → EReal) (hS : ∀ y, S y = f (y 0).val (lo + (y 1).val))
    (hC : ∀ y, C y = g (y 0).val (0 + (y 1).val))
include hS hC

theorem rowM_apply (y : (⟨2, ![64, 1]⟩ : Shape).Idx) :
    rowM S C h hφ hacc h' hφ' hacc' hc y = rmax (f (y 0).val) lo n (g (y 0).val) := by
  show max _ _ = _
  rw [colmax_apply S h hφ hacc hc f lo hS, colmax_apply C h' hφ' hacc' hc g 0 hC]
  rfl

/-- A stored piece of window probabilities. -/
theorem rowP_apply (hs : (⟨2, ![64, n]⟩ : Shape).ShapeCasts ⟨3, ![1, 64, n]⟩) (y : (⟨3, ![1, 64, n]⟩ : Shape).Idx) :
    shapeCast ⟨3, ![1, 64, n]⟩ (truncf .bf16 (exp (subf S (broadcastTo ⟨2, ![64, n]⟩ (rowM S C h hφ hacc h' hφ' hacc' hc) hb))) hk) hs y
      = Ideal.exp (f (y 1).val (lo + (y 2).val) - rmax (f (y 1).val) lo n (g (y 1).val)) := by
  obtain ⟨u, a, b, rfl⟩ : ∃ (u : Fin 1) (a : Fin 64) (b : Fin n), y = ix3 u a b := ⟨_, _, _, eq_ix3 y⟩
  rw [shapeCast_ab_1ab_apply]
  exact rowE_apply S _ hb f lo (fun q => rmax (f q) lo n (g q)) hS (rowM_apply S C h hφ hacc h' hφ' hacc' hc f lo g hS hC) _

/-- A stored piece of context probabilities. -/
theorem rowPC_apply (hs : (⟨2, ![64, 256]⟩ : Shape).ShapeCasts ⟨3, ![1, 64, 256]⟩) (y : (⟨3, ![1, 64, 256]⟩ : Shape).Idx) :
    shapeCast ⟨3, ![1, 64, 256]⟩ (truncf .bf16 (exp (subf C (broadcastTo ⟨2, ![64, 256]⟩ (rowM S C h hφ hacc h' hφ' hacc' hc) hb'))) hk') hs y
      = Ideal.exp (g (y 1).val (y 2).val - rmax (f (y 1).val) lo n (g (y 1).val)) := by
  obtain ⟨u, a, b, rfl⟩ : ∃ (u : Fin 1) (a : Fin 64) (b : Fin 256), y = ix3 u a b := ⟨_, _, _, eq_ix3 y⟩
  rw [shapeCast_ab_1ab_apply]
  refine (rowE_apply C _ hb' g 0 (fun q => rmax (f q) lo n (g q)) hC (rowM_apply S C h hφ hacc h' hφ' hacc' hc f lo g hS hC) _).trans ?_
  rw [Nat.zero_add]

/-- The denominator of a row. -/
theorem rowD_apply (y : (⟨2, ![64, 1]⟩ : Shape).Idx) (hψ hψa hψ' hψa') :
    addf (shapeCast ⟨2, ![64, 1]⟩ (multiReduction .add [1] ⟨1, ![64]⟩
        (exp (subf S (broadcastTo ⟨2, ![64, n]⟩ (rowM S C h hφ hacc h' hφ' hacc' hc) hb))) 0x00000000#32 h hψ hψa) hc)
      (shapeCast ⟨2, ![64, 1]⟩ (multiReduction .add [1] ⟨1, ![64]⟩
        (exp (subf C (broadcastTo ⟨2, ![64, 256]⟩ (rowM S C h hφ hacc h' hφ' hacc' hc) hb'))) 0x00000000#32 h' hψ' hψa') hc) y
      = rden (f (y 0).val) lo n (g (y 0).val) := by
  have hM := rowM_apply S C h hφ hacc h' hφ' hacc' hc f lo g hS hC
  show _ + _ = _
  rw [colsum_apply _ h _ _ hc (fun q l => Ideal.exp (f q l - rmax (f q) lo n (g q))) lo
      (rowE_apply S _ hb f lo (fun q => rmax (f q) lo n (g q)) hS hM),
    colsum_apply _ h' _ _ hc (fun q l => Ideal.exp (g q l - rmax (f q) lo n (g q))) 0
      (rowE_apply C _ hb' g 0 (fun q => rmax (f q) lo n (g q)) hC hM)]
  rfl

omit hS hC

/-- The scaled, biased window scores of a row. -/
theorem rowS_apply (s : FVec Ideal ⟨3, ![1, 64, n]⟩ .f32) (hs : (⟨3, ![1, 64, n]⟩ : Shape).ShapeCasts ⟨2, ![64, n]⟩)
    (bias : FVec Ideal ⟨2, ![64, n]⟩ .f32) (a b : ℕ → ℕ → EReal) (ha : ∀ y, s y = a (y 1).val (lo + (y 2).val))
    (hbias : ∀ y, bias y = b (y 0).val (lo + (y 1).val)) (y : (⟨2, ![64, n]⟩ : Shape).Idx) :
    addf (mulf (shapeCast ⟨2, ![64, n]⟩ s hs)
        (broadcast ⟨2, ![64, n]⟩ (Named.named (F := Ideal) Cert.KernelIdeal.κ "scale" (φ := .f32) 0x3DB504F3#32))) bias y
      = (fun q l => a q l * scale + b q l) (y 0).val (lo + (y 1).val) := by
  obtain ⟨q, l, rfl⟩ : ∃ (a : Fin 64) (b : Fin n), y = ix2 a b := ⟨_, _, eq_ix2 y⟩
  show shapeCast ⟨2, ![64, n]⟩ s hs (ix2 q l) * scale + bias (ix2 q l) = _
  rw [shapeCast_1ab_ab_apply, ha, hbias]
  rfl

/-- The scaled context scores of a row. -/
theorem rowC_apply (s : FVec Ideal ⟨3, ![1, 64, 256]⟩ .f32) (hs : (⟨3, ![1, 64, 256]⟩ : Shape).ShapeCasts ⟨2, ![64, 256]⟩)
    (a : ℕ → ℕ → EReal) (ha : ∀ y, s y = a (y 1).val (0 + (y 2).val)) (y : (⟨2, ![64, 256]⟩ : Shape).Idx) :
    mulf (shapeCast ⟨2, ![64, 256]⟩ s hs)
        (broadcast ⟨2, ![64, 256]⟩ (Named.named (F := Ideal) Cert.KernelIdeal.κ "scale" (φ := .f32) 0x3DB504F3#32)) y
      = (fun q l => a q l * scale) (y 0).val (0 + (y 1).val) := by
  obtain ⟨q, l, rfl⟩ : ∃ (a : Fin 64) (b : Fin 256), y = ix2 a b := ⟨_, _, eq_ix2 y⟩
  show shapeCast ⟨2, ![64, 256]⟩ s hs (ix2 q l) * scale = _
  rw [shapeCast_1ab_ab_apply, ha]

end

/-- The scores of 256 queries against a block of keys. -/
theorem scores_apply {M K N : ℕ} (a : FVec Ideal ⟨2, ![M, K]⟩ .bf16) (b : FVec Ideal ⟨2, ![N, K]⟩ .bf16)
    (hs : (⟨2, ![M, N]⟩ : Shape).ShapeCasts ⟨3, ![1, M, N]⟩) (y : (⟨3, ![1, M, N]⟩ : Shape).Idx)
    (f g : ℕ → ℕ → EReal) (ha : ∀ y, a y = f (y 0).val (y 1).val) (hb : ∀ y, b y = g (y 0).val (y 1).val) :
    shapeCast ⟨3, ![1, M, N]⟩ (matmul (DotDims.transposedRhs M K N) none a b (constant ⟨2, ![M, N]⟩ .f32 0x00000000#32)) hs y
      = ∑ k : Fin K, f (y 1).val k.val * g (y 2).val k.val := by
  obtain ⟨u, r, c, rfl⟩ : ∃ (u : Fin 1) (a : Fin M) (b : Fin N), y = ix3 u a b := ⟨_, _, _, eq_ix3 y⟩
  rw [shapeCast_ab_1ab_apply]
  refine (Ideal.matmul_transposedRhs_apply none a b _ r c).trans ?_
  rw [constant_apply, show Ideal.ofBits .f32 0x00000000#32 = 0 by simp [Ideal.ofBits, Ideal.ieee], zero_add]
  exact Finset.sum_congr rfl fun k _ => by rw [ha, hb]; rfl

/-- The output of 256 queries: both weighted sums of values, over the denominator. -/
theorem values_apply {K L N : ℕ} (p : FVec Ideal ⟨3, ![1, 256, K]⟩ .bf16) (v : FVec Ideal ⟨2, ![K, N]⟩ .bf16)
    (pc : FVec Ideal ⟨3, ![1, 256, L]⟩ .bf16) (vc : FVec Ideal ⟨2, ![L, N]⟩ .bf16) (d : FVec Ideal ⟨2, ![256, 1]⟩ .f32)
    (hp : (⟨3, ![1, 256, K]⟩ : Shape).ShapeCasts ⟨2, ![256, K]⟩) (hpc : (⟨3, ![1, 256, L]⟩ : Shape).ShapeCasts ⟨2, ![256, L]⟩)
    (hb : (⟨2, ![256, 1]⟩ : Shape).Broadcasts ⟨2, ![256, N]⟩) (hk)
    (P V PC VC : ℕ → ℕ → EReal) (D : ℕ → EReal) (eP : ∀ y, p y = P (y 1).val (y 2).val) (eV : ∀ y, v y = V (y 0).val (y 1).val)
    (ePC : ∀ y, pc y = PC (y 1).val (y 2).val) (eVC : ∀ y, vc y = VC (y 0).val (y 1).val) (eD : ∀ y, d y = D (y 0).val)
    (y : (⟨2, ![256, N]⟩ : Shape).Idx) :
    truncf .bf16 (divf (addf (matmul (DotDims.plain 256 K N) none (shapeCast ⟨2, ![256, K]⟩ p hp) v (constant ⟨2, ![256, N]⟩ .f32 0x00000000#32))
        (matmul (DotDims.plain 256 L N) none (shapeCast ⟨2, ![256, L]⟩ pc hpc) vc (constant ⟨2, ![256, N]⟩ .f32 0x00000000#32)))
        (broadcastTo ⟨2, ![256, N]⟩ d hb)) hk y
      = Ideal.div (∑ k : Fin K, P (y 0).val k.val * V k.val (y 1).val + ∑ k : Fin L, PC (y 0).val k.val * VC k.val (y 1).val) (D (y 0).val) := by
  obtain ⟨r, c, rfl⟩ : ∃ (a : Fin 256) (b : Fin N), y = ix2 a b := ⟨_, _, eq_ix2 y⟩
  have z : Ideal.ofBits .f32 0x00000000#32 = 0 := by simp [Ideal.ofBits, Ideal.ieee]
  have hm : ∀ (J : ℕ) (x : FVec Ideal ⟨3, ![1, 256, J]⟩ .bf16) (w : FVec Ideal ⟨2, ![J, N]⟩ .bf16) (hx : (⟨3, ![1, 256, J]⟩ : Shape).ShapeCasts ⟨2, ![256, J]⟩)
      (X W : ℕ → ℕ → EReal), (∀ y, x y = X (y 1).val (y 2).val) → (∀ y, w y = W (y 0).val (y 1).val) →
      matmul (DotDims.plain 256 J N) none (shapeCast ⟨2, ![256, J]⟩ x hx) w (constant ⟨2, ![256, N]⟩ .f32 0x00000000#32) (ix2 r c)
        = ∑ k : Fin J, X r.val k.val * W k.val c.val := by
    intro J x w hx X W hX hW
    refine (Ideal.matmul_plain_apply none _ w _ r c).trans ?_
    rw [constant_apply, z, zero_add]
    exact Finset.sum_congr rfl fun k _ => by rw [shapeCast_1ab_ab_apply, hX, hW]; rfl
  show Ideal.div (_ + _) _ = _
  rw [hm K p v hp P V eP eV, hm L pc vc hpc PC VC ePC eVC]
  refine congrArg (Ideal.div _) ?_
  unfold broadcastTo
  rw [eD]
  rfl

end Cert.Attn
end
-- ==== Proof.Concat.lean ====
/- Pieces laid end to end, read at an index: if piece `k` is the `k`-th stretch of one function of the place along
   the joined axis, the joined vector is that function. -/
module

public import Idealize.ShloMosaic.Lib.Pointwise

@[expose] public section

noncomputable section

namespace Cert.Attn

open Idealize.ShloMosaic

/-- Four tiles of 128 lanes. -/
theorem lanes4 {α : Type} (t0 t1 t2 t3 : (⟨2, ![64, 128]⟩ : Shape).Idx → α) (h) (f : ℕ → ℕ → α)
    (h0 : ∀ y, t0 y = f (y 0).val (y 1).val) (h1 : ∀ y, t1 y = f (y 0).val (128 + (y 1).val))
    (h2 : ∀ y, t2 y = f (y 0).val (256 + (y 1).val)) (h3 : ∀ y, t3 y = f (y 0).val (384 + (y 1).val))
    (y : (⟨2, ![64, 512]⟩ : Shape).Idx) :
    concatenate ⟨2, ![64, 512]⟩ 1 [⟨⟨2, ![64, 128]⟩, t0⟩, ⟨⟨2, ![64, 128]⟩, t1⟩, ⟨⟨2, ![64, 128]⟩, t2⟩, ⟨⟨2, ![64, 128]⟩, t3⟩] h y
      = f (y 0).val (y 1).val := by
  pointwise
  have hy : (y 1).val < 512 := (y 1).isLt
  split_ifs <;> simp only [h0, h1, h2, h3] <;> refine congrArg₂ f rfl ?_ <;> simp <;> omega

/-- Five tiles of 128 lanes. -/
theorem lanes5 {α : Type} (t0 t1 t2 t3 t4 : (⟨2, ![64, 128]⟩ : Shape).Idx → α) (h) (f : ℕ → ℕ → α)
    (h0 : ∀ y, t0 y = f (y 0).val (y 1).val) (h1 : ∀ y, t1 y = f (y 0).val (128 + (y 1).val))
    (h2 : ∀ y, t2 y = f (y 0).val (256 + (y 1).val)) (h3 : ∀ y, t3 y = f (y 0).val (384 + (y 1).val))
    (h4 : ∀ y, t4 y = f (y 0).val (512 + (y 1).val)) (y : (⟨2, ![64, 640]⟩ : Shape).Idx) :
    concatenate ⟨2, ![64, 640]⟩ 1 [⟨⟨2, ![64, 128]⟩, t0⟩, ⟨⟨2, ![64, 128]⟩, t1⟩, ⟨⟨2, ![64, 128]⟩, t2⟩, ⟨⟨2, ![64, 128]⟩, t3⟩, ⟨⟨2, ![64, 128]⟩, t4⟩] h y
      = f (y 0).val (y 1).val := by
  pointwise
  have hy : (y 1).val < 640 := (y 1).isLt
  split_ifs <;> simp only [h0, h1, h2, h3, h4] <;> refine congrArg₂ f rfl ?_ <;> simp <;> omega

/-- Four columns of 64 rows. -/
theorem rows4 {α : Type} (t0 t1 t2 t3 : (⟨2, ![64, 1]⟩ : Shape).Idx → α) (h) (f : ℕ → α)
    (h0 : ∀ y, t0 y = f (0 + (y 0).val)) (h1 : ∀ y, t1 y = f (64 + (y 0).val))
    (h2 : ∀ y, t2 y = f (128 + (y 0).val)) (h3 : ∀ y, t3 y = f (192 + (y 0).val))
    (y : (⟨2, ![256, 1]⟩ : Shape).Idx) :
    concatenate ⟨2, ![256, 1]⟩ 0 [⟨⟨2, ![64, 1]⟩, t0⟩, ⟨⟨2, ![64, 1]⟩, t1⟩, ⟨⟨2, ![64, 1]⟩, t2⟩, ⟨⟨2, ![64, 1]⟩, t3⟩] h y
      = f (y 0).val := by
  pointwise
  have hy : (y 0).val < 256 := (y 0).isLt
  split_ifs <;> simp only [h0, h1, h2, h3] <;> refine congrArg f ?_ <;> simp <;> omega

end Cert.Attn

end
-- ==== Proof.Geom.lean ====
/- The values the attention's scratch buffers and its output hold at a grid point, in natural coordinates: sub-block
   `t` of eight, row `r` of its 256 queries, lane `l` of its 768 window keys. `b` is the point's block of 32 grid rows. -/
module

public import proofs.«01_k».proof.Proof.Row
public import proofs.«01_k».proof.Proof.Concat
public import Idealize.ShloMosaic.Lib.Pipeline.Value

@[expose] public section

noncomputable section

namespace Cert.Attn

open Idealize.ShloMosaic hiding ix1 ix2 ix3 ix4 eq_ix1 eq_ix2 eq_ix3 eq_ix4
open Idealize.ShloMosaic.ValueIdx

/-- A matrix at natural coordinates. -/
def at2 {a b : ℕ} (x : (⟨2, ![a, b]⟩ : Shape).Idx → EReal) (i j : ℕ) : EReal :=
  if h : i < a ∧ j < b then x (ix2 ⟨i, h.1⟩ ⟨j, h.2⟩) else 0

/-- The bias tiles of one head at natural coordinates. -/
def tab4 (x : (⟨4, ![1, 44, 64, 128]⟩ : Shape).Idx → EReal) (i j k : ℕ) : EReal :=
  if h : i < 44 ∧ j < 64 ∧ k < 128 then x (ix4 0 ⟨i, h.1⟩ ⟨j, h.2.1⟩ ⟨k, h.2.2⟩) else 0

theorem at2_eq {a b : ℕ} (x : (⟨2, ![a, b]⟩ : Shape).Idx → EReal) (y : (⟨2, ![a, b]⟩ : Shape).Idx) : x y = at2 x (y 0).val (y 1).val := by
  obtain ⟨r, c, rfl⟩ : ∃ (r : Fin a) (c : Fin b), y = ix2 r c := ⟨_, _, eq_ix2 y⟩
  unfold at2
  rw [dif_pos ⟨r.isLt, c.isLt⟩]
  rfl

theorem tab4_eq (x : (⟨4, ![1, 44, 64, 128]⟩ : Shape).Idx → EReal) (y : (⟨4, ![1, 44, 64, 128]⟩ : Shape).Idx) :
    x y = tab4 x (y 1).val (y 2).val (y 3).val := by
  obtain ⟨u, r, c, d, rfl⟩ : ∃ (u : Fin 1) (r : Fin 44) (c : Fin 64) (d : Fin 128), y = ix4 u r c d := ⟨_, _, _, _, eq_ix4 y⟩
  unfold tab4
  rw [dif_pos ⟨r.isLt, c.isLt, d.isLt⟩]
  congr 1
  rw [Fin.fin_one_eq_zero u]

/-- The first key row of sub-block `t`'s window. -/
def w0 (b t : ℕ) : ℕ := min (32 * b + 4 * t - 4) 116
/-- Where row `a` of the sub-block starts its eight key rows, in its window. -/
def off (b t a : ℕ) : ℕ := min (32 * b + 4 * t + a - 4) 120 - w0 b t
/-- The tile of key rows `2p`, `2p + 1` of the window, for row `a`. -/
def tile (b t a p : ℕ) : ℕ :=
  let d := w0 b t + 2 * p + 8 - (32 * b + 4 * t + a)
  if off b t a ≤ 2 * p ∧ 2 * p < off b t a + 8 then
    if off b t a ≤ 2 * p + 1 ∧ 2 * p + 1 < off b t a + 8 then d - 1 else 14 + (d - 1)
  else 29 + d
/-- The lanes row `a` reads: from here, -/
def lo (b t a : ℕ) : ℕ := off b t a / 2 * 128
/-- this many. -/
def nl (b t a : ℕ) : ℕ := ((off b t a + 7) / 2 + 1 - off b t a / 2) * 128

section
variable (b : ℕ) (x0 : (⟨2, ![2048, 128]⟩ : Shape).Idx → EReal) (x1 x2 : (⟨2, ![8192, 128]⟩ : Shape).Idx → EReal)
  (x3 x4 : (⟨2, ![256, 128]⟩ : Shape).Idx → EReal) (x5 : (⟨4, ![1, 44, 64, 128]⟩ : Shape).Idx → EReal)

def SG (t r l : ℕ) : EReal := ∑ k : Fin 128, at2 x0 (256 * t + r) k.val * at2 x1 (64 * w0 b t + l) k.val
def SCG (t r l : ℕ) : EReal := ∑ k : Fin 128, at2 x0 (256 * t + r) k.val * at2 x3 l k.val
def BG (t r l : ℕ) : EReal := tab4 x5 (tile b t (r / 64) (l / 128)) (r % 64) (l % 128)
def FG (t r l : ℕ) : EReal := SG b x0 x1 t r l * scale + BG b x5 t r l
def GG (t r l : ℕ) : EReal := SCG x0 x3 t r l * scale
def MG (t r : ℕ) : EReal := rmax (FG b x0 x1 x5 t r) (lo b t (r / 64)) (nl b t (r / 64)) (GG x0 x3 t r)
def PG (t r l : ℕ) : EReal :=
  if lo b t (r / 64) ≤ l ∧ l < lo b t (r / 64) + nl b t (r / 64) then Ideal.exp (FG b x0 x1 x5 t r l - MG b x0 x1 x3 x5 t r) else 0
def PCG (t r l : ℕ) : EReal := Ideal.exp (GG x0 x3 t r l - MG b x0 x1 x3 x5 t r)
def DG (t r : ℕ) : EReal := rden (FG b x0 x1 x5 t r) (lo b t (r / 64)) (nl b t (r / 64)) (GG x0 x3 t r)
/-- The output block at query `i` of its 2048 and channel `d`. -/
def OG (i d : ℕ) : EReal :=
  Ideal.div (∑ k : Fin 768, PG b x0 x1 x3 x5 (i / 256) (i % 256) k.val * at2 x2 (64 * w0 b (i / 256) + k.val) d
    + ∑ k : Fin 256, PCG b x0 x1 x3 x5 (i / 256) (i % 256) k.val * at2 x4 k.val d) (DG b x0 x1 x3 x5 (i / 256) (i % 256))

end

/-! ## Loads of the operands -/

section
variable {sig : RefSig} {κ : Kind} {sp : Space}

theorem readAt2 {a c : ℕ} {m : Memref sig κ sp ⟨2, ![a, c]⟩ .bf16} (hm : m.IsWhole) (o n : Fin 2 → ℕ)
    (inb : ∀ d, o d + n d ≤ (⟨2, ![a, c]⟩ : Shape).size d) (x : Vec Ideal ⟨2, ![a, c]⟩ .bf16) (i j : ℕ) (hi : o 0 = i) (hj : o 1 = j)
    (y : (⟨2, n⟩ : Shape).Idx) :
    View.readAt (Elt Ideal) m.view (Rect.unit (s := ⟨2, ![a, c]⟩) o n inb).toLoadRect (hm.unread x) y = at2 x (i + (y 0).val) (j + (y 1).val) := by
  rw [View.readAt_apply, hm.read_unread]
  refine (at2_eq x _).trans ?_
  subst hi hj
  refine congrArg₂ (at2 x) ?_ ?_
  · show o 0 + 1 * (y 0).val = _; omega
  · show o 1 + 1 * (y 1).val = _; omega

theorem readTile {m : Memref sig κ sp ⟨4, ![1, 44, 64, 128]⟩ .f32} (hm : m.IsWhole) (tl : ℕ)
    (inb : ∀ d, (![0, tl, 0, 0] : Fin 4 → ℕ) d + (![1, 1, 64, 128] : Fin 4 → ℕ) d ≤ (⟨4, ![1, 44, 64, 128]⟩ : Shape).size d)
    (x : Vec Ideal ⟨4, ![1, 44, 64, 128]⟩ .f32) (T : ℕ) (hT : T = tl)
    (y : (⟨4, ![1, 1, 64, 128]⟩ : Shape).Idx) :
    View.readAt (Elt Ideal) m.view (Rect.unit (s := ⟨4, ![1, 44, 64, 128]⟩) ![0, tl, 0, 0] ![1, 1, 64, 128] inb).toLoadRect (hm.unread x) y
      = tab4 x T (y 2).val (y 3).val := by
  rw [View.readAt_apply, hm.read_unread]
  refine (tab4_eq x _).trans ?_
  subst hT
  have h1 : (y 1).val < 1 := (y 1).isLt
  have e1 : T + 1 * (y 1).val = T := by omega
  have e2 : 0 + 1 * (y 2).val = (y 2).val := by omega
  have e3 : 0 + 1 * (y 3).val = (y 3).val := by omega
  show tab4 x (T + 1 * (y 1).val) (0 + 1 * (y 2).val) (0 + 1 * (y 3).val) = _
  rw [e1, e2, e3]

end

/-! ## Loads of the scratch buffers -/

section
variable {A B C : ℕ} {e : EltTy}

/-- Some store fills the box of `n` elements from `o`. -/
def hits (L : List (View.Piece (Elt Ideal) ⟨3, ![A, B, C]⟩ e)) (o n : Fin 3 → ℕ) : Bool :=
  L.any fun p => (Nat.beq (p.1.stride 0) 1 && Nat.beq (p.1.stride 1) 1 && Nat.beq (p.1.stride 2) 1)
    && (Nat.ble (p.1.off 0) (o 0) && Nat.ble (p.1.off 1) (o 1) && Nat.ble (p.1.off 2) (o 2))
    && (Nat.ble (o 0 + n 0) (p.1.off 0 + p.1.size 0) && Nat.ble (o 1 + n 1) (p.1.off 1 + p.1.size 1)
        && Nat.ble (o 2 + n 2) (p.1.off 2 + p.1.size 2))

theorem mem_of_hits {L : List (View.Piece (Elt Ideal) ⟨3, ![A, B, C]⟩ e)} {o n : Fin 3 → ℕ} (h : hits L o n = true)
    (y : (⟨3, ![A, B, C]⟩ : Shape).Idx) (hy : ∀ d : Fin 3, o d ≤ (y d).val ∧ (y d).val < o d + n d) : ∃ p ∈ L, y ∈ p.1.set := by
  obtain ⟨p, hp, hq⟩ := List.any_eq_true.mp h
  simp only [Bool.and_eq_true, Nat.beq_eq, Nat.ble_eq] at hq
  obtain ⟨⟨⟨⟨s0, s1⟩, s2⟩, ⟨a0, a1⟩, a2⟩, ⟨b0, b1⟩, b2⟩ := hq
  refine ⟨p, hp, (LoadRect.mem_set p.1.toLoadRect).mpr ?_⟩
  intro d
  obtain ⟨l0, u0⟩ := hy 0
  obtain ⟨l1, u1⟩ := hy 1
  obtain ⟨l2, u2⟩ := hy 2
  match d with
  | ⟨0, _⟩ =>
    exact ⟨(y 0).val - p.1.off 0, by show (y 0).val - p.1.off 0 < p.1.size 0; omega,
      by show (y 0).val = p.1.off 0 + p.1.stride 0 * ((y 0).val - p.1.off 0); rw [s0]; omega⟩
  | ⟨1, _⟩ =>
    exact ⟨(y 1).val - p.1.off 1, by show (y 1).val - p.1.off 1 < p.1.size 1; omega,
      by show (y 1).val = p.1.off 1 + p.1.stride 1 * ((y 1).val - p.1.off 1); rw [s1]; omega⟩
  | ⟨2, _⟩ =>
    exact ⟨(y 2).val - p.1.off 2, by show (y 2).val - p.1.off 2 < p.1.size 2; omega,
      by show (y 2).val = p.1.off 2 + p.1.stride 2 * ((y 2).val - p.1.off 2); rw [s2]; omega⟩

variable {sig : RefSig} {κ : Kind} {sp : Space} (v : View sig κ sp ⟨3, ![A, B, C]⟩ e)
  (L : List (View.Piece (Elt Ideal) ⟨3, ![A, B, C]⟩ e)) (G : ℕ → ℕ → ℕ → Elt Ideal e)
  (hL : ∀ p ∈ L, ∀ x : p.1.shape.Idx, p.2 x = G (p.1.emb x 0).val (p.1.emb x 1).val (p.1.emb x 2).val)
include hL

/-- A load one store covers. -/
theorem readBox (t r l m n : ℕ) (inb) (hc : hits L ![t, r, l] ![1, m, n] = true) (y : (⟨3, ![1, m, n]⟩ : Shape).Idx) :
    v.readCov L (Rect.unit (s := ⟨3, ![A, B, C]⟩) ![t, r, l] ![1, m, n] inb).toLoadRect y = G t (r + (y 1).val) (l + (y 2).val) := by
  have h0 : (y 0).val < 1 := (y 0).isLt
  have h1 : (y 1).val < m := (y 1).isLt
  have h2 : (y 2).val < n := (y 2).isLt
  rw [View.readCov_eq_canon']
  refine (View.canon_apply_of_pieces (S := ⟨3, ![A, B, C]⟩) (fun z => G (z 0).val (z 1).val (z 2).val) L hL _ ?_).trans ?_
  · refine mem_of_hits hc _ fun d => ?_
    match d with
    | ⟨0, _⟩ => show t ≤ t + 1 * (y 0).val ∧ t + 1 * (y 0).val < t + 1; omega
    | ⟨1, _⟩ => show r ≤ r + 1 * (y 1).val ∧ r + 1 * (y 1).val < r + m; omega
    | ⟨2, _⟩ => show l ≤ l + 1 * (y 2).val ∧ l + 1 * (y 2).val < l + n; omega
  · have e0 : t + 1 * (y 0).val = t := by omega
    show G (t + 1 * (y 0).val) (r + 1 * (y 1).val) (l + 1 * (y 2).val) = _
    rw [e0, Nat.one_mul, Nat.one_mul]

end

/-- The cells of 64 rows and `w` lanes that make up a sub-block's `c * w` lanes, all stored. -/
def cells {B C : ℕ} {e : EltTy} (L : List (View.Piece (Elt Ideal) ⟨3, ![8, B, C]⟩ e)) (t w c : ℕ) : Bool :=
  (List.range 4).all fun a => (List.range c).all fun k => hits L ![t, 64 * a, w * k] ![1, 64, w]

/-- A load of a whole sub-block whose cells are all stored. -/
theorem readCells {n : ℕ} {e : EltTy} {sig : RefSig} {κ : Kind} {sp : Space} (v : View sig κ sp ⟨3, ![8, 256, n]⟩ e)
    (L : List (View.Piece (Elt Ideal) ⟨3, ![8, 256, n]⟩ e)) (G : ℕ → ℕ → ℕ → Elt Ideal e)
    (hL : ∀ p ∈ L, ∀ x : p.1.shape.Idx, p.2 x = G (p.1.emb x 0).val (p.1.emb x 1).val (p.1.emb x 2).val)
    (t w c : ℕ) (hw : 0 < w) (hn : n = w * c) (inb) (hc : cells L t w c = true) (y : (⟨3, ![1, 256, n]⟩ : Shape).Idx) :
    v.readCov L (Rect.unit (s := ⟨3, ![8, 256, n]⟩) ![t, 0, 0] ![1, 256, n] inb).toLoadRect y = G t (y 1).val (y 2).val := by
  have h0 : (y 0).val < 1 := (y 0).isLt
  have h1 : (y 1).val < 256 := (y 1).isLt
  have h2 : (y 2).val < w * c := hn ▸ (y 2).isLt
  have e0 : t + 1 * (y 0).val = t := by omega
  rw [View.readCov_eq_canon']
  refine (View.canon_apply_of_pieces (S := ⟨3, ![8, 256, n]⟩) (fun z => G (z 0).val (z 1).val (z 2).val) L hL _ ?_).trans ?_
  · have hk : (y 2).val / w < c := Nat.div_lt_of_lt_mul h2
    have hh := List.all_eq_true.mp (List.all_eq_true.mp hc ((y 1).val / 64) (List.mem_range.mpr (by omega))) ((y 2).val / w) (List.mem_range.mpr hk)
    have hm := Nat.mod_add_div (y 2).val w
    have hlt := Nat.mod_lt (y 2).val hw
    refine mem_of_hits hh _ fun d => ?_
    match d with
    | ⟨0, _⟩ => show t ≤ t + 1 * (y 0).val ∧ t + 1 * (y 0).val < t + 1; omega
    | ⟨1, _⟩ => show 64 * ((y 1).val / 64) ≤ 0 + 1 * (y 1).val ∧ 0 + 1 * (y 1).val < 64 * ((y 1).val / 64) + 64; omega
    | ⟨2, _⟩ =>
      show w * ((y 2).val / w) ≤ 0 + 1 * (y 2).val ∧ 0 + 1 * (y 2).val < w * ((y 2).val / w) + w
      omega
  · show G (t + 1 * (y 0).val) (0 + 1 * (y 1).val) (0 + 1 * (y 2).val) = _
    rw [e0, Nat.one_mul, Nat.one_mul, Nat.zero_add, Nat.zero_add]

end Cert.Attn

end
-- ==== Proof.Pieces.lean ====
/- What each store of the attention puts into its rectangle: the value the whole buffer holds there. -/
module

public import proofs.«01_k».proof.Proof.Geom

@[expose] public section

noncomputable section

namespace Cert.Attn

open Idealize.ShloMosaic hiding ix1 ix2 ix3 ix4 eq_ix1 eq_ix2 eq_ix3 eq_ix4
open Idealize.ShloMosaic.ValueIdx

variable (b : ℕ) (x0 : (⟨2, ![2048, 128]⟩ : Shape).Idx → EReal) (x1 x2 : (⟨2, ![8192, 128]⟩ : Shape).Idx → EReal)
  (x3 x4 : (⟨2, ![256, 128]⟩ : Shape).Idx → EReal) (x5 : (⟨4, ![1, 44, 64, 128]⟩ : Shape).Idx → EReal)

/-- Scores against the window. -/
theorem sPiece (q : FVec Ideal ⟨2, ![256, 128]⟩ .bf16) (k : FVec Ideal ⟨2, ![768, 128]⟩ .bf16) (t : ℕ) (hs) (inb)
    (hq : ∀ y, q y = at2 x0 (256 * t + (y 0).val) (0 + (y 1).val)) (hk : ∀ y, k y = at2 x1 (64 * w0 b t + (y 0).val) (0 + (y 1).val)) :
    ∀ y : (⟨3, ![1, 256, 768]⟩ : Shape).Idx,
    shapeCast ⟨3, ![1, 256, 768]⟩ (matmul (DotDims.transposedRhs 256 128 768) none q k (constant ⟨2, ![256, 768]⟩ .f32 0x00000000#32)) hs y
      = SG b x0 x1 ((Rect.unit (s := ⟨3, ![8, 256, 768]⟩) ![t, 0, 0] ![1, 256, 768] inb).emb y 0).val
          ((Rect.unit (s := ⟨3, ![8, 256, 768]⟩) ![t, 0, 0] ![1, 256, 768] inb).emb y 1).val
          ((Rect.unit (s := ⟨3, ![8, 256, 768]⟩) ![t, 0, 0] ![1, 256, 768] inb).emb y 2).val := by
  intro y
  rw [scores_apply q k hs y (fun i j => at2 x0 (256 * t + i) (0 + j)) (fun i j => at2 x1 (64 * w0 b t + i) (0 + j)) hq hk]
  have h0 : (y 0).val < 1 := (y 0).isLt
  have e0 : t + 1 * (y 0).val = t := by omega
  show _ = SG b x0 x1 (t + 1 * (y 0).val) (0 + 1 * (y 1).val) (0 + 1 * (y 2).val)
  rw [e0, Nat.one_mul, Nat.one_mul, Nat.zero_add, Nat.zero_add]
  exact Finset.sum_congr rfl fun k _ => by simp only [Nat.zero_add]

/-- Scores against the context. -/
theorem scPiece (q k : FVec Ideal ⟨2, ![256, 128]⟩ .bf16) (t : ℕ) (hs) (inb)
    (hq : ∀ y, q y = at2 x0 (256 * t + (y 0).val) (0 + (y 1).val)) (hk : ∀ y, k y = at2 x3 (0 + (y 0).val) (0 + (y 1).val)) :
    ∀ y : (⟨3, ![1, 256, 256]⟩ : Shape).Idx,
    shapeCast ⟨3, ![1, 256, 256]⟩ (matmul (DotDims.transposedRhs 256 128 256) none q k (constant ⟨2, ![256, 256]⟩ .f32 0x00000000#32)) hs y
      = SCG x0 x3 ((Rect.unit (s := ⟨3, ![8, 256, 256]⟩) ![t, 0, 0] ![1, 256, 256] inb).emb y 0).val
          ((Rect.unit (s := ⟨3, ![8, 256, 256]⟩) ![t, 0, 0] ![1, 256, 256] inb).emb y 1).val
          ((Rect.unit (s := ⟨3, ![8, 256, 256]⟩) ![t, 0, 0] ![1, 256, 256] inb).emb y 2).val := by
  intro y
  rw [scores_apply q k hs y (fun i j => at2 x0 (256 * t + i) (0 + j)) (fun i j => at2 x3 (0 + i) (0 + j)) hq hk]
  have h0 : (y 0).val < 1 := (y 0).isLt
  have e0 : t + 1 * (y 0).val = t := by omega
  show _ = SCG x0 x3 (t + 1 * (y 0).val) (0 + 1 * (y 1).val) (0 + 1 * (y 2).val)
  rw [e0, Nat.one_mul, Nat.one_mul, Nat.zero_add, Nat.zero_add]
  exact Finset.sum_congr rfl fun k _ => by simp only [Nat.zero_add]

/-! ## A row's bias and scores -/

section
variable (t r l0 : ℕ)

/-- What the lanes from `l0` of the rows from `r` add to the scores. -/
def rowBias (q l : ℕ) : EReal := tab4 x5 (tile b t (r / 64) (l / 128)) q (l % 128)

theorem tile_apply (k : ℕ) (v : FVec Ideal ⟨2, ![64, 128]⟩ .f32)
    (hv : ∃ (u : FVec Ideal ⟨4, ![1, 1, 64, 128]⟩ .f32) (hs : (⟨4, ![1, 1, 64, 128]⟩ : Shape).ShapeCasts ⟨2, ![64, 128]⟩),
      v = shapeCast (α := Elt Ideal .f32) ⟨2, ![64, 128]⟩ (s := ⟨4, ![1, 1, 64, 128]⟩) u hs
        ∧ ∀ y, u y = tab4 x5 (tile b t (r / 64) ((l0 + k) / 128)) (y 2).val (y 3).val)
    (hl : l0 % 128 = 0) (hk : k % 128 = 0) (y : (⟨2, ![64, 128]⟩ : Shape).Idx) :
    v y = rowBias b x5 t r (y 0).val (l0 + (k + (y 1).val)) := by
  obtain ⟨u, hs, rfl, hu⟩ := hv
  obtain ⟨q, l, rfl⟩ : ∃ (a : Fin 64) (b : Fin 128), y = ix2 a b := ⟨_, _, eq_ix2 y⟩
  unfold shapeCast
  rw [reshapeEquiv_ix2_11ab, hu]
  have e1 : (l0 + (k + l.val)) / 128 = (l0 + k) / 128 := by have := l.isLt; omega
  have e2 : (l0 + (k + l.val)) % 128 = l.val := by have := l.isLt; omega
  show _ = tab4 x5 (tile b t (r / 64) ((l0 + (k + l.val)) / 128)) q.val ((l0 + (k + l.val)) % 128)
  rw [e1, e2]

theorem bias4 (v0 v1 v2 v3 : FVec Ideal ⟨2, ![64, 128]⟩ .f32) (h)
    (h0 : ∀ y, v0 y = rowBias b x5 t r (y 0).val (l0 + (0 + (y 1).val)))
    (h1 : ∀ y, v1 y = rowBias b x5 t r (y 0).val (l0 + (128 + (y 1).val)))
    (h2 : ∀ y, v2 y = rowBias b x5 t r (y 0).val (l0 + (256 + (y 1).val)))
    (h3 : ∀ y, v3 y = rowBias b x5 t r (y 0).val (l0 + (384 + (y 1).val))) (y : (⟨2, ![64, 512]⟩ : Shape).Idx) :
    concatenate ⟨2, ![64, 512]⟩ 1 [⟨⟨2, ![64, 128]⟩, v0⟩, ⟨⟨2, ![64, 128]⟩, v1⟩, ⟨⟨2, ![64, 128]⟩, v2⟩, ⟨⟨2, ![64, 128]⟩, v3⟩] h y
      = rowBias b x5 t r (y 0).val (l0 + (y 1).val) :=
  lanes4 _ _ _ _ h (fun q l => rowBias b x5 t r q (l0 + l)) (fun y => (h0 y).trans (by rw [Nat.zero_add])) h1 h2 h3 y

theorem bias5 (v0 v1 v2 v3 v4 : FVec Ideal ⟨2, ![64, 128]⟩ .f32) (h)
    (h0 : ∀ y, v0 y = rowBias b x5 t r (y 0).val (l0 + (0 + (y 1).val)))
    (h1 : ∀ y, v1 y = rowBias b x5 t r (y 0).val (l0 + (128 + (y 1).val)))
    (h2 : ∀ y, v2 y = rowBias b x5 t r (y 0).val (l0 + (256 + (y 1).val)))
    (h3 : ∀ y, v3 y = rowBias b x5 t r (y 0).val (l0 + (384 + (y 1).val)))
    (h4 : ∀ y, v4 y = rowBias b x5 t r (y 0).val (l0 + (512 + (y 1).val))) (y : (⟨2, ![64, 640]⟩ : Shape).Idx) :
    concatenate ⟨2, ![64, 640]⟩ 1 [⟨⟨2, ![64, 128]⟩, v0⟩, ⟨⟨2, ![64, 128]⟩, v1⟩, ⟨⟨2, ![64, 128]⟩, v2⟩, ⟨⟨2, ![64, 128]⟩, v3⟩,
      ⟨⟨2, ![64, 128]⟩, v4⟩] h y
      = rowBias b x5 t r (y 0).val (l0 + (y 1).val) :=
  lanes5 _ _ _ _ _ h (fun q l => rowBias b x5 t r q (l0 + l)) (fun y => (h0 y).trans (by rw [Nat.zero_add])) h1 h2 h3 h4 y

variable {n : ℕ}

/-- Window scores of the rows from `r`. -/
theorem fRow (s : FVec Ideal ⟨3, ![1, 64, n]⟩ .f32) (hs : (⟨3, ![1, 64, n]⟩ : Shape).ShapeCasts ⟨2, ![64, n]⟩)
    (bias : FVec Ideal ⟨2, ![64, n]⟩ .f32) (hr : r % 64 = 0)
    (ha : ∀ y, s y = SG b x0 x1 t (r + (y 1).val) (l0 + (y 2).val))
    (hb : ∀ y, bias y = rowBias b x5 t r (y 0).val (l0 + (y 1).val)) (y : (⟨2, ![64, n]⟩ : Shape).Idx) :
    addf (mulf (shapeCast ⟨2, ![64, n]⟩ s hs)
        (broadcast ⟨2, ![64, n]⟩ (Named.named (F := Ideal) Cert.KernelIdeal.κ "scale" (φ := .f32) 0x3DB504F3#32))) bias y
      = FG b x0 x1 x5 t (r + (y 0).val) (l0 + (y 1).val) := by
  refine (rowS_apply l0 s hs bias (fun q l => SG b x0 x1 t (r + q) l) (rowBias b x5 t r) ha hb y).trans ?_
  have h0 : (y 0).val < 64 := (y 0).isLt
  have e1 : (r + (y 0).val) / 64 = r / 64 := by omega
  have e2 : (r + (y 0).val) % 64 = (y 0).val := by omega
  unfold FG BG
  rw [e1, e2]
  rfl

/-- Context scores of the rows from `r`. -/
theorem gRow (s : FVec Ideal ⟨3, ![1, 64, 256]⟩ .f32) (hs : (⟨3, ![1, 64, 256]⟩ : Shape).ShapeCasts ⟨2, ![64, 256]⟩)
    (ha : ∀ y, s y = SCG x0 x3 t (r + (y 1).val) (0 + (y 2).val)) (y : (⟨2, ![64, 256]⟩ : Shape).Idx) :
    mulf (shapeCast ⟨2, ![64, 256]⟩ s hs)
        (broadcast ⟨2, ![64, 256]⟩ (Named.named (F := Ideal) Cert.KernelIdeal.κ "scale" (φ := .f32) 0x3DB504F3#32)) y
      = GG x0 x3 t (r + (y 0).val) (0 + (y 1).val) :=
  rowC_apply s hs (fun q l => SCG x0 x3 t (r + q) l) ha y

/-! ## The stores -/

variable (S : FVec Ideal ⟨2, ![64, n]⟩ .f32) (C : FVec Ideal ⟨2, ![64, 256]⟩ .f32)
    (h : (⟨2, ![64, n]⟩ : Shape).Reduces [1] ⟨1, ![64]⟩) (hφ : FKind.Formats .f32) (hacc : 0xFF800000#32 = FKind.maximumf.neutral .f32 hφ)
    (h' : (⟨2, ![64, 256]⟩ : Shape).Reduces [1] ⟨1, ![64]⟩) (hφ' : FKind.Formats .f32) (hacc' : 0xFF800000#32 = FKind.maximumf.neutral .f32 hφ')
    (hc : (⟨1, ![64]⟩ : Shape).ShapeCasts ⟨2, ![64, 1]⟩) (hb : (⟨2, ![64, 1]⟩ : Shape).Broadcasts ⟨2, ![64, n]⟩)
    (hb' : (⟨2, ![64, 1]⟩ : Shape).Broadcasts ⟨2, ![64, 256]⟩) (hk : FTy.bf16.bits < FTy.f32.bits)
    (hr : r % 64 = 0) (hlo : lo b t (r / 64) = l0) (hnl : nl b t (r / 64) = n)
    (hS : ∀ y, S y = FG b x0 x1 x5 t (r + (y 0).val) (l0 + (y 1).val))
    (hC : ∀ y, C y = GG x0 x3 t (r + (y 0).val) (0 + (y 1).val))
include hr hlo hnl hS hC

/-- Window probabilities. -/
theorem pPiece (hs : (⟨2, ![64, n]⟩ : Shape).ShapeCasts ⟨3, ![1, 64, n]⟩) (inb) : ∀ y : (⟨3, ![1, 64, n]⟩ : Shape).Idx,
    shapeCast ⟨3, ![1, 64, n]⟩ (truncf .bf16 (exp (subf S (broadcastTo ⟨2, ![64, n]⟩ (rowM S C h hφ hacc h' hφ' hacc' hc) hb))) hk) hs y
      = PG b x0 x1 x3 x5 ((Rect.unit (s := ⟨3, ![8, 256, 768]⟩) ![t, r, l0] ![1, 64, n] inb).emb y 0).val
          ((Rect.unit (s := ⟨3, ![8, 256, 768]⟩) ![t, r, l0] ![1, 64, n] inb).emb y 1).val
          ((Rect.unit (s := ⟨3, ![8, 256, 768]⟩) ![t, r, l0] ![1, 64, n] inb).emb y 2).val := by
  intro y
  rw [rowP_apply S C h hφ hacc h' hφ' hacc' hc hb hk (fun q l => FG b x0 x1 x5 t (r + q) l) l0 (fun q l => GG x0 x3 t (r + q) l) hS hC hs y]
  have h0 : (y 0).val < 1 := (y 0).isLt
  have h1 : (y 1).val < 64 := (y 1).isLt
  have h2 : (y 2).val < n := (y 2).isLt
  have e0 : t + 1 * (y 0).val = t := by omega
  have e1 : (r + (y 1).val) / 64 = r / 64 := by omega
  show _ = PG b x0 x1 x3 x5 (t + 1 * (y 0).val) (r + 1 * (y 1).val) (l0 + 1 * (y 2).val)
  rw [e0, Nat.one_mul, Nat.one_mul]
  unfold PG MG
  rw [e1, hlo, hnl, if_pos ⟨by omega, by omega⟩]

/-- Context probabilities. -/
theorem pcPiece (hs : (⟨2, ![64, 256]⟩ : Shape).ShapeCasts ⟨3, ![1, 64, 256]⟩) (inb) : ∀ y : (⟨3, ![1, 64, 256]⟩ : Shape).Idx,
    shapeCast ⟨3, ![1, 64, 256]⟩ (truncf .bf16 (exp (subf C (broadcastTo ⟨2, ![64, 256]⟩ (rowM S C h hφ hacc h' hφ' hacc' hc) hb'))) hk) hs y
      = PCG b x0 x1 x3 x5 ((Rect.unit (s := ⟨3, ![8, 256, 256]⟩) ![t, r, 0] ![1, 64, 256] inb).emb y 0).val
          ((Rect.unit (s := ⟨3, ![8, 256, 256]⟩) ![t, r, 0] ![1, 64, 256] inb).emb y 1).val
          ((Rect.unit (s := ⟨3, ![8, 256, 256]⟩) ![t, r, 0] ![1, 64, 256] inb).emb y 2).val := by
  intro y
  rw [rowPC_apply S C h hφ hacc h' hφ' hacc' hc hb' hk (fun q l => FG b x0 x1 x5 t (r + q) l) l0 (fun q l => GG x0 x3 t (r + q) l) hS hC hs y]
  have h0 : (y 0).val < 1 := (y 0).isLt
  have h1 : (y 1).val < 64 := (y 1).isLt
  have e0 : t + 1 * (y 0).val = t := by omega
  have e1 : (r + (y 1).val) / 64 = r / 64 := by omega
  show _ = PCG b x0 x1 x3 x5 (t + 1 * (y 0).val) (r + 1 * (y 1).val) (0 + 1 * (y 2).val)
  rw [e0, Nat.one_mul, Nat.one_mul, Nat.zero_add]
  unfold PCG MG
  rw [e1, hlo, hnl]

/-- Denominators. -/
theorem dRow (hψ : FKind.Formats .f32) (hψa : 0x00000000#32 = FKind.add.neutral .f32 hψ) (hψ' : FKind.Formats .f32)
    (hψa' : 0x00000000#32 = FKind.add.neutral .f32 hψ') : ∀ y : (⟨2, ![64, 1]⟩ : Shape).Idx,
    addf (shapeCast ⟨2, ![64, 1]⟩ (multiReduction .add [1] ⟨1, ![64]⟩
        (exp (subf S (broadcastTo ⟨2, ![64, n]⟩ (rowM S C h hφ hacc h' hφ' hacc' hc) hb))) 0x00000000#32 h hψ hψa) hc)
      (shapeCast ⟨2, ![64, 1]⟩ (multiReduction .add [1] ⟨1, ![64]⟩
        (exp (subf C (broadcastTo ⟨2, ![64, 256]⟩ (rowM S C h hφ hacc h' hφ' hacc' hc) hb'))) 0x00000000#32 h' hψ' hψa') hc) y
      = DG b x0 x1 x3 x5 t (r + (y 0).val) := by
  intro y
  rw [rowD_apply S C h hφ hacc h' hφ' hacc' hc hb hb' (fun q l => FG b x0 x1 x5 t (r + q) l) l0 (fun q l => GG x0 x3 t (r + q) l) hS hC y]
  have h1 : (y 0).val < 64 := (y 0).isLt
  have e1 : (r + (y 0).val) / 64 = r / 64 := by omega
  unfold DG
  rw [e1, hlo, hnl]

end

/-- The lanes outside a row's stretch. -/
theorem zPiece (t r l0 n : ℕ) (hs : (⟨2, ![64, n]⟩ : Shape).ShapeCasts ⟨3, ![1, 64, n]⟩) (inb) (hr : r % 64 = 0)
    (hl : l0 + n ≤ lo b t (r / 64) ∨ lo b t (r / 64) + nl b t (r / 64) ≤ l0) : ∀ y : (⟨3, ![1, 64, n]⟩ : Shape).Idx,
    shapeCast ⟨3, ![1, 64, n]⟩ (broadcast ⟨2, ![64, n]⟩ (Scalar.ofBits (F := Ideal) .bf16 0x0000#16)) hs y
      = PG b x0 x1 x3 x5 ((Rect.unit (s := ⟨3, ![8, 256, 768]⟩) ![t, r, l0] ![1, 64, n] inb).emb y 0).val
          ((Rect.unit (s := ⟨3, ![8, 256, 768]⟩) ![t, r, l0] ![1, 64, n] inb).emb y 1).val
          ((Rect.unit (s := ⟨3, ![8, 256, 768]⟩) ![t, r, l0] ![1, 64, n] inb).emb y 2).val := by
  intro y
  have h0 : (y 0).val < 1 := (y 0).isLt
  have h1 : (y 1).val < 64 := (y 1).isLt
  have h2 : (y 2).val < n := (y 2).isLt
  have e0 : t + 1 * (y 0).val = t := by omega
  have e1 : (r + (y 1).val) / 64 = r / 64 := by omega
  show Ideal.ofBits .bf16 0x0000#16 = PG b x0 x1 x3 x5 (t + 1 * (y 0).val) (r + 1 * (y 1).val) (l0 + 1 * (y 2).val)
  rw [e0, Nat.one_mul, Nat.one_mul]
  unfold PG
  rw [e1, if_neg (by omega)]
  simp [Ideal.ofBits, Ideal.ieee]

/-- The output of sub-block `t`. -/
theorem oPiece (t : ℕ) (p : FVec Ideal ⟨3, ![1, 256, 768]⟩ .bf16) (v : FVec Ideal ⟨2, ![768, 128]⟩ .bf16)
    (pc : FVec Ideal ⟨3, ![1, 256, 256]⟩ .bf16) (vc : FVec Ideal ⟨2, ![256, 128]⟩ .bf16) (d : FVec Ideal ⟨2, ![256, 1]⟩ .f32)
    (hp : (⟨3, ![1, 256, 768]⟩ : Shape).ShapeCasts ⟨2, ![256, 768]⟩) (hpc : (⟨3, ![1, 256, 256]⟩ : Shape).ShapeCasts ⟨2, ![256, 256]⟩)
    (hb : (⟨2, ![256, 1]⟩ : Shape).Broadcasts ⟨2, ![256, 128]⟩) (hk) (o0 : ℕ) (inb) (ho : o0 = 256 * t)
    (eP : ∀ y, p y = PG b x0 x1 x3 x5 t (y 1).val (y 2).val) (eV : ∀ y, v y = at2 x2 (64 * w0 b t + (y 0).val) (0 + (y 1).val))
    (ePC : ∀ y, pc y = PCG b x0 x1 x3 x5 t (y 1).val (y 2).val) (eVC : ∀ y, vc y = at2 x4 (0 + (y 0).val) (0 + (y 1).val))
    (eD : ∀ y, d y = DG b x0 x1 x3 x5 t (y 0).val) : ∀ y : (⟨2, ![256, 128]⟩ : Shape).Idx,
    truncf .bf16 (divf (addf (matmul (DotDims.plain 256 768 128) none (shapeCast ⟨2, ![256, 768]⟩ p hp) v (constant ⟨2, ![256, 128]⟩ .f32 0x00000000#32))
        (matmul (DotDims.plain 256 256 128) none (shapeCast ⟨2, ![256, 256]⟩ pc hpc) vc (constant ⟨2, ![256, 128]⟩ .f32 0x00000000#32)))
        (broadcastTo ⟨2, ![256, 128]⟩ d hb)) hk y
      = OG b x0 x1 x2 x3 x4 x5 ((Rect.unit (s := ⟨2, ![2048, 128]⟩) ![o0, 0] ![256, 128] inb).emb y 0).val
          ((Rect.unit (s := ⟨2, ![2048, 128]⟩) ![o0, 0] ![256, 128] inb).emb y 1).val := by
  intro y
  rw [values_apply p v pc vc d hp hpc hb hk (PG b x0 x1 x3 x5 t) (fun i j => at2 x2 (64 * w0 b t + i) (0 + j)) (PCG b x0 x1 x3 x5 t)
    (fun i j => at2 x4 (0 + i) (0 + j)) (DG b x0 x1 x3 x5 t) eP eV ePC eVC eD y]
  subst ho
  have h0 : (y 0).val < 256 := (y 0).isLt
  have e0 : (256 * t + (y 0).val) / 256 = t := by omega
  have e1 : (256 * t + (y 0).val) % 256 = (y 0).val := by omega
  show _ = OG b x0 x1 x2 x3 x4 x5 (256 * t + 1 * (y 0).val) (0 + 1 * (y 1).val)
  unfold OG
  rw [Nat.one_mul, Nat.one_mul, Nat.zero_add, e0, e1]
  simp only [Nat.zero_add]

end Cert.Attn

end
-- ==== Proof.Offset.lean ====
/- Where a sub-block's window starts in the keys and values, for every grid point of the attention. -/
module

public import proofs.«01_k».proof.Proof.Pieces
public import proofs.«01_k».proof.Proof.Gen.KernelIdeal.Frame

@[expose] public section

namespace Cert.Attn

open Idealize.ShloMosaic Cert.KernelIdeal Cert.KernelIdeal.Gen

theorem off1_val : ∀ (i : grid1.Coords) (t : Fin 8), k1_off1 i (BitVec.ofNat 32 t.val) 0 = 64 * w0 (i 1).val t.val := by decide +kernel

theorem off2_val (i : grid1.Coords) (t : Fin 8) : k1_off2 i (BitVec.ofNat 32 t.val) 0 = 64 * w0 (i 1).val t.val := off1_val i t

theorem off3_val (i : grid1.Coords) (t : Fin 8) : k1_off3 i (BitVec.ofNat 32 t.val) 0 = 64 * w0 (i 1).val t.val := off1_val i t

/-- A property of all pieces of a longer list holds of the pieces of its tail. -/
theorem of_cons {α : Type*} {P : α → Prop} {a : α} {l : List α} (h : ∀ p ∈ a :: l, P p) : ∀ p ∈ l, P p :=
  fun p hp => h p (.tail _ hp)

/-- What all pieces of a store list put into their rectangles, of a buffer holding `G`. -/
abbrev Holds {A B C : ℕ} {e : EltTy} (G : ℕ → ℕ → ℕ → Elt Ideal e) (L : List (View.Piece (Elt Ideal) ⟨3, ![A, B, C]⟩ e)) : Prop :=
  ∀ p ∈ L, ∀ x : p.1.shape.Idx, p.2 x = G (p.1.emb x 0).val (p.1.emb x 1).val (p.1.emb x 2).val

theorem Holds.cons {A B C : ℕ} {e : EltTy} {G : ℕ → ℕ → ℕ → Elt Ideal e} {L : List (View.Piece (Elt Ideal) ⟨3, ![A, B, C]⟩ e)}
    {o n : Fin 3 → ℕ} {inb} {v : (⟨3, n⟩ : Shape).Idx → Elt Ideal e}
    (h : ∀ y : (⟨3, n⟩ : Shape).Idx, v y = G ((Rect.unit (s := ⟨3, ![A, B, C]⟩) o n inb).emb y 0).val
      ((Rect.unit (s := ⟨3, ![A, B, C]⟩) o n inb).emb y 1).val ((Rect.unit (s := ⟨3, ![A, B, C]⟩) o n inb).emb y 2).val)
    (hL : Holds G L) : Holds G (⟨Rect.unit (s := ⟨3, ![A, B, C]⟩) o n inb, v⟩ :: L) :=
  List.forall_mem_cons.mpr ⟨h, hL⟩

theorem Holds.nil {A B C : ℕ} {e : EltTy} {G : ℕ → ℕ → ℕ → Elt Ideal e} : Holds (A := A) (B := B) (C := C) G [] := List.forall_mem_nil _

theorem Holds.tail {A B C : ℕ} {e : EltTy} {G : ℕ → ℕ → ℕ → Elt Ideal e} {a} {L : List (View.Piece (Elt Ideal) ⟨3, ![A, B, C]⟩ e)}
    (h : Holds G (a :: L)) : Holds G L := of_cons h

/-- The same of a matrix. -/
abbrev Holds2 {A B : ℕ} {e : EltTy} (G : ℕ → ℕ → Elt Ideal e) (L : List (View.Piece (Elt Ideal) ⟨2, ![A, B]⟩ e)) : Prop :=
  ∀ p ∈ L, ∀ x : p.1.shape.Idx, p.2 x = G (p.1.emb x 0).val (p.1.emb x 1).val

theorem Holds2.cons {A B : ℕ} {e : EltTy} {G : ℕ → ℕ → Elt Ideal e} {L : List (View.Piece (Elt Ideal) ⟨2, ![A, B]⟩ e)}
    {o n : Fin 2 → ℕ} {inb} {v : (⟨2, n⟩ : Shape).Idx → Elt Ideal e}
    (h : ∀ y : (⟨2, n⟩ : Shape).Idx, v y = G ((Rect.unit (s := ⟨2, ![A, B]⟩) o n inb).emb y 0).val
      ((Rect.unit (s := ⟨2, ![A, B]⟩) o n inb).emb y 1).val)
    (hL : Holds2 G L) : Holds2 G (⟨Rect.unit (s := ⟨2, ![A, B]⟩) o n inb, v⟩ :: L) :=
  List.forall_mem_cons.mpr ⟨h, hL⟩

theorem Holds2.nil {A B : ℕ} {e : EltTy} {G : ℕ → ℕ → Elt Ideal e} : Holds2 (A := A) (B := B) G [] := List.forall_mem_nil _

/-- A block read whole and put down at another float format, which over the reals changes nothing. -/
theorem castPiece {sig : RefSig} {κ : Kind} {sp : Space} {a b : ℕ} {m : Memref sig κ sp ⟨2, ![a, b]⟩ .f32} (hm : m.IsWhole) (inb)
    (x : Vec Ideal ⟨2, ![a, b]⟩ .f32) (hs) (y : (⟨2, ![a, b]⟩ : Shape).Idx) {hk : FTy.bf16.bits < FTy.f32.bits} {inb'} :
    truncf (F := Ideal) .bf16 (shapeCast (α := Elt Ideal .f32) ⟨2, ![a, b]⟩ (View.readAt (Elt Ideal) m.view (Rect.unit (s := ⟨2, ![a, b]⟩) ![0, 0] ![a, b] inb).toLoadRect (hm.unread x)) hs) hk y
      = at2 x ((Rect.unit (s := ⟨2, ![a, b]⟩) ![0, 0] ![a, b] inb').emb y 0).val ((Rect.unit (s := ⟨2, ![a, b]⟩) ![0, 0] ![a, b] inb').emb y 1).val := by
  refine (congrFun (shapeCast_self (s := ⟨2, ![a, b]⟩) (α := Elt Ideal .f32)
    (View.readAt (Elt Ideal) m.view (Rect.unit (s := ⟨2, ![a, b]⟩) ![0, 0] ![a, b] inb).toLoadRect (hm.unread x)) hs) y).trans ?_
  rw [View.readAt_apply, hm.read_unread]
  exact at2_eq x _

/-- What a buffer wholly stored reads. -/
theorem read2 {sig : RefSig} {κ : Kind} {sp : Space} {A B : ℕ} {e : EltTy} (v : View sig κ sp ⟨2, ![A, B]⟩ e) (f) (G : ℕ → ℕ → Elt Ideal e)
    (L : List (View.Piece (Elt Ideal) ⟨2, ![A, B]⟩ e)) (hL : Holds2 G L) (hc : ∀ y, ∃ p ∈ L, y ∈ p.1.set) (y : (⟨2, ![A, B]⟩ : Shape).Idx) :
    v.read (Elt Ideal) (v.writes (Elt Ideal) f L) y = G (y 0).val (y 1).val :=
  (View.read_writes_apply_eq_canon v f y L (hc y)).trans
    (View.canon_apply_of_pieces (S := ⟨2, ![A, B]⟩) (fun z => G (z 0).val (z 1).val) L hL y (hc y))

end Cert.Attn

end
-- ==== Proof.CaseA.lean ====
/- The attention's first block: what each scratch buffer and the output block hold after the body. -/
module

public import proofs.«01_k».proof.Proof.Offset

@[expose] public section

set_option maxHeartbeats 4000000
set_option maxRecDepth 20000

noncomputable section

namespace Cert.Attn

open Idealize.ShloMosaic Cert.KernelIdeal Cert.KernelIdeal.Gen

namespace A

attribute [local irreducible] shapeCast multiReduction concatenate broadcastTo maximumf addf mulf subf truncf exp divf

variable (c : Dev nD) (i : grid1.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x44x64x128 .f32) (harg7 : arg7.IsWhole) (arg8 : Memref sig .tc .vmem S4096x256 .f32) (harg8 : arg8.IsWhole) (arg9 : Memref sig .tc .vmem S2048x128 .bf16) (harg9 : arg9.IsWhole) (arg10 : Memref sig .tc .vmem S4096x256 .bf16) (harg10 : arg10.IsWhole) (arg11 : Memref sig .tc .vmem S8x256x768 .f32) (harg11 : arg11.IsWhole) (arg12 : Memref sig .tc .vmem S8x256x256 .f32) (harg12 : arg12.IsWhole) (arg13 : Memref sig .tc .vmem S8x256x768 .bf16) (harg13 : arg13.IsWhole) (arg14 : Memref sig .tc .vmem S8x256x256 .bf16) (harg14 : arg14.IsWhole)
  (hc0 : cond1_0 i)
  (x0 : Vec Ideal S2048x128 .bf16) (x1 x2 : Vec Ideal S8192x128 .bf16) (x3 x4 : Vec Ideal S256x128 .bf16)
  (x5 : Vec Ideal S1x44x64x128 .f32)

/-- Scores against the window, of all sub-blocks. -/
theorem scores : Holds (SG (i 1).val x0 x1) (kernelRun1_A.sl.HS0_8 (F := Ideal) c i arg2 harg2 arg3 harg3 hc0 x0 x1) := by
  have one : ∀ (t : Fin 8) inb, ∀ y, View.readAt (Elt Ideal) arg3.view (Rect.unit (s := S8192x128) (k1_off1 i (BitVec.ofNat 32 t.val)) S768x128.size inb).toLoadRect
      (harg3.unread x1) y = at2 x1 (64 * w0 (i 1).val t.val + (y 0).val) (0 + (y 1).val) :=
    fun t inb => readAt2 harg3 _ _ inb x1 _ 0 (off1_val i t) rfl
  refine Holds.cons (sPiece _ x0 x1 _ _ 7 _ _ (readAt2 harg2 _ _ _ x0 _ 0 rfl rfl) (one 7 _)) ?_
  refine Holds.cons (sPiece _ x0 x1 _ _ 6 _ _ (readAt2 harg2 _ _ _ x0 _ 0 rfl rfl) (one 6 _)) ?_
  refine Holds.cons (sPiece _ x0 x1 _ _ 5 _ _ (readAt2 harg2 _ _ _ x0 _ 0 rfl rfl) (one 5 _)) ?_
  refine Holds.cons (sPiece _ x0 x1 _ _ 4 _ _ (readAt2 harg2 _ _ _ x0 _ 0 rfl rfl) (one 4 _)) ?_
  refine Holds.cons (sPiece _ x0 x1 _ _ 3 _ _ (readAt2 harg2 _ _ _ x0 _ 0 rfl rfl) (one 3 _)) ?_
  refine Holds.cons (sPiece _ x0 x1 _ _ 2 _ _ (readAt2 harg2 _ _ _ x0 _ 0 rfl rfl) (one 2 _)) ?_
  refine Holds.cons (sPiece _ x0 x1 _ _ 1 _ _ (readAt2 harg2 _ _ _ x0 _ 0 rfl rfl) (one 1 _)) ?_
  refine Holds.cons (sPiece _ x0 x1 _ _ 0 _ _ (readAt2 harg2 _ _ _ x0 _ 0 rfl rfl) (one 0 _)) ?_
  exact Holds.nil

/-- Scores against the context, of all sub-blocks. -/
theorem ctxScores : Holds (SCG x0 x3) (kernelRun1_A.sl.HS1_8 (F := Ideal) c arg2 harg2 arg5 harg5 x0 x3) := by
  iterate 8
    refine Holds.cons (scPiece x0 x3 _ _ _ _ _ (readAt2 harg2 _ _ _ x0 _ 0 rfl rfl) (readAt2 harg5 _ _ _ x3 0 0 rfl rfl)) ?_
  exact Holds.nil

theorem probs (hb : (i 1).val = 0) : Holds (PG (i 1).val x0 x1 x3 x5)
    (kernelRun1_A.sl.HS2_71 (F := Ideal) c i arg2 harg2 arg3 harg3 arg5 harg5 arg7 harg7 arg11 arg12 hc0 x0 x1 x3 x5) := by
  have s8 := scores c i arg2 harg2 arg3 harg3 hc0 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  iterate 71
    first
      | refine Holds.cons (zPiece _ x0 x1 x3 x5 _ _ _ _ _ _ ?_ ?_) ?_
        · rfl
        · rw [hb]; decide
      | refine Holds.cons (pPiece _ x0 x1 x3 x5 _ _ _ _ _ _ _ _ _ _ _ _ _ _ ?_ ?_ ?_ ?_ ?_ _ _) ?_
        · rfl
        · rw [hb]; rfl
        · rw [hb]; rfl
        · refine fRow _ x0 x1 x5 _ _ _ _ _ _ rfl (readBox _ _ _ (by with_reducible assumption) _ _ _ _ _ _ rfl) ?_
          first
            | refine bias4 _ x5 _ _ _ _ _ _ _ _ ?_ ?_ ?_ ?_
            | refine bias5 _ x5 _ _ _ _ _ _ _ _ _ ?_ ?_ ?_ ?_ ?_
          all_goals
            refine tile_apply _ x5 _ _ _ _ _ ⟨_, _, rfl, readTile harg7 _ _ x5 _ ?_⟩ ?_ ?_
            rotate_left
            · rfl
            · rfl
            rw [hb]; rfl
        · exact gRow x0 x3 _ _ _ _ (readBox _ _ _ (by with_reducible assumption) _ _ _ _ _ _ rfl)
  exact Holds.nil

theorem ctxProbs (hb : (i 1).val = 0) : Holds (PCG (i 1).val x0 x1 x3 x5)
    (kernelRun1_A.sl.HS3_32 (F := Ideal) c i arg2 harg2 arg3 harg3 arg5 harg5 arg7 harg7 arg11 arg12 hc0 x0 x1 x3 x5) := by
  have s8 := scores c i arg2 harg2 arg3 harg3 hc0 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  iterate 32
    refine Holds.cons (pcPiece _ x0 x1 x3 x5 _ _ _ _ _ _ _ _ _ _ _ _ _ _ ?_ ?_ ?_
      (fRow _ x0 x1 x5 _ _ _ _ _ _ rfl (readBox _ _ _ (by with_reducible assumption) _ _ _ _ _ _ rfl) ?_)
      (gRow x0 x3 _ _ _ _ (readBox _ _ _ (by with_reducible assumption) _ _ _ _ _ _ rfl)) _ _) ?_
    · rfl
    · rw [hb]; rfl
    · rw [hb]; rfl
    · first
        | refine bias4 _ x5 _ _ _ _ _ _ _ _ ?_ ?_ ?_ ?_
        | refine bias5 _ x5 _ _ _ _ _ _ _ _ _ ?_ ?_ ?_ ?_ ?_
      all_goals
        refine tile_apply _ x5 _ _ _ _ _ ⟨_, _, rfl, readTile harg7 _ _ x5 _ ?_⟩ ?_ ?_
        rotate_left
        · rfl
        · rfl
        rw [hb]; rfl
  exact Holds.nil

/-- The output block. -/
theorem out (hc1 : ¬cond1_1 i) (hc2 : ¬cond1_2 i) (x6 : Vec Ideal S4096x256 .f32) (hb : (i 1).val = 0) :
    Holds2 (OG (i 1).val x0 x1 x2 x3 x4 x5) (kernelRun1_A (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1 := by
  have one : ∀ (t : ℕ) (ht : t < 8) inb, ∀ y, View.readAt (Elt Ideal) arg4.view (Rect.unit (s := S8192x128) (k1_off1 i (BitVec.ofNat 32 t)) S768x128.size inb).toLoadRect
      (harg4.unread x2) y = at2 x2 (64 * w0 (i 1).val t + (y 0).val) (0 + (y 1).val) :=
    fun t ht inb => readAt2 harg4 _ _ inb x2 _ 0 (off1_val i ⟨t, ht⟩) rfl
  have s8 := scores c i arg2 harg2 arg3 harg3 hc0 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  have p71 := probs c i arg2 harg2 arg3 harg3 arg5 harg5 arg7 harg7 arg11 arg12 hc0 x0 x1 x3 x5 hb
  have q32 := ctxProbs c i arg2 harg2 arg3 harg3 arg5 harg5 arg7 harg7 arg11 arg12 hc0 x0 x1 x3 x5 hb
  have p62 := p71.tail.tail.tail.tail.tail.tail.tail.tail.tail
  have p53 := p62.tail.tail.tail.tail.tail.tail.tail.tail.tail
  have p44 := p53.tail.tail.tail.tail.tail.tail.tail.tail.tail
  have p35 := p44.tail.tail.tail.tail.tail.tail.tail.tail.tail
  have p26 := p35.tail.tail.tail.tail.tail.tail.tail.tail.tail
  have p17 := p26.tail.tail.tail.tail.tail.tail.tail.tail.tail
  have q28 := q32.tail.tail.tail.tail
  have q24 := q28.tail.tail.tail.tail
  have q20 := q24.tail.tail.tail.tail
  have q16 := q20.tail.tail.tail.tail
  have q12 := q16.tail.tail.tail.tail
  have q8 := q12.tail.tail.tail.tail
  iterate 8
    refine Holds2.cons (oPiece _ x0 x1 x2 x3 x4 x5 _ _ _ _ _ _ _ _ _ _ _ _ ?_
      (readCells _ _ _ (by with_reducible assumption) _ 128 6 (by decide) rfl _ ?_) ?_
      (readCells _ _ _ (by with_reducible assumption) _ 256 1 (by decide) rfl _ ?_)
      (readAt2 harg6 _ _ _ x4 0 0 rfl rfl) ?_) ?_
    · rfl
    · rfl
    · exact one _ (by decide) _
    · rfl
    · refine rows4 _ _ _ _ _ _ ?_ ?_ ?_ ?_
      all_goals
        refine dRow _ x0 x1 x3 x5 _ _ _ _ _ _ _ _ _ _ _ _ _ _ ?_ ?_ ?_
          (fRow _ x0 x1 x5 _ _ _ _ _ _ rfl (readBox _ _ _ (by with_reducible assumption) _ _ _ _ _ _ rfl) ?_)
          (gRow x0 x3 _ _ _ _ (readBox _ _ _ (by with_reducible assumption) _ _ _ _ _ _ rfl)) _ _ _ _
        · rfl
        · rw [hb]; rfl
        · rw [hb]; rfl
        first
          | refine bias4 _ x5 _ _ _ _ _ _ _ _ ?_ ?_ ?_ ?_
          | refine bias5 _ x5 _ _ _ _ _ _ _ _ _ ?_ ?_ ?_ ?_ ?_
        all_goals
          refine tile_apply _ x5 _ _ _ _ _ ⟨_, _, rfl, readTile harg7 _ _ x5 _ ?_⟩ ?_ ?_
          rotate_left
          · rfl
          · rfl
          rw [hb]; rfl
  exact Holds2.nil

/-- The block cast along. -/
theorem cast (hc1 : ¬cond1_1 i) (hc2 : ¬cond1_2 i) (x6 : Vec Ideal S4096x256 .f32) :
    Holds2 (at2 x6) (kernelRun1_A (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.1 :=
  Holds2.cons (fun y => (castPiece harg8 _ x6 _ y)) Holds2.nil

end A

end Cert.Attn

end
-- ==== Proof.CaseB.lean ====
/- The attention's interior blocks (1 and 2): what each scratch buffer and the output block hold after the body. -/
module

public import proofs.«01_k».proof.Proof.Offset

@[expose] public section

set_option maxHeartbeats 4000000
set_option maxRecDepth 20000

noncomputable section

namespace Cert.Attn

open Idealize.ShloMosaic Cert.KernelIdeal Cert.KernelIdeal.Gen

namespace B

attribute [local irreducible] shapeCast multiReduction concatenate broadcastTo maximumf addf mulf subf truncf exp divf

variable (c : Dev nD) (i : grid1.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x44x64x128 .f32) (harg7 : arg7.IsWhole) (arg8 : Memref sig .tc .vmem S4096x256 .f32) (harg8 : arg8.IsWhole) (arg9 : Memref sig .tc .vmem S2048x128 .bf16) (harg9 : arg9.IsWhole) (arg10 : Memref sig .tc .vmem S4096x256 .bf16) (harg10 : arg10.IsWhole) (arg11 : Memref sig .tc .vmem S8x256x768 .f32) (harg11 : arg11.IsWhole) (arg12 : Memref sig .tc .vmem S8x256x256 .f32) (harg12 : arg12.IsWhole) (arg13 : Memref sig .tc .vmem S8x256x768 .bf16) (harg13 : arg13.IsWhole) (arg14 : Memref sig .tc .vmem S8x256x256 .bf16) (harg14 : arg14.IsWhole)
  (hc1 : cond1_1 i)
  (x0 : Vec Ideal S2048x128 .bf16) (x1 x2 : Vec Ideal S8192x128 .bf16) (x3 x4 : Vec Ideal S256x128 .bf16)
  (x5 : Vec Ideal S1x44x64x128 .f32)

/-- Scores against the window, of all sub-blocks. -/
theorem scores : Holds (SG (i 1).val x0 x1) (kernelRun1_B.sl.HS0_8 (F := Ideal) c i arg2 harg2 arg3 harg3 hc1 x0 x1) := by
  have one : ∀ (t : Fin 8) inb, ∀ y, View.readAt (Elt Ideal) arg3.view (Rect.unit (s := S8192x128) (k1_off2 i (BitVec.ofNat 32 t.val)) S768x128.size inb).toLoadRect
      (harg3.unread x1) y = at2 x1 (64 * w0 (i 1).val t.val + (y 0).val) (0 + (y 1).val) :=
    fun t inb => readAt2 harg3 _ _ inb x1 _ 0 (off2_val i t) rfl
  refine Holds.cons (sPiece _ x0 x1 _ _ 7 _ _ (readAt2 harg2 _ _ _ x0 _ 0 rfl rfl) (one 7 _)) ?_
  refine Holds.cons (sPiece _ x0 x1 _ _ 6 _ _ (readAt2 harg2 _ _ _ x0 _ 0 rfl rfl) (one 6 _)) ?_
  refine Holds.cons (sPiece _ x0 x1 _ _ 5 _ _ (readAt2 harg2 _ _ _ x0 _ 0 rfl rfl) (one 5 _)) ?_
  refine Holds.cons (sPiece _ x0 x1 _ _ 4 _ _ (readAt2 harg2 _ _ _ x0 _ 0 rfl rfl) (one 4 _)) ?_
  refine Holds.cons (sPiece _ x0 x1 _ _ 3 _ _ (readAt2 harg2 _ _ _ x0 _ 0 rfl rfl) (one 3 _)) ?_
  refine Holds.cons (sPiece _ x0 x1 _ _ 2 _ _ (readAt2 harg2 _ _ _ x0 _ 0 rfl rfl) (one 2 _)) ?_
  refine Holds.cons (sPiece _ x0 x1 _ _ 1 _ _ (readAt2 harg2 _ _ _ x0 _ 0 rfl rfl) (one 1 _)) ?_
  refine Holds.cons (sPiece _ x0 x1 _ _ 0 _ _ (readAt2 harg2 _ _ _ x0 _ 0 rfl rfl) (one 0 _)) ?_
  exact Holds.nil

/-- Scores against the context, of all sub-blocks. -/
theorem ctxScores : Holds (SCG x0 x3) (kernelRun1_B.sl.HS1_8 (F := Ideal) c arg2 harg2 arg5 harg5 x0 x3) := by
  iterate 8
    refine Holds.cons (scPiece x0 x3 _ _ _ _ _ (readAt2 harg2 _ _ _ x0 _ 0 rfl rfl) (readAt2 harg5 _ _ _ x3 0 0 rfl rfl)) ?_
  exact Holds.nil

theorem probs (hb : (i 1).val = 1 ∨ (i 1).val = 2) : Holds (PG (i 1).val x0 x1 x3 x5)
    (kernelRun1_B.sl.HS2_72 (F := Ideal) c i arg2 harg2 arg3 harg3 arg5 harg5 arg7 harg7 arg11 arg12 hc1 x0 x1 x3 x5) := by
  have s8 := scores c i arg2 harg2 arg3 harg3 hc1 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  iterate 72
    first
      | refine Holds.cons (zPiece _ x0 x1 x3 x5 _ _ _ _ _ _ ?_ ?_) ?_
        · rfl
        · rcases hb with h | h <;> rw [h] <;> decide
      | refine Holds.cons (pPiece _ x0 x1 x3 x5 _ _ _ _ _ _ _ _ _ _ _ _ _ _ ?_ ?_ ?_ ?_ ?_ _ _) ?_
        · rfl
        · rcases hb with h | h <;> rw [h] <;> rfl
        · rcases hb with h | h <;> rw [h] <;> rfl
        · refine fRow _ x0 x1 x5 _ _ _ _ _ _ rfl (readBox _ _ _ (by with_reducible assumption) _ _ _ _ _ _ rfl) ?_
          first
            | refine bias4 _ x5 _ _ _ _ _ _ _ _ ?_ ?_ ?_ ?_
            | refine bias5 _ x5 _ _ _ _ _ _ _ _ _ ?_ ?_ ?_ ?_ ?_
          all_goals
            refine tile_apply _ x5 _ _ _ _ _ ⟨_, _, rfl, readTile harg7 _ _ x5 _ ?_⟩ ?_ ?_
            rotate_left
            · rfl
            · rfl
            rcases hb with h | h <;> rw [h] <;> rfl
        · exact gRow x0 x3 _ _ _ _ (readBox _ _ _ (by with_reducible assumption) _ _ _ _ _ _ rfl)
  exact Holds.nil

theorem ctxProbs (hb : (i 1).val = 1 ∨ (i 1).val = 2) : Holds (PCG (i 1).val x0 x1 x3 x5)
    (kernelRun1_B.sl.HS3_32 (F := Ideal) c i arg2 harg2 arg3 harg3 arg5 harg5 arg7 harg7 arg11 arg12 hc1 x0 x1 x3 x5) := by
  have s8 := scores c i arg2 harg2 arg3 harg3 hc1 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  iterate 32
    refine Holds.cons (pcPiece _ x0 x1 x3 x5 _ _ _ _ _ _ _ _ _ _ _ _ _ _ ?_ ?_ ?_
      (fRow _ x0 x1 x5 _ _ _ _ _ _ rfl (readBox _ _ _ (by with_reducible assumption) _ _ _ _ _ _ rfl) ?_)
      (gRow x0 x3 _ _ _ _ (readBox _ _ _ (by with_reducible assumption) _ _ _ _ _ _ rfl)) _ _) ?_
    · rfl
    · rcases hb with h | h <;> rw [h] <;> rfl
    · rcases hb with h | h <;> rw [h] <;> rfl
    · first
        | refine bias4 _ x5 _ _ _ _ _ _ _ _ ?_ ?_ ?_ ?_
        | refine bias5 _ x5 _ _ _ _ _ _ _ _ _ ?_ ?_ ?_ ?_ ?_
      all_goals
        refine tile_apply _ x5 _ _ _ _ _ ⟨_, _, rfl, readTile harg7 _ _ x5 _ ?_⟩ ?_ ?_
        rotate_left
        · rfl
        · rfl
        rcases hb with h | h <;> rw [h] <;> rfl
  exact Holds.nil

/-- The output block. -/
theorem out (hc0 : ¬cond1_0 i) (hc2 : ¬cond1_2 i) (x6 : Vec Ideal S4096x256 .f32) (hb : (i 1).val = 1 ∨ (i 1).val = 2) :
    Holds2 (OG (i 1).val x0 x1 x2 x3 x4 x5) (kernelRun1_B (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1 := by
  have one : ∀ (t : ℕ) (ht : t < 8) inb, ∀ y, View.readAt (Elt Ideal) arg4.view (Rect.unit (s := S8192x128) (k1_off2 i (BitVec.ofNat 32 t)) S768x128.size inb).toLoadRect
      (harg4.unread x2) y = at2 x2 (64 * w0 (i 1).val t + (y 0).val) (0 + (y 1).val) :=
    fun t ht inb => readAt2 harg4 _ _ inb x2 _ 0 (off2_val i ⟨t, ht⟩) rfl
  have s8 := scores c i arg2 harg2 arg3 harg3 hc1 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  have p72 := probs c i arg2 harg2 arg3 harg3 arg5 harg5 arg7 harg7 arg11 arg12 hc1 x0 x1 x3 x5 hb
  have q32 := ctxProbs c i arg2 harg2 arg3 harg3 arg5 harg5 arg7 harg7 arg11 arg12 hc1 x0 x1 x3 x5 hb
  have p63 := p72.tail.tail.tail.tail.tail.tail.tail.tail.tail
  have p54 := p63.tail.tail.tail.tail.tail.tail.tail.tail.tail
  have p45 := p54.tail.tail.tail.tail.tail.tail.tail.tail.tail
  have p36 := p45.tail.tail.tail.tail.tail.tail.tail.tail.tail
  have p27 := p36.tail.tail.tail.tail.tail.tail.tail.tail.tail
  have p18 := p27.tail.tail.tail.tail.tail.tail.tail.tail.tail
  have q28 := q32.tail.tail.tail.tail
  have q24 := q28.tail.tail.tail.tail
  have q20 := q24.tail.tail.tail.tail
  have q16 := q20.tail.tail.tail.tail
  have q12 := q16.tail.tail.tail.tail
  have q8 := q12.tail.tail.tail.tail
  iterate 8
    refine Holds2.cons (oPiece _ x0 x1 x2 x3 x4 x5 _ _ _ _ _ _ _ _ _ _ _ _ ?_
      (readCells _ _ _ (by with_reducible assumption) _ 128 6 (by decide) rfl _ ?_) ?_
      (readCells _ _ _ (by with_reducible assumption) _ 256 1 (by decide) rfl _ ?_)
      (readAt2 harg6 _ _ _ x4 0 0 rfl rfl) ?_) ?_
    · rfl
    · rfl
    · exact one _ (by decide) _
    · rfl
    · refine rows4 _ _ _ _ _ _ ?_ ?_ ?_ ?_
      all_goals
        refine dRow _ x0 x1 x3 x5 _ _ _ _ _ _ _ _ _ _ _ _ _ _ ?_ ?_ ?_
          (fRow _ x0 x1 x5 _ _ _ _ _ _ rfl (readBox _ _ _ (by with_reducible assumption) _ _ _ _ _ _ rfl) ?_)
          (gRow x0 x3 _ _ _ _ (readBox _ _ _ (by with_reducible assumption) _ _ _ _ _ _ rfl)) _ _ _ _
        · rfl
        · rcases hb with h | h <;> rw [h] <;> rfl
        · rcases hb with h | h <;> rw [h] <;> rfl
        first
          | refine bias4 _ x5 _ _ _ _ _ _ _ _ ?_ ?_ ?_ ?_
          | refine bias5 _ x5 _ _ _ _ _ _ _ _ _ ?_ ?_ ?_ ?_ ?_
        all_goals
          refine tile_apply _ x5 _ _ _ _ _ ⟨_, _, rfl, readTile harg7 _ _ x5 _ ?_⟩ ?_ ?_
          rotate_left
          · rfl
          · rfl
          rcases hb with h | h <;> rw [h] <;> rfl
  exact Holds2.nil

/-- The block cast along. -/
theorem cast (hc0 : ¬cond1_0 i) (hc2 : ¬cond1_2 i) (x6 : Vec Ideal S4096x256 .f32) :
    Holds2 (at2 x6) (kernelRun1_B (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.1 :=
  Holds2.cons (fun y => (castPiece harg8 _ x6 _ y)) Holds2.nil

end B

end Cert.Attn

end
-- ==== Proof.CaseC.lean ====
/- The attention's last block: what each scratch buffer and the output block hold after the body. -/
module

public import proofs.«01_k».proof.Proof.Offset

@[expose] public section

set_option maxHeartbeats 4000000
set_option maxRecDepth 20000

noncomputable section

namespace Cert.Attn

open Idealize.ShloMosaic Cert.KernelIdeal Cert.KernelIdeal.Gen

namespace C

attribute [local irreducible] shapeCast multiReduction concatenate broadcastTo maximumf addf mulf subf truncf exp divf

variable (c : Dev nD) (i : grid1.Coords) (arg2 : Memref sig .tc .vmem S2048x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x44x64x128 .f32) (harg7 : arg7.IsWhole) (arg8 : Memref sig .tc .vmem S4096x256 .f32) (harg8 : arg8.IsWhole) (arg9 : Memref sig .tc .vmem S2048x128 .bf16) (harg9 : arg9.IsWhole) (arg10 : Memref sig .tc .vmem S4096x256 .bf16) (harg10 : arg10.IsWhole) (arg11 : Memref sig .tc .vmem S8x256x768 .f32) (harg11 : arg11.IsWhole) (arg12 : Memref sig .tc .vmem S8x256x256 .f32) (harg12 : arg12.IsWhole) (arg13 : Memref sig .tc .vmem S8x256x768 .bf16) (harg13 : arg13.IsWhole) (arg14 : Memref sig .tc .vmem S8x256x256 .bf16) (harg14 : arg14.IsWhole)
  (hc2 : cond1_2 i)
  (x0 : Vec Ideal S2048x128 .bf16) (x1 x2 : Vec Ideal S8192x128 .bf16) (x3 x4 : Vec Ideal S256x128 .bf16)
  (x5 : Vec Ideal S1x44x64x128 .f32)

/-- Scores against the window, of all sub-blocks. -/
theorem scores : Holds (SG (i 1).val x0 x1) (kernelRun1_C.sl.HS0_8 (F := Ideal) c i arg2 harg2 arg3 harg3 hc2 x0 x1) := by
  have one : ∀ (t : Fin 8) inb, ∀ y, View.readAt (Elt Ideal) arg3.view (Rect.unit (s := S8192x128) (k1_off3 i (BitVec.ofNat 32 t.val)) S768x128.size inb).toLoadRect
      (harg3.unread x1) y = at2 x1 (64 * w0 (i 1).val t.val + (y 0).val) (0 + (y 1).val) :=
    fun t inb => readAt2 harg3 _ _ inb x1 _ 0 (off3_val i t) rfl
  refine Holds.cons (sPiece _ x0 x1 _ _ 7 _ _ (readAt2 harg2 _ _ _ x0 _ 0 rfl rfl) (one 7 _)) ?_
  refine Holds.cons (sPiece _ x0 x1 _ _ 6 _ _ (readAt2 harg2 _ _ _ x0 _ 0 rfl rfl) (one 6 _)) ?_
  refine Holds.cons (sPiece _ x0 x1 _ _ 5 _ _ (readAt2 harg2 _ _ _ x0 _ 0 rfl rfl) (one 5 _)) ?_
  refine Holds.cons (sPiece _ x0 x1 _ _ 4 _ _ (readAt2 harg2 _ _ _ x0 _ 0 rfl rfl) (one 4 _)) ?_
  refine Holds.cons (sPiece _ x0 x1 _ _ 3 _ _ (readAt2 harg2 _ _ _ x0 _ 0 rfl rfl) (one 3 _)) ?_
  refine Holds.cons (sPiece _ x0 x1 _ _ 2 _ _ (readAt2 harg2 _ _ _ x0 _ 0 rfl rfl) (one 2 _)) ?_
  refine Holds.cons (sPiece _ x0 x1 _ _ 1 _ _ (readAt2 harg2 _ _ _ x0 _ 0 rfl rfl) (one 1 _)) ?_
  refine Holds.cons (sPiece _ x0 x1 _ _ 0 _ _ (readAt2 harg2 _ _ _ x0 _ 0 rfl rfl) (one 0 _)) ?_
  exact Holds.nil

/-- Scores against the context, of all sub-blocks. -/
theorem ctxScores : Holds (SCG x0 x3) (kernelRun1_C.sl.HS1_8 (F := Ideal) c arg2 harg2 arg5 harg5 x0 x3) := by
  iterate 8
    refine Holds.cons (scPiece x0 x3 _ _ _ _ _ (readAt2 harg2 _ _ _ x0 _ 0 rfl rfl) (readAt2 harg5 _ _ _ x3 0 0 rfl rfl)) ?_
  exact Holds.nil

theorem probs (hb : (i 1).val = 3) : Holds (PG (i 1).val x0 x1 x3 x5)
    (kernelRun1_C.sl.HS2_71 (F := Ideal) c i arg2 harg2 arg3 harg3 arg5 harg5 arg7 harg7 arg11 arg12 hc2 x0 x1 x3 x5) := by
  have s8 := scores c i arg2 harg2 arg3 harg3 hc2 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  iterate 71
    first
      | refine Holds.cons (zPiece _ x0 x1 x3 x5 _ _ _ _ _ _ ?_ ?_) ?_
        · rfl
        · rw [hb]; decide
      | refine Holds.cons (pPiece _ x0 x1 x3 x5 _ _ _ _ _ _ _ _ _ _ _ _ _ _ ?_ ?_ ?_ ?_ ?_ _ _) ?_
        · rfl
        · rw [hb]; rfl
        · rw [hb]; rfl
        · refine fRow _ x0 x1 x5 _ _ _ _ _ _ rfl (readBox _ _ _ (by with_reducible assumption) _ _ _ _ _ _ rfl) ?_
          first
            | refine bias4 _ x5 _ _ _ _ _ _ _ _ ?_ ?_ ?_ ?_
            | refine bias5 _ x5 _ _ _ _ _ _ _ _ _ ?_ ?_ ?_ ?_ ?_
          all_goals
            refine tile_apply _ x5 _ _ _ _ _ ⟨_, _, rfl, readTile harg7 _ _ x5 _ ?_⟩ ?_ ?_
            rotate_left
            · rfl
            · rfl
            rw [hb]; rfl
        · exact gRow x0 x3 _ _ _ _ (readBox _ _ _ (by with_reducible assumption) _ _ _ _ _ _ rfl)
  exact Holds.nil

theorem ctxProbs (hb : (i 1).val = 3) : Holds (PCG (i 1).val x0 x1 x3 x5)
    (kernelRun1_C.sl.HS3_32 (F := Ideal) c i arg2 harg2 arg3 harg3 arg5 harg5 arg7 harg7 arg11 arg12 hc2 x0 x1 x3 x5) := by
  have s8 := scores c i arg2 harg2 arg3 harg3 hc2 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  iterate 32
    refine Holds.cons (pcPiece _ x0 x1 x3 x5 _ _ _ _ _ _ _ _ _ _ _ _ _ _ ?_ ?_ ?_
      (fRow _ x0 x1 x5 _ _ _ _ _ _ rfl (readBox _ _ _ (by with_reducible assumption) _ _ _ _ _ _ rfl) ?_)
      (gRow x0 x3 _ _ _ _ (readBox _ _ _ (by with_reducible assumption) _ _ _ _ _ _ rfl)) _ _) ?_
    · rfl
    · rw [hb]; rfl
    · rw [hb]; rfl
    · first
        | refine bias4 _ x5 _ _ _ _ _ _ _ _ ?_ ?_ ?_ ?_
        | refine bias5 _ x5 _ _ _ _ _ _ _ _ _ ?_ ?_ ?_ ?_ ?_
      all_goals
        refine tile_apply _ x5 _ _ _ _ _ ⟨_, _, rfl, readTile harg7 _ _ x5 _ ?_⟩ ?_ ?_
        rotate_left
        · rfl
        · rfl
        rw [hb]; rfl
  exact Holds.nil

/-- The output block. -/
theorem out (hc0 : ¬cond1_0 i) (hc1 : ¬cond1_1 i) (x6 : Vec Ideal S4096x256 .f32) (hb : (i 1).val = 3) :
    Holds2 (OG (i 1).val x0 x1 x2 x3 x4 x5) (kernelRun1_C (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1 := by
  have one : ∀ (t : ℕ) (ht : t < 8) inb, ∀ y, View.readAt (Elt Ideal) arg4.view (Rect.unit (s := S8192x128) (k1_off3 i (BitVec.ofNat 32 t)) S768x128.size inb).toLoadRect
      (harg4.unread x2) y = at2 x2 (64 * w0 (i 1).val t + (y 0).val) (0 + (y 1).val) :=
    fun t ht inb => readAt2 harg4 _ _ inb x2 _ 0 (off3_val i ⟨t, ht⟩) rfl
  have s8 := scores c i arg2 harg2 arg3 harg3 hc2 x0 x1
  have s7 := Holds.tail s8
  have s6 := Holds.tail s7
  have s5 := Holds.tail s6
  have s4 := Holds.tail s5
  have s3 := Holds.tail s4
  have s2 := Holds.tail s3
  have c8 := ctxScores c arg2 harg2 arg5 harg5 x0 x3
  have c7 := Holds.tail c8
  have c6 := Holds.tail c7
  have c5 := Holds.tail c6
  have c4 := Holds.tail c5
  have c3 := Holds.tail c4
  have c2 := Holds.tail c3
  have p71 := probs c i arg2 harg2 arg3 harg3 arg5 harg5 arg7 harg7 arg11 arg12 hc2 x0 x1 x3 x5 hb
  have q32 := ctxProbs c i arg2 harg2 arg3 harg3 arg5 harg5 arg7 harg7 arg11 arg12 hc2 x0 x1 x3 x5 hb
  have p63 := p71.tail.tail.tail.tail.tail.tail.tail.tail
  have p54 := p63.tail.tail.tail.tail.tail.tail.tail.tail.tail
  have p45 := p54.tail.tail.tail.tail.tail.tail.tail.tail.tail
  have p36 := p45.tail.tail.tail.tail.tail.tail.tail.tail.tail
  have p27 := p36.tail.tail.tail.tail.tail.tail.tail.tail.tail
  have p18 := p27.tail.tail.tail.tail.tail.tail.tail.tail.tail
  have q28 := q32.tail.tail.tail.tail
  have q24 := q28.tail.tail.tail.tail
  have q20 := q24.tail.tail.tail.tail
  have q16 := q20.tail.tail.tail.tail
  have q12 := q16.tail.tail.tail.tail
  have q8 := q12.tail.tail.tail.tail
  iterate 8
    refine Holds2.cons (oPiece _ x0 x1 x2 x3 x4 x5 _ _ _ _ _ _ _ _ _ _ _ _ ?_
      (readCells _ _ _ (by with_reducible assumption) _ 128 6 (by decide) rfl _ ?_) ?_
      (readCells _ _ _ (by with_reducible assumption) _ 256 1 (by decide) rfl _ ?_)
      (readAt2 harg6 _ _ _ x4 0 0 rfl rfl) ?_) ?_
    · rfl
    · rfl
    · exact one _ (by decide) _
    · rfl
    · refine rows4 _ _ _ _ _ _ ?_ ?_ ?_ ?_
      all_goals
        refine dRow _ x0 x1 x3 x5 _ _ _ _ _ _ _ _ _ _ _ _ _ _ ?_ ?_ ?_
          (fRow _ x0 x1 x5 _ _ _ _ _ _ rfl (readBox _ _ _ (by with_reducible assumption) _ _ _ _ _ _ rfl) ?_)
          (gRow x0 x3 _ _ _ _ (readBox _ _ _ (by with_reducible assumption) _ _ _ _ _ _ rfl)) _ _ _ _
        · rfl
        · rw [hb]; rfl
        · rw [hb]; rfl
        first
          | refine bias4 _ x5 _ _ _ _ _ _ _ _ ?_ ?_ ?_ ?_
          | refine bias5 _ x5 _ _ _ _ _ _ _ _ _ ?_ ?_ ?_ ?_ ?_
        all_goals
          refine tile_apply _ x5 _ _ _ _ _ ⟨_, _, rfl, readTile harg7 _ _ x5 _ ?_⟩ ?_ ?_
          rotate_left
          · rfl
          · rfl
          rw [hb]; rfl
  exact Holds2.nil

/-- The block cast along. -/
theorem cast (hc0 : ¬cond1_0 i) (hc1 : ¬cond1_1 i) (x6 : Vec Ideal S4096x256 .f32) :
    Holds2 (at2 x6) (kernelRun1_C (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.1 :=
  Holds2.cons (fun y => (castPiece harg8 _ x6 _ y)) Holds2.nil

end C

end Cert.Attn

end
-- ==== Proof.Block.lean ====
/- What the attention's body leaves in its two output blocks at each grid point. -/
module

public import proofs.«01_k».proof.Proof.CaseA
public import proofs.«01_k».proof.Proof.CaseB
public import proofs.«01_k».proof.Proof.CaseC

@[expose] public section

noncomputable section

namespace Cert.Attn

open Idealize.ShloMosaic Idealize.ShloMosaic.TcCoe Cert.KernelIdeal Cert.KernelIdeal.Gen

theorem coords_block : ∀ t : Fin cfg1.N, ((grid1.coords t) 1).val = t.val % 4 := by decide +kernel
theorem coords_head : ∀ t : Fin cfg1.N, ((grid1.coords t) 0).val = t.val / 4 := by decide +kernel

variable (V : (c : Dev nD) → (b : Ref sig .tc) → Buf (Elt Ideal) ((c : Thread nD τ).loc b))

/-- The attention of the block of a grid point, from its input blocks. -/
abbrev blockOf (c : Dev nD) (t : Fin cfg1.N) : ℕ → ℕ → EReal :=
  OG ((grid1.coords t) 1).val (iblk1 (F := Ideal) V c 0 t) (iblk1 V c 1 t) (iblk1 V c 2 t) (iblk1 V c 3 t) (iblk1 V c 4 t) (iblk1 V c 5 t)

theorem outs7 (c : Dev nD) (t : Fin cfg1.N) (y : S2048x128.Idx) :
    (outsAt1 (F := Ideal) V c t.val t.isLt).1 y = OG (t.val % 4) (iblk1 V c 0 t) (iblk1 V c 1 t) (iblk1 V c 2 t) (iblk1 V c 3 t) (iblk1 V c 4 t)
      (iblk1 V c 5 t) (y 0).val (y 1).val := by
  rw [← coords_block t]
  by_cases h0 : t.val % 4 = 0
  · rw [outsAt1_A V c t h0 (by omega) (by omega)]
    dsimp only
    unfold out1_A_7
    refine read2 VO1_7 _ (blockOf V c t) _ ?_ ?_ y
    · apply A.out
      rw [coords_block, h0]
    · intro y; apply cover1_A_7
  · by_cases h2 : t.val % 4 = 3
    · rw [outsAt1_C V c t h0 (by omega) h2]
      dsimp only
      unfold out1_C_7
      refine read2 VO1_7 _ (blockOf V c t) _ ?_ ?_ y
      · apply C.out
        rw [coords_block, h2]
      · intro y; apply cover1_C_7
    · rw [outsAt1_B V c t h0 (by omega) h2]
      dsimp only
      unfold out1_B_7
      refine read2 VO1_7 _ (blockOf V c t) _ ?_ ?_ y
      · apply B.out
        rw [coords_block]
        omega
      · intro y; apply cover1_B_7

theorem outs8 (c : Dev nD) (t : Fin cfg1.N) (y : S4096x256.Idx) :
    (outsAt1 (F := Ideal) V c t.val t.isLt).2 y = iblk1 V c 6 t y := by
  refine Eq.trans ?_ (at2_eq (a := 4096) (b := 256) (iblk1 V c 6 t) y).symm
  by_cases h0 : t.val % 4 = 0
  · rw [outsAt1_A V c t h0 (by omega) (by omega)]
    dsimp only
    unfold out1_A_8
    refine read2 VO1_8 _ (at2 (a := 4096) (b := 256) (iblk1 V c 6 t)) _ ?_ ?_ y
    · apply A.cast
    · intro y; apply cover1_A_8
  · by_cases h2 : t.val % 4 = 3
    · rw [outsAt1_C V c t h0 (by omega) h2]
      dsimp only
      unfold out1_C_8
      refine read2 VO1_8 _ (at2 (a := 4096) (b := 256) (iblk1 V c 6 t)) _ ?_ ?_ y
      · apply C.cast
      · intro y; apply cover1_C_8
    · rw [outsAt1_B V c t h0 (by omega) h2]
      dsimp only
      unfold out1_B_8
      refine read2 VO1_8 _ (at2 (a := 4096) (b := 256) (iblk1 V c 6 t)) _ ?_ ?_ y
      · apply B.cast
      · intro y; apply cover1_B_8

end Cert.Attn

end
-- ==== Proof.Arrays.lean ====
/- The attention's two result arrays, from the arrays its launch reads. -/
module

public import proofs.«01_k».proof.Proof.Block
public import Idealize.ShloMosaic.Lib.Pipeline.ValueKit

@[expose] public section

set_option maxRecDepth 20000

noncomputable section

namespace Cert.Attn

open Idealize.ShloMosaic Idealize.ShloMosaic.TcCoe Cert.KernelIdeal Cert.KernelIdeal.Gen

variable (V : (c : Dev nD) → (b : Ref sig .tc) → Buf (Elt Ideal) ((c : Thread nD τ).loc b))

/-- The queries of one head and one block of rows. -/
def qB (q : S8192x6144.Idx → EReal) (h b : ℕ) : S2048x128.Idx → EReal := fun y => at2 q (2048 * b + (y 0).val) (128 * h + (y 1).val)
/-- The keys of one head. -/
def kB (q : S8192x6144.Idx → EReal) (h : ℕ) : S8192x128.Idx → EReal := fun y => at2 q (y 0).val (2048 + 128 * h + (y 1).val)
/-- The values of one head. -/
def vB (q : S8192x6144.Idx → EReal) (h : ℕ) : S8192x128.Idx → EReal := fun y => at2 q (y 0).val (4096 + 128 * h + (y 1).val)
/-- The context's keys of one head. -/
def kcB (x : S256x4096.Idx → EReal) (h : ℕ) : S256x128.Idx → EReal := fun y => at2 x (y 0).val (128 * h + (y 1).val)
/-- The context's values of one head. -/
def vcB (x : S256x4096.Idx → EReal) (h : ℕ) : S256x128.Idx → EReal := fun y => at2 x (y 0).val (2048 + 128 * h + (y 1).val)
/-- The bias tiles of one head. -/
def tB (x : S16x44x64x128.Idx → EReal) (h : ℕ) : S1x44x64x128.Idx → EReal :=
  fun y => if hh : h < 16 then x (ValueIdx.ix4 ⟨h, hh⟩ (y 1) (y 2) (y 3)) else 0

theorem idx0 : ∀ t : Fin cfg1.N, win1_0.index t (0 : Fin 2) = t.val % 4 ∧ win1_0.index t (1 : Fin 2) = t.val / 4 := (by decide +kernel : ∀ t : Fin grid1.N, _)
theorem idx1 : ∀ t : Fin cfg1.N, win1_1.index t (0 : Fin 2) = 0 ∧ win1_1.index t (1 : Fin 2) = 16 + t.val / 4 := (by decide +kernel : ∀ t : Fin grid1.N, _)
theorem idx2 : ∀ t : Fin cfg1.N, win1_2.index t (0 : Fin 2) = 0 ∧ win1_2.index t (1 : Fin 2) = 32 + t.val / 4 := (by decide +kernel : ∀ t : Fin grid1.N, _)
theorem idx3 : ∀ t : Fin cfg1.N, win1_3.index t (0 : Fin 2) = 0 ∧ win1_3.index t (1 : Fin 2) = t.val / 4 := (by decide +kernel : ∀ t : Fin grid1.N, _)
theorem idx4 : ∀ t : Fin cfg1.N, win1_4.index t (0 : Fin 2) = 0 ∧ win1_4.index t (1 : Fin 2) = 16 + t.val / 4 := (by decide +kernel : ∀ t : Fin grid1.N, _)
theorem idx5 : ∀ t : Fin cfg1.N, win1_5.index t (0 : Fin 4) = t.val / 4 ∧ win1_5.index t (1 : Fin 4) = 0 ∧ win1_5.index t (2 : Fin 4) = 0
    ∧ win1_5.index t (3 : Fin 4) = 0 := (by decide +kernel : ∀ t : Fin grid1.N, _)
theorem idx6 : ∀ t : Fin cfg1.N, win1_6.index t (0 : Fin 2) = 0 ∧ win1_6.index t (1 : Fin 2) = 43 + min t.val 42 := (by decide +kernel : ∀ t : Fin grid1.N, _)
theorem idx7 : ∀ t : Fin cfg1.N, win1_7.index t (0 : Fin 2) = t.val % 4 ∧ win1_7.index t (1 : Fin 2) = t.val / 4 := (by decide +kernel : ∀ t : Fin grid1.N, _)
theorem idx8 : ∀ t : Fin cfg1.N, win1_8.index t (0 : Fin 2) = 0 ∧ win1_8.index t (1 : Fin 2) = min t.val 42 := (by decide +kernel : ∀ t : Fin grid1.N, _)
theorem points : ∀ t : Fin cfg1.N, t.val < 64 := fun t => lt_of_lt_of_eq t.isLt (by decide +kernel)

theorem blk0 (c : Dev nD) (t : Fin cfg1.N) : iblk1 (F := Ideal) V c 0 t = qB (V c main_arg0) (t.val / 4) (t.val % 4) := by
  obtain ⟨e0, e1⟩ := idx0 t
  funext y
  show V c main_arg0 (((cfg1.win 0).blk t).view.emb y) = _
  refine (at2_eq (a := 8192) (b := 6144) (V c main_arg0) _).trans ?_
  show at2 (V c main_arg0) (win1_0.index t (0 : Fin 2) * 2048 + 1 * (y 0).val) (win1_0.index t (1 : Fin 2) * 128 + 1 * (y 1).val)
    = at2 (V c main_arg0) (2048 * (t.val % 4) + (y 0).val) (128 * (t.val / 4) + (y 1).val)
  rw [e0, e1]; congr 1 <;> ring

theorem blk1 (c : Dev nD) (t : Fin cfg1.N) : iblk1 (F := Ideal) V c 1 t = kB (V c main_arg0) (t.val / 4) := by
  obtain ⟨e0, e1⟩ := idx1 t
  funext y
  show V c main_arg0 (((cfg1.win 1).blk t).view.emb y) = _
  refine (at2_eq (a := 8192) (b := 6144) (V c main_arg0) _).trans ?_
  show at2 (V c main_arg0) (win1_1.index t (0 : Fin 2) * 8192 + 1 * (y 0).val) (win1_1.index t (1 : Fin 2) * 128 + 1 * (y 1).val)
    = at2 (V c main_arg0) (y 0).val (2048 + 128 * (t.val / 4) + (y 1).val)
  rw [e0, e1]; congr 1 <;> ring

theorem blk2 (c : Dev nD) (t : Fin cfg1.N) : iblk1 (F := Ideal) V c 2 t = vB (V c main_arg0) (t.val / 4) := by
  obtain ⟨e0, e1⟩ := idx2 t
  funext y
  show V c main_arg0 (((cfg1.win 2).blk t).view.emb y) = _
  refine (at2_eq (a := 8192) (b := 6144) (V c main_arg0) _).trans ?_
  show at2 (V c main_arg0) (win1_2.index t (0 : Fin 2) * 8192 + 1 * (y 0).val) (win1_2.index t (1 : Fin 2) * 128 + 1 * (y 1).val)
    = at2 (V c main_arg0) (y 0).val (4096 + 128 * (t.val / 4) + (y 1).val)
  rw [e0, e1]; congr 1 <;> ring

theorem blk3 (c : Dev nD) (t : Fin cfg1.N) : iblk1 (F := Ideal) V c 3 t = kcB (V c main_arg1) (t.val / 4) := by
  obtain ⟨e0, e1⟩ := idx3 t
  funext y
  show V c main_arg1 (((cfg1.win 3).blk t).view.emb y) = _
  refine (at2_eq (a := 256) (b := 4096) (V c main_arg1) _).trans ?_
  show at2 (V c main_arg1) (win1_3.index t (0 : Fin 2) * 256 + 1 * (y 0).val) (win1_3.index t (1 : Fin 2) * 128 + 1 * (y 1).val)
    = at2 (V c main_arg1) (y 0).val (128 * (t.val / 4) + (y 1).val)
  rw [e0, e1]; congr 1 <;> ring

theorem blk4 (c : Dev nD) (t : Fin cfg1.N) : iblk1 (F := Ideal) V c 4 t = vcB (V c main_arg1) (t.val / 4) := by
  obtain ⟨e0, e1⟩ := idx4 t
  funext y
  show V c main_arg1 (((cfg1.win 4).blk t).view.emb y) = _
  refine (at2_eq (a := 256) (b := 4096) (V c main_arg1) _).trans ?_
  show at2 (V c main_arg1) (win1_4.index t (0 : Fin 2) * 256 + 1 * (y 0).val) (win1_4.index t (1 : Fin 2) * 128 + 1 * (y 1).val)
    = at2 (V c main_arg1) (y 0).val (2048 + 128 * (t.val / 4) + (y 1).val)
  rw [e0, e1]; congr 1 <;> ring

theorem blk5 (c : Dev nD) (t : Fin cfg1.N) : iblk1 (F := Ideal) V c 5 t = tB (V c main_v3) (t.val / 4) := by
  obtain ⟨e0, e1, e2, e3⟩ := idx5 t
  have ht := points t
  funext y
  show V c main_v3 (((cfg1.win 5).blk t).view.emb y) = _
  have hy : (y 0).val < 1 := (y 0).isLt
  have hh : t.val / 4 < 16 := by omega
  unfold tB
  rw [dif_pos hh]
  refine congrArg (V c main_v3) ?_
  funext a; apply Fin.ext
  match a with
  | ⟨0, _⟩ => show win1_5.index t (0 : Fin 4) * 1 + 1 * (y 0).val = t.val / 4; omega
  | ⟨1, _⟩ => show win1_5.index t (1 : Fin 4) * 44 + 1 * (y 1).val = (y 1).val; omega
  | ⟨2, _⟩ => show win1_5.index t (2 : Fin 4) * 64 + 1 * (y 2).val = (y 2).val; omega
  | ⟨3, _⟩ => show win1_5.index t (3 : Fin 4) * 128 + 1 * (y 3).val = (y 3).val; omega

theorem blk6 (c : Dev nD) (t : Fin cfg1.N) (y : S4096x256.Idx) :
    iblk1 (F := Ideal) V c 6 t y = at2 (a := 4096) (b := 22016) (V c main_v0) (y 0).val (11008 + (256 * min t.val 42 + (y 1).val)) := by
  obtain ⟨e0, e1⟩ := idx6 t
  show V c main_v0 (((cfg1.win 6).blk t).view.emb y) = _
  refine (at2_eq (a := 4096) (b := 22016) (V c main_v0) _).trans ?_
  show at2 (V c main_v0) (win1_6.index t (0 : Fin 2) * 4096 + 1 * (y 0).val) (win1_6.index t (1 : Fin 2) * 256 + 1 * (y 1).val) = _
  rw [e0, e1]; congr 1 <;> ring

/-- The attention's result at an index of the array, from the queries, keys and values, the context's, and the bias tiles. -/
def attnAt (q : S8192x6144.Idx → EReal) (x : S256x4096.Idx → EReal) (tab : S16x44x64x128.Idx → EReal) (i j : ℕ) : EReal :=
  OG (i / 2048) (qB q (j / 128) (i / 2048)) (kB q (j / 128)) (vB q (j / 128)) (kcB x (j / 128)) (vcB x (j / 128)) (tB tab (j / 128))
    (i % 2048) (j % 128)

theorem final7 (c : Dev nD) : (dat1 (F := Ideal) V c).arrAt 7 cfg1.N
    = fun i : S8192x2048.Idx => attnAt (V c main_arg0) (V c main_arg1) (V c main_v3) (i 0).val (i 1).val := by
  refine (dat1 (F := Ideal) V c).arrAt_eq_of_covers 7 _ (by decide +kernel) fun t hf y => ?_
  show (dat1 (F := Ideal) V c).after 7 t y = attnAt (V c main_arg0) (V c main_arg1) (V c main_v3)
    (((cfg1.win 7).blk t).view.emb y 0).val (((cfg1.win 7).blk t).view.emb y 1).val
  rw [after1_7]
  refine (outs7 V c t y).trans ?_
  have ht := points t
  obtain ⟨e0, e1⟩ := idx7 t
  have h0 : (((cfg1.win 7).blk t).view.emb y 0).val = win1_7.index t (0 : Fin 2) * 2048 + 1 * (y 0).val := rfl
  have h1 : (((cfg1.win 7).blk t).view.emb y 1).val = win1_7.index t (1 : Fin 2) * 128 + 1 * (y 1).val := rfl
  have hy0 : (y 0).val < 2048 := (y 0).isLt
  have hy1 : (y 1).val < 128 := (y 1).isLt
  rw [h0, h1, e0, e1, blk0, blk1, blk2, blk3, blk4, blk5]
  unfold attnAt
  rw [show (t.val % 4 * 2048 + 1 * (y 0).val) / 2048 = t.val % 4 by omega, show (t.val % 4 * 2048 + 1 * (y 0).val) % 2048 = (y 0).val by omega,
    show (t.val / 4 * 128 + 1 * (y 1).val) / 128 = t.val / 4 by omega, show (t.val / 4 * 128 + 1 * (y 1).val) % 128 = (y 1).val by omega]

theorem final8 (c : Dev nD) : (dat1 (F := Ideal) V c).arrAt 8 cfg1.N
    = fun i : S4096x11008.Idx => at2 (a := 4096) (b := 22016) (V c main_v0) (i 0).val (11008 + (i 1).val) := by
  refine (dat1 (F := Ideal) V c).arrAt_eq_of_covers 8 _ (by decide +kernel) fun t hf y => ?_
  show (dat1 (F := Ideal) V c).after 8 t y = at2 (a := 4096) (b := 22016) (V c main_v0)
    (((cfg1.win 8).blk t).view.emb y 0).val (11008 + (((cfg1.win 8).blk t).view.emb y 1).val)
  rw [after1_8]
  refine (outs8 V c t y).trans ?_
  obtain ⟨e0, e1⟩ := idx8 t
  have h0 : (((cfg1.win 8).blk t).view.emb y 0).val = win1_8.index t (0 : Fin 2) * 4096 + 1 * (y 0).val := rfl
  have h1 : (((cfg1.win 8).blk t).view.emb y 1).val = win1_8.index t (1 : Fin 2) * 256 + 1 * (y 1).val := rfl
  rw [h0, h1, e0, e1, blk6]
  congr 1 <;> ring

end Cert.Attn

end
-- ==== Proof.Run.lean ====
/- The kernel's run with its two results at functions of the arrays its launches read. -/
module

public import proofs.«01_k».proof.Proof.Arrays

@[expose] public section

set_option maxRecDepth 20000

noncomputable section

namespace Cert.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run from any memory with every counter at zero: the two results end at what the second launch leaves, the arguments unchanged. -/
theorem run_end : θ_run defs (onTc (τ := τ) (main (F := F))) ⟨m, fun _ => 0, ρ⟩ (fun r => ∀ c : Dev nD,
      r.2.mem ((c.tc : Thread nD τ).loc main_v4_0) = (dat1 (V2 m ρ) c).arrAt 7 cfg1.N
      ∧ r.2.mem ((c.tc : Thread nD τ).loc main_v4_1) = (dat1 (V2 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v4_0 (by decide))).trans (W3_arr m ρ c 7), (h c _ (mem_uc main_v4_1 (by decide))).trans (W3_arr m ρ c 8),
       (h c _ (mem_uc main_arg0 (by decide))).trans (W3_main_arg0 m ρ c), (h c _ (mem_uc main_arg1 (by decide))).trans (W3_main_arg1 m ρ c),
       (h c _ (mem_uc main_arg2 (by decide))).trans (W3_main_arg2 m ρ c), (h c _ (mem_uc main_arg3 (by decide))).trans (W3_main_arg3 m ρ c)⟩)

/-- The launches read the arguments as they were at the start. -/
theorem V2_arg0 (c : Dev nD) : V2 m ρ c main_arg0 = m ((c : Thread nD τ).loc main_arg0) := W2_args m ρ c main_arg0 (by decide)
theorem V2_arg1 (c : Dev nD) : V2 m ρ c main_arg1 = m ((c : Thread nD τ).loc main_arg1) := W2_args m ρ c main_arg1 (by decide)
theorem V2_v3 (c : Dev nD) : V2 m ρ c main_v3 = (dat0 (V1 m ρ) c).arrAt 1 cfg0.N := W2_arr m ρ c 1
theorem V2_v0 (c : Dev nD) : V2 m ρ c main_v0 = V1 m ρ c main_v0 := W2_of_ne m ρ c main_v0 (by decide)

end Cert.Attn

end
-- ==== Proof.Bias.lean ====
/- The bias tiles the first launch writes, at coordinates. -/
module

public import proofs.«01_k».proof.Proof.Geom
public import proofs.«01_k».proof.Proof.Gen.KernelIdeal.Frame

@[expose] public section

set_option maxRecDepth 20000
set_option maxHeartbeats 4000000

noncomputable section

namespace Cert.Attn

open Idealize.ShloMosaic hiding ix1 ix2 ix3 ix4 eq_ix1 eq_ix2 eq_ix3 eq_ix4
open Idealize.ShloMosaic.ValueIdx Idealize.ShloMosaic.TcCoe Cert.KernelIdeal Cert.KernelIdeal.Gen

/-- The bias column of a query column and a key column. -/
def dcN (q k : ℕ) : ℕ := min (k + 15 - q) 30
/-- Whether a key column is in a query column's window. -/
def inWin (q k : ℕ) : Prop := min (q - 8) 48 ≤ k ∧ k < min (q - 8) 48 + 16
instance (q k : ℕ) : Decidable (inWin q k) := inferInstanceAs (Decidable (_ ∧ _))

/-- The bias at one row distance: the table's entry in the window, −∞ outside. -/
def biasEntry (x : S16x465.Idx → EReal) (h d q k : ℕ) : EReal := if inWin q k then at2 x h (31 * d + dcN q k) else ⊥

/-- One entry of the tile table. -/
def tabEntry (x : S16x465.Idx → EReal) (h n q l : ℕ) : EReal :=
  if n < 14 then (if 64 ≤ l then biasEntry x h (n + 1) q (l % 64) else biasEntry x h n q (l % 64))
  else if n < 29 then (if 64 ≤ l then ⊥ else biasEntry x h (n - 14) q (l % 64))
  else (if 64 ≤ l then biasEntry x h (n - 29) q (l % 64) else ⊥)

/-- The vector of bias columns, as the kernel makes it. -/
def dcV : IVec S64x128 32 :=
  addi (minsi (broadcast S64x128 15#32) (maxsi (broadcast S64x128 4294967281#32)
    (subi (andi (iota .tc S64x128 32 [1] iota_S64x128_d1_w32) (broadcast S64x128 63#32)) (iota .tc S64x128 32 [0] iota_S64x128_d0_w32))))
    (broadcast S64x128 15#32)

/-- The first key column of each query column. -/
def c0V : IVec S64x128 32 :=
  minsi (broadcast S64x128 48#32) (maxsi (broadcast S64x128 0#32) (subi (iota .tc S64x128 32 [0] iota_S64x128_d0_w32) (broadcast S64x128 8#32)))

/-- Which lanes are in the window. -/
def inV : IVec S64x128 1 :=
  andi (cmpi .sge (andi (iota .tc S64x128 32 [1] iota_S64x128_d1_w32) (broadcast S64x128 63#32)) c0V)
    (cmpi .slt (andi (iota .tc S64x128 32 [1] iota_S64x128_d1_w32) (broadcast S64x128 63#32)) (addi c0V (broadcast S64x128 16#32)))

/-- Which lanes are in the right half. -/
def hiV : IVec S64x128 1 := cmpi .sge (iota .tc S64x128 32 [1] iota_S64x128_d1_w32) (broadcast S64x128 64#32)

theorem iota0 (a : Fin 64) (b : Fin 128) : iota .tc S64x128 32 [0] iota_S64x128_d0_w32 (ix2 a b) = BitVec.ofNat 32 a.val := iota_single_apply .tc _ 32 0 _ _
theorem iota1 (a : Fin 64) (b : Fin 128) : iota .tc S64x128 32 [1] iota_S64x128_d1_w32 (ix2 a b) = BitVec.ofNat 32 b.val := iota_single_apply .tc _ 32 1 _ _
theorem lane_mod : ∀ b : Fin 128, IntOp.andi (BitVec.ofNat 32 b.val) 63#32 = BitVec.ofNat 32 (b.val % 64) := by decide +kernel
theorem dc_word : ∀ a k : Fin 64, IntOp.addi (IntOp.minsi 15#32 (IntOp.maxsi 4294967281#32 (IntOp.subi (BitVec.ofNat 32 k.val) (BitVec.ofNat 32 a.val)))) 15#32
    = BitVec.ofNat 32 (dcN a.val k.val) := by decide +kernel
theorem c0_word : ∀ a : Fin 64, IntOp.minsi 48#32 (IntOp.maxsi 0#32 (IntOp.subi (BitVec.ofNat 32 a.val) 8#32)) = BitVec.ofNat 32 (min (a.val - 8) 48) := by decide +kernel
theorem in_word : ∀ (c : Fin 49) (k : Fin 64), IntOp.andi (IntOp.cmpi .sge (BitVec.ofNat 32 k.val) (BitVec.ofNat 32 c.val))
    (IntOp.cmpi .slt (BitVec.ofNat 32 k.val) (IntOp.addi (BitVec.ofNat 32 c.val) 16#32)) = if c.val ≤ k.val ∧ k.val < c.val + 16 then 1#1 else 0#1 := by decide +kernel
theorem hi_word : ∀ b : Fin 128, IntOp.cmpi .sge (BitVec.ofNat 32 b.val) 64#32 = if 64 ≤ b.val then 1#1 else 0#1 := by decide +kernel

theorem dcV_apply (a : Fin 64) (b : Fin 128) : dcV (ix2 a b) = BitVec.ofNat 32 (dcN a.val (b.val % 64)) := by
  show IntOp.addi (IntOp.minsi 15#32 (IntOp.maxsi 4294967281#32 (IntOp.subi (IntOp.andi (iota .tc S64x128 32 [1] iota_S64x128_d1_w32 (ix2 a b)) 63#32)
    (iota .tc S64x128 32 [0] iota_S64x128_d0_w32 (ix2 a b))))) 15#32 = _
  rw [iota0, iota1, lane_mod]
  exact dc_word a ⟨b.val % 64, Nat.mod_lt _ (by decide)⟩

theorem inV_apply (a : Fin 64) (b : Fin 128) : inV (ix2 a b) = if inWin a.val (b.val % 64) then 1#1 else 0#1 := by
  show IntOp.andi (IntOp.cmpi .sge (IntOp.andi (iota .tc S64x128 32 [1] iota_S64x128_d1_w32 (ix2 a b)) 63#32)
      (IntOp.minsi 48#32 (IntOp.maxsi 0#32 (IntOp.subi (iota .tc S64x128 32 [0] iota_S64x128_d0_w32 (ix2 a b)) 8#32))))
    (IntOp.cmpi .slt (IntOp.andi (iota .tc S64x128 32 [1] iota_S64x128_d1_w32 (ix2 a b)) 63#32)
      (IntOp.addi (IntOp.minsi 48#32 (IntOp.maxsi 0#32 (IntOp.subi (iota .tc S64x128 32 [0] iota_S64x128_d0_w32 (ix2 a b)) 8#32))) 16#32)) = _
  rw [iota0, iota1, lane_mod, c0_word]
  exact in_word ⟨min (a.val - 8) 48, by omega⟩ ⟨b.val % 64, Nat.mod_lt _ (by decide)⟩

theorem hiV_apply (a : Fin 64) (b : Fin 128) : hiV (ix2 a b) = if 64 ≤ b.val then 1#1 else 0#1 := by
  show IntOp.cmpi .sge (iota .tc S64x128 32 [1] iota_S64x128_d1_w32 (ix2 a b)) 64#32 = _
  rw [iota1]
  exact hi_word b

/-- A vector that holds the bias where the bias column is below `n`. -/
def Acc (x : S16x465.Idx → EReal) (h d n : ℕ) (v : FVec Ideal S64x128 .f32) : Prop :=
  ∀ (a : Fin 64) (b : Fin 128), dcN a.val (b.val % 64) < n → v (ix2 a b) = at2 x h (31 * d + dcN a.val (b.val % 64))

theorem Acc.zero {x : S16x465.Idx → EReal} {h d : ℕ} {v : FVec Ideal S64x128 .f32} : Acc x h d 0 v := fun _ _ hn => absurd hn (Nat.not_lt_zero _)

/-- One more bias column chosen. -/
theorem Acc.step {x : S16x465.Idx → EReal} {h d n : ℕ} {v : FVec Ideal S64x128 .f32} {w : EReal} (hn : n < 31)
    (hw : w = at2 x h (31 * d + n)) (hv : Acc x h d n v) :
    Acc x h d (n + 1) (select (cmpi .eq dcV (broadcast S64x128 (BitVec.ofNat 32 n))) (broadcast (α := Elt Ideal .f32) S64x128 w) v) := by
  intro a b hlt
  rw [select_apply]
  show Scalar.select (IntOp.cmpi .eq (dcV (ix2 a b)) (BitVec.ofNat 32 n)) w (v (ix2 a b)) = _
  rw [dcV_apply]
  by_cases e : dcN a.val (b.val % 64) = n
  · rw [e, show IntOp.cmpi .eq (BitVec.ofNat 32 n) (BitVec.ofNat 32 n) = 1#1 by simp [IntOp.cmpi]]
    exact hw
  · have hne : (BitVec.ofNat 32 (dcN a.val (b.val % 64)) == BitVec.ofNat 32 n) = false := by
      refine beq_false_of_ne fun hh => ?_
      have := congrArg BitVec.toNat hh
      simp only [BitVec.toNat_ofNat] at this
      omega
    rw [show IntOp.cmpi .eq (BitVec.ofNat 32 (dcN a.val (b.val % 64))) (BitVec.ofNat 32 n) = 0#1 by unfold IntOp.cmpi; simp only [hne]; rfl]
    exact hv a b (by omega)

/-- A vector that holds the bias at row distance `d`. -/
def Is (x : S16x465.Idx → EReal) (h d : ℕ) (v : FVec Ideal S64x128 .f32) : Prop :=
  ∀ (a : Fin 64) (b : Fin 128), v (ix2 a b) = biasEntry x h d a.val (b.val % 64)

theorem Is.of {x : S16x465.Idx → EReal} {h d : ℕ} {v : FVec Ideal S64x128 .f32} (hv : Acc x h d 31 v) :
    Is x h d (select inV v (broadcast (α := Elt Ideal .f32) S64x128 (FloatOps.ofBits (F := Ideal) .f32 4286578688#32))) := by
  intro a b
  rw [select_apply, inV_apply]
  show Scalar.select _ _ (FloatOps.ofBits (F := Ideal) .f32 0xFF800000#32) = _
  rw [neutral_max]
  unfold biasEntry
  by_cases e : inWin a.val (b.val % 64)
  · rw [if_pos e, if_pos e]
    exact hv a b (by unfold dcN; omega)
  · rw [if_neg e, if_neg e]
    rfl

variable {sig : RefSig} {κ : Kind} {sp : Space}

/-- One word of the bias table, read by a scalar load. -/
theorem word {m : Memref sig κ sp S16x465 .f32} (hm : m.IsWhole) (off : Fin 2 → ℕ) (inb) (x : Vec Ideal S16x465 .f32) (hp)
    {h n : ℕ} (h0 : off 0 = h) (h1 : off 1 = n) :
    View.readAt (Elt Ideal) m.view (Rect.unit (s := S16x465) off S1x1.size inb).toLoadRect (hm.unread x) (Shape.Idx.first (s := S1x1) hp) = at2 x h n := by
  rw [View.readAt_apply, hm.read_unread]
  refine (at2_eq (a := 16) (b := 465) x _).trans ?_
  subst h0 h1
  rfl

/-- A half of a tile at the bias of one row distance, by lanes: of the three kinds of tiles. -/
theorem both {x : S16x465.Idx → EReal} {h d : ℕ} {v w : FVec Ideal S64x128 .f32} (hv : Is x h (d + 1) v) (hw : Is x h d w) (hd : d < 14)
    (a : Fin 64) (b : Fin 128) : select hiV v w (ix2 a b) = tabEntry x h d a.val b.val := by
  rw [select_apply, hiV_apply, hv, hw]
  unfold tabEntry
  rw [if_pos hd]
  split <;> rfl

theorem left {x : S16x465.Idx → EReal} {h d : ℕ} {w : FVec Ideal S64x128 .f32} (hw : Is x h d w) (hd : d < 15) (a : Fin 64) (b : Fin 128) :
    select hiV (broadcast (α := Elt Ideal .f32) S64x128 (FloatOps.ofBits (F := Ideal) .f32 4286578688#32)) w (ix2 a b)
      = tabEntry x h (d + 14) a.val b.val := by
  rw [select_apply, hiV_apply, hw]
  show Scalar.select _ (FloatOps.ofBits (F := Ideal) .f32 0xFF800000#32) _ = _
  rw [neutral_max]
  unfold tabEntry
  rw [if_neg (show ¬d + 14 < 14 by omega), if_pos (show d + 14 < 29 by omega), show d + 14 - 14 = d by omega]
  split <;> rfl

theorem right {x : S16x465.Idx → EReal} {h d : ℕ} {w : FVec Ideal S64x128 .f32} (hw : Is x h d w) (hd : d < 15) (a : Fin 64) (b : Fin 128) :
    select hiV w (broadcast (α := Elt Ideal .f32) S64x128 (FloatOps.ofBits (F := Ideal) .f32 4286578688#32)) (ix2 a b)
      = tabEntry x h (d + 29) a.val b.val := by
  rw [select_apply, hiV_apply, hw]
  show Scalar.select _ _ (FloatOps.ofBits (F := Ideal) .f32 0xFF800000#32) = _
  rw [neutral_max]
  unfold tabEntry
  rw [if_neg (show ¬d + 29 < 14 by omega), if_neg (show ¬d + 29 < 29 by omega), show d + 29 - 29 = d by omega]
  split <;> rfl

/-- What all pieces of a store list put into their tiles, of a tile table holding `G`. -/
abbrev HoldsT (G : ℕ → ℕ → ℕ → EReal) (L : List (View.Piece (Elt Ideal) S1x44x64x128 .f32)) : Prop :=
  ∀ p ∈ L, ∀ y : p.1.shape.Idx, p.2 y = G (p.1.emb y 1).val (p.1.emb y 2).val (p.1.emb y 3).val

theorem HoldsT.cons {G : ℕ → ℕ → ℕ → EReal} {L : List (View.Piece (Elt Ideal) S1x44x64x128 .f32)} {k : ℕ} {inb}
    {v : S64x128.Idx → EReal} {hs : S64x128.ShapeCasts S1x1x64x128} (hv : ∀ (a : Fin 64) (b : Fin 128), v (ix2 a b) = G k a.val b.val) (hL : HoldsT G L) :
    HoldsT G (⟨Rect.unit (s := S1x44x64x128) ![0, k, 0, 0] S1x1x64x128.size inb, shapeCast (α := Elt Ideal .f32) S1x1x64x128 v hs⟩ :: L) := by
  refine List.forall_mem_cons.mpr ⟨fun y => ?_, hL⟩
  obtain ⟨u, w, a, b, rfl⟩ : ∃ (u : Fin 1) (w : Fin 1) (a : Fin 64) (b : Fin 128), y = ix4 u w a b := ⟨_, _, _, _, eq_ix4 y⟩
  refine (shapeCast_apply v hs _ (ix2 a b) ?_).trans ((hv a b).trans ?_)
  · rw [Shape.rowMajor_val_two, Shape.rowMajor_val_four]
    show a.val * 128 + b.val = ((u.val * 1 + w.val) * 64 + a.val) * 128 + b.val
    omega
  · show G k a.val b.val = G (k + 1 * w.val) (0 + 1 * a.val) (0 + 1 * b.val)
    rw [show k + 1 * w.val = k by omega, show 0 + 1 * a.val = a.val by omega, show 0 + 1 * b.val = b.val by omega]

theorem HoldsT.nil {G : ℕ → ℕ → ℕ → EReal} : HoldsT G [] := List.forall_mem_nil _

end Cert.Attn

end
-- ==== Proof.Table.lean ====
/- The bias table after the first launch, and its array. -/
module

public import proofs.«01_k».proof.Proof.Bias
public import Idealize.ShloMosaic.Lib.Pipeline.ValueKit

@[expose] public section

set_option maxRecDepth 20000
set_option maxHeartbeats 4000000

noncomputable section

namespace Cert.Attn

open Idealize.ShloMosaic hiding ix1 ix2 ix3 ix4 eq_ix1 eq_ix2 eq_ix3 eq_ix4
open Idealize.ShloMosaic.ValueIdx Idealize.ShloMosaic.TcCoe Cert.KernelIdeal Cert.KernelIdeal.Gen

namespace Table

attribute [local irreducible] shapeCast select cmpi broadcast addi minsi maxsi subi andi iota View.readAt

variable (c : Dev nD) (i : grid0.Coords) (arg1 : Memref sig .tc .smem S16x465 .f32) (harg1 : arg1.IsWhole)
  (arg2 : Memref sig .tc .vmem S1x44x64x128 .f32) (harg2 : arg2.IsWhole) (x0 : Vec Ideal S16x465 .f32)

theorem head_word : (Scalar.indexCast (BitVec.ofNat 32 (i 0).val)).toNat = (i 0).val := by
  have h : (i 0).val < 16 := (i 0).isLt
  show (BitVec.ofNat 32 (i 0).val).toNat = _
  rw [BitVec.toNat_ofNat]
  omega

/-- The tiles the launch's body stores: each a choice, by lanes, between the bias at one row distance, at another, and −∞. -/
theorem tiles : HoldsT (tabEntry x0 (i 0).val) (kernelRun0_A (F := Ideal) c i arg1 harg1 arg2 harg2 x0).1 := by
  refine HoldsT.cons (right ?_ (by decide)) ?_
  all_goals repeat' first
    | exact HoldsT.nil
    | refine HoldsT.cons (both ?_ ?_ (by decide)) ?_
    | refine HoldsT.cons (left ?_ (by decide)) ?_
    | refine HoldsT.cons (right ?_ (by decide)) ?_
    | refine Is.of ?_
  all_goals
    iterate 31 refine Acc.step (by decide) (word harg1 _ _ x0 _ (head_word i) rfl) ?_
    exact Acc.zero

end Table

theorem tidx0 : ∀ t : Fin cfg0.N, win0_0.index t (0 : Fin 2) = 0 ∧ win0_0.index t (1 : Fin 2) = 0 := (by decide +kernel : ∀ t : Fin grid0.N, _)
theorem tidx1 : ∀ t : Fin cfg0.N, win0_1.index t (0 : Fin 4) = t.val ∧ win0_1.index t (1 : Fin 4) = 0 ∧ win0_1.index t (2 : Fin 4) = 0
    ∧ win0_1.index t (3 : Fin 4) = 0 := (by decide +kernel : ∀ t : Fin grid0.N, _)
theorem tcoord : ∀ t : Fin cfg0.N, ((grid0.coords t) 0).val = t.val := (by decide +kernel : ∀ t : Fin grid0.N, _)

variable (V : (c : Dev nD) → (b : Ref sig .tc) → Buf (Elt Ideal) ((c : Thread nD τ).loc b))

theorem tblk (c : Dev nD) (t : Fin cfg0.N) : iblk0 (F := Ideal) V c 0 t = V c main_v2 := by
  obtain ⟨e0, e1⟩ := tidx0 t
  funext y
  show V c main_v2 (((cfg0.win 0).blk t).view.emb y) = V c main_v2 y
  refine congrArg (V c main_v2) ?_
  funext a; apply Fin.ext
  match a with
  | ⟨0, _⟩ => show win0_0.index t (0 : Fin 2) * 16 + 1 * (y 0).val = (y 0).val; omega
  | ⟨1, _⟩ => show win0_0.index t (1 : Fin 2) * 465 + 1 * (y 1).val = (y 1).val; omega

theorem touts (c : Dev nD) (t : Fin cfg0.N) (y : S1x44x64x128.Idx) :
    outsAt0 (F := Ideal) V c t y = tabEntry (V c main_v2) t.val (y 1).val (y 2).val (y 3).val := by
  unfold outsAt0 out0_A_1
  have hc := cover0_A_1 (F := Ideal) c (grid0.coords t) (ms0_0 t) (hs0_0 t) (ms0_1 t) (hs0_1 t) (iblk0 V c 0 t) y
  refine (View.read_writes_apply_eq_canon VO0_1 _ y _ hc).trans ((View.canon_apply_of_pieces (S := S1x44x64x128)
    (fun z => tabEntry (iblk0 (F := Ideal) V c 0 t) ((grid0.coords t) 0).val (z 1).val (z 2).val (z 3).val) _
    (Table.tiles c (grid0.coords t) (ms0_0 t) (hs0_0 t) (ms0_1 t) (hs0_1 t) (iblk0 V c 0 t)) y hc).trans ?_)
  show tabEntry _ _ _ _ _ = _
  rw [tblk, tcoord]

/-- The table of bias tiles after the first launch. -/
theorem tfinal (c : Dev nD) : (dat0 (F := Ideal) V c).arrAt 1 cfg0.N
    = fun i : S16x44x64x128.Idx => tabEntry (V c main_v2) (i 0).val (i 1).val (i 2).val (i 3).val := by
  refine (dat0 (F := Ideal) V c).arrAt_eq_of_covers 1 _ (by decide +kernel) fun t hf y => ?_
  show (dat0 (F := Ideal) V c).after 1 t y = tabEntry (V c main_v2) (((cfg0.win 1).blk t).view.emb y 0).val
    (((cfg0.win 1).blk t).view.emb y 1).val (((cfg0.win 1).blk t).view.emb y 2).val (((cfg0.win 1).blk t).view.emb y 3).val
  rw [after0_1]
  refine (touts V c t y).trans ?_
  obtain ⟨e0, e1, e2, e3⟩ := tidx1 t
  have h0 : (((cfg0.win 1).blk t).view.emb y 0).val = win0_1.index t (0 : Fin 4) * 1 + 1 * (y 0).val := rfl
  have h1 : (((cfg0.win 1).blk t).view.emb y 1).val = win0_1.index t (1 : Fin 4) * 44 + 1 * (y 1).val := rfl
  have h2 : (((cfg0.win 1).blk t).view.emb y 2).val = win0_1.index t (2 : Fin 4) * 64 + 1 * (y 2).val := rfl
  have h3 : (((cfg0.win 1).blk t).view.emb y 3).val = win0_1.index t (3 : Fin 4) * 128 + 1 * (y 3).val := rfl
  have hy : (y 0).val < 1 := (y 0).isLt
  rw [h0, h1, h2, h3, e0, e1, e2, e3]
  congr 1 <;> omega

end Cert.Attn

end
-- ==== Proof.Spec.lean ====
/- Neighbourhood attention at natural coordinates: each query's scores against eight rows of keys and against the context, the
   softmax of both together, the weighted sum of the values. And the reduction of the kernel's window of twelve rows to the eight. -/
module

public import proofs.«01_k».proof.Proof.Arrays
public import proofs.«01_k».proof.Proof.Bias

@[expose] public section

noncomputable section

namespace Cert.Attn

open Idealize.ShloMosaic hiding ix1 ix2 ix3 ix4 eq_ix1 eq_ix2 eq_ix3 eq_ix4
open Idealize.ShloMosaic.ValueIdx Cert.KernelIdeal

section
variable (q : S8192x6144.Idx → EReal) (x : S256x4096.Idx → EReal) (rp : S16x465.Idx → EReal)

/-- The first of the eight key rows of a query row. -/
def row0 (r : ℕ) : ℕ := min (r - 4) 120

/-- The score of query column `c` of row `r` against key `n` of the eight rows: −∞ outside the window of key columns. -/
def sRow (h r c n : ℕ) : EReal :=
  (∑ k : Fin 128, at2 q (64 * r + c) (128 * h + k.val) * at2 q (64 * row0 r + n) (2048 + 128 * h + k.val)) * scale
    + biasEntry rp h (row0 r + n / 64 + 7 - r) c (n % 64)
/-- The score against a context key. -/
def cRow (h r c n : ℕ) : EReal := (∑ k : Fin 128, at2 q (64 * r + c) (128 * h + k.val) * at2 x n (128 * h + k.val)) * scale
/-- The greatest score. -/
def mRow (h r c : ℕ) : EReal := max ((Finset.range 512).sup (sRow q rp h r c)) ((Finset.range 256).sup (cRow q x h r c))
/-- The softmax denominator. -/
def dRowS (h r c : ℕ) : EReal :=
  ∑ n ∈ Finset.range 512, Ideal.exp (sRow q rp h r c n - mRow q x rp h r c) + ∑ n ∈ Finset.range 256, Ideal.exp (cRow q x h r c n - mRow q x rp h r c)
/-- The attention at query `i` and channel `j`. -/
def specAt (i j : ℕ) : EReal :=
  Ideal.div (∑ n ∈ Finset.range 512, Ideal.exp (sRow q rp (j / 128) (i / 64) (i % 64) n - mRow q x rp (j / 128) (i / 64) (i % 64))
        * at2 q (64 * row0 (i / 64) + n) (4096 + 128 * (j / 128) + j % 128)
      + ∑ n ∈ Finset.range 256, Ideal.exp (cRow q x (j / 128) (i / 64) (i % 64) n - mRow q x rp (j / 128) (i / 64) (i % 64))
        * at2 x n (2048 + 128 * (j / 128) + j % 128))
    (dRowS q x rp (j / 128) (i / 64) (i % 64))
end

/-! ## From a window to the eight rows in it -/

theorem bot_sub (m : EReal) : (⊥ : EReal) - m = ⊥ := by rw [sub_eq_add_neg, EReal.bot_add]

section
variable {f s : ℕ → EReal} {A a n : ℕ} (hA : a ≤ A) (hA' : A + 512 ≤ a + n)
  (hf : ∀ l, a ≤ l → l < a + n → f l = if A ≤ l ∧ l < A + 512 then s (l - A) else ⊥)
include hA hA' hf

theorem win_at {k : ℕ} (hk : k < 512) : f (A + k) = s k := by
  rw [hf (A + k) (by omega) (by omega), if_pos ⟨by omega, by omega⟩, show A + k - A = k by omega]

theorem win_sup : lmax f a n = (Finset.range 512).sup s := by
  unfold lmax
  apply le_antisymm
  · refine Finset.sup_le fun l hl => ?_
    obtain ⟨h1, h2⟩ := Finset.mem_Ico.mp hl
    rw [hf l h1 h2]
    split
    · exact Finset.le_sup (f := s) (Finset.mem_range.mpr (by omega))
    · exact bot_le
  · refine Finset.sup_le fun k hk => ?_
    have hk := Finset.mem_range.mp hk
    rw [← win_at hA hA' hf hk]
    exact Finset.le_sup (f := f) (Finset.mem_Ico.mpr ⟨by omega, by omega⟩)

theorem win_exp (m : EReal) {l : ℕ} (h1 : a ≤ l) (h2 : l < a + n) (ho : ¬(A ≤ l ∧ l < A + 512)) : Ideal.exp (f l - m) = 0 := by
  rw [hf l h1 h2, if_neg ho, bot_sub]
  rfl

theorem win_sum (m : EReal) : ∑ l ∈ Finset.Ico a (a + n), Ideal.exp (f l - m) = ∑ k ∈ Finset.range 512, Ideal.exp (s k - m) := by
  have hsub : Finset.Ico A (A + 512) ⊆ Finset.Ico a (a + n) := fun l hl => by
    obtain ⟨h1, h2⟩ := Finset.mem_Ico.mp hl
    exact Finset.mem_Ico.mpr ⟨by omega, by omega⟩
  rw [← Finset.sum_subset hsub fun l hl hn => win_exp hA hA' hf m (Finset.mem_Ico.mp hl).1 (Finset.mem_Ico.mp hl).2
    fun hh => hn (Finset.mem_Ico.mpr hh), Finset.sum_Ico_eq_sum_range, Nat.add_sub_cancel_left]
  exact Finset.sum_congr rfl fun k hk => by rw [win_at hA hA' hf (Finset.mem_range.mp hk)]

theorem win_dot (m : EReal) (w : ℕ → EReal) (hn : a + n ≤ 768) :
    ∑ k : Fin 768, (if a ≤ k.val ∧ k.val < a + n then Ideal.exp (f k.val - m) else 0) * w k.val
      = ∑ k ∈ Finset.range 512, Ideal.exp (s k - m) * w (A + k) := by
  rw [← Finset.sum_range (fun k => (if a ≤ k ∧ k < a + n then Ideal.exp (f k - m) else 0) * w k)]
  have hsub : Finset.Ico A (A + 512) ⊆ Finset.range 768 := fun l hl => by
    obtain ⟨h1, h2⟩ := Finset.mem_Ico.mp hl
    exact Finset.mem_range.mpr (by omega)
  rw [← Finset.sum_subset hsub fun l hl hno => ?_, Finset.sum_Ico_eq_sum_range, Nat.add_sub_cancel_left]
  · exact Finset.sum_congr rfl fun k hk => by
      have hk := Finset.mem_range.mp hk
      rw [if_pos ⟨by omega, by omega⟩, win_at hA hA' hf hk]
  · split
    · next hh => rw [win_exp hA hA' hf m hh.1 hh.2 fun h' => hno (Finset.mem_Ico.mpr h'), zero_mul]
    · rw [zero_mul]
end

end Cert.Attn

end
-- ==== Proof.RefWords.lean ====
/- The reference's index arithmetic: key rows, bias rows and columns, the window of key columns, as numbers. -/
module

public import proofs.«01_k».proof.Proof.Gen.ReferenceIdeal.Read
public import proofs.«01_k».proof.Proof.Spec

@[expose] public section

noncomputable section

namespace Cert.Attn.Ref

open Idealize.ShloMosaic hiding ix1 ix2 ix3 ix4 eq_ix1 eq_ix2 eq_ix3 eq_ix4
open Idealize.ShloMosaic.ValueIdx Cert.ReferenceIdeal Cert.ReferenceIdeal.Read

theorem row_word : ∀ r : Fin 128, IntOp.minsi 120#32 (IntOp.maxsi 0#32 (IntOp.subi (BitVec.ofNat 32 r.val) 4#32)) = BitVec.ofNat 32 (row0 r.val) := by
  unfold row0
  decide +kernel

theorem v16_at (r : S128.Idx) : val_main_v16 (F := Ideal) r = BitVec.ofNat 32 (row0 (r 0).val) := by
  simp only [val_main_v16_apply, val_main_call0_v4_apply, val_main_call0_v3_apply, val_main_call0_v2_apply, val_main_call0_v1_apply,
    val_main_call0_v0_apply, val_main_c_1_apply, val_main_c_0_apply, val_main_v15_apply, val_main_v14_apply, val_main_c_apply, val_main_v13_apply]
  exact row_word (r 0)

/-- Key row `i` of the eight of query row `r`. -/
theorem v22_at (y : S128x8.Idx) : val_main_v22 (F := Ideal) y = BitVec.ofNat 32 (row0 (y 0).val + (y 1).val) := by
  simp only [val_main_v22_apply, val_main_v20_apply, val_main_v17_apply, v16_at, val_main_v21_apply, val_main_v19_apply, val_main_v18_apply]
  exact (BitVec.ofNat_add (n := 32) (row0 (y 0).val) (y 1).val).symm

theorem neg_word : ∀ n : Fin 128, IntOp.cmpi .slt (BitVec.ofNat 32 n.val) 0#32 = 0#1 := by decide +kernel
theorem nat_word : ∀ n : Fin 128, (BitVec.ofNat 32 n.val).toInt.toNat = n.val := by decide +kernel

theorem row_lt (y : S128x8.Idx) : row0 (y 0).val + (y 1).val < 128 := by
  have h : (y 1).val < 8 := (y 1).isLt
  unfold row0
  omega

theorem v27_at (y : S128x8.Idx) : val_main_v27 (F := Ideal) y = BitVec.ofNat 32 (row0 (y 0).val + (y 1).val) := by
  simp only [val_main_v27_apply, val_main_v24_apply, val_main_v23_apply, val_main_c_2_apply, v22_at]
  rw [neg_word ⟨_, row_lt y⟩]
  rfl

theorem v34_at (y : S128x8.Idx) : val_main_v34 (F := Ideal) y = BitVec.ofNat 32 (row0 (y 0).val + (y 1).val) := by
  simp only [val_main_v34_apply, val_main_v31_apply, val_main_v30_apply, val_main_c_4_apply, v22_at]
  rw [neg_word ⟨_, row_lt y⟩]
  rfl

/-- The window of key columns. -/
theorem v53_at (y : S64x64.Idx) : val_main_v53 (F := Ideal) y = if inWin (y 0).val (y 1).val then 1#1 else 0#1 := by
  simp only [val_main_v53_apply, val_main_v45_apply, val_main_v43_apply, val_main_v41_apply, val_main_v44_apply, val_main_v42_apply,
    val_main_v52_apply, val_main_v50_apply, val_main_v46_apply, val_main_v51_apply, val_main_v49_apply, val_main_v47_apply, val_main_v48_apply,
    val_main_c_9_apply, val_main_v40_apply, val_main_call1_v4_apply, val_main_call1_v3_apply, val_main_call1_v2_apply, val_main_call1_v1_apply,
    val_main_call1_v0_apply, val_main_c_8_apply, val_main_c_7_apply, val_main_v39_apply, val_main_v38_apply, val_main_c_6_apply, val_main_v37_apply]
  have h0 : (y 0).val < 64 := (y 0).isLt
  rw [c0_word ⟨(y 0).val, h0⟩]
  exact in_word ⟨min ((y 0).val - 8) 48, by omega⟩ (y 1)

theorem dr_word : ∀ r : Fin 128, ∀ i : Fin 8, IntOp.addi (IntOp.subi (BitVec.ofNat 32 (row0 r.val + i.val)) (BitVec.ofNat 32 r.val)) 7#32
    = BitVec.ofNat 32 (row0 r.val + i.val + 7 - r.val) := by
  unfold row0
  decide +kernel

theorem v58_at (y : S128x8.Idx) : val_main_v58 (F := Ideal) y = BitVec.ofNat 32 (row0 (y 0).val + (y 1).val + 7 - (y 0).val) := by
  simp only [val_main_v58_apply, val_main_v56_apply, v22_at, val_main_v55_apply, val_main_v54_apply, val_main_v13_apply, val_main_v57_apply,
    val_main_c_10_apply]
  exact dr_word (y 0) (y 1)

theorem v66_at (y : S64x64.Idx) : val_main_v66 (F := Ideal) y = BitVec.ofNat 32 (dcN (y 0).val (y 1).val) := by
  simp only [val_main_v66_apply, val_main_v64_apply, val_main_call2_v4_apply, val_main_call2_v3_apply, val_main_call2_v2_apply, val_main_call2_v1_apply,
    val_main_call2_v0_apply, val_main_c_12_apply, val_main_c_11_apply, val_main_v63_apply, val_main_v61_apply, val_main_v59_apply, val_main_v62_apply,
    val_main_v60_apply, val_main_v37_apply, val_main_v65_apply, val_main_c_13_apply]
  exact dc_word (y 0) (y 1)

/-- The bias row of a query row and one of its key rows. -/
theorem v81_at (y : S128x64x8x64x1.Idx) : val_main_v81 (F := Ideal) y = BitVec.ofNat 32 (row0 (y 0).val + (y 2).val + 7 - (y 0).val) := by
  simp only [val_main_v81_apply, val_main_v79_apply, val_main_v73_apply, val_main_v70_apply, val_main_v69_apply, val_main_c_14_apply, val_main_v67_apply, v58_at]
  have h : (y 2).val < 8 := (y 2).isLt
  have h0 : (y 0).val < 128 := (y 0).isLt
  rw [neg_word ⟨row0 (y 0).val + (y 2).val + 7 - (y 0).val, by unfold row0; omega⟩]
  rfl

/-- The bias column of a query column and a key column. -/
theorem v82_at (y : S128x64x8x64x1.Idx) : val_main_v82 (F := Ideal) y = BitVec.ofNat 32 (dcN (y 1).val (y 3).val) := by
  simp only [val_main_v82_apply, val_main_v80_apply, val_main_v78_apply, val_main_v75_apply, val_main_v74_apply, val_main_c_16_apply, val_main_v68_apply, v66_at]
  rw [neg_word ⟨dcN (y 1).val (y 3).val, by unfold dcN; omega⟩]
  rfl

end Cert.Attn.Ref

end
-- ==== Proof.Combine.lean ====
/- The kernel's attention, block by block over windows of twelve key rows, is the neighbourhood attention of `specAt`. -/
module

public import proofs.«01_k».proof.Proof.Spec

@[expose] public section

noncomputable section

namespace Cert.Attn

open Idealize.ShloMosaic hiding ix1 ix2 ix3 ix4 eq_ix1 eq_ix2 eq_ix3 eq_ix4
open Idealize.ShloMosaic.ValueIdx Cert.KernelIdeal

theorem at2_lt {a b : ℕ} (x : (⟨2, ![a, b]⟩ : Shape).Idx → EReal) {i j : ℕ} (hi : i < a) (hj : j < b) : at2 x i j = x (ix2 ⟨i, hi⟩ ⟨j, hj⟩) :=
  dif_pos ⟨hi, hj⟩

section
variable (q : S8192x6144.Idx → EReal) (x : S256x4096.Idx → EReal) (rp : S16x465.Idx → EReal)

theorem qB_at {h b i j : ℕ} (hi : i < 2048) (hj : j < 128) : at2 (qB q h b) i j = at2 q (2048 * b + i) (128 * h + j) := at2_lt _ hi hj
theorem kB_at {h i j : ℕ} (hi : i < 8192) (hj : j < 128) : at2 (kB q h) i j = at2 q i (2048 + 128 * h + j) := at2_lt _ hi hj
theorem vB_at {h i j : ℕ} (hi : i < 8192) (hj : j < 128) : at2 (vB q h) i j = at2 q i (4096 + 128 * h + j) := at2_lt _ hi hj
theorem kcB_at {h i j : ℕ} (hi : i < 256) (hj : j < 128) : at2 (kcB x h) i j = at2 x i (128 * h + j) := at2_lt _ hi hj
theorem vcB_at {h i j : ℕ} (hi : i < 256) (hj : j < 128) : at2 (vcB x h) i j = at2 x i (2048 + 128 * h + j) := at2_lt _ hi hj

/-- The table the bias kernel leaves. -/
def table : S16x44x64x128.Idx → EReal := fun i => tabEntry rp (i 0).val (i 1).val (i 2).val (i 3).val

theorem tB_at {h i j k : ℕ} (hh : h < 16) (hi : i < 44) (hj : j < 64) (hk : k < 128) : tab4 (tB (table rp) h) i j k = tabEntry rp h i j k := by
  unfold tab4
  rw [dif_pos ⟨hi, hj, hk⟩]
  unfold tB
  rw [dif_pos hh]
  rfl

/-- The numbers of a block, sub-block, row: bounds and the first key row. -/
theorem win_nums {b t a : ℕ} (hb : b < 4) (ht : t < 8) (ha : a < 4) :
    w0 b t + off b t a = row0 (32 * b + 4 * t + a) ∧ off b t a ≤ 4 ∧ w0 b t ≤ 116 ∧ lo b t a ≤ 64 * off b t a
      ∧ 64 * off b t a + 512 ≤ lo b t a + nl b t a ∧ lo b t a + nl b t a ≤ 768 := by
  unfold lo nl off w0 row0
  omega

/-- The bias of a lane of a window: the entry of its key row and column, or −∞ outside the eight rows. -/
theorem bias_at {h b t a c l : ℕ} (hh : h < 16) (hb : b < 4) (ht : t < 8) (ha : a < 4) (hc : c < 64) (hlo : lo b t a ≤ l) (hhi : l < lo b t a + nl b t a) :
    tab4 (tB (table rp) h) (tile b t a (l / 128)) c (l % 128)
      = if 64 * off b t a ≤ l ∧ l < 64 * off b t a + 512 then
          biasEntry rp h (row0 (32 * b + 4 * t + a) + (l - 64 * off b t a) / 64 + 7 - (32 * b + 4 * t + a)) c ((l - 64 * off b t a) % 64)
        else ⊥ := by
  obtain ⟨e0, o4, _, _, _, hN⟩ := win_nums hb ht ha
  have hl : l < 768 := by omega
  have hr0 : row0 (32 * b + 4 * t + a) = min (32 * b + 4 * t + a - 4) 120 := rfl
  generalize hR : 32 * b + 4 * t + a = R at *
  have hR' : R < 128 := by omega
  have em : (l - 64 * off b t a) % 64 = l % 128 % 64 ∨ l < 64 * off b t a := by omega
  have hnl : lo b t a = off b t a / 2 * 128 := rfl
  have hnl' : nl b t a = ((off b t a + 7) / 2 + 1 - off b t a / 2) * 128 := rfl
  have ht44 : tile b t a (l / 128) < 44 := by
    unfold tile
    simp only [hR]
    split
    · split <;> omega
    · omega
  rw [tB_at rp hh ht44 hc (Nat.mod_lt _ (by decide))]
  unfold tile tabEntry
  simp only [hR]
  generalize off b t a = o at *
  generalize w0 b t = w at *
  by_cases h1 : o ≤ 2 * (l / 128) ∧ 2 * (l / 128) < o + 8
  · rw [if_pos h1]
    by_cases h2 : o ≤ 2 * (l / 128) + 1 ∧ 2 * (l / 128) + 1 < o + 8
    · rw [if_pos h2, if_pos (show w + 2 * (l / 128) + 8 - R - 1 < 14 by omega), if_pos (show 64 * o ≤ l ∧ l < 64 * o + 512 by omega)]
      split
      · congr 1 <;> omega
      · congr 1 <;> omega
    · rw [if_neg h2, if_neg (show ¬(14 + (w + 2 * (l / 128) + 8 - R - 1) < 14) by omega),
        if_pos (show 14 + (w + 2 * (l / 128) + 8 - R - 1) < 29 by omega)]
      split
      · rw [if_neg (by omega)]
      · rw [if_pos (show 64 * o ≤ l ∧ l < 64 * o + 512 by omega)]
        congr 1 <;> omega
  · rw [if_neg h1, if_neg (show ¬(29 + (w + 2 * (l / 128) + 8 - R) < 14) by omega), if_neg (show ¬(29 + (w + 2 * (l / 128) + 8 - R) < 29) by omega)]
    split
    · rw [if_pos (show 64 * o ≤ l ∧ l < 64 * o + 512 by omega)]
      congr 1 <;> omega
    · rw [if_neg (by omega)]

section
variable {h b t a c : ℕ} (hh : h < 16) (hb : b < 4) (ht : t < 8) (ha : a < 4) (hc : c < 64)
include hh hb ht ha hc

theorem fg_at (l : ℕ) (hlo : lo b t a ≤ l) (hhi : l < lo b t a + nl b t a) :
    FG b (qB q h b) (kB q h) (tB (table rp) h) t (64 * a + c) l
      = if 64 * off b t a ≤ l ∧ l < 64 * off b t a + 512 then sRow q rp h (32 * b + 4 * t + a) c (l - 64 * off b t a) else ⊥ := by
  obtain ⟨e0, o4, w4, _, _, hN⟩ := win_nums hb ht ha
  unfold FG BG
  rw [show (64 * a + c) / 64 = a by omega, show (64 * a + c) % 64 = c by omega, bias_at rp hh hb ht ha hc hlo hhi]
  split
  · next hin =>
    unfold sRow SG
    congr 2
    refine Finset.sum_congr rfl fun k _ => ?_
    rw [qB_at q (by omega) k.isLt, kB_at q (by omega) k.isLt]
    congr 2 <;> omega
  · rw [EReal.add_bot]

theorem gg_at (n : ℕ) (hn : n < 256) : GG (qB q h b) (kcB x h) t (64 * a + c) n = cRow q x h (32 * b + 4 * t + a) c n := by
  unfold GG SCG cRow
  congr 1
  refine Finset.sum_congr rfl fun k _ => ?_
  rw [qB_at q (by omega) k.isLt, kcB_at x hn k.isLt]
  congr 2
  omega

theorem mg_at : MG b (qB q h b) (kB q h) (kcB x h) (tB (table rp) h) t (64 * a + c) = mRow q x rp h (32 * b + 4 * t + a) c := by
  obtain ⟨e0, o4, w4, h1, h2, hN⟩ := win_nums hb ht ha
  unfold MG rmax mRow
  rw [show (64 * a + c) / 64 = a by omega, win_sup h1 h2 (fg_at q rp hh hb ht ha hc)]
  congr 1
  unfold lmax
  rw [Nat.zero_add, Nat.Ico_zero_eq_range]
  exact Finset.sup_congr rfl fun n hn => gg_at q x hh hb ht ha hc n (Finset.mem_range.mp hn)

theorem dg_at : DG b (qB q h b) (kB q h) (kcB x h) (tB (table rp) h) t (64 * a + c) = dRowS q x rp h (32 * b + 4 * t + a) c := by
  obtain ⟨e0, o4, w4, h1, h2, hN⟩ := win_nums hb ht ha
  have hm := mg_at q x rp hh hb ht ha hc
  unfold MG at hm
  unfold DG rden dRowS
  rw [hm, show (64 * a + c) / 64 = a by omega, win_sum h1 h2 (fg_at q rp hh hb ht ha hc), Nat.zero_add, Nat.Ico_zero_eq_range]
  congr 1
  exact Finset.sum_congr rfl fun n hn => by rw [gg_at q x hh hb ht ha hc n (Finset.mem_range.mp hn)]

theorem og_at {d : ℕ} (hd : d < 128) :
    OG b (qB q h b) (kB q h) (vB q h) (kcB x h) (vcB x h) (tB (table rp) h) (256 * t + 64 * a + c) d
      = Ideal.div (∑ n ∈ Finset.range 512, Ideal.exp (sRow q rp h (32 * b + 4 * t + a) c n - mRow q x rp h (32 * b + 4 * t + a) c)
            * at2 q (64 * row0 (32 * b + 4 * t + a) + n) (4096 + 128 * h + d)
          + ∑ n ∈ Finset.range 256, Ideal.exp (cRow q x h (32 * b + 4 * t + a) c n - mRow q x rp h (32 * b + 4 * t + a) c)
            * at2 x n (2048 + 128 * h + d))
        (dRowS q x rp h (32 * b + 4 * t + a) c) := by
  obtain ⟨e0, o4, w4, h1, h2, hN⟩ := win_nums hb ht ha
  unfold OG
  rw [show (256 * t + 64 * a + c) / 256 = t by omega, show (256 * t + 64 * a + c) % 256 = 64 * a + c by omega, dg_at q x rp hh hb ht ha hc]
  unfold PG PCG
  rw [mg_at q x rp hh hb ht ha hc, show (64 * a + c) / 64 = a by omega,
    win_dot h1 h2 (fg_at q rp hh hb ht ha hc) _ (fun l => at2 (vB q h) (64 * w0 b t + l) d) hN]
  congr 2
  · refine Finset.sum_congr rfl fun n hn => ?_
    have hn := Finset.mem_range.mp hn
    rw [vB_at q (by omega) hd]
    congr 2
    omega
  · rw [Finset.sum_range]
    refine Finset.sum_congr rfl fun n _ => ?_
    rw [gg_at q x hh hb ht ha hc n.val n.isLt, vcB_at x n.isLt hd]

end

/-- The kernel's attention at every query and channel. -/
theorem attnAt_eq {i j : ℕ} (hi : i < 8192) (hj : j < 2048) : attnAt q x (table rp) i j = specAt q x rp i j := by
  unfold attnAt specAt
  have e := og_at q x rp (h := j / 128) (b := i / 2048) (t := i % 2048 / 256) (a := i % 256 / 64) (c := i % 64) (d := j % 128)
    (by omega) (by omega) (by omega) (by omega) (by omega) (by omega)
  rw [show 256 * (i % 2048 / 256) + 64 * (i % 256 / 64) + i % 64 = i % 2048 by omega,
    show 32 * (i / 2048) + 4 * (i % 2048 / 256) + i % 256 / 64 = i / 64 by omega] at e
  exact e

end

end Cert.Attn

end
-- ==== Proof.RefReads.lean ====
/- The reference's operands at natural coordinates: queries, the keys and values of a row's eight rows, the context, the bias. -/
module

public import proofs.«01_k».proof.Proof.RefWords
public import proofs.«01_k».proof.Proof.Combine

@[expose] public section

noncomputable section

namespace Cert.Attn.Ref

open Idealize.ShloMosaic hiding ix1 ix2 ix3 ix4 ix5 eq_ix1 eq_ix2 eq_ix3 eq_ix4
open Idealize.ShloMosaic.ValueIdx Cert.ReferenceIdeal Cert.ReferenceIdeal.Read

section
variable (x0 : S8192x6144.Idx → EReal) (x1 : S256x4096.Idx → EReal) (x2 : S1x16x15x31.Idx → EReal)

theorem q_at (y : S128x64x16x128.Idx) :
    val_main_v3 (F := Ideal) x0 y = at2 x0 (64 * (y 0).val + (y 1).val) (128 * (y 2).val + (y 3).val) := by
  rw [val_main_v3_apply, val_main_v2_apply, val_main_v0_apply]
  refine (at2_eq x0 _).trans ?_
  have h0 : (y 0).val < 128 := (y 0).isLt
  have h1 : (y 1).val < 64 := (y 1).isLt
  have h2 : (y 2).val < 16 := (y 2).isLt
  have h3 : (y 3).val < 128 := (y 3).isLt
  refine congrArg₂ (at2 x0) ?_ ?_
  · show ((((y 0).val * 64 + (y 1).val) * 16 + (y 2).val) * 128 + (y 3).val) / 2048 = _
    omega
  · show ((((y 0).val * 64 + (y 1).val) * 16 + (y 2).val) * 128 + (y 3).val) % 2048 = _
    omega

theorem k_at (y : S128x64x16x128.Idx) :
    val_main_v5 (F := Ideal) x0 y = at2 x0 (64 * (y 0).val + (y 1).val) (2048 + 128 * (y 2).val + (y 3).val) := by
  rw [val_main_v5_apply, val_main_v4_apply, val_main_v0_apply]
  refine (at2_eq x0 _).trans ?_
  have h0 : (y 0).val < 128 := (y 0).isLt
  have h1 : (y 1).val < 64 := (y 1).isLt
  have h2 : (y 2).val < 16 := (y 2).isLt
  have h3 : (y 3).val < 128 := (y 3).isLt
  refine congrArg₂ (at2 x0) ?_ ?_
  · show ((((y 0).val * 64 + (y 1).val) * 16 + (y 2).val) * 128 + (y 3).val) / 2048 = _
    omega
  · show 2048 + ((((y 0).val * 64 + (y 1).val) * 16 + (y 2).val) * 128 + (y 3).val) % 2048 = _
    omega

theorem v_at (y : S128x64x16x128.Idx) :
    val_main_v7 (F := Ideal) x0 y = at2 x0 (64 * (y 0).val + (y 1).val) (4096 + 128 * (y 2).val + (y 3).val) := by
  rw [val_main_v7_apply, val_main_v6_apply, val_main_v0_apply]
  refine (at2_eq x0 _).trans ?_
  have h0 : (y 0).val < 128 := (y 0).isLt
  have h1 : (y 1).val < 64 := (y 1).isLt
  have h2 : (y 2).val < 16 := (y 2).isLt
  have h3 : (y 3).val < 128 := (y 3).isLt
  refine congrArg₂ (at2 x0) ?_ ?_
  · show ((((y 0).val * 64 + (y 1).val) * 16 + (y 2).val) * 128 + (y 3).val) / 2048 = _
    omega
  · show 4096 + ((((y 0).val * 64 + (y 1).val) * 16 + (y 2).val) * 128 + (y 3).val) % 2048 = _
    omega

theorem kc_at (y : S256x16x128.Idx) : val_main_v9 (F := Ideal) x1 y = at2 x1 (y 0).val (128 * (y 1).val + (y 2).val) := by
  rw [val_main_v9_apply, val_main_v8_apply, val_main_v1_apply]
  refine (at2_eq x1 _).trans ?_
  have h1 : (y 1).val < 16 := (y 1).isLt
  have h2 : (y 2).val < 128 := (y 2).isLt
  refine congrArg₂ (at2 x1) ?_ ?_
  · show (((y 0).val * 16 + (y 1).val) * 128 + (y 2).val) / 2048 = _
    omega
  · show (((y 0).val * 16 + (y 1).val) * 128 + (y 2).val) % 2048 = _
    omega

theorem vc_at (y : S256x16x128.Idx) : val_main_v11 (F := Ideal) x1 y = at2 x1 (y 0).val (2048 + 128 * (y 1).val + (y 2).val) := by
  rw [val_main_v11_apply, val_main_v10_apply, val_main_v1_apply]
  refine (at2_eq x1 _).trans ?_
  have h1 : (y 1).val < 16 := (y 1).isLt
  have h2 : (y 2).val < 128 := (y 2).isLt
  refine congrArg₂ (at2 x1) ?_ ?_
  · show (((y 0).val * 16 + (y 1).val) * 128 + (y 2).val) / 2048 = _
    omega
  · show 2048 + (((y 0).val * 16 + (y 1).val) * 128 + (y 2).val) % 2048 = _
    omega

/-! ## The gathers -/

/-- Whole rows taken at an array of row numbers. -/
theorem take_rows (x : S128x64x16x128.Idx → EReal) (idx : IVec S128x8x1 32) (y : S128x8x64x16x128.Idx) :
    Host.gather gather_S128x64x16x128_S128x8x1_S128x8x64x16x128_234_0_n_n_0_2_16416128 x idx y
      = x (ix4 ⟨min (idx (ix3 (y 0) (y 1) 0)).toInt.toNat 127, by omega⟩ (y 2) (y 3) (y 4)) := by
  unfold Host.gather
  refine congrArg x (funext fun a => Fin.ext ?_)
  match a with
  | ⟨0, _⟩ =>
    show GatherDims.start _ y idx 0 + GatherDims.batchCoord _ y 0 + GatherDims.offCoord _ y 0 = _
    unfold GatherDims.start GatherDims.batchCoord GatherDims.offCoord
    rw [dif_pos (show (0 : Fin S128x64x16x128.rank) ∈ gather_S128x64x16x128_S128x8x1_S128x8x64x16x128_234_0_n_n_0_2_16416128.startIndexMap by decide),
      dif_neg (show ¬(0 : Fin S128x64x16x128.rank) ∈ gather_S128x64x16x128_S128x8x1_S128x8x64x16x128_234_0_n_n_0_2_16416128.operandBatchingDims by decide),
      dif_neg (show ¬(0 : Fin S128x64x16x128.rank) ∈ gather_S128x64x16x128_S128x8x1_S128x8x64x16x128_234_0_n_n_0_2_16416128.sKept by decide)]
    refine congrArg (fun z => min (idx z).toInt.toNat 127) (funext fun b => Fin.ext ?_)
    match b with
    | ⟨0, _⟩ => rfl
    | ⟨1, _⟩ => rfl
    | ⟨2, _⟩ => rfl
  | ⟨1, _⟩ =>
    show GatherDims.start _ y idx 1 + GatherDims.batchCoord _ y 1 + GatherDims.offCoord _ y 1 = _
    unfold GatherDims.start GatherDims.batchCoord GatherDims.offCoord
    rw [dif_neg (show ¬(1 : Fin S128x64x16x128.rank) ∈ gather_S128x64x16x128_S128x8x1_S128x8x64x16x128_234_0_n_n_0_2_16416128.startIndexMap by decide),
      dif_neg (show ¬(1 : Fin S128x64x16x128.rank) ∈ gather_S128x64x16x128_S128x8x1_S128x8x64x16x128_234_0_n_n_0_2_16416128.operandBatchingDims by decide),
      dif_pos (show (1 : Fin S128x64x16x128.rank) ∈ gather_S128x64x16x128_S128x8x1_S128x8x64x16x128_234_0_n_n_0_2_16416128.sKept by decide), Nat.zero_add]
    rfl
  | ⟨2, _⟩ =>
    show GatherDims.start _ y idx 2 + GatherDims.batchCoord _ y 2 + GatherDims.offCoord _ y 2 = _
    unfold GatherDims.start GatherDims.batchCoord GatherDims.offCoord
    rw [dif_neg (show ¬(2 : Fin S128x64x16x128.rank) ∈ gather_S128x64x16x128_S128x8x1_S128x8x64x16x128_234_0_n_n_0_2_16416128.startIndexMap by decide),
      dif_neg (show ¬(2 : Fin S128x64x16x128.rank) ∈ gather_S128x64x16x128_S128x8x1_S128x8x64x16x128_234_0_n_n_0_2_16416128.operandBatchingDims by decide),
      dif_pos (show (2 : Fin S128x64x16x128.rank) ∈ gather_S128x64x16x128_S128x8x1_S128x8x64x16x128_234_0_n_n_0_2_16416128.sKept by decide), Nat.zero_add]
    rfl
  | ⟨3, _⟩ =>
    show GatherDims.start _ y idx 3 + GatherDims.batchCoord _ y 3 + GatherDims.offCoord _ y 3 = _
    unfold GatherDims.start GatherDims.batchCoord GatherDims.offCoord
    rw [dif_neg (show ¬(3 : Fin S128x64x16x128.rank) ∈ gather_S128x64x16x128_S128x8x1_S128x8x64x16x128_234_0_n_n_0_2_16416128.startIndexMap by decide),
      dif_neg (show ¬(3 : Fin S128x64x16x128.rank) ∈ gather_S128x64x16x128_S128x8x1_S128x8x64x16x128_234_0_n_n_0_2_16416128.operandBatchingDims by decide),
      dif_pos (show (3 : Fin S128x64x16x128.rank) ∈ gather_S128x64x16x128_S128x8x1_S128x8x64x16x128_234_0_n_n_0_2_16416128.sKept by decide), Nat.zero_add]
    rfl

/-- A table's column of heads taken at an array of pairs. -/
theorem take_pair (x : S16x15x31.Idx → EReal) (idx : IVec S128x64x8x64x2 32) (y : S16x128x64x8x64.Idx) :
    Host.gather gather_S16x15x31_S128x64x8x64x2_S16x128x64x8x64_0_12_n_n_12_4_1611 x idx y
      = x (ix3 (y 0) ⟨min (idx (ix5 (y 1) (y 2) (y 3) (y 4) 0)).toInt.toNat 14, by omega⟩
          ⟨min (idx (ix5 (y 1) (y 2) (y 3) (y 4) 1)).toInt.toNat 30, by omega⟩) := by
  unfold Host.gather
  refine congrArg x (funext fun a => Fin.ext ?_)
  match a with
  | ⟨0, _⟩ =>
    show GatherDims.start _ y idx 0 + GatherDims.batchCoord _ y 0 + GatherDims.offCoord _ y 0 = _
    unfold GatherDims.start GatherDims.batchCoord GatherDims.offCoord
    rw [dif_neg (show ¬(0 : Fin S16x15x31.rank) ∈ gather_S16x15x31_S128x64x8x64x2_S16x128x64x8x64_0_12_n_n_12_4_1611.startIndexMap by decide),
      dif_neg (show ¬(0 : Fin S16x15x31.rank) ∈ gather_S16x15x31_S128x64x8x64x2_S16x128x64x8x64_0_12_n_n_12_4_1611.operandBatchingDims by decide),
      dif_pos (show (0 : Fin S16x15x31.rank) ∈ gather_S16x15x31_S128x64x8x64x2_S16x128x64x8x64_0_12_n_n_12_4_1611.sKept by decide), Nat.zero_add]
    rfl
  | ⟨1, _⟩ =>
    show GatherDims.start _ y idx 1 + GatherDims.batchCoord _ y 1 + GatherDims.offCoord _ y 1 = _
    unfold GatherDims.start GatherDims.batchCoord GatherDims.offCoord
    rw [dif_pos (show (1 : Fin S16x15x31.rank) ∈ gather_S16x15x31_S128x64x8x64x2_S16x128x64x8x64_0_12_n_n_12_4_1611.startIndexMap by decide),
      dif_neg (show ¬(1 : Fin S16x15x31.rank) ∈ gather_S16x15x31_S128x64x8x64x2_S16x128x64x8x64_0_12_n_n_12_4_1611.operandBatchingDims by decide),
      dif_neg (show ¬(1 : Fin S16x15x31.rank) ∈ gather_S16x15x31_S128x64x8x64x2_S16x128x64x8x64_0_12_n_n_12_4_1611.sKept by decide)]
    refine congrArg (fun z => min (idx z).toInt.toNat 14) (funext fun b => Fin.ext ?_)
    match b with
    | ⟨0, _⟩ => rfl
    | ⟨1, _⟩ => rfl
    | ⟨2, _⟩ => rfl
    | ⟨3, _⟩ => rfl
    | ⟨4, _⟩ => rfl
  | ⟨2, _⟩ =>
    show GatherDims.start _ y idx 2 + GatherDims.batchCoord _ y 2 + GatherDims.offCoord _ y 2 = _
    unfold GatherDims.start GatherDims.batchCoord GatherDims.offCoord
    rw [dif_pos (show (2 : Fin S16x15x31.rank) ∈ gather_S16x15x31_S128x64x8x64x2_S16x128x64x8x64_0_12_n_n_12_4_1611.startIndexMap by decide),
      dif_neg (show ¬(2 : Fin S16x15x31.rank) ∈ gather_S16x15x31_S128x64x8x64x2_S16x128x64x8x64_0_12_n_n_12_4_1611.operandBatchingDims by decide),
      dif_neg (show ¬(2 : Fin S16x15x31.rank) ∈ gather_S16x15x31_S128x64x8x64x2_S16x128x64x8x64_0_12_n_n_12_4_1611.sKept by decide)]
    refine congrArg (fun z => min (idx z).toInt.toNat 30) (funext fun b => Fin.ext ?_)
    match b with
    | ⟨0, _⟩ => rfl
    | ⟨1, _⟩ => rfl
    | ⟨2, _⟩ => rfl
    | ⟨3, _⟩ => rfl
    | ⟨4, _⟩ => rfl

theorem take_rows_at (x : S128x64x16x128.Idx → EReal) (idx : IVec S128x8x1 32) (y : S128x8x64x16x128.Idx) {n : ℕ} (hn : n < 128)
    (h : idx (ix3 (y 0) (y 1) 0) = BitVec.ofNat 32 n) :
    Host.gather gather_S128x64x16x128_S128x8x1_S128x8x64x16x128_234_0_n_n_0_2_16416128 x idx y = x (ix4 ⟨n, hn⟩ (y 2) (y 3) (y 4)) := by
  refine (take_rows x idx y).trans (congrArg x (congrArg (fun r => ix4 r (y 2) (y 3) (y 4)) (Fin.ext ?_)))
  show min (idx (ix3 (y 0) (y 1) 0)).toInt.toNat 127 = n
  rw [h, nat_word ⟨n, hn⟩]
  exact Nat.min_eq_left (by show n ≤ 127; omega)

theorem take_pair_at (x : S16x15x31.Idx → EReal) (idx : IVec S128x64x8x64x2 32) (y : S16x128x64x8x64.Idx) {n k : ℕ} (hn : n < 15) (hk : k < 31)
    (h : idx (ix5 (y 1) (y 2) (y 3) (y 4) 0) = BitVec.ofNat 32 n) (h' : idx (ix5 (y 1) (y 2) (y 3) (y 4) 1) = BitVec.ofNat 32 k) :
    Host.gather gather_S16x15x31_S128x64x8x64x2_S16x128x64x8x64_0_12_n_n_12_4_1611 x idx y = x (ix3 (y 0) ⟨n, hn⟩ ⟨k, hk⟩) := by
  refine (take_pair x idx y).trans (congrArg x (congrArg₂ (fun r c => ix3 (y 0) r c) (Fin.ext ?_) (Fin.ext ?_)))
  · show min (idx (ix5 (y 1) (y 2) (y 3) (y 4) 0)).toInt.toNat 14 = n
    rw [h, nat_word ⟨n, by omega⟩]
    exact Nat.min_eq_left (by show n ≤ 14; omega)
  · show min (idx (ix5 (y 1) (y 2) (y 3) (y 4) 1)).toInt.toNat 30 = k
    rw [h', nat_word ⟨k, by omega⟩]
    exact Nat.min_eq_left (by show k ≤ 30; omega)

theorem kg_at (y : S128x8x64x16x128.Idx) :
    val_main_v29 (F := Ideal) x0 y = at2 x0 (64 * (row0 (y 0).val + (y 1).val) + (y 2).val) (2048 + 128 * (y 3).val + (y 4).val) := by
  have h : row0 (y 0).val + (y 1).val < 128 := row_lt (ix2 (y 0) (y 1))
  refine (take_rows_at _ _ y h ?_).trans (k_at x0 _)
  rw [val_main_v28_apply, v27_at]

theorem vg_at (y : S128x8x64x16x128.Idx) :
    val_main_v36 (F := Ideal) x0 y = at2 x0 (64 * (row0 (y 0).val + (y 1).val) + (y 2).val) (4096 + 128 * (y 3).val + (y 4).val) := by
  have h : row0 (y 0).val + (y 1).val < 128 := row_lt (ix2 (y 0) (y 1))
  refine (take_rows_at _ _ y h ?_).trans (v_at x0 _)
  rw [val_main_v35_apply, v34_at]

/-- The bias table as the kernel reshapes it: rows and columns of one head side by side. -/
def flat : Cert.KernelIdeal.S16x465.Idx → EReal :=
  fun y => x2 (ix4 0 (y 0) ⟨(y 1).val / 31, by have h : (y 1).val < 465 := (y 1).isLt; omega⟩ ⟨(y 1).val % 31, Nat.mod_lt _ (by decide)⟩)

theorem flat_at {h r c : ℕ} (hh : h < 16) (hr : r < 15) (hc : c < 31) :
    at2 (flat x2) h (31 * r + c) = x2 (ix4 0 ⟨h, hh⟩ ⟨r, hr⟩ ⟨c, hc⟩) := by
  rw [at2_lt _ hh (show 31 * r + c < 465 by omega)]
  unfold flat
  congr 1
  funext a
  refine Fin.ext ?_
  match a with
  | ⟨0, _⟩ => rfl
  | ⟨1, _⟩ => rfl
  | ⟨2, _⟩ => show (31 * r + c) / 31 = r; omega
  | ⟨3, _⟩ => show (31 * r + c) % 31 = c; omega

theorem v83_0 (a : Fin 128) (b : Fin 64) (c : Fin 8) (d : Fin 64) :
    val_main_v83 (F := Ideal) (ix5 a b c d 0) = BitVec.ofNat 32 (row0 a.val + c.val + 7 - a.val) := by
  unfold val_main_v83
  rw [concatenate_pair_apply_left (t := S128x64x8x64x2) (s₁ := S128x64x8x64x1) (s₂ := S128x64x8x64x1) (4 : Fin 5) _ _ _ (ix5 a b c d 0 : S128x64x8x64x2.Idx) rfl (ix5 a b c d 0 : S128x64x8x64x1.Idx) (fun b => by
    match b with
    | ⟨0, _⟩ => rfl
    | ⟨1, _⟩ => rfl
    | ⟨2, _⟩ => rfl
    | ⟨3, _⟩ => rfl
    | ⟨4, _⟩ => rfl), v81_at]

theorem v83_1 (a : Fin 128) (b : Fin 64) (c : Fin 8) (d : Fin 64) :
    val_main_v83 (F := Ideal) (ix5 a b c d 1) = BitVec.ofNat 32 (dcN b.val d.val) := by
  unfold val_main_v83
  rw [concatenate_pair_apply_right (t := S128x64x8x64x2) (s₁ := S128x64x8x64x1) (s₂ := S128x64x8x64x1) (4 : Fin 5) _ _ _ (ix5 a b c d 1 : S128x64x8x64x2.Idx) rfl rfl (ix5 a b c d 0 : S128x64x8x64x1.Idx) (fun b hb => by
    match b with
    | ⟨0, _⟩ => rfl
    | ⟨1, _⟩ => rfl
    | ⟨2, _⟩ => rfl
    | ⟨3, _⟩ => rfl
    | ⟨4, _⟩ => exact absurd rfl hb) rfl, v82_at]

theorem bias_ref (y : S16x128x64x8x64.Idx) :
    val_main_v84 (F := Ideal) x2 y
      = at2 (flat x2) (y 0).val (31 * (row0 (y 1).val + (y 3).val + 7 - (y 1).val) + dcN (y 2).val (y 4).val) := by
  have h0 : (y 0).val < 16 := (y 0).isLt
  have h1 : (y 1).val < 128 := (y 1).isLt
  have h3 : (y 3).val < 8 := (y 3).isLt
  have hr : row0 (y 1).val + (y 3).val + 7 - (y 1).val < 15 := by unfold row0; omega
  have hc : dcN (y 2).val (y 4).val < 31 := by unfold dcN; omega
  refine (take_pair_at _ _ y hr hc (v83_0 (y 1) (y 2) (y 3) (y 4)) (v83_1 (y 1) (y 2) (y 3) (y 4))).trans ?_
  rw [flat_at x2 h0 hr hc, val_main_v12_apply]
  refine congrArg x2 (funext fun a => Fin.ext ?_)
  generalize row0 (y 1).val + (y 3).val + 7 - (y 1).val = r at *
  generalize dcN (y 2).val (y 4).val = c at *
  match a with
  | ⟨0, _⟩ => rfl
  | ⟨1, _⟩ => show (((y 0).val * 15 + r) * 31 + c) / 465 % 16 = (y 0).val; omega
  | ⟨2, _⟩ => show (((y 0).val * 15 + r) * 31 + c) / 31 % 15 = r; omega
  | ⟨3, _⟩ => show (((y 0).val * 15 + r) * 31 + c) % 31 = c; omega
end

end Cert.Attn.Ref

end
-- ==== Proof.RefScore.lean ====
/- The reference's scores, their greatest, the softmax and its products with the values, at natural coordinates. -/
module

public import proofs.«01_k».proof.Proof.RefReads

@[expose] public section

noncomputable section

namespace Cert.Attn.Ref

open Idealize.ShloMosaic hiding ix1 ix2 ix3 ix4 ix5 eq_ix1 eq_ix2 eq_ix3 eq_ix4
open Idealize.ShloMosaic.ValueIdx Cert.ReferenceIdeal Cert.ReferenceIdeal.Read

/-- The kernel's named scale is the reference's `1/√128`. -/
theorem scale_real : scale = (((Real.sqrt 128)⁻¹ : ℝ) : EReal) := IdealRules.named_const.ideal_named_scalar _ _ _ _ rfl

theorem f128 : FloatOps.ofBits (F := Ideal) .f32 0x43000000#32 = ((128 : ℝ) : EReal) := by
  show Ideal.ofBits .f32 0x43000000#32 = _
  simp [Ideal.ofBits, Ideal.ieee, -EReal.coe_mul]; norm_num

theorem v85_at (y : S_.Idx) : val_main_v85 (F := Ideal) y = scale := by
  rw [val_main_v85_apply, val_main_cst_apply, f128, scale_real, Ideal.hostUnary_rsqrt_def, Ideal.rsqrt_coe, if_neg (by norm_num), if_neg (by norm_num)]

section
variable (x0 : S8192x6144.Idx → EReal) (x1 : S256x4096.Idx → EReal) (x2 : S1x16x15x31.Idx → EReal)

theorem v91_at (y : S16x128x64x8x64.Idx) :
    val_main_v91 (F := Ideal) x0 x2 y = sRow x0 (flat x2) (y 0).val (y 1).val (y 2).val (64 * (y 3).val + (y 4).val) := by
  have h4 : (y 4).val < 64 := (y 4).isLt
  have ed : (64 * (y 3).val + (y 4).val) / 64 = (y 3).val := by omega
  have em : (64 * (y 3).val + (y 4).val) % 64 = (y 4).val := by omega
  simp only [val_main_v91_apply, val_main_call3_v1_apply, val_main_v90_apply, v53_at, val_main_call3_v2_apply, val_main_call3_v0_apply,
    val_main_cst_18_apply, val_main_v89_apply, val_main_v88_apply, val_main_v86_apply, val_main_v87_apply, v85_at, bias_ref, q_at, kg_at]
  unfold sRow biasEntry
  rw [ed, em]
  rw [show 64 * (row0 (y 1).val + (y 3).val) + (y 4).val = 64 * row0 (y 1).val + (64 * (y 3).val + (y 4).val) by omega, neutral_max]
  by_cases e : inWin (y 2).val (y 4).val
  · rw [if_pos e, if_pos e]
    rfl
  · rw [if_neg e, if_neg e, EReal.add_bot]
    rfl

theorem v95_at (y : S16x128x64x512.Idx) :
    val_main_v95 (F := Ideal) x0 x2 y = sRow x0 (flat x2) (y 0).val (y 1).val (y 2).val (y 3).val := by
  have h0 : (y 0).val < 16 := (y 0).isLt
  have h1 : (y 1).val < 128 := (y 1).isLt
  have h2 : (y 2).val < 64 := (y 2).isLt
  have h3 : (y 3).val < 512 := (y 3).isLt
  unfold val_main_v95
  rw [shapeCast_apply (val_main_v91 (F := Ideal) x0 x2) Gen.shapeCasts_S16x128x64x8x64_S16x128x64x512 y
    (ix5 (⟨(y 0).val, h0⟩ : Fin 16) (⟨(y 1).val, h1⟩ : Fin 128) (⟨(y 2).val, h2⟩ : Fin 64) (⟨(y 3).val / 64, by omega⟩ : Fin 8)
      (⟨(y 3).val % 64, by omega⟩ : Fin 64)) (by
    rw [Shape.rowMajor_val_five, Shape.rowMajor_val_four]
    show ((((y 0).val * 128 + (y 1).val) * 64 + (y 2).val) * 8 + (y 3).val / 64) * 64 + (y 3).val % 64
      = (((y 0).val * 128 + (y 1).val) * 64 + (y 2).val) * 512 + (y 3).val
    omega), v91_at]
  show sRow x0 (flat x2) (y 0).val (y 1).val (y 2).val (64 * ((y 3).val / 64) + (y 3).val % 64) = _
  rw [Nat.div_add_mod]

theorem v94_at (y : S16x128x64x256.Idx) :
    val_main_v94 (F := Ideal) x0 x1 y = cRow x0 x1 (y 0).val (y 1).val (y 2).val (y 3).val := by
  simp only [val_main_v94_apply, val_main_v92_apply, val_main_v93_apply, v85_at, q_at, kc_at]
  rfl

/-- All the scores of a query: its eight rows, then the context. -/
def aRow (q : Cert.KernelIdeal.S8192x6144.Idx → EReal) (x : Cert.KernelIdeal.S256x4096.Idx → EReal)
    (rp : Cert.KernelIdeal.S16x465.Idx → EReal) (h r c n : ℕ) : EReal :=
  if n < 512 then sRow q rp h r c n else cRow q x h r c (n - 512)

theorem v96_at (y : S16x128x64x768.Idx) :
    val_main_v96 (F := Ideal) x0 x1 x2 y = aRow x0 x1 (flat x2) (y 0).val (y 1).val (y 2).val (y 3).val := by
  have h0 : (y 0).val < 16 := (y 0).isLt
  have h1 : (y 1).val < 128 := (y 1).isLt
  have h2 : (y 2).val < 64 := (y 2).isLt
  have h3 : (y 3).val < 768 := (y 3).isLt
  unfold val_main_v96 aRow
  by_cases e : (y 3).val < 512
  · rw [if_pos e, concatenate_pair_apply_left (t := S16x128x64x768) (s₁ := S16x128x64x512) (s₂ := S16x128x64x256) (3 : Fin 4) _ _ _ y rfl
      (ix4 (⟨(y 0).val, h0⟩ : Fin 16) (⟨(y 1).val, h1⟩ : Fin 128) (⟨(y 2).val, h2⟩ : Fin 64) (⟨(y 3).val, e⟩ : Fin 512)) (fun b => by
      match b with
      | ⟨0, _⟩ => rfl
      | ⟨1, _⟩ => rfl
      | ⟨2, _⟩ => rfl
      | ⟨3, _⟩ => rfl), v95_at]
    try rfl
  · rw [if_neg e, concatenate_pair_apply_right (t := S16x128x64x768) (s₁ := S16x128x64x512) (s₂ := S16x128x64x256) (3 : Fin 4) _ _ _ y rfl rfl
      (ix4 (⟨(y 0).val, h0⟩ : Fin 16) (⟨(y 1).val, h1⟩ : Fin 128) (⟨(y 2).val, h2⟩ : Fin 64) (⟨(y 3).val - 512, by omega⟩ : Fin 256)) (fun b hb => by
      match b with
      | ⟨0, _⟩ => rfl
      | ⟨1, _⟩ => rfl
      | ⟨2, _⟩ => rfl
      | ⟨3, _⟩ => exact absurd rfl hb) (by
      show (y 3).val - 512 + 512 = (y 3).val
      omega), v94_at]
    try rfl

theorem sup_aRow (q : Cert.KernelIdeal.S8192x6144.Idx → EReal) (x : Cert.KernelIdeal.S256x4096.Idx → EReal)
    (rp : Cert.KernelIdeal.S16x465.Idx → EReal) (h r c : ℕ) : lmax (aRow q x rp h r c) 0 768 = mRow q x rp h r c := by
  unfold lmax mRow
  apply le_antisymm
  · refine Finset.sup_le fun n hn => ?_
    have hn := (Finset.mem_Ico.mp hn).2
    unfold aRow
    by_cases e : n < 512
    · rw [if_pos e]
      exact le_max_of_le_left (Finset.le_sup (f := sRow q rp h r c) (Finset.mem_range.mpr e))
    · rw [if_neg e]
      exact le_max_of_le_right (Finset.le_sup (f := cRow q x h r c) (Finset.mem_range.mpr (by omega)))
  · refine max_le (Finset.sup_le fun n hn => ?_) (Finset.sup_le fun n hn => ?_)
    · have hn := Finset.mem_range.mp hn
      have e : aRow q x rp h r c n = sRow q rp h r c n := if_pos hn
      rw [← e]
      exact Finset.le_sup (f := aRow q x rp h r c) (Finset.mem_Ico.mpr ⟨by omega, by omega⟩)
    · have hn := Finset.mem_range.mp hn
      have e : aRow q x rp h r c (512 + n) = cRow q x h r c n := by
        unfold aRow
        rw [if_neg (by omega), Nat.add_sub_cancel_left]
      rw [← e]
      exact Finset.le_sup (f := aRow q x rp h r c) (Finset.mem_Ico.mpr ⟨by omega, by omega⟩)

/-- A sum over all the scores of a query is one over the eight rows and one over the context. -/
theorem sum_aRow (q : Cert.KernelIdeal.S8192x6144.Idx → EReal) (x : Cert.KernelIdeal.S256x4096.Idx → EReal)
    (rp : Cert.KernelIdeal.S16x465.Idx → EReal) (h r c : ℕ) (g : EReal → EReal) :
    ∑ n : Fin 768, g (aRow q x rp h r c n.val)
      = ∑ n ∈ Finset.range 512, g (sRow q rp h r c n) + ∑ n ∈ Finset.range 256, g (cRow q x h r c n) := by
  rw [← Finset.sum_range (fun n => g (aRow q x rp h r c n)), show 768 = 512 + 256 from rfl, Finset.sum_range_add]
  refine congrArg₂ (· + ·) (Finset.sum_congr rfl fun n hn => ?_) (Finset.sum_congr rfl fun n _ => ?_)
  · unfold aRow
    rw [if_pos (Finset.mem_range.mp hn)]
  · unfold aRow
    rw [if_neg (by omega), Nat.add_sub_cancel_left]

theorem v97_at (y : S16x128x64.Idx) :
    val_main_v97 (F := Ideal) x0 x1 x2 y = mRow x0 x1 (flat x2) (y 0).val (y 1).val (y 2).val := by
  unfold val_main_v97
  rw [Host.reduce_eq_fold_single (FloatOps.maximumf (F := Ideal) (φ := .f32)) _ _ Gen.reducesTo_S16x128x64x768_S16x128x64_d3 (by decide) Gen.h_S_, val_main_cst_19_apply, neutral_max, ← sup_aRow,
    ← fold_max_shift]
  refine congrArg (fun f => Finset.fold max (⊥ : EReal) f (Finset.univ : Finset (Fin 768))) (funext fun k => ?_)
  refine (v96_at x0 x1 x2 _).trans ?_
  rw [Nat.zero_add]
  rfl

theorem v99_at (y : S16x128x64.Idx) :
    val_main_v99 (F := Ideal) x0 x1 x2 y = mRow x0 x1 (flat x2) (y 0).val (y 1).val (y 2).val := by
  rw [val_main_v99_apply, val_main_v98_apply, val_main_cst_20_apply, v97_at, neutral_max, Ideal.maximumf_def]
  exact max_eq_right bot_le

theorem v103_at (y : S16x128x64x768.Idx) :
    val_main_v103 (F := Ideal) x0 x1 x2 y = Ideal.exp (aRow x0 x1 (flat x2) (y 0).val (y 1).val (y 2).val (y 3).val
      - mRow x0 x1 (flat x2) (y 0).val (y 1).val (y 2).val) := by
  rw [val_main_v103_apply, val_main_v102_apply, v96_at, val_main_v101_apply, val_main_v100_apply, v99_at]
  rfl

theorem v104_at (y : S16x128x64.Idx) :
    val_main_v104 (F := Ideal) x0 x1 x2 y = dRowS x0 x1 (flat x2) (y 0).val (y 1).val (y 2).val := by
  rw [val_main_v104_apply, val_main_cst_21_apply]
  have e := sum_aRow x0 x1 (flat x2) (y 0).val (y 1).val (y 2).val fun s => Ideal.exp (s - mRow x0 x1 (flat x2) (y 0).val (y 1).val (y 2).val)
  refine Eq.trans ?_ e
  rw [show FloatOps.ofBits (F := Ideal) .f32 0x00000000#32 = (0 : EReal) from Ideal.ofBits_zero_f32, zero_add]
  exact Finset.sum_congr rfl fun k _ => v103_at x0 x1 x2 _

theorem v107_at (y : S16x128x64x768.Idx) :
    val_main_v107 (F := Ideal) x0 x1 x2 y = Ideal.div (Ideal.exp (aRow x0 x1 (flat x2) (y 0).val (y 1).val (y 2).val (y 3).val
      - mRow x0 x1 (flat x2) (y 0).val (y 1).val (y 2).val)) (dRowS x0 x1 (flat x2) (y 0).val (y 1).val (y 2).val) := by
  rw [val_main_v107_apply, v103_at, val_main_v106_apply, val_main_v105_apply, v104_at]
  rfl

theorem v110_at (y : S128x512x16x128.Idx) :
    val_main_v110 (F := Ideal) x0 y = at2 x0 (64 * row0 (y 0).val + (y 1).val) (4096 + 128 * (y 2).val + (y 3).val) := by
  have h0 : (y 0).val < 128 := (y 0).isLt
  have h1 : (y 1).val < 512 := (y 1).isLt
  have h2 : (y 2).val < 16 := (y 2).isLt
  have h3 : (y 3).val < 128 := (y 3).isLt
  unfold val_main_v110
  rw [shapeCast_apply (val_main_v36 (F := Ideal) x0) Gen.shapeCasts_S128x8x64x16x128_S128x512x16x128 y
    (ix5 (⟨(y 0).val, h0⟩ : Fin 128) (⟨(y 1).val / 64, by omega⟩ : Fin 8) (⟨(y 1).val % 64, by omega⟩ : Fin 64) (⟨(y 2).val, h2⟩ : Fin 16)
      (⟨(y 3).val, h3⟩ : Fin 128)) (by
    rw [Shape.rowMajor_val_five, Shape.rowMajor_val_four]
    show ((((y 0).val * 8 + (y 1).val / 64) * 64 + (y 1).val % 64) * 16 + (y 2).val) * 128 + (y 3).val
      = (((y 0).val * 512 + (y 1).val) * 16 + (y 2).val) * 128 + (y 3).val
    omega), vg_at]
  show at2 x0 (64 * (row0 (y 0).val + (y 1).val / 64) + (y 1).val % 64) (4096 + 128 * (y 2).val + (y 3).val) = _
  rw [show 64 * (row0 (y 0).val + (y 1).val / 64) + (y 1).val % 64 = 64 * row0 (y 0).val + (y 1).val by omega]

/-- The softmax-weighted sum of the values, each weight divided by the denominator. -/
def refAt (q : Cert.KernelIdeal.S8192x6144.Idx → EReal) (x : Cert.KernelIdeal.S256x4096.Idx → EReal)
    (rp : Cert.KernelIdeal.S16x465.Idx → EReal) (h r c k : ℕ) : EReal :=
  ∑ n ∈ Finset.range 512, at2 q (64 * row0 r + n) (4096 + 128 * h + k)
      * Ideal.div (Ideal.exp (sRow q rp h r c n - mRow q x rp h r c)) (dRowS q x rp h r c)
    + ∑ n ∈ Finset.range 256, at2 x n (2048 + 128 * h + k) * Ideal.div (Ideal.exp (cRow q x h r c n - mRow q x rp h r c)) (dRowS q x rp h r c)

theorem v115_at (y : S128x64x16x128.Idx) :
    val_main_v115 (F := Ideal) x0 x1 x2 y = refAt x0 x1 (flat x2) (y 2).val (y 0).val (y 1).val (y 3).val := by
  rw [val_main_v115_apply, val_main_v112_apply, val_main_v114_apply, val_main_v111_apply, val_main_v113_apply]
  unfold refAt
  rw [Finset.sum_range, Finset.sum_range]
  refine congrArg₂ (· + ·) (Finset.sum_congr rfl fun n _ => ?_) (Finset.sum_congr rfl fun n _ => ?_)
  · rw [v110_at, val_main_v108_apply, v107_at]
    have e : aRow x0 x1 (flat x2) (y 2).val (y 0).val (y 1).val n.val = sRow x0 (flat x2) (y 2).val (y 0).val (y 1).val n.val := if_pos n.isLt
    rw [← e]
  · rw [vc_at, val_main_v109_apply, v107_at]
    have e : aRow x0 x1 (flat x2) (y 2).val (y 0).val (y 1).val (512 + n.val) = cRow x0 x1 (y 2).val (y 0).val (y 1).val n.val := by
      unfold aRow
      rw [if_neg (by omega), Nat.add_sub_cancel_left]
    rw [← e]

/-- The reference's attention at natural coordinates. -/
theorem v117_at (y : S8192x2048.Idx) :
    val_main_v117 (F := Ideal) x0 x1 x2 y
      = refAt x0 x1 (flat x2) ((y 1).val / 128) ((y 0).val / 64) ((y 0).val % 64) ((y 1).val % 128) := by
  have h0 : (y 0).val < 8192 := (y 0).isLt
  have h1 : (y 1).val < 2048 := (y 1).isLt
  rw [val_main_v117_apply]
  refine Eq.trans (b := val_main_v116 (F := Ideal) x0 x1 x2 y) rfl ?_
  unfold val_main_v116
  rw [shapeCast_apply (val_main_v115 (F := Ideal) x0 x1 x2) Gen.shapeCasts_S128x64x16x128_S8192x2048 y
    (ix4 (⟨(y 0).val / 64, by omega⟩ : Fin 128) (⟨(y 0).val % 64, by omega⟩ : Fin 64) (⟨(y 1).val / 128, by omega⟩ : Fin 16)
      (⟨(y 1).val % 128, by omega⟩ : Fin 128)) (by
    rw [Shape.rowMajor_val_four, Shape.rowMajor_val_two]
    show (((y 0).val / 64 * 64 + (y 0).val % 64) * 16 + (y 1).val / 128) * 128 + (y 1).val % 128 = (y 0).val * 2048 + (y 1).val
    omega), v115_at]
  try rfl
end

/-- The reference's cast of the gate half of the up-projection's weights. -/
theorem v120_at (x3 : S1x4096x22016.Idx → EReal) (y : S4096x11008.Idx) :
    val_main_v120 (F := Ideal) x3 y = x3 (ix3 (0 : Fin 1) (⟨(y 0).val, (y 0).isLt⟩ : Fin 4096)
      (⟨11008 + (y 1).val, by have h : (y 1).val < 11008 := (y 1).isLt; omega⟩ : Fin 22016)) := by
  have h0 : (y 0).val < 4096 := (y 0).isLt
  have h1 : (y 1).val < 11008 := (y 1).isLt
  rw [val_main_v120_apply]
  refine Eq.trans (b := val_main_v119 (F := Ideal) x3 y) rfl ?_
  rw [val_main_v119_apply]
  unfold val_main_v118
  rw [shapeCast_apply x3 Gen.shapeCasts_S1x4096x22016_S4096x22016 _ (ix3 (0 : Fin 1) (⟨(y 0).val, (y 0).isLt⟩ : Fin 4096)
      (⟨11008 + (y 1).val, by omega⟩ : Fin 22016)) (by
    rw [Shape.rowMajor_val_three, Shape.rowMajor_val_two]
    show ((0 * 4096 + (y 0).val) * 22016 + (11008 + (y 1).val)) = (y 0).val * 22016 + (11008 + (y 1).val)
    rw [Nat.zero_mul, Nat.zero_add])]

end Cert.Attn.Ref

end
-- ==== Proof.Finite.lean ====
/- With finite queries, keys, context keys and bias the softmax denominator is a positive number or more, so that dividing the
   weighted sum by it is dividing each weight. -/
module

public import proofs.«01_k».proof.Proof.RefScore
public import proofs.«01_k».proof.Pre_finite_scores
public import Idealize.ShloMosaic.Lib.ReduceAll
public import Idealize.ShloMosaic.Lib.Affine
public import Idealize.ShloMosaic.Lib.Pointwise.Select

@[expose] public section

noncomputable section

namespace Cert.Attn

open Idealize.ShloMosaic hiding ix1 ix2 ix3 ix4 ix5 eq_ix1 eq_ix2 eq_ix3 eq_ix4
open Idealize.ShloMosaic.ValueIdx Cert.KernelIdeal

/-- An extended real that is a number. -/
def IsNum (x : EReal) : Prop := ∃ r : ℝ, x = (r : EReal)

theorem IsNum.mul {x y : EReal} : IsNum x → IsNum y → IsNum (x * y) := fun ⟨a, ha⟩ ⟨b, hb⟩ => ⟨a * b, by rw [ha, hb, EReal.coe_mul]⟩
theorem IsNum.add {x y : EReal} : IsNum x → IsNum y → IsNum (x + y) := fun ⟨a, ha⟩ ⟨b, hb⟩ => ⟨a + b, by rw [ha, hb, EReal.coe_add]⟩
theorem IsNum.sum {ι : Type} (s : Finset ι) (f : ι → EReal) (h : ∀ i ∈ s, IsNum (f i)) : IsNum (∑ i ∈ s, f i) := by
  classical
  induction s using Finset.induction_on with
  | empty => exact ⟨0, rfl⟩
  | insert a s ha ih =>
    rw [Finset.sum_insert ha]
    exact (h a (Finset.mem_insert_self a s)).add (ih fun i hi => h i (Finset.mem_insert_of_mem hi))
theorem IsNum.ne_top {x : EReal} : IsNum x → x ≠ ⊤ := fun ⟨_, h⟩ => h ▸ EReal.coe_ne_top _
theorem IsNum.ne_bot {x : EReal} : IsNum x → x ≠ ⊥ := fun ⟨_, h⟩ => h ▸ EReal.coe_ne_bot _
theorem IsNum.of {x : EReal} (h : x ≠ ⊤) (h' : x ≠ ⊥) : IsNum x := ⟨x.toReal, (EReal.coe_toReal h h').symm⟩

theorem exp_nonneg (x : EReal) : 0 ≤ Ideal.exp x := by
  induction x with
  | bot => exact le_refl _
  | top => exact le_top
  | coe r => exact EReal.coe_nonneg.mpr (Real.exp_pos r).le

/-- Dividing a sum of products by a positive denominator divides the first factors. -/
theorem sum_mul_inv (n : ℕ) (e v : ℕ → EReal) (d : EReal) (h0 : 0 ≤ d) (ht : d ≠ ⊤) :
    (∑ k ∈ Finset.range n, e k * v k) * d = ∑ k ∈ Finset.range n, v k * (e k * d) := by
  induction n with
  | zero => simp
  | succ n ih =>
    rw [Finset.sum_range_succ, Finset.sum_range_succ, EReal.right_distrib_of_nonneg_of_ne_top h0 ht, ih, mul_comm (e n) (v n), mul_assoc]

section
variable (q : S8192x6144.Idx → EReal) (x : S256x4096.Idx → EReal) (rp : S16x465.Idx → EReal)

/-- The queries, keys, context keys and the bias are numbers. -/
structure Numbers : Prop where
  q : ∀ i j, j < 4096 → IsNum (at2 q i j)
  x : ∀ i j, j < 2048 → IsNum (at2 x i j)
  rp : ∀ i j, IsNum (at2 rp i j)

variable {q x rp} (hN : Numbers q x rp)
include hN

theorem isNum_cRow {h : ℕ} (hh : h < 16) (r c n : ℕ) : IsNum (cRow q x h r c n) := by
  unfold cRow
  refine IsNum.mul (IsNum.sum _ _ fun k _ => (hN.q _ _ ?_).mul (hN.x _ _ ?_)) ⟨_, Ref.scale_real⟩
  all_goals have := k.isLt; omega

theorem sRow_ne_top {h : ℕ} (hh : h < 16) (r c n : ℕ) : sRow q rp h r c n ≠ ⊤ := by
  unfold sRow biasEntry
  have hs : IsNum ((∑ k : Fin 128, at2 q (64 * r + c) (128 * h + k.val) * at2 q (64 * row0 r + n) (2048 + 128 * h + k.val)) * scale) := by
    refine IsNum.mul (IsNum.sum _ _ fun k _ => (hN.q _ _ ?_).mul (hN.q _ _ ?_)) ⟨_, Ref.scale_real⟩
    all_goals have := k.isLt; omega
  split
  · exact (hs.add (hN.rp _ _)).ne_top
  · rw [EReal.add_bot]
    exact bot_ne_top

theorem isNum_mRow {h : ℕ} (hh : h < 16) (r c : ℕ) : IsNum (mRow q x rp h r c) := by
  refine IsNum.of (ne_of_lt (max_lt ?_ ?_)) (ne_of_gt (lt_of_lt_of_le ?_ (le_max_right _ _)))
  · exact (Finset.sup_lt_iff bot_lt_top).mpr fun n _ => lt_top_iff_ne_top.mpr (sRow_ne_top hN hh r c n)
  · exact (Finset.sup_lt_iff bot_lt_top).mpr fun n _ => lt_top_iff_ne_top.mpr (isNum_cRow hN hh r c n).ne_top
  · exact lt_of_lt_of_le (bot_lt_iff_ne_bot.mpr (isNum_cRow hN hh r c 0).ne_bot) (Finset.le_sup (f := cRow q x h r c) (Finset.mem_range.mpr (by omega)))

theorem dRowS_pos {h : ℕ} (hh : h < 16) (r c : ℕ) : 0 < dRowS q x rp h r c := by
  obtain ⟨m, hm⟩ := isNum_mRow hN hh r c
  obtain ⟨s, hs⟩ := isNum_cRow hN hh r c 0
  unfold dRowS
  refine lt_of_lt_of_le ?_ (le_add_of_nonneg_left (Finset.sum_nonneg fun _ _ => exp_nonneg _))
  refine lt_of_lt_of_le ?_ (Finset.single_le_sum (f := fun n => Ideal.exp (cRow q x h r c n - mRow q x rp h r c)) (fun _ _ => exp_nonneg _)
    (Finset.mem_range.mpr (show 0 < 256 by omega)))
  show 0 < Ideal.exp (cRow q x h r c 0 - mRow q x rp h r c)
  rw [hm, hs, ← EReal.coe_sub, Ideal.exp_coe]
  exact EReal.coe_pos.mpr (Real.exp_pos _)

/-- The kernel's quotient of sums is the reference's sum of quotients. -/
theorem specAt_eq_refAt {i j : ℕ} (hj : j < 2048) : specAt q x rp i j = Ref.refAt q x rp (j / 128) (i / 64) (i % 64) (j % 128) := by
  have hd := dRowS_pos hN (show j / 128 < 16 by omega) (i / 64) (i % 64)
  have h0 : 0 ≤ (dRowS q x rp (j / 128) (i / 64) (i % 64))⁻¹ := EReal.inv_nonneg_of_nonneg hd.le
  have ht : (dRowS q x rp (j / 128) (i / 64) (i % 64))⁻¹ ≠ ⊤ := (EReal.inv_lt_top _).ne
  unfold specAt Ref.refAt Ideal.div
  simp only [if_neg hd.ne']
  rw [EReal.right_distrib_of_nonneg_of_ne_top h0 ht, sum_mul_inv _ _ _ _ h0 ht, sum_mul_inv _ _ _ _ h0 ht]
end

/-! ## What the precondition says -/

theorem isNum_of_lt {x : EReal} (h : max x (-x) < ⊤) : IsNum x := by
  refine IsNum.of (fun e => ?_) (fun e => ?_)
  · rw [e] at h
    exact absurd (lt_of_le_of_lt (le_max_left _ _) h) (lt_irrefl _)
  · rw [e, EReal.neg_bot] at h
    exact absurd (lt_of_le_of_lt (le_max_right _ _) h) (lt_irrefl _)

theorem top_bf16 : FloatOps.ofBits (F := Ideal) .bf16 0x7F80#16 = (⊤ : EReal) := by
  show Ideal.ofBits .bf16 0x7F80#16 = ⊤
  simp [Ideal.ofBits, Ideal.ieee]
theorem top_f32 : FloatOps.ofBits (F := Ideal) .f32 0x7F800000#32 = (⊤ : EReal) := by
  show Ideal.ofBits .f32 0x7F800000#32 = ⊤
  simp [Ideal.ofBits, Ideal.ieee]

/-- An element below infinity in absolute value is a number. -/
theorem isNum_of_cmp {φ : FTy} {x : EReal} (h : FloatOps.cmpf (F := Ideal) (φ := φ) .olt (FloatOps.hostAbsf (F := Ideal) (φ := φ) x) (⊤ : EReal) = 1#1) :
    IsNum x := by
  refine isNum_of_lt ?_
  by_contra hn
  refine absurd h ?_
  show ¬ BitVec.ofBool (decide (max x (-x) < ⊤)) = 1#1
  rw [decide_eq_false hn]
  decide

instance : Subsingleton Cert.Pre_finite_scores.S_.Idx := ⟨fun a b => funext fun k => k.elim0⟩

/-- An array whose elements are all below infinity in absolute value holds numbers. -/
theorem isNum_of_all {s : Shape} {φ : FTy} {ax : List (Fin s.rank)} {x : FVec Ideal s φ} {c : FVec Ideal s φ} (hc : ∀ i, c i = (⊤ : EReal))
    {init : Cert.Pre_finite_scores.S_.Idx → BitVec 1} {hr : s.ReducesTo ax Cert.Pre_finite_scores.S_}
    {hu : 0 < Cert.Pre_finite_scores.S_.numel} {j : Cert.Pre_finite_scores.S_.Idx}
    (h : Host.reduce IntOp.andi (cmpf .olt (Host.absf x) c) init hr hu j = 1#1) (i : s.Idx) : IsNum (x i) := by
  have e := Host.reduce_andi_all _ _ _ _ _ h i
  refine isNum_of_cmp (φ := φ) ?_
  rw [← hc i]
  exact e

section
variable [Cert.Pre_finite_scores.Facts] (a0 : S8192x6144.Idx → EReal) (a1 : S256x4096.Idx → EReal) (a2 : S1x16x15x31.Idx → EReal) (a3 : S1x4096x22016.Idx → EReal)

theorem isNum_zero : IsNum 0 := ⟨0, rfl⟩

theorem pre_numbers (h : Cert.Pre_finite_scores.fn (F := Ideal) a0 a1 a2 a3 = fun _ => 1#1) : Numbers a0 a1 (Ref.flat a2) := by
  have h := congrFun h (fun a => a.elim0)
  unfold Cert.Pre_finite_scores.fn at h
  simp only [andi] at h
  obtain ⟨h01, h2⟩ := IntOp.andi_eq_one.mp h
  obtain ⟨h0, h1⟩ := IntOp.andi_eq_one.mp h01
  have n0 := isNum_of_all (fun _ => top_bf16) h0
  have n1 := isNum_of_all (fun _ => top_bf16) h1
  have n2 := isNum_of_all (fun _ => top_f32) h2
  refine ⟨fun i j hj => ?_, fun i j hj => ?_, fun i j => ?_⟩
  · unfold at2
    split
    · next hi =>
      have e := n0 (ix2 (⟨i, hi.1⟩ : Fin 8192) (⟨j, hj⟩ : Fin 4096))
      rw [extractStridedSlice_apply ![0, 0] a0 _ _ (ix2 (⟨i, hi.1⟩ : Fin 8192) (⟨j, hi.2⟩ : Fin 6144)) (fun a => by
        match a with
        | ⟨0, _⟩ => exact (Nat.zero_add _).symm
        | ⟨1, _⟩ => exact (Nat.zero_add _).symm)] at e
      exact e
    · exact isNum_zero
  · unfold at2
    split
    · next hi =>
      have e := n1 (ix2 (⟨i, hi.1⟩ : Fin 256) (⟨j, hj⟩ : Fin 2048))
      rw [extractStridedSlice_apply ![0, 0] a1 _ _ (ix2 (⟨i, hi.1⟩ : Fin 256) (⟨j, hi.2⟩ : Fin 4096)) (fun a => by
        match a with
        | ⟨0, _⟩ => exact (Nat.zero_add _).symm
        | ⟨1, _⟩ => exact (Nat.zero_add _).symm)] at e
      exact e
    · exact isNum_zero
  · unfold at2
    split
    · exact n2 _
    · exact isNum_zero
end

end Cert.Attn

end
-- ==== Proof.Value.lean ====
/- The kernel's two results as functions of its arguments, and the reference's equal to them. -/
module

public import proofs.«01_k».proof.Proof.Run
public import proofs.«01_k».proof.Proof.Table
public import proofs.«01_k».proof.Proof.Finite
public import proofs.«01_k».proof.Proof.Gen.ReferenceIdeal.Run
public import Idealize.ShloMosaic.Lib.StableHlo.Run

@[expose] public section

noncomputable section

namespace Cert.Attn

open Idealize.ShloMosaic hiding ix1 ix2 ix3 ix4 ix5 eq_ix1 eq_ix2 eq_ix3 eq_ix4
open Idealize.ShloMosaic.ValueIdx Idealize.ShloMosaic.TcCoe Cert.KernelIdeal Cert.KernelIdeal.Gen Idealize.ShloMosaic.StableHlo Idealize.SL.Sem

variable (m : (ℓ : Loc nD τ sig) → Buf (Elt Ideal) ℓ) (ρ : Dev nD → PrngReg)

theorem V1_v0 (c : Dev nD) : (V1 m ρ c main_v0 : S4096x22016.Idx → EReal)
    = shapeCast S4096x22016 (m ((c : Thread nD τ).loc main_arg3) : S1x4096x22016.Idx → EReal) shapeCasts_S1x4096x22016_S4096x22016 := by
  simp only [V1, W1, hostOps0]
  after_results_simp
  rfl

theorem V1_v2 (c : Dev nD) : (V1 m ρ c main_v2 : S16x465.Idx → EReal)
    = shapeCast S16x465 (shapeCast S16x15x31 (m ((c : Thread nD τ).loc main_arg2) : S1x16x15x31.Idx → EReal) shapeCasts_S1x16x15x31_S16x15x31)
      shapeCasts_S16x15x31_S16x465 := by
  simp only [V1, W1, hostOps0]
  after_results_simp
  rfl

/-- The bias table the first launch reads is the argument's. -/
theorem V1_v2_flat (c : Dev nD) : (V1 m ρ c main_v2 : S16x465.Idx → EReal) = Ref.flat (m ((c : Thread nD τ).loc main_arg2)) := by
  rw [V1_v2]
  funext y
  have h0 : (y 0).val < 16 := (y 0).isLt
  have h1 : (y 1).val < 465 := (y 1).isLt
  rw [shapeCast_apply _ shapeCasts_S16x15x31_S16x465 y (ix3 (⟨(y 0).val, h0⟩ : Fin 16) (⟨(y 1).val / 31, by omega⟩ : Fin 15)
      (⟨(y 1).val % 31, by omega⟩ : Fin 31)) (by
      rw [Shape.rowMajor_val_three, Shape.rowMajor_val_two]
      show ((y 0).val * 15 + (y 1).val / 31) * 31 + (y 1).val % 31 = (y 0).val * 465 + (y 1).val
      omega),
    shapeCast_apply _ shapeCasts_S1x16x15x31_S16x15x31 _ (ix4 (0 : Fin 1) (⟨(y 0).val, h0⟩ : Fin 16) (⟨(y 1).val / 31, by omega⟩ : Fin 15)
      (⟨(y 1).val % 31, by omega⟩ : Fin 31)) (by
      rw [Shape.rowMajor_val_four, Shape.rowMajor_val_three]
      show ((0 * 16 + (y 0).val) * 15 + (y 1).val / 31) * 31 + (y 1).val % 31 = ((y 0).val * 15 + (y 1).val / 31) * 31 + (y 1).val % 31
      rw [Nat.zero_mul, Nat.zero_add])]
  rfl

/-- The attention the kernel leaves is the reference's. -/
theorem attn_value (c : Dev nD) (hN : Numbers (m ((c : Thread nD τ).loc main_arg0)) (m ((c : Thread nD τ).loc main_arg1)) (Ref.flat (m ((c : Thread nD τ).loc main_arg2)))) :
    (dat1 (V2 m ρ) c).arrAt 7 cfg1.N = Cert.ReferenceIdeal.Read.val_main_v117 (F := Ideal) (m ((c : Thread nD τ).loc main_arg0))
      (m ((c : Thread nD τ).loc main_arg1)) (m ((c : Thread nD τ).loc main_arg2)) := by
  rw [final7]
  funext i
  have h0 : (i 0).val < 8192 := (i 0).isLt
  have h1 : (i 1).val < 2048 := (i 1).isLt
  rw [V2_arg0, V2_arg1, V2_v3, tfinal, V1_v2_flat]
  refine (attnAt_eq _ _ _ h0 h1).trans ((specAt_eq_refAt hN h1).trans ?_)
  exact (Ref.v117_at _ _ _ i).symm

/-- The up-projection's weights without their unit axis. -/
theorem flat_read (w : S1x4096x22016.Idx → EReal) (i : Fin 4096) (j : Fin 22016) :
    shapeCast S4096x22016 w shapeCasts_S1x4096x22016_S4096x22016 (ix2 i j) = w (ix3 0 i j) :=
  shapeCast_apply w shapeCasts_S1x4096x22016_S4096x22016 _ (ix3 0 i j) (by
    rw [Shape.rowMajor_val_three, Shape.rowMajor_val_two]
    show ((0 * 4096 + i.val) * 22016 + j.val) = i.val * 22016 + j.val
    rw [Nat.zero_mul, Nat.zero_add])

/-- The cast weights the kernel leaves are the reference's. -/
theorem cast_value (c : Dev nD) :
    (dat1 (V2 m ρ) c).arrAt 8 cfg1.N = Cert.ReferenceIdeal.Read.val_main_v120 (F := Ideal) (m ((c : Thread nD τ).loc main_arg3)) := by
  rw [final8]
  funext i
  have h0 : (i 0).val < 4096 := (i 0).isLt
  have h1 : (i 1).val < 11008 := (i 1).isLt
  rw [V2_v0, V1_v0]
  refine Eq.trans ?_ (Ref.v120_at _ i).symm
  refine (at2_lt _ h0 (show 11008 + (i 1).val < 22016 by omega)).trans ?_
  exact flat_read (m ((c : Thread nD τ).loc main_arg3)) _ _

variable (m' : (ℓ : Loc Cert.ReferenceIdeal.nD Cert.ReferenceIdeal.τ Cert.ReferenceIdeal.sig) → Buf (Elt Ideal) ℓ) (ρ' : Dev Cert.ReferenceIdeal.nD → PrngReg)

/-- The reference's run, its results at the stages. -/
theorem ref_end : θ_run (Cert.ReferenceIdeal.defs (F := Ideal)) (onTc (τ := Cert.ReferenceIdeal.τ) (Cert.ReferenceIdeal.main (F := Ideal)))
    ⟨m', fun _ => 0, ρ'⟩ (fun r => ∀ c : Dev Cert.ReferenceIdeal.nD,
      r.2.mem ((c.tc : Thread Cert.ReferenceIdeal.nD Cert.ReferenceIdeal.τ).loc Cert.ReferenceIdeal.main_v117)
        = Cert.ReferenceIdeal.Read.val_main_v117 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v120)
        = Cert.ReferenceIdeal.Read.val_main_v120 (F := Ideal) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run _ _ _).mono (fun _ h c => ⟨(h c).1.trans (Cert.ReferenceIdeal.Read.val_main_v117_eq m' c),
    (h c).2.1.trans (Cert.ReferenceIdeal.Read.val_main_v120_eq _), (h c).2.2⟩) (Cert.ReferenceIdeal.Value.run (F := Ideal) m' ρ')

end Cert.Attn

end
-- ==== Proof.Dense.lean ====
/- A product of two blocks, and a block stored or loaded whole, at natural coordinates. -/
module

public import proofs.«01_k».proof.Proof.Geom
public import Idealize.ShloMosaic.Lib.Pipeline.ValueKit

@[expose] public section

noncomputable section

namespace Cert.Lin

open Idealize.ShloMosaic hiding ix1 ix2 ix3 ix4 eq_ix1 eq_ix2 eq_ix3 eq_ix4
open Idealize.ShloMosaic.ValueIdx Cert.Attn

theorem zero2 : (![0, 0] : Fin 2 → ℕ) = fun _ => 0 := by
  funext a
  match a with
  | ⟨0, _⟩ => rfl
  | ⟨1, _⟩ => rfl

theorem zero_word : Ideal.ofBits .f32 0x00000000#32 = 0 := by simp [Ideal.ofBits, Ideal.ieee]

/-- A block that is stored whole holds what was stored. -/
theorem stored {Val : EltTy → Type} [∀ e, Nonempty (Val e)] {a b : ℕ} {e : EltTy} (inb) (w : (⟨2, ![a, b]⟩ : Shape).Idx → Val e) :
    View.canon [(⟨Rect.unit (s := ⟨2, ![a, b]⟩) ![0, 0] ![a, b] inb, w⟩ : View.Piece Val ⟨2, ![a, b]⟩ e)] = w :=
  View.canon_unit_zero zero2 inb w

/-- A block that is loaded whole. -/
theorem loaded {Val : EltTy → Type} {a b : ℕ} {e : EltTy} (inb) (w : (⟨2, ![a, b]⟩ : Shape).Idx → Val e) :
    View.ld w (Rect.unit (s := ⟨2, ![a, b]⟩) ![0, 0] ![a, b] inb) = w :=
  View.ld_unit_zero zero2 inb w

/-- A product onto zero, from its operands at natural coordinates. -/
theorem mm {M K N : ℕ} {φ₁ φ₂ : FTy} (p : FVec Ideal ⟨2, ![M, K]⟩ φ₁) (w : FVec Ideal ⟨2, ![K, N]⟩ φ₂) (P W : ℕ → ℕ → EReal)
    (hP : ∀ y, p y = P (y 0).val (y 1).val) (hW : ∀ y, w y = W (y 0).val (y 1).val) (y : (⟨2, ![M, N]⟩ : Shape).Idx) :
    matmul (DotDims.plain M K N) none p w (constant ⟨2, ![M, N]⟩ .f32 0x00000000#32) y = ∑ k : Fin K, P (y 0).val k.val * W k.val (y 1).val := by
  obtain ⟨r, c, rfl⟩ : ∃ (a : Fin M) (b : Fin N), y = ix2 a b := ⟨_, _, eq_ix2 y⟩
  refine (Ideal.matmul_plain_apply none p w _ r c).trans ?_
  rw [constant_apply, zero_word, zero_add]
  exact Finset.sum_congr rfl fun k _ => by rw [hP, hW]; rfl

/-- A block cast to the narrower float type is the block. -/
theorem narrowed {a b : ℕ} (x : FVec Ideal ⟨2, ![a, b]⟩ .f32) (h : (⟨2, ![a, b]⟩ : Shape).ShapeCasts ⟨2, ![a, b]⟩) (hk)
    (y : (⟨2, ![a, b]⟩ : Shape).Idx) : truncf .bf16 (shapeCast ⟨2, ![a, b]⟩ x h) hk y = x y :=
  shapeCast_apply x h y y rfl

/-- A matrix at coordinates inside it. -/
theorem at2_in {a b : ℕ} (x : (⟨2, ![a, b]⟩ : Shape).Idx → EReal) {i j : ℕ} (hi : i < a) (hj : j < b) :
    at2 x i j = x (ix2 ⟨i, hi⟩ ⟨j, hj⟩) := dif_pos ⟨hi, hj⟩

end Cert.Lin

end
-- ==== Proof.Proj.lean ====
/- The projection of the queries, keys and values, and the cast that it carries along: the two results as functions of the arguments. -/
module

public import proofs.«01_k».proof.Proof.Dense
public import proofs.«01_k».proof.Proof.Gen.Kernel5Ideal.Value
public import proofs.«01_k».proof.Proof.Gen.Reference5Ideal.Read

@[expose] public section

set_option maxRecDepth 20000

noncomputable section

namespace Cert.Lin.Proj

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel5Ideal Cert.Kernel5Ideal.Gen Cert.Attn

variable (m : (ℓ : Loc nD τ sig) → Buf (Elt Ideal) ℓ)

theorem idx0 : ∀ t : Fin cfg0.N, win0_0.index t (0 : Fin 2) = t.val / 6 ∧ win0_0.index t (1 : Fin 2) = 0 := (by decide +kernel : ∀ t : Fin grid0.N, _)
theorem idx1 : ∀ t : Fin cfg0.N, win0_1.index t (0 : Fin 2) = 0 ∧ win0_1.index t (1 : Fin 2) = 4 + t.val % 6 := (by decide +kernel : ∀ t : Fin grid0.N, _)
theorem idx2 : ∀ t : Fin cfg0.N, win0_2.index t (0 : Fin 2) = 0 ∧ win0_2.index t (1 : Fin 2) = min t.val 42 := (by decide +kernel : ∀ t : Fin grid0.N, _)
theorem idx3 : ∀ t : Fin cfg0.N, win0_3.index t (0 : Fin 2) = t.val / 6 ∧ win0_3.index t (1 : Fin 2) = t.val % 6 := (by decide +kernel : ∀ t : Fin grid0.N, _)
theorem idx4 : ∀ t : Fin cfg0.N, win0_4.index t (0 : Fin 2) = 0 ∧ win0_4.index t (1 : Fin 2) = min t.val 42 := (by decide +kernel : ∀ t : Fin grid0.N, _)

theorem blk0 (c : Dev nD) (t : Fin cfg0.N) (y : S1024x4096.Idx) : iblk (F := Ideal) m c 0 t y
    = at2 (a := 8192) (b := 4096) (m ((c : Thread nD τ).loc main_arg0)) (1024 * (t.val / 6) + (y 0).val) (y 1).val := by
  obtain ⟨e0, e1⟩ := idx0 t
  rw [← V_main_arg0 m c]
  show V m c main_arg0 (((cfg0.win 0).blk t).view.emb y) = _
  refine (at2_eq (a := 8192) (b := 4096) (V m c main_arg0) _).trans ?_
  show at2 (V m c main_arg0) (win0_0.index t (0 : Fin 2) * 1024 + 1 * (y 0).val) (win0_0.index t (1 : Fin 2) * 4096 + 1 * (y 1).val) = _
  rw [e0, e1]; congr 1 <;> ring

theorem blk1 (c : Dev nD) (t : Fin cfg0.N) (y : S4096x1024.Idx) : iblk (F := Ideal) m c 1 t y
    = at2 (a := 4096) (b := 10240) (m ((c : Thread nD τ).loc main_arg1)) (y 0).val (4096 + (1024 * (t.val % 6) + (y 1).val)) := by
  obtain ⟨e0, e1⟩ := idx1 t
  rw [← V_main_arg1 m c]
  show V m c main_arg1 (((cfg0.win 1).blk t).view.emb y) = _
  refine (at2_eq (a := 4096) (b := 10240) (V m c main_arg1) _).trans ?_
  show at2 (V m c main_arg1) (win0_1.index t (0 : Fin 2) * 4096 + 1 * (y 0).val) (win0_1.index t (1 : Fin 2) * 1024 + 1 * (y 1).val) = _
  rw [e0, e1]; congr 1 <;> ring

theorem blk2 (c : Dev nD) (t : Fin cfg0.N) (y : S4096x256.Idx) : iblk (F := Ideal) m c 2 t y
    = at2 (a := 4096) (b := 22016) (V m c main_v0) (y 0).val (256 * min t.val 42 + (y 1).val) := by
  obtain ⟨e0, e1⟩ := idx2 t
  show V m c main_v0 (((cfg0.win 2).blk t).view.emb y) = _
  refine (at2_eq (a := 4096) (b := 22016) (V m c main_v0) _).trans ?_
  show at2 (V m c main_v0) (win0_2.index t (0 : Fin 2) * 4096 + 1 * (y 0).val) (win0_2.index t (1 : Fin 2) * 256 + 1 * (y 1).val) = _
  rw [e0, e1]; congr 1 <;> ring

/-- The projection's result. -/
theorem final3 (c : Dev nD) : (dats (F := Ideal) m 0 c).arrAt 3 cfg0.N = fun i : S8192x6144.Idx => ∑ k : Fin 4096,
    at2 (a := 8192) (b := 4096) (m ((c : Thread nD τ).loc main_arg0)) (i 0).val k.val
      * at2 (a := 4096) (b := 10240) (m ((c : Thread nD τ).loc main_arg1)) k.val (4096 + (i 1).val) := by
  refine (dats (F := Ideal) m 0 c).arrAt_eq_of_covers 3 _ (by decide +kernel) fun t hf y => ?_
  show (dats (F := Ideal) m 0 c).after 3 t y = ∑ k : Fin 4096,
    at2 (a := 8192) (b := 4096) (m ((c : Thread nD τ).loc main_arg0)) (((cfg0.win 3).blk t).view.emb y 0).val k.val
      * at2 (a := 4096) (b := 10240) (m ((c : Thread nD τ).loc main_arg1)) k.val (4096 + (((cfg0.win 3).blk t).view.emb y 1).val)
  obtain ⟨e0, e1⟩ := idx3 t
  have h0 : (((cfg0.win 3).blk t).view.emb y 0).val = win0_3.index t (0 : Fin 2) * 1024 + 1 * (y 0).val := rfl
  have h1 : (((cfg0.win 3).blk t).view.emb y 1).val = win0_3.index t (1 : Fin 2) * 1024 + 1 * (y 1).val := rfl
  rw [after0_3, h0, h1, e0, e1]
  unfold out0_3
  rw [stored, loaded, loaded]
  unfold k0_pay2
  refine (mm (M := 1024) (K := 4096) (N := 1024) (φ₁ := .bf16) (φ₂ := .bf16) _ _ (fun i j => at2 (a := 8192) (b := 4096) (m ((c : Thread nD τ).loc main_arg0)) (1024 * (t.val / 6) + i) j) (fun i j => at2 (a := 4096) (b := 10240) (m ((c : Thread nD τ).loc main_arg1)) i (4096 + (1024 * (t.val % 6) + j)))
    (blk0 m c t) (blk1 m c t) y).trans ?_
  refine Finset.sum_congr rfl fun k _ => ?_
  congr 2 <;> ring

/-- The cast weights. -/
theorem final4 (c : Dev nD) : (dats (F := Ideal) m 0 c).arrAt 4 cfg0.N
    = fun i : S4096x11008.Idx => at2 (a := 4096) (b := 22016) (V m c main_v0) (i 0).val (i 1).val := by
  refine (dats (F := Ideal) m 0 c).arrAt_eq_of_covers 4 _ (by decide +kernel) fun t hf y => ?_
  show (dats (F := Ideal) m 0 c).after 4 t y = at2 (a := 4096) (b := 22016) (V m c main_v0)
    (((cfg0.win 4).blk t).view.emb y 0).val (((cfg0.win 4).blk t).view.emb y 1).val
  obtain ⟨e0, e1⟩ := idx4 t
  have h0 : (((cfg0.win 4).blk t).view.emb y 0).val = win0_4.index t (0 : Fin 2) * 4096 + 1 * (y 0).val := rfl
  have h1 : (((cfg0.win 4).blk t).view.emb y 1).val = win0_4.index t (1 : Fin 2) * 256 + 1 * (y 1).val := rfl
  rw [after0_4, h0, h1, e0, e1]
  unfold out0_4
  rw [stored, loaded]
  unfold k0_pay1
  refine (narrowed _ _ _ y).trans ((blk2 m c t y).trans ?_)
  congr 1 <;> ring

theorem V_v0 (c : Dev nD) : (V m c main_v0 : S4096x22016.Idx → EReal)
    = shapeCast S4096x22016 (m ((c : Thread nD τ).loc main_arg2) : S1x4096x22016.Idx → EReal) shapeCasts_S1x4096x22016_S4096x22016 := by
  simp only [V, hostOps0]
  after_results_simp
  rfl

section
variable (h : (⟨2, ![8192, 4096]⟩ : Shape).Idx → EReal) (w : (⟨2, ![4096, 10240]⟩ : Shape).Idx → EReal) (u : (⟨3, ![1, 4096, 22016]⟩ : Shape).Idx → EReal)

theorem ref4 (i : (⟨2, ![8192, 6144]⟩ : Shape).Idx) : Cert.Reference5Ideal.Read.val_main_v4 (F := Ideal) h w i
    = ∑ k : Fin 4096, at2 h (i 0).val k.val * at2 w k.val (4096 + (i 1).val) := by
  rw [Cert.Reference5Ideal.Read.val_main_v4_apply, Cert.Reference5Ideal.Read.val_main_v3_apply, Cert.Reference5Ideal.Read.val_main_v2_apply]
  refine Finset.sum_congr rfl fun k _ => ?_
  rw [Cert.Reference5Ideal.Read.val_main_v0_apply, Cert.Reference5Ideal.Read.val_main_v1_apply]
  exact congrArg₂ (· * ·) (at2_eq h _) (at2_eq w _)

theorem ref7 (i : (⟨2, ![4096, 11008]⟩ : Shape).Idx) : Cert.Reference5Ideal.Read.val_main_v7 (F := Ideal) u i
    = at2 (a := 4096) (b := 22016) (Cert.Reference5Ideal.Read.val_main_v5 (F := Ideal) u) (i 0).val (i 1).val := by
  rw [Cert.Reference5Ideal.Read.val_main_v7_apply, Cert.Reference5Ideal.Read.val_main_v6_apply]
  generalize Cert.Reference5Ideal.Read.val_main_v5 (F := Ideal) u = z
  refine (at2_eq (a := 4096) (b := 22016) z (Cert.Reference5Ideal.Read.idx_main_v6 i)).trans ?_
  rfl

end

/-- The projection is the reference's. -/
theorem proj_value (c : Dev nD) : (dats (F := Ideal) m 0 c).arrAt 3 cfg0.N
    = Cert.Reference5Ideal.Read.val_main_v4 (F := Ideal) (m ((c : Thread nD τ).loc main_arg0)) (m ((c : Thread nD τ).loc main_arg1)) :=
  (final3 m c).trans (funext fun i => (ref4 _ _ i).symm)

/-- The cast weights are the reference's. -/
theorem cast_value (c : Dev nD) : (dats (F := Ideal) m 0 c).arrAt 4 cfg0.N
    = Cert.Reference5Ideal.Read.val_main_v7 (F := Ideal) (m ((c : Thread nD τ).loc main_arg2)) := by
  rw [final4, V_v0]
  exact funext fun i => (ref7 _ i).symm

end Cert.Lin.Proj

end
-- ==== Proof.Joined.lean ====
/- Two consecutive stretches of one product: each taken by itself and added, against the product over the joined operand.
   Both projections back to the residual stream, of the mixed tokens and of the hidden units, have this shape. -/
module

public import proofs.«01_k».proof.Proof.Dense

@[expose] public section

noncomputable section

namespace Cert.Lin

open Idealize.ShloMosaic hiding ix1 ix2 ix3 ix4 eq_ix1 eq_ix2 eq_ix3 eq_ix4
open Idealize.ShloMosaic.ValueIdx Cert.Attn

/-- A sum cut in two. -/
theorem split_sum {K₁ K₂ n : ℕ} (h : K₁ + K₂ = n) (f : ℕ → EReal) :
    ∑ k : Fin n, f k.val = (∑ k : Fin K₁, f k.val) + ∑ k : Fin K₂, f (K₁ + k.val) := by
  subst h
  rw [Fin.sum_univ_add]
  rfl

/-- The product of the row `x₀ i | x₁ i` with column `j` of `w`, weighted and added to the residual stream. -/
def joint {M K₁ K₂ K N : ℕ} (x₀ : (⟨2, ![M, K₁]⟩ : Shape).Idx → EReal) (x₁ : (⟨2, ![M, K₂]⟩ : Shape).Idx → EReal)
    (w : (⟨2, ![K, N]⟩ : Shape).Idx → EReal) (x : (⟨2, ![M, N]⟩ : Shape).Idx → EReal) (g : (⟨2, ![1, N]⟩ : Shape).Idx → EReal)
    (i j : ℕ) : EReal :=
  at2 x i j + at2 g 0 j * ((∑ k : Fin K₁, at2 x₀ i k.val * at2 w k.val j) + ∑ k : Fin K₂, at2 x₁ i k.val * at2 w (K₁ + k.val) j)

/-- Rows of a matrix, loaded from row `o` on. -/
theorem loaded_at {Val : EltTy → Type} {e : EltTy} {a b c o : ℕ} (inb) (w : (⟨2, ![a, b]⟩ : Shape).Idx → Val e) (W : ℕ → ℕ → Val e) (hW : ∀ y, w y = W (y 0).val (y 1).val)
    (y : (⟨2, ![c, b]⟩ : Shape).Idx) :
    View.ld w (Rect.unit (s := ⟨2, ![a, b]⟩) ![o, 0] ![c, b] inb) y = W (o + (y 0).val) (y 1).val := by
  refine (hW _).trans ?_
  show W (o + 1 * (y 0).val) (0 + 1 * (y 1).val) = _
  rw [Nat.one_mul, Nat.one_mul, Nat.zero_add]

/-- What the kernel stores: two products added, weighted by a row and added to a block. -/
theorem gated {M K₁ K₂ N : ℕ} (p₁ : FVec Ideal ⟨2, ![M, K₁]⟩ .bf16) (w₁ : FVec Ideal ⟨2, ![K₁, N]⟩ .bf16)
    (p₂ : FVec Ideal ⟨2, ![M, K₂]⟩ .bf16) (w₂ : FVec Ideal ⟨2, ![K₂, N]⟩ .bf16) (x : FVec Ideal ⟨2, ![M, N]⟩ .f32) (g : FVec Ideal ⟨2, ![1, N]⟩ .f32)
    (hb : (⟨2, ![1, N]⟩ : Shape).Broadcasts ⟨2, ![M, N]⟩) (P₁ P₂ W X G : ℕ → ℕ → EReal)
    (hp₁ : ∀ y, p₁ y = P₁ (y 0).val (y 1).val) (hw₁ : ∀ y, w₁ y = W (y 0).val (y 1).val)
    (hp₂ : ∀ y, p₂ y = P₂ (y 0).val (y 1).val) (hw₂ : ∀ y, w₂ y = W (K₁ + (y 0).val) (y 1).val)
    (hx : ∀ y, x y = X (y 0).val (y 1).val) (hg : ∀ y, g y = G (y 0).val (y 1).val) (y : (⟨2, ![M, N]⟩ : Shape).Idx) :
    addf x (mulf (broadcastTo ⟨2, ![M, N]⟩ g hb)
        (addf (matmul (DotDims.plain M K₁ N) none p₁ w₁ (constant ⟨2, ![M, N]⟩ .f32 0x00000000#32))
          (matmul (DotDims.plain M K₂ N) none p₂ w₂ (constant ⟨2, ![M, N]⟩ .f32 0x00000000#32)))) y
      = X (y 0).val (y 1).val + G 0 (y 1).val * ((∑ k : Fin K₁, P₁ (y 0).val k.val * W k.val (y 1).val)
          + ∑ k : Fin K₂, P₂ (y 0).val k.val * W (K₁ + k.val) (y 1).val) := by
  have h₁ := mm p₁ w₁ P₁ W hp₁ hw₁ y
  have h₂ := mm p₂ w₂ P₂ (fun k j => W (K₁ + k) j) hp₂ hw₂ y
  have h₃ : broadcastTo ⟨2, ![M, N]⟩ g hb y = G 0 (y 1).val := by
    obtain ⟨r, c, rfl⟩ : ∃ (a : Fin M) (b : Fin N), y = ix2 a b := ⟨_, _, eq_ix2 y⟩
    rw [broadcastTo_1b_ab_apply, hg]
    rfl
  refine Eq.trans (?_ : _ = x y + broadcastTo ⟨2, ![M, N]⟩ g hb y * (_ + _)) (congrArg₂ (· + ·) (hx y) (congrArg₂ (· * ·) h₃ (congrArg₂ (· + ·) h₁ h₂)))
  rfl

/-- Two matrices side by side. -/
theorem beside {M K₁ K₂ K : ℕ} (x₀ : (⟨2, ![M, K₁]⟩ : Shape).Idx → EReal) (x₁ : (⟨2, ![M, K₂]⟩ : Shape).Idx → EReal)
    (h : Shape.Concatenates [⟨2, ![M, K₁]⟩, ⟨2, ![M, K₂]⟩] ⟨2, ![M, K]⟩ 1) (hK : K₁ + K₂ = K) (y : (⟨2, ![M, K]⟩ : Shape).Idx) :
    concatenate ⟨2, ![M, K]⟩ 1 [⟨⟨2, ![M, K₁]⟩, x₀⟩, ⟨⟨2, ![M, K₂]⟩, x₁⟩] h y
      = if (y 1).val < K₁ then at2 x₀ (y 0).val (y 1).val else at2 x₁ (y 0).val ((y 1).val - K₁) := by
  obtain ⟨r, c, rfl⟩ : ∃ (a : Fin M) (b : Fin K), y = ix2 a b := ⟨_, _, eq_ix2 y⟩
  show _ = if c.val < K₁ then at2 x₀ r.val c.val else at2 x₁ r.val (c.val - K₁)
  by_cases hc : c.val < K₁
  · rw [if_pos hc, at2_in x₀ r.isLt hc]
    exact concatenate_pair_apply_left (t := ⟨2, ![M, K]⟩) (s₁ := ⟨2, ![M, K₁]⟩) (s₂ := ⟨2, ![M, K₂]⟩) 1 x₀ x₁ h (ix2 r c) rfl (ix2 ⟨r.val, r.isLt⟩ ⟨c.val, hc⟩)
      fun b => match b with
        | ⟨0, _⟩ => rfl
        | ⟨1, _⟩ => rfl
  · have hc' : c.val - K₁ < K₂ := by have := c.isLt; omega
    rw [if_neg hc, at2_in x₁ r.isLt hc']
    refine concatenate_pair_apply_right (t := ⟨2, ![M, K]⟩) (s₁ := ⟨2, ![M, K₁]⟩) (s₂ := ⟨2, ![M, K₂]⟩) 1 x₀ x₁ h (ix2 r c) rfl rfl (ix2 ⟨r.val, r.isLt⟩ ⟨c.val - K₁, hc'⟩)
      (fun b hb => match b, hb with
        | ⟨0, _⟩, _ => rfl
        | ⟨1, _⟩, hb => absurd rfl hb) ?_
    show c.val - K₁ + K₁ = c.val
    omega

/-- The product over the joined operand, cut where the operands meet. -/
theorem joined_sum {M K₁ K₂ K N : ℕ} (x₀ : (⟨2, ![M, K₁]⟩ : Shape).Idx → EReal) (x₁ : (⟨2, ![M, K₂]⟩ : Shape).Idx → EReal)
    (w : (⟨2, ![K, N]⟩ : Shape).Idx → EReal) (hK : K₁ + K₂ = K) (i j : ℕ) :
    ∑ k : Fin K, (if k.val < K₁ then at2 x₀ i k.val else at2 x₁ i (k.val - K₁)) * at2 w k.val j
      = (∑ k : Fin K₁, at2 x₀ i k.val * at2 w k.val j) + ∑ k : Fin K₂, at2 x₁ i k.val * at2 w (K₁ + k.val) j := by
  rw [split_sum hK fun k => (if k < K₁ then at2 x₀ i k else at2 x₁ i (k - K₁)) * at2 w k j]
  refine congrArg₂ (· + ·) (Finset.sum_congr rfl fun k _ => ?_) (Finset.sum_congr rfl fun k _ => ?_)
  · rw [if_pos k.isLt]
  · rw [if_neg (by omega), Nat.add_sub_cancel_left]

end Cert.Lin

end
-- ==== Proof.Out.lean ====
/- The projection of the mixed tokens back to the residual stream: the result as a function of the arguments. -/
module

public import proofs.«01_k».proof.Proof.Joined
public import proofs.«01_k».proof.Proof.Gen.Kernel4Ideal.Value
public import proofs.«01_k».proof.Proof.Gen.Reference4Ideal.Read

@[expose] public section

set_option maxRecDepth 20000

noncomputable section

namespace Cert.Lin.Out

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel4Ideal Cert.Kernel4Ideal.Gen Cert.Attn

variable (m : (ℓ : Loc nD τ sig) → Buf (Elt Ideal) ℓ)

theorem idx0 : ∀ t : Fin cfg0.N, win0_0.index t (0 : Fin 2) = t.val / 4 ∧ win0_0.index t (1 : Fin 2) = 0 := (by decide +kernel : ∀ t : Fin grid0.N, _)
theorem idx1 : ∀ t : Fin cfg0.N, win0_1.index t (0 : Fin 2) = t.val / 4 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 4 := (by decide +kernel : ∀ t : Fin grid0.N, _)
theorem idx3 : ∀ t : Fin cfg0.N, win0_3.index t (0 : Fin 2) = t.val / 4 ∧ win0_3.index t (1 : Fin 2) = t.val % 4 := (by decide +kernel : ∀ t : Fin grid0.N, _)
theorem idx4 : ∀ t : Fin cfg0.N, win0_4.index t (0 : Fin 2) = 0 ∧ win0_4.index t (1 : Fin 2) = t.val % 4 := (by decide +kernel : ∀ t : Fin grid0.N, _)
theorem idx5 : ∀ t : Fin cfg0.N, win0_5.index t (0 : Fin 2) = t.val / 4 ∧ win0_5.index t (1 : Fin 2) = t.val % 4 := (by decide +kernel : ∀ t : Fin grid0.N, _)

theorem blk0 (c : Dev nD) (t : Fin cfg0.N) (y : S1024x2048.Idx) : iblk (F := Ideal) m c 0 t y
    = at2 (a := 8192) (b := 2048) (m ((c : Thread nD τ).loc main_arg0)) (1024 * (t.val / 4) + (y 0).val) (y 1).val := by
  obtain ⟨e0, e1⟩ := idx0 t
  rw [← V_main_arg0 m c]
  show V m c main_arg0 (((cfg0.win 0).blk t).view.emb y) = _
  refine (at2_eq (a := 8192) (b := 2048) (V m c main_arg0) _).trans ?_
  show at2 (V m c main_arg0) (win0_0.index t (0 : Fin 2) * 1024 + 1 * (y 0).val) (win0_0.index t (1 : Fin 2) * 2048 + 1 * (y 1).val) = _
  rw [e0, e1]; congr 1 <;> ring

theorem blk1 (c : Dev nD) (t : Fin cfg0.N) (y : S1024x2048.Idx) : iblk (F := Ideal) m c 1 t y
    = at2 (a := 8192) (b := 2048) (m ((c : Thread nD τ).loc main_arg1)) (1024 * (t.val / 4) + (y 0).val) (y 1).val := by
  obtain ⟨e0, e1⟩ := idx1 t
  rw [← V_main_arg1 m c]
  show V m c main_arg1 (((cfg0.win 1).blk t).view.emb y) = _
  refine (at2_eq (a := 8192) (b := 2048) (V m c main_arg1) _).trans ?_
  show at2 (V m c main_arg1) (win0_1.index t (0 : Fin 2) * 1024 + 1 * (y 0).val) (win0_1.index t (1 : Fin 2) * 2048 + 1 * (y 1).val) = _
  rw [e0, e1]; congr 1 <;> ring

theorem blk2 (c : Dev nD) (t : Fin cfg0.N) (y : S4096x1024.Idx) : iblk (F := Ideal) m c 2 t y
    = at2 (a := 4096) (b := 4096) (m ((c : Thread nD τ).loc main_arg2)) (y 0).val (1024 * (t.val % 4) + (y 1).val) := by
  obtain ⟨e0, e1⟩ := idx2 t
  rw [← V_main_arg2 m c]
  show V m c main_arg2 (((cfg0.win 2).blk t).view.emb y) = _
  refine (at2_eq (a := 4096) (b := 4096) (V m c main_arg2) _).trans ?_
  show at2 (V m c main_arg2) (win0_2.index t (0 : Fin 2) * 4096 + 1 * (y 0).val) (win0_2.index t (1 : Fin 2) * 1024 + 1 * (y 1).val) = _
  rw [e0, e1]; congr 1 <;> ring

theorem blk3 (c : Dev nD) (t : Fin cfg0.N) (y : S1024x1024.Idx) : iblk (F := Ideal) m c 3 t y
    = at2 (a := 8192) (b := 4096) (m ((c : Thread nD τ).loc main_arg3)) (1024 * (t.val / 4) + (y 0).val) (1024 * (t.val % 4) + (y 1).val) := by
  obtain ⟨e0, e1⟩ := idx3 t
  rw [← V_main_arg3 m c]
  show V m c main_arg3 (((cfg0.win 3).blk t).view.emb y) = _
  refine (at2_eq (a := 8192) (b := 4096) (V m c main_arg3) _).trans ?_
  show at2 (V m c main_arg3) (win0_3.index t (0 : Fin 2) * 1024 + 1 * (y 0).val) (win0_3.index t (1 : Fin 2) * 1024 + 1 * (y 1).val) = _
  rw [e0, e1]; congr 1 <;> ring

theorem blk4 (c : Dev nD) (t : Fin cfg0.N) (y : S1x1024.Idx) : iblk (F := Ideal) m c 4 t y
    = at2 (a := 1) (b := 4096) (m ((c : Thread nD τ).loc main_arg4)) (y 0).val (1024 * (t.val % 4) + (y 1).val) := by
  obtain ⟨e0, e1⟩ := idx4 t
  rw [← V_main_arg4 m c]
  show V m c main_arg4 (((cfg0.win 4).blk t).view.emb y) = _
  refine (at2_eq (a := 1) (b := 4096) (V m c main_arg4) _).trans ?_
  show at2 (V m c main_arg4) (win0_4.index t (0 : Fin 2) * 1 + 1 * (y 0).val) (win0_4.index t (1 : Fin 2) * 1024 + 1 * (y 1).val) = _
  rw [e0, e1]; congr 1 <;> ring

/-- The projection's result. -/
theorem final5 (c : Dev nD) : (dats (F := Ideal) m 0 c).arrAt 5 cfg0.N = fun i : S8192x4096.Idx =>
    joint (M := 8192) (K₁ := 2048) (K₂ := 2048) (K := 4096) (N := 4096) (m ((c : Thread nD τ).loc main_arg0)) (m ((c : Thread nD τ).loc main_arg1))
      (m ((c : Thread nD τ).loc main_arg2)) (m ((c : Thread nD τ).loc main_arg3)) (m ((c : Thread nD τ).loc main_arg4)) (i 0).val (i 1).val := by
  refine (dats (F := Ideal) m 0 c).arrAt_eq_of_covers 5 _ (by decide +kernel) fun t hf y => ?_
  show (dats (F := Ideal) m 0 c).after 5 t y = joint (M := 8192) (K₁ := 2048) (K₂ := 2048) (K := 4096) (N := 4096) (m ((c : Thread nD τ).loc main_arg0)) (m ((c : Thread nD τ).loc main_arg1))
      (m ((c : Thread nD τ).loc main_arg2)) (m ((c : Thread nD τ).loc main_arg3)) (m ((c : Thread nD τ).loc main_arg4))
      (((cfg0.win 5).blk t).view.emb y 0).val (((cfg0.win 5).blk t).view.emb y 1).val
  obtain ⟨e0, e1⟩ := idx5 t
  have h0 : (((cfg0.win 5).blk t).view.emb y 0).val = win0_5.index t (0 : Fin 2) * 1024 + 1 * (y 0).val := rfl
  have h1 : (((cfg0.win 5).blk t).view.emb y 1).val = win0_5.index t (1 : Fin 2) * 1024 + 1 * (y 1).val := rfl
  rw [after0_5, h0, h1, e0, e1]
  unfold out0_5
  rw [stored, loaded, loaded, loaded, loaded]
  unfold k0_pay1
  refine (gated (M := 1024) (K₁ := 2048) (K₂ := 2048) (N := 1024) _ _ _ _ _ _ _
    (fun i j => at2 (a := 8192) (b := 2048) (m ((c : Thread nD τ).loc main_arg0)) (1024 * (t.val / 4) + i) j)
    (fun i j => at2 (a := 8192) (b := 2048) (m ((c : Thread nD τ).loc main_arg1)) (1024 * (t.val / 4) + i) j)
    (fun i j => at2 (a := 4096) (b := 4096) (m ((c : Thread nD τ).loc main_arg2)) i (1024 * (t.val % 4) + j))
    (fun i j => at2 (a := 8192) (b := 4096) (m ((c : Thread nD τ).loc main_arg3)) (1024 * (t.val / 4) + i) (1024 * (t.val % 4) + j))
    (fun i j => at2 (a := 1) (b := 4096) (m ((c : Thread nD τ).loc main_arg4)) i (1024 * (t.val % 4) + j))
    (blk0 m c t) (fun y => (loaded_at (Val := Elt Ideal) (e := .bf16) (a := 4096) (b := 1024) (c := 2048) (o := 0) _ _ (fun i j => at2 (a := 4096) (b := 4096) (m ((c : Thread nD τ).loc main_arg2)) i (1024 * (t.val % 4) + j)) (blk2 m c t) y).trans (by rw [Nat.zero_add])) (blk1 m c t) (fun y => loaded_at (Val := Elt Ideal) (e := .bf16) (a := 4096) (b := 1024) (c := 2048) (o := 2048) _ _ (fun i j => at2 (a := 4096) (b := 4096) (m ((c : Thread nD τ).loc main_arg2)) i (1024 * (t.val % 4) + j)) (blk2 m c t) y) (blk3 m c t) (blk4 m c t) y).trans ?_
  unfold joint
  rw [show t.val / 4 * 1024 + 1 * (y 0).val = 1024 * (t.val / 4) + (y 0).val by ring,
    show t.val % 4 * 1024 + 1 * (y 1).val = 1024 * (t.val % 4) + (y 1).val by ring]

section
variable (a b : (⟨2, ![8192, 2048]⟩ : Shape).Idx → EReal) (w : (⟨2, ![4096, 4096]⟩ : Shape).Idx → EReal)
  (x : (⟨2, ![8192, 4096]⟩ : Shape).Idx → EReal) (g : (⟨2, ![1, 4096]⟩ : Shape).Idx → EReal)

theorem ref3 (i : (⟨2, ![8192, 4096]⟩ : Shape).Idx) : Cert.Reference4Ideal.Read.val_main_v3 (F := Ideal) a b w i
    = (∑ k : Fin 2048, at2 a (i 0).val k.val * at2 w k.val (i 1).val) + ∑ k : Fin 2048, at2 b (i 0).val k.val * at2 w (2048 + k.val) (i 1).val := by
  rw [Cert.Reference4Ideal.Read.val_main_v3_apply]
  refine Eq.trans ?_ (joined_sum (M := 8192) (K₁ := 2048) (K₂ := 2048) (K := 4096) (N := 4096) a b w rfl _ _)
  refine Finset.sum_congr rfl fun k _ => ?_
  rw [Cert.Reference4Ideal.Read.val_main_v1_apply, Cert.Reference4Ideal.Read.val_main_v2_apply]
  unfold Cert.Reference4Ideal.Read.val_main_v0
  exact congrArg₂ (· * ·) (beside (M := 8192) (K₁ := 2048) (K₂ := 2048) (K := 4096) a b _ rfl _) (at2_eq w _)

theorem ref6 (i : (⟨2, ![8192, 4096]⟩ : Shape).Idx) : Cert.Reference4Ideal.Read.val_main_v6 (F := Ideal) a b w x g i
    = joint (M := 8192) (K₁ := 2048) (K₂ := 2048) (K := 4096) (N := 4096) a b w x g (i 0).val (i 1).val := by
  rw [Cert.Reference4Ideal.Read.val_main_v6_apply, Cert.Reference4Ideal.Read.val_main_v5_apply, Cert.Reference4Ideal.Read.val_main_v4_apply, ref3]
  exact congrArg₂ (· + ·) (at2_eq x i) (congrArg₂ (· * ·) (at2_eq g _) rfl)

end

/-- The projection is the reference's. -/
theorem out_value (c : Dev nD) : (dats (F := Ideal) m 0 c).arrAt 5 cfg0.N
    = Cert.Reference4Ideal.Read.val_main_v6 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
  (final5 m c).trans (funext fun i => (ref6 _ _ _ _ _ i).symm)

end Cert.Lin.Out

end
-- ==== Proof.Norm.lean ====
/- A row scaled by the reciprocal root of its mean square, and by the gains: the last operation of the layer. -/
module

public import proofs.«01_k».proof.Proof.Joined

@[expose] public section

noncomputable section

namespace Cert.Lin

open Idealize.ShloMosaic hiding ix1 ix2 ix3 ix4 eq_ix1 eq_ix2 eq_ix3 eq_ix4
open Idealize.ShloMosaic.ValueIdx Cert.Attn

/-- One over the root of a row's mean square, the small constant added. -/
def scaleOf (X : ℕ → EReal) : EReal :=
  Ideal.rsqrt (Ideal.div (∑ k : Fin 4096, X k.val * X k.val) (Ideal.ofBits .f32 0x45800000#32) + Ideal.ofBits .f32 0x358637BD#32)

/-- The scaled row at `j`. -/
def normed (X : ℕ → EReal) (g : ℕ → EReal) (j : ℕ) : EReal := X j * scaleOf X * g j

section
variable {M : ℕ} (x : FVec Ideal ⟨2, ![M, 4096]⟩ .f32) (X : ℕ → ℕ → EReal) (hx : ∀ y, x y = X (y 0).val (y 1).val)
include hx

/-- The rows' sums of squares, kept as a column. -/
theorem squares (h : (⟨2, ![M, 4096]⟩ : Shape).Reduces [1] ⟨1, ![M]⟩) (hφ) (hacc) (hc : (⟨1, ![M]⟩ : Shape).ShapeCasts ⟨2, ![M, 1]⟩)
    (y : (⟨2, ![M, 1]⟩ : Shape).Idx) :
    shapeCast ⟨2, ![M, 1]⟩ (multiReduction .add [1] ⟨1, ![M]⟩ (mulf x x) 0x00000000#32 h hφ hacc) hc y
      = ∑ k : Fin 4096, X (y 0).val k.val * X (y 0).val k.val := by
  obtain ⟨a, b, rfl⟩ : ∃ (a : Fin M) (b : Fin 1), y = ix2 a b := ⟨_, _, eq_ix2 y⟩
  rw [shapeCast_a_a1_apply, Ideal.multiReduction_add_single]
  exact Finset.sum_congr rfl fun k _ => congrArg₂ (· * ·) (hx _) (hx _)

/-- What the kernel stores. -/
theorem normed_apply (h : (⟨2, ![M, 4096]⟩ : Shape).Reduces [1] ⟨1, ![M]⟩) (hφ) (hacc) (hc : (⟨1, ![M]⟩ : Shape).ShapeCasts ⟨2, ![M, 1]⟩)
    (hb : (⟨2, ![M, 1]⟩ : Shape).Broadcasts ⟨2, ![M, 4096]⟩) (g : FVec Ideal ⟨2, ![1, 4096]⟩ .f32)
    (hg : (⟨2, ![1, 4096]⟩ : Shape).Broadcasts ⟨2, ![M, 4096]⟩) (G : ℕ → ℕ → EReal) (hG : ∀ y, g y = G (y 0).val (y 1).val)
    (y : (⟨2, ![M, 4096]⟩ : Shape).Idx) :
    mulf (mulf x (broadcastTo ⟨2, ![M, 4096]⟩ (rsqrt (addf (divf
        (shapeCast ⟨2, ![M, 1]⟩ (multiReduction .add [1] ⟨1, ![M]⟩ (mulf x x) 0x00000000#32 h hφ hacc) hc)
        (broadcast ⟨2, ![M, 1]⟩ (Scalar.ofBits (F := Ideal) .f32 0x45800000#32)))
        (broadcast ⟨2, ![M, 1]⟩ (Scalar.ofBits (F := Ideal) .f32 0x358637BD#32)))) hb))
      (broadcastTo ⟨2, ![M, 4096]⟩ g hg) y = normed (X (y 0).val) (G 0) (y 1).val := by
  obtain ⟨r, c, rfl⟩ : ∃ (a : Fin M) (b : Fin 4096), y = ix2 a b := ⟨_, _, eq_ix2 y⟩
  have hs := fun y => squares x X hx h hφ hacc hc y
  generalize shapeCast ⟨2, ![M, 1]⟩ (multiReduction .add [1] ⟨1, ![M]⟩ (mulf x x) 0x00000000#32 h hφ hacc) hc = s at hs ⊢
  have h₁ : broadcastTo ⟨2, ![M, 4096]⟩ g hg (ix2 r c) = G 0 c.val := by
    rw [broadcastTo_1b_ab_apply, hG]
    rfl
  have h₂ : broadcastTo ⟨2, ![M, 4096]⟩ (rsqrt (addf (divf s (broadcast ⟨2, ![M, 1]⟩ (Scalar.ofBits (F := Ideal) .f32 0x45800000#32)))
      (broadcast ⟨2, ![M, 1]⟩ (Scalar.ofBits (F := Ideal) .f32 0x358637BD#32)))) hb (ix2 r c) = scaleOf (X r.val) := by
    refine (broadcastTo_apply (s := ⟨2, ![M, 1]⟩) (t := ⟨2, ![M, 4096]⟩) _ hb (ix2 r c) (ix2 r (0 : Fin 1)) fun a => ?_).trans ?_
    · match a with
      | ⟨0, _⟩ =>
        show r.val = if M = 1 then 0 else r.val
        split_ifs with hM
        · have := r.isLt; omega
        · rfl
      | ⟨1, _⟩ => rfl
    · show Ideal.rsqrt (Ideal.div (s (ix2 r (0 : Fin 1))) _ + _) = _
      rw [hs]
      rfl
  refine Eq.trans (?_ : _ = x (ix2 r c) * _ * _) (congrArg₂ (· * ·) (congrArg₂ (· * ·) (hx (ix2 r c)) h₂) h₁)
  rfl

end

end Cert.Lin

end
-- ==== Proof.Down.lean ====
/- The projection of the hidden units back to the residual stream and the normalisation after it: the layer's second
   result as a function of the arguments. -/
module

public import proofs.«01_k».proof.Proof.Norm
public import proofs.«01_k».proof.Proof.Gen.Kernel3Ideal.Frame
public import proofs.«01_k».proof.Proof.Gen.Reference3Ideal.Read

@[expose] public section

set_option maxRecDepth 20000

noncomputable section

namespace Cert.Lin.Down

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel3Ideal Cert.Kernel3Ideal.Gen Cert.Attn

variable (V : (c : Dev nD) → (b : Ref sig .tc) → Buf (Elt Ideal) ((c : Thread nD τ).loc b))

theorem idx0 : ∀ t : Fin cfg0.N, win0_0.index t (0 : Fin 2) = t.val % 16 ∧ win0_0.index t (1 : Fin 2) = 0 := (by decide +kernel : ∀ t : Fin grid0.N, _)
theorem idx1 : ∀ t : Fin cfg0.N, win0_1.index t (0 : Fin 2) = t.val % 16 ∧ win0_1.index t (1 : Fin 2) = 0 := (by decide +kernel : ∀ t : Fin grid0.N, _)
theorem idx2 : ∀ t : Fin cfg0.N, win0_2.index t (0 : Fin 2) = 0 ∧ win0_2.index t (1 : Fin 2) = t.val / 16 := (by decide +kernel : ∀ t : Fin grid0.N, _)
theorem idx3 : ∀ t : Fin cfg0.N, win0_3.index t (0 : Fin 2) = t.val % 16 ∧ win0_3.index t (1 : Fin 2) = t.val / 16 := (by decide +kernel : ∀ t : Fin grid0.N, _)
theorem idx4 : ∀ t : Fin cfg0.N, win0_4.index t (0 : Fin 2) = 0 ∧ win0_4.index t (1 : Fin 2) = t.val / 16 := (by decide +kernel : ∀ t : Fin grid0.N, _)
theorem idx5 : ∀ t : Fin cfg0.N, win0_5.index t (0 : Fin 2) = t.val % 16 ∧ win0_5.index t (1 : Fin 2) = t.val / 16 := (by decide +kernel : ∀ t : Fin grid0.N, _)
theorem nidx0 : ∀ t : Fin cfg1.N, win1_0.index t (0 : Fin 2) = t.val ∧ win1_0.index t (1 : Fin 2) = 0 := (by decide +kernel : ∀ t : Fin grid1.N, _)
theorem nidx1 : ∀ t : Fin cfg1.N, win1_1.index t (0 : Fin 2) = 0 ∧ win1_1.index t (1 : Fin 2) = 0 := (by decide +kernel : ∀ t : Fin grid1.N, _)
theorem nidx2 : ∀ t : Fin cfg1.N, win1_2.index t (0 : Fin 2) = t.val ∧ win1_2.index t (1 : Fin 2) = 0 := (by decide +kernel : ∀ t : Fin grid1.N, _)

theorem blk0 (c : Dev nD) (t : Fin cfg0.N) (y : S512x10752.Idx) : iblk0 (F := Ideal) V c 0 t y
    = at2 (a := 8192) (b := 10752) (V c main_arg0) (512 * (t.val % 16) + (y 0).val) (y 1).val := by
  obtain ⟨e0, e1⟩ := idx0 t
  show V c main_arg0 (((cfg0.win 0).blk t).view.emb y) = _
  refine (at2_eq (a := 8192) (b := 10752) (V c main_arg0) _).trans ?_
  show at2 (V c main_arg0) (win0_0.index t (0 : Fin 2) * 512 + 1 * (y 0).val) (win0_0.index t (1 : Fin 2) * 10752 + 1 * (y 1).val) = _
  rw [e0, e1]; congr 1 <;> ring

theorem blk1 (c : Dev nD) (t : Fin cfg0.N) (y : S512x256.Idx) : iblk0 (F := Ideal) V c 1 t y
    = at2 (a := 8192) (b := 256) (V c main_arg1) (512 * (t.val % 16) + (y 0).val) (y 1).val := by
  obtain ⟨e0, e1⟩ := idx1 t
  show V c main_arg1 (((cfg0.win 1).blk t).view.emb y) = _
  refine (at2_eq (a := 8192) (b := 256) (V c main_arg1) _).trans ?_
  show at2 (V c main_arg1) (win0_1.index t (0 : Fin 2) * 512 + 1 * (y 0).val) (win0_1.index t (1 : Fin 2) * 256 + 1 * (y 1).val) = _
  rw [e0, e1]; congr 1 <;> ring

theorem blk2 (c : Dev nD) (t : Fin cfg0.N) (y : S11008x512.Idx) : iblk0 (F := Ideal) V c 2 t y
    = at2 (a := 11008) (b := 4096) (V c main_arg2) (y 0).val (512 * (t.val / 16) + (y 1).val) := by
  obtain ⟨e0, e1⟩ := idx2 t
  show V c main_arg2 (((cfg0.win 2).blk t).view.emb y) = _
  refine (at2_eq (a := 11008) (b := 4096) (V c main_arg2) _).trans ?_
  show at2 (V c main_arg2) (win0_2.index t (0 : Fin 2) * 11008 + 1 * (y 0).val) (win0_2.index t (1 : Fin 2) * 512 + 1 * (y 1).val) = _
  rw [e0, e1]; congr 1 <;> ring

theorem blk3 (c : Dev nD) (t : Fin cfg0.N) (y : S512x512.Idx) : iblk0 (F := Ideal) V c 3 t y
    = at2 (a := 8192) (b := 4096) (V c main_arg3) (512 * (t.val % 16) + (y 0).val) (512 * (t.val / 16) + (y 1).val) := by
  obtain ⟨e0, e1⟩ := idx3 t
  show V c main_arg3 (((cfg0.win 3).blk t).view.emb y) = _
  refine (at2_eq (a := 8192) (b := 4096) (V c main_arg3) _).trans ?_
  show at2 (V c main_arg3) (win0_3.index t (0 : Fin 2) * 512 + 1 * (y 0).val) (win0_3.index t (1 : Fin 2) * 512 + 1 * (y 1).val) = _
  rw [e0, e1]; congr 1 <;> ring

theorem blk4 (c : Dev nD) (t : Fin cfg0.N) (y : S1x512.Idx) : iblk0 (F := Ideal) V c 4 t y
    = at2 (a := 1) (b := 4096) (V c main_arg4) (y 0).val (512 * (t.val / 16) + (y 1).val) := by
  obtain ⟨e0, e1⟩ := idx4 t
  show V c main_arg4 (((cfg0.win 4).blk t).view.emb y) = _
  refine (at2_eq (a := 1) (b := 4096) (V c main_arg4) _).trans ?_
  show at2 (V c main_arg4) (win0_4.index t (0 : Fin 2) * 1 + 1 * (y 0).val) (win0_4.index t (1 : Fin 2) * 512 + 1 * (y 1).val) = _
  rw [e0, e1]; congr 1 <;> ring

theorem nblk0 (c : Dev nD) (t : Fin cfg1.N) (y : S512x4096.Idx) : iblk1 (F := Ideal) V c 0 t y
    = at2 (a := 8192) (b := 4096) (V c main_v0) (512 * t.val + (y 0).val) (y 1).val := by
  obtain ⟨e0, e1⟩ := nidx0 t
  show V c main_v0 (((cfg1.win 0).blk t).view.emb y) = _
  refine (at2_eq (a := 8192) (b := 4096) (V c main_v0) _).trans ?_
  show at2 (V c main_v0) (win1_0.index t (0 : Fin 2) * 512 + 1 * (y 0).val) (win1_0.index t (1 : Fin 2) * 4096 + 1 * (y 1).val) = _
  rw [e0, e1]; congr 1 <;> ring

theorem nblk1 (c : Dev nD) (t : Fin cfg1.N) (y : S1x4096.Idx) : iblk1 (F := Ideal) V c 1 t y
    = at2 (a := 1) (b := 4096) (V c main_arg5) (y 0).val (y 1).val := by
  obtain ⟨e0, e1⟩ := nidx1 t
  show V c main_arg5 (((cfg1.win 1).blk t).view.emb y) = _
  refine (at2_eq (a := 1) (b := 4096) (V c main_arg5) _).trans ?_
  show at2 (V c main_arg5) (win1_1.index t (0 : Fin 2) * 1 + 1 * (y 0).val) (win1_1.index t (1 : Fin 2) * 4096 + 1 * (y 1).val) = _
  rw [e0, e1]; congr 1 <;> ring

/-- The residual stream after the projection. -/
theorem final5 (c : Dev nD) : (dat0 (F := Ideal) V c).arrAt 5 cfg0.N = fun i : S8192x4096.Idx =>
    joint (M := 8192) (K₁ := 10752) (K₂ := 256) (K := 11008) (N := 4096) (V c main_arg0) (V c main_arg1)
      (V c main_arg2) (V c main_arg3) (V c main_arg4) (i 0).val (i 1).val := by
  refine (dat0 (F := Ideal) V c).arrAt_eq_of_covers 5 _ (by decide +kernel) fun t hf y => ?_
  show (dat0 (F := Ideal) V c).after 5 t y = joint (M := 8192) (K₁ := 10752) (K₂ := 256) (K := 11008) (N := 4096) (V c main_arg0) (V c main_arg1)
      (V c main_arg2) (V c main_arg3) (V c main_arg4)
      (((cfg0.win 5).blk t).view.emb y 0).val (((cfg0.win 5).blk t).view.emb y 1).val
  obtain ⟨e0, e1⟩ := idx5 t
  have h0 : (((cfg0.win 5).blk t).view.emb y 0).val = win0_5.index t (0 : Fin 2) * 512 + 1 * (y 0).val := rfl
  have h1 : (((cfg0.win 5).blk t).view.emb y 1).val = win0_5.index t (1 : Fin 2) * 512 + 1 * (y 1).val := rfl
  rw [after0_5, h0, h1, e0, e1]
  unfold out0_5
  rw [stored, loaded, loaded, loaded, loaded]
  unfold k0_pay1
  refine (gated (M := 512) (K₁ := 10752) (K₂ := 256) (N := 512) _ _ _ _ _ _ _
    (fun i j => at2 (a := 8192) (b := 10752) (V c main_arg0) (512 * (t.val % 16) + i) j)
    (fun i j => at2 (a := 8192) (b := 256) (V c main_arg1) (512 * (t.val % 16) + i) j)
    (fun i j => at2 (a := 11008) (b := 4096) (V c main_arg2) i (512 * (t.val / 16) + j))
    (fun i j => at2 (a := 8192) (b := 4096) (V c main_arg3) (512 * (t.val % 16) + i) (512 * (t.val / 16) + j))
    (fun i j => at2 (a := 1) (b := 4096) (V c main_arg4) i (512 * (t.val / 16) + j))
    (blk0 V c t) (fun y => (loaded_at (Val := Elt Ideal) (e := .bf16) (a := 11008) (b := 512) (c := 10752) (o := 0) _ _
      (fun i j => at2 (a := 11008) (b := 4096) (V c main_arg2) i (512 * (t.val / 16) + j)) (blk2 V c t) y).trans (by rw [Nat.zero_add]))
    (blk1 V c t) (fun y => loaded_at (Val := Elt Ideal) (e := .bf16) (a := 11008) (b := 512) (c := 256) (o := 10752) _ _
      (fun i j => at2 (a := 11008) (b := 4096) (V c main_arg2) i (512 * (t.val / 16) + j)) (blk2 V c t) y) (blk3 V c t) (blk4 V c t) y).trans ?_
  unfold joint
  rw [show t.val % 16 * 512 + 1 * (y 0).val = 512 * (t.val % 16) + (y 0).val by ring,
    show t.val / 16 * 512 + 1 * (y 1).val = 512 * (t.val / 16) + (y 1).val by ring]

/-- The normalised stream. -/
theorem nfinal2 (c : Dev nD) : (dat1 (F := Ideal) V c).arrAt 2 cfg1.N = fun i : S8192x4096.Idx =>
    normed (at2 (a := 8192) (b := 4096) (V c main_v0) (i 0).val) (at2 (a := 1) (b := 4096) (V c main_arg5) 0) (i 1).val := by
  refine (dat1 (F := Ideal) V c).arrAt_eq_of_covers 2 _ (by decide +kernel) fun t hf y => ?_
  show (dat1 (F := Ideal) V c).after 2 t y = normed (at2 (a := 8192) (b := 4096) (V c main_v0) (((cfg1.win 2).blk t).view.emb y 0).val)
    (at2 (a := 1) (b := 4096) (V c main_arg5) 0) (((cfg1.win 2).blk t).view.emb y 1).val
  obtain ⟨e0, e1⟩ := nidx2 t
  have h0 : (((cfg1.win 2).blk t).view.emb y 0).val = win1_2.index t (0 : Fin 2) * 512 + 1 * (y 0).val := rfl
  have h1 : (((cfg1.win 2).blk t).view.emb y 1).val = win1_2.index t (1 : Fin 2) * 4096 + 1 * (y 1).val := rfl
  rw [after1_2, h0, h1, e0, e1]
  unfold out1_2
  rw [stored, loaded, loaded]
  unfold k1_pay1
  refine (normed_apply (M := 512) _ (fun i j => at2 (a := 8192) (b := 4096) (V c main_v0) (512 * t.val + i) j)
    (fun y => (shapeCast_apply _ _ y y rfl).trans (nblk0 V c t y)) _ _ _ _ _ _ _
    (fun i j => at2 (a := 1) (b := 4096) (V c main_arg5) i j) (nblk1 V c t) y).trans ?_
  rw [show t.val * 512 + 1 * (y 0).val = 512 * t.val + (y 0).val by ring, show 0 * 4096 + 1 * (y 1).val = (y 1).val by ring]

section
variable (a : (⟨2, ![8192, 10752]⟩ : Shape).Idx → EReal) (b : (⟨2, ![8192, 256]⟩ : Shape).Idx → EReal) (w : (⟨2, ![11008, 4096]⟩ : Shape).Idx → EReal)
  (x : (⟨2, ![8192, 4096]⟩ : Shape).Idx → EReal) (g f : (⟨2, ![1, 4096]⟩ : Shape).Idx → EReal)

theorem ref3 (i : (⟨2, ![8192, 4096]⟩ : Shape).Idx) : Cert.Reference3Ideal.Read.val_main_v3 (F := Ideal) a b w i
    = (∑ k : Fin 10752, at2 a (i 0).val k.val * at2 w k.val (i 1).val) + ∑ k : Fin 256, at2 b (i 0).val k.val * at2 w (10752 + k.val) (i 1).val := by
  rw [Cert.Reference3Ideal.Read.val_main_v3_apply]
  refine Eq.trans ?_ (joined_sum (M := 8192) (K₁ := 10752) (K₂ := 256) (K := 11008) (N := 4096) a b w rfl _ _)
  refine Finset.sum_congr rfl fun k _ => ?_
  rw [Cert.Reference3Ideal.Read.val_main_v1_apply, Cert.Reference3Ideal.Read.val_main_v2_apply]
  unfold Cert.Reference3Ideal.Read.val_main_v0
  exact congrArg₂ (· * ·) (beside (M := 8192) (K₁ := 10752) (K₂ := 256) (K := 11008) a b _ rfl _) (at2_eq w _)

theorem ref6 (i : (⟨2, ![8192, 4096]⟩ : Shape).Idx) : Cert.Reference3Ideal.Read.val_main_v6 (F := Ideal) a b w x g i
    = joint (M := 8192) (K₁ := 10752) (K₂ := 256) (K := 11008) (N := 4096) a b w x g (i 0).val (i 1).val := by
  rw [Cert.Reference3Ideal.Read.val_main_v6_apply, Cert.Reference3Ideal.Read.val_main_v5_apply, Cert.Reference3Ideal.Read.val_main_v4_apply, ref3]
  exact congrArg₂ (· + ·) (at2_eq x i) (congrArg₂ (· * ·) (at2_eq g _) rfl)

theorem ref8 (i : (⟨1, ![8192]⟩ : Shape).Idx) : Cert.Reference3Ideal.Read.val_main_v8 (F := Ideal) a b w x g i
    = ∑ k : Fin 4096, joint (M := 8192) (K₁ := 10752) (K₂ := 256) (K := 11008) (N := 4096) a b w x g (i 0).val k.val
        * joint (M := 8192) (K₁ := 10752) (K₂ := 256) (K := 11008) (N := 4096) a b w x g (i 0).val k.val := by
  rw [Cert.Reference3Ideal.Read.val_main_v8_apply, Cert.Reference3Ideal.Read.val_main_cst_apply]
  refine (congrArg (· + _) zero_word).trans ((zero_add _).trans ?_)
  refine Finset.sum_congr rfl fun k _ => ?_
  rw [Cert.Reference3Ideal.Read.val_main_v7_apply, ref6]
  rfl

theorem ref14 (i : (⟨2, ![8192, 1]⟩ : Shape).Idx) : Cert.Reference3Ideal.Read.val_main_v14 (F := Ideal) a b w x g i
    = scaleOf (joint (M := 8192) (K₁ := 10752) (K₂ := 256) (K := 11008) (N := 4096) a b w x g (i 0).val) := by
  rw [Cert.Reference3Ideal.Read.val_main_v14_apply, Cert.Reference3Ideal.Read.val_main_v13_apply, Cert.Reference3Ideal.Read.val_main_v11_apply,
    Cert.Reference3Ideal.Read.val_main_v9_apply, ref8, Cert.Reference3Ideal.Read.val_main_v10_apply, Cert.Reference3Ideal.Read.val_main_cst_0_apply,
    Cert.Reference3Ideal.Read.val_main_v12_apply, Cert.Reference3Ideal.Read.val_main_cst_1_apply]
  rfl

theorem ref18 (i : (⟨2, ![8192, 4096]⟩ : Shape).Idx) : Cert.Reference3Ideal.Read.val_main_v18 (F := Ideal) a b w x g f i
    = normed (joint (M := 8192) (K₁ := 10752) (K₂ := 256) (K := 11008) (N := 4096) a b w x g (i 0).val) (at2 f 0) (i 1).val := by
  rw [Cert.Reference3Ideal.Read.val_main_v18_apply, Cert.Reference3Ideal.Read.val_main_v16_apply, Cert.Reference3Ideal.Read.val_main_v15_apply,
    Cert.Reference3Ideal.Read.val_main_v17_apply, ref14, ref6]
  exact congrArg₂ (· * ·) rfl (at2_eq f _)

end

end Cert.Lin.Down

end
-- ==== Proof.DownRun.lean ====
/- The run of the last two launches, with the layer's second result at a function of the arguments. -/
module

public import proofs.«01_k».proof.Proof.Down

@[expose] public section

set_option maxRecDepth 20000

noncomputable section

namespace Cert.Lin.Down

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run from any memory with every counter at zero: the result ends at what the second launch leaves, the arguments unchanged. -/
theorem run_end : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (W2_arr m ρ c 2),
       (h c _ (mem_uc main_arg0 (by decide))).trans (W2_main_arg0 m ρ c), (h c _ (mem_uc main_arg1 (by decide))).trans (W2_main_arg1 m ρ c),
       (h c _ (mem_uc main_arg2 (by decide))).trans (W2_main_arg2 m ρ c), (h c _ (mem_uc main_arg3 (by decide))).trans (W2_main_arg3 m ρ c),
       (h c _ (mem_uc main_arg4 (by decide))).trans (W2_main_arg4 m ρ c), (h c _ (mem_uc main_arg5 (by decide))).trans (W2_main_arg5 m ρ c)⟩)
end

variable (m : (ℓ : Loc nD τ sig) → Buf (Elt Ideal) ℓ) (ρ : Dev nD → PrngReg)

theorem V1_v0 (c : Dev nD) : V1 m ρ c main_v0 = (dat0 (V0 m ρ) c).arrAt 5 cfg0.N := W1_arr m ρ c 5
theorem V1_arg5 (c : Dev nD) : V1 m ρ c main_arg5 = m ((c : Thread nD τ).loc main_arg5) := W1_args m ρ c main_arg5 (by decide)

/-- The normalised stream is the reference's. -/
theorem down_value (c : Dev nD) : (dat1 (F := Ideal) (V1 m ρ) c).arrAt 2 cfg1.N
    = Cert.Reference3Ideal.Read.val_main_v18 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (nfinal2 (V1 m ρ) c).trans (funext fun i => ?_)
  refine Eq.trans ?_ (ref18 _ _ _ _ _ _ i).symm
  have hx : Cert.Attn.at2 (a := 8192) (b := 4096) (V1 m ρ c main_v0) (i 0).val = fun j => if h : j < 4096 then
      joint (M := 8192) (K₁ := 10752) (K₂ := 256) (K := 11008) (N := 4096) (m ((c : Thread nD τ).loc main_arg0)) (m ((c : Thread nD τ).loc main_arg1))
        (m ((c : Thread nD τ).loc main_arg2)) (m ((c : Thread nD τ).loc main_arg3)) (m ((c : Thread nD τ).loc main_arg4)) (i 0).val j else 0 := by
    rw [V1_v0, final5]
    funext j
    have hi : (i 0).val < 8192 := (i 0).isLt
    by_cases hj : j < 4096
    · rw [dif_pos hj, at2_in _ hi hj]
    · rw [dif_neg hj]; exact dif_neg fun h => hj h.2
  rw [hx, V1_arg5]
  have hj : (i 1).val < 4096 := (i 1).isLt
  unfold normed scaleOf
  simp only [Fin.is_lt, dif_pos hj, dite_true]

end Cert.Lin.Down

end
-- ==== Proof.Layer.lean ====
/- The projections of the layer: each program against its reference. -/
module

public import proofs.«01_k».proof.Defs
public import proofs.«01_k».proof.Proof.Proj
public import proofs.«01_k».proof.Proof.Out
public import proofs.«01_k».proof.Proof.DownRun
public import proofs.«01_k».proof.Proof.Gen.Reference3Ideal.Run
public import proofs.«01_k».proof.Proof.Gen.Reference4Ideal.Run
public import proofs.«01_k».proof.Proof.Gen.Reference5Ideal.Run
public import Idealize.ShloMosaic.Adequacy

@[expose] public section

noncomputable section

namespace Cert.Proof

open Idealize.ShloMosaic Idealize.ShloMosaic.TcCoe Idealize.SL.Sem

theorem reference3_frame : Cert.quiescent_Reference3Ideal (hReference3Ideal := Cert.Reference3Ideal.Gen.facts) := fun m g _ =>
  (θ_run (Cert.Reference3Ideal.defs (F := Ideal)) _ _).mono (fun r h => And.intro (fun c => (h c).2)
    (sem_eq_zero_of_no_sems (by decide) r.2)) (Cert.Reference3Ideal.Value.run (F := Ideal) m g)

theorem reference4_frame : Cert.quiescent_Reference4Ideal (hReference4Ideal := Cert.Reference4Ideal.Gen.facts) := fun m g _ =>
  (θ_run (Cert.Reference4Ideal.defs (F := Ideal)) _ _).mono (fun r h => And.intro (fun c => (h c).2)
    (sem_eq_zero_of_no_sems (by decide) r.2)) (Cert.Reference4Ideal.Value.run (F := Ideal) m g)

theorem reference5_frame : Cert.quiescent_Reference5Ideal (hReference5Ideal := Cert.Reference5Ideal.Gen.facts) := fun m g _ =>
  (θ_run (Cert.Reference5Ideal.defs (F := Ideal)) _ _).mono (fun r h => And.intro (fun c => (h c).2.2)
    (sem_eq_zero_of_no_sems (by decide) r.2)) (Cert.Reference5Ideal.Value.run (F := Ideal) m g)

/-- The last projection and the normalisation: equal results. -/
theorem values3 : Cert.algebraic_Kernel3Ideal_Reference3Ideal (hKernel3Ideal := Cert.Kernel3Ideal.Gen.facts)
    (hReference3Ideal := Cert.Reference3Ideal.Gen.facts) := by
  intro m g m' g' _ ha
  refine ⟨_, (θ_run _ _ _).mono (fun _ h c => h c) (Cert.Lin.Down.run_end (F := Ideal) m g), (θ_run _ _ _).mono (fun r h c => ?_) (Cert.Reference3Ideal.Value.run (F := Ideal) m' g')⟩
  obtain ⟨e0, e1, e2, e3, e4, e5⟩ := ha c
  obtain ⟨h0, hr⟩ := h c
  refine ⟨h0.trans ?_, hr⟩
  rw [e0, e1, e2, e3, e4, e5]
  exact ((Cert.Reference3Ideal.Read.val_main_v18_eq (F := Ideal) _ _ _ _ _ _).trans (Cert.Lin.Down.down_value m g c).symm)

/-- The projection of the mixed tokens: equal results. -/
theorem values4 : Cert.algebraic_Kernel4Ideal_Reference4Ideal (hKernel4Ideal := Cert.Kernel4Ideal.Gen.facts)
    (hReference4Ideal := Cert.Reference4Ideal.Gen.facts) := by
  intro m g m' g' _ ha
  refine ⟨_, (θ_run _ _ _).mono (fun _ h c => h c) (Cert.Kernel4Ideal.Value.run_blocks (F := Ideal) m g), (θ_run _ _ _).mono (fun r h c => ?_) (Cert.Reference4Ideal.Value.run (F := Ideal) m' g')⟩
  obtain ⟨e0, e1, e2, e3, e4⟩ := ha c
  obtain ⟨h0, hr⟩ := h c
  refine ⟨h0.trans ?_, hr⟩
  rw [e0, e1, e2, e3, e4]
  exact ((Cert.Reference4Ideal.Read.val_main_v6_eq (F := Ideal) _ _ _ _ _).trans (Cert.Lin.Out.out_value m c).symm)

/-- The projection of queries, keys and values: equal results. -/
theorem values5 : Cert.algebraic_Kernel5Ideal_Reference5Ideal (hKernel5Ideal := Cert.Kernel5Ideal.Gen.facts)
    (hReference5Ideal := Cert.Reference5Ideal.Gen.facts) := by
  intro m g m' g' _ ha
  refine ⟨_, _, (θ_run _ _ _).mono (fun _ h c => h c) (Cert.Kernel5Ideal.Value.run_blocks (F := Ideal) m g), (θ_run _ _ _).mono (fun r h c => ?_) (Cert.Reference5Ideal.Value.run (F := Ideal) m' g')⟩
  obtain ⟨e0, e1, e2⟩ := ha c
  obtain ⟨h0, h1, hr⟩ := h c
  refine ⟨h0.trans ?_, h1.trans ?_, hr⟩
  · rw [e0, e1]
    exact ((Cert.Reference5Ideal.Read.val_main_v4_eq (F := Ideal) _ _).trans (Cert.Lin.Proj.proj_value m c).symm)
  · rw [e2]
    exact ((Cert.Reference5Ideal.Read.val_main_v7_eq (F := Ideal) _).trans (Cert.Lin.Proj.cast_value m c).symm)

end Cert.Proof

end
-- ==== Proof.UpBlock.lean ====
/- One block of the gated up-projection: what the kernel computes from the blocks it loads, at natural coordinates. -/
module

public import proofs.«01_k».proof.Proof.Joined
public import proofs.«01_k».proof.Proof.Gen.Kernel2Ideal.Skeleton
public import Idealize.ShloMosaic.Lib.KernelVsHost

@[expose] public section

set_option maxRecDepth 20000

noncomputable section

namespace Cert.Lin.Up

open Idealize.ShloMosaic hiding ix1 ix2 ix3 ix4 eq_ix1 eq_ix2 eq_ix3 eq_ix4
open Idealize.ShloMosaic.ValueIdx Cert.Attn

/-- A row spread over a block's rows. -/
theorem spread {N : ℕ} (g : FVec Ideal ⟨2, ![1, N]⟩ .f32) (hb : (⟨2, ![1, N]⟩ : Shape).Broadcasts ⟨2, ![1024, N]⟩) (G : ℕ → EReal)
    (hg : ∀ y, g y = G (y 1).val) (y : (⟨2, ![1024, N]⟩ : Shape).Idx) : broadcastTo ⟨2, ![1024, N]⟩ g hb y = G (y 1).val := by
  obtain ⟨r, c, rfl⟩ : ∃ (a : Fin 1024) (b : Fin N), y = ix2 a b := ⟨_, _, eq_ix2 y⟩
  rw [broadcastTo_1b_ab_apply, hg]
  rfl

/-- A block's rows from row 16 on. -/
theorem inner {N : ℕ} (z : FVec Ideal ⟨2, ![1056, N]⟩ .f32) (hs : (⟨2, ![1056, N]⟩ : Shape).Slices ![16, 0] ⟨2, ![1024, N]⟩) (Z : ℕ → ℕ → EReal)
    (hz : ∀ y, z y = Z (y 0).val (y 1).val) (y : (⟨2, ![1024, N]⟩ : Shape).Idx) :
    extractStridedSlice ⟨2, ![1024, N]⟩ ![16, 0] z hs y = Z (16 + (y 0).val) (y 1).val := by
  have h0 : (y 0).val < 1024 := (y 0).isLt
  refine (extractStridedSlice_apply ![16, 0] z hs y (ix2 (⟨16 + (y 0).val, by omega⟩ : Fin 1056) (⟨(y 1).val, (y 1).isLt⟩ : Fin N)) (fun a => ?_)).trans (hz _)
  match a with
  | ⟨0, _⟩ => rfl
  | ⟨1, _⟩ => exact (Nat.zero_add _).symm

/-- The same rows of the block turned by `sb` rows: row `16 + r` is the row whose number is `16 + r` moved back by `sb`. -/
theorem turned {N : ℕ} (z : FVec Ideal ⟨2, ![1056, N]⟩ .f32) (sb : BitVec 32) (hr : (⟨2, ![1056, N]⟩ : Shape).Rotates 0 none)
    (hs : (⟨2, ![1056, N]⟩ : Shape).Slices ![16, 0] ⟨2, ![1024, N]⟩) (Z : ℕ → ℕ → EReal)
    (hz : ∀ y, z y = Z (y 0).val (y 1).val) (o : ℕ) (ho : ∀ r, r < 1024 → o + r = (16 + r + 1056 - sb.toNat % 1056) % 1056) (y : (⟨2, ![1024, N]⟩ : Shape).Idx) :
    extractStridedSlice ⟨2, ![1024, N]⟩ ![16, 0] (dynamicRotate 0 sb none z hr) hs y = Z (o + (y 0).val) (y 1).val := by
  have h0 : (y 0).val < 1024 := (y 0).isLt
  have h1 := ho _ h0
  have h2 : o + (y 0).val < 1056 := h1 ▸ Nat.mod_lt _ (by decide)
  refine (extractStridedSlice_apply ![16, 0] (dynamicRotate 0 sb none z hr) hs y (ix2 (⟨16 + (y 0).val, by omega⟩ : Fin 1056) (⟨(y 1).val, (y 1).isLt⟩ : Fin N)) (fun a => ?_)).trans ?_
  · match a with
    | ⟨0, _⟩ => rfl
    | ⟨1, _⟩ => exact (Nat.zero_add _).symm
  refine (dynamicRotate_apply 0 sb z hr _ (ix2 (⟨o + (y 0).val, h2⟩ : Fin 1056) (⟨(y 1).val, (y 1).isLt⟩ : Fin N)) (fun b => ?_)).trans (hz _)
  match b with
  | ⟨0, _⟩ => exact h1.trans (if_pos rfl).symm
  | ⟨1, _⟩ => exact (if_neg (fun h => absurd (congrArg Fin.val h) Nat.one_ne_zero)).symm

/-- A row of a block against a column of a weight's block. -/
def rowDot (H W : ℕ → ℕ → EReal) (r j : ℕ) : EReal := ∑ k : Fin 4096, H r k.val * W k.val j

/-- The gate before its nonlinearity, of a block's rows. -/
def blockGate (H W : ℕ → ℕ → EReal) (B C₀ C₁ C₂ : ℕ → EReal) (r j : ℕ) : EReal :=
  B j + ((rowDot H W (15 + r) j * C₀ j + rowDot H W (16 + r) j * C₁ j) + rowDot H W (17 + r) j * C₂ j)

section
open Cert.Kernel2Ideal Cert.Kernel2Ideal.Gen

variable (x : Vec Ideal S1056x4096 .bf16) (w : Vec Ideal S4096x512 .bf16) (b c₀ c₁ c₂ : Vec Ideal S1x512 .f32)
  (H W : ℕ → ℕ → EReal) (B C₀ C₁ C₂ : ℕ → EReal)

theorem half_gate (hx : ∀ y, x y = H (y 0).val (y 1).val) (hw : ∀ y, w y = W (y 0).val (y 1).val) (hb : ∀ y, b y = B (y 1).val)
    (h₀ : ∀ y, c₀ y = C₀ (y 1).val) (h₁ : ∀ y, c₁ y = C₁ (y 1).val) (h₂ : ∀ y, c₂ y = C₂ (y 1).val) (y : S1024x512.Idx) :
    k0_pay4 (F := Ideal) x w b c₀ c₁ c₂ y = Ideal.ofBits .f32 0x3F000000#32 * blockGate H W B C₀ C₁ C₂ (y 0).val (y 1).val := by
  have hz := mm (M := 1056) (K := 4096) (N := 512) (φ₁ := .bf16) (φ₂ := .bf16) x w H W hx hw
  unfold k0_pay4
  refine congrArg (Ideal.ofBits .f32 0x3F000000#32 * ·) ?_
  refine congrArg₂ (· + ·) (spread b _ B hb y) (congrArg₂ (· + ·) (congrArg₂ (· + ·) (congrArg₂ (· * ·) ?_ (spread c₀ _ C₀ h₀ y))
    (congrArg₂ (· * ·) ?_ (spread c₁ _ C₁ h₁ y))) (congrArg₂ (· * ·) ?_ (spread c₂ _ C₂ h₂ y)))
  · exact turned _ 1#32 _ _ (rowDot H W) hz 15 (fun r hr => by show 15 + r = (16 + r + 1056 - 1) % 1056; omega) y
  · exact inner _ _ (rowDot H W) hz y
  · exact turned _ 1055#32 _ _ (rowDot H W) hz 17 (fun r hr => by show 17 + r = (16 + r + 1056 - 1055) % 1056; omega) y

/-- What the kernel stores of a block. -/
theorem block_units (v : Vec Ideal S1024x4096 .bf16) (g : Vec Ideal S4096x512 .bf16) (G : ℕ → ℕ → EReal)
    (hx : ∀ y, x y = H (y 0).val (y 1).val) (hw : ∀ y, w y = W (y 0).val (y 1).val) (hb : ∀ y, b y = B (y 1).val)
    (h₀ : ∀ y, c₀ y = C₀ (y 1).val) (h₁ : ∀ y, c₁ y = C₁ (y 1).val) (h₂ : ∀ y, c₂ y = C₂ (y 1).val)
    (hv : ∀ y, v y = H (16 + (y 0).val) (y 1).val) (hg : ∀ y, g y = G (y 0).val (y 1).val) (y : S1024x512.Idx) :
    k0_pay1 (F := Ideal) (k0_pay3 v g) (k0_pay4 x w b c₀ c₁ c₂) (k0_pay5 x w b c₀ c₁ c₂) y
      = (Ideal.ofBits .f32 0x3F000000#32 * blockGate H W B C₀ C₁ C₂ (y 0).val (y 1).val
          + Ideal.ofBits .f32 0x3F000000#32 * blockGate H W B C₀ C₁ C₂ (y 0).val (y 1).val
            * Ideal.tanh (Ideal.ofBits .f32 0x3F000000#32 * blockGate H W B C₀ C₁ C₂ (y 0).val (y 1).val)) * rowDot H G (16 + (y 0).val) (y 1).val := by
  have e := half_gate x w b c₀ c₁ c₂ H W B C₀ C₁ C₂ hx hw hb h₀ h₁ h₂ y
  unfold k0_pay1 k0_pay5 k0_pay3
  rw [← e]
  refine congrArg₂ (fun a b : EReal => a * b) rfl ?_
  exact mm (M := 1024) (K := 4096) (N := 512) (φ₁ := .bf16) (φ₂ := .bf16) v g (fun r k => H (16 + r) k) G hv hg y

end

end Cert.Lin.Up

end
-- ==== Proof.Silu.lean ====
/- The gate `x · σ(x)`: written with the hyperbolic tangent of half of it, and as the quotient by `1 + exp (−x)`. -/
module

public import proofs.«01_k».proof.Proof.Finite
public import proofs.«01_k».proof.Proof.Joined
public import Mathlib.Analysis.Complex.Trigonometric

@[expose] public section

noncomputable section

namespace Cert.Lin

open Idealize.ShloMosaic hiding ix1 ix2 ix3 ix4 eq_ix1 eq_ix2 eq_ix3 eq_ix4
open Idealize.ShloMosaic.ValueIdx Cert.Attn

theorem half_word : Ideal.ofBits .f32 0x3F000000#32 = ((1 / 2 : ℝ) : EReal) := by
  simp [Ideal.ofBits, Ideal.ieee, -EReal.coe_mul]
  norm_num [← EReal.coe_mul]

theorem one_word : Ideal.ofBits .f32 0x3F800000#32 = 1 := by
  simp [Ideal.ofBits, Ideal.ieee, -EReal.coe_mul]
  norm_num [← EReal.coe_mul]

theorem half_tanh (r : ℝ) : 1 / 2 * r + 1 / 2 * r * Real.tanh (1 / 2 * r) = r * (1 * (1 + Real.exp (-r))⁻¹) := by
  have ha : 0 < Real.exp (1 / 2 * r) := Real.exp_pos _
  have h₁ : Real.exp (-(1 / 2 * r)) = (Real.exp (1 / 2 * r))⁻¹ := Real.exp_neg _
  have h₂ : Real.exp (-r) = (Real.exp (1 / 2 * r))⁻¹ * (Real.exp (1 / 2 * r))⁻¹ := by
    rw [← h₁, ← Real.exp_add]
    congr 1
    ring
  rw [Real.tanh_eq_sinh_div_cosh, Real.sinh_eq, Real.cosh_eq, h₁, h₂]
  generalize Real.exp (1 / 2 * r) = a at ha
  have hb : a * a + 1 ≠ 0 := by positivity
  field_simp
  ring

/-- The kernel's gate is the reference's, of a number. -/
theorem silu {x : EReal} (hx : IsNum x) :
    Ideal.ofBits .f32 0x3F000000#32 * x + Ideal.ofBits .f32 0x3F000000#32 * x * Ideal.tanh (Ideal.ofBits .f32 0x3F000000#32 * x)
      = x * Ideal.div (Ideal.ofBits .f32 0x3F800000#32) (Ideal.ofBits .f32 0x3F800000#32 + Ideal.exp (-x)) := by
  obtain ⟨r, rfl⟩ := hx
  have hp : 1 + Real.exp (-r) ≠ 0 := by positivity
  have h0 : (1 : EReal) + ((Real.exp (-r) : ℝ) : EReal) = ((1 + Real.exp (-r) : ℝ) : EReal) := by
    rw [EReal.coe_add, EReal.coe_one]
  rw [half_word, one_word, ← EReal.coe_mul, Ideal.tanh_coe, ← EReal.coe_neg, Ideal.exp_coe, h0]
  unfold Ideal.div
  rw [if_neg (by exact_mod_cast hp), ← EReal.coe_inv, ← EReal.coe_one, ← EReal.coe_mul, ← EReal.coe_mul, ← EReal.coe_mul, ← EReal.coe_add]
  exact congrArg _ (half_tanh r)

end Cert.Lin

end
-- ==== Proof.UpRef.lean ====
/- The reference's gated up-projection, at natural coordinates. -/
module

public import proofs.«01_k».proof.Proof.Silu
public import proofs.«01_k».proof.Proof.Gen.Reference2Ideal.Read

@[expose] public section

set_option maxRecDepth 20000

noncomputable section

namespace Cert.Lin.Up

open Idealize.ShloMosaic hiding ix1 ix2 ix3 ix4 eq_ix1 eq_ix2 eq_ix3 eq_ix4
open Idealize.ShloMosaic.ValueIdx Cert.Attn Cert.Reference2Ideal.Read

/-- Row `r` of the tokens against column `j` of a weight. -/
def dotAt (h : (⟨2, ![8704, 4096]⟩ : Shape).Idx → EReal) (w : (⟨2, ![4096, 11008]⟩ : Shape).Idx → EReal) (r j : ℕ) : EReal :=
  ∑ k : Fin 4096, at2 h r k.val * at2 w k.val j

/-- The gate before its nonlinearity: three neighbouring tokens' products weighted and a bias added. -/
def gateAt (h : (⟨2, ![8704, 4096]⟩ : Shape).Idx → EReal) (w : (⟨2, ![4096, 11008]⟩ : Shape).Idx → EReal)
    (cw : (⟨2, ![3, 11008]⟩ : Shape).Idx → EReal) (cb : (⟨2, ![1, 11008]⟩ : Shape).Idx → EReal) (i j : ℕ) : EReal :=
  at2 cb 0 j + ((dotAt h w (255 + i) j * at2 cw 0 j + dotAt h w (256 + i) j * at2 cw 1 j) + dotAt h w (257 + i) j * at2 cw 2 j)

section
variable (h : (⟨2, ![8704, 4096]⟩ : Shape).Idx → EReal) (w g : (⟨2, ![4096, 11008]⟩ : Shape).Idx → EReal)
  (cw : (⟨2, ![3, 11008]⟩ : Shape).Idx → EReal) (cb : (⟨2, ![1, 11008]⟩ : Shape).Idx → EReal)

theorem ref3 (i : (⟨2, ![8704, 11008]⟩ : Shape).Idx) : val_main_v3 (F := Ideal) h w i = dotAt h w (i 0).val (i 1).val := by
  rw [val_main_v3_apply]
  refine Finset.sum_congr rfl fun k _ => ?_
  rw [val_main_v0_apply, val_main_v1_apply]
  exact congrArg₂ (· * ·) (at2_eq h _) (at2_eq w _)

theorem ref5 (i : (⟨2, ![8192, 11008]⟩ : Shape).Idx) : val_main_v5 (F := Ideal) h g i = dotAt h g (256 + (i 0).val) (i 1).val := by
  rw [val_main_v5_apply]
  refine Finset.sum_congr rfl fun k _ => ?_
  rw [val_main_v4_apply, val_main_v0_apply, val_main_v2_apply]
  exact congrArg₂ (· * ·) (at2_eq h _) (at2_eq g _)

theorem ref10 (i : (⟨2, ![8192, 11008]⟩ : Shape).Idx) : val_main_v10 (F := Ideal) cw i = at2 cw 0 (i 1).val := by
  rw [val_main_v10_apply, val_main_v9_apply, val_main_v8_apply, val_main_v7_apply]
  refine (at2_eq cw _).trans ?_
  show at2 cw 0 ((i 1).val % 11008) = _
  rw [Nat.mod_eq_of_lt (show (i 1).val < 11008 from (i 1).isLt)]

theorem ref18 (i : (⟨2, ![8192, 11008]⟩ : Shape).Idx) : val_main_v18 (F := Ideal) cw i = at2 cw 1 (i 1).val := by
  rw [val_main_v18_apply, val_main_v17_apply, val_main_v16_apply, val_main_v15_apply]
  refine (at2_eq cw _).trans ?_
  show at2 cw 1 ((i 1).val % 11008) = _
  rw [Nat.mod_eq_of_lt (show (i 1).val < 11008 from (i 1).isLt)]

theorem ref25 (i : (⟨2, ![8192, 11008]⟩ : Shape).Idx) : val_main_v25 (F := Ideal) cw i = at2 cw 2 (i 1).val := by
  rw [val_main_v25_apply, val_main_v24_apply, val_main_v23_apply, val_main_v22_apply]
  refine (at2_eq cw _).trans ?_
  show at2 cw 2 ((i 1).val % 11008) = _
  rw [Nat.mod_eq_of_lt (show (i 1).val < 11008 from (i 1).isLt)]

theorem ref13 (i : (⟨2, ![8192, 11008]⟩ : Shape).Idx) : val_main_v13 (F := Ideal) h w cw i
    = dotAt h w (255 + (i 0).val) (i 1).val * at2 cw 0 (i 1).val := by
  rw [val_main_v13_apply, val_main_v12_apply, val_main_cst_apply, val_main_v11_apply, val_main_v6_apply, ref3, ref10]
  show Ideal.ofBits .f32 0x00000000#32 + _ = _
  rw [zero_word, zero_add]
  rfl

theorem ref20 (i : (⟨2, ![8192, 11008]⟩ : Shape).Idx) : val_main_v20 (F := Ideal) h w cw i
    = dotAt h w (255 + (i 0).val) (i 1).val * at2 cw 0 (i 1).val + dotAt h w (256 + (i 0).val) (i 1).val * at2 cw 1 (i 1).val := by
  rw [val_main_v20_apply, ref13, val_main_v19_apply, val_main_v14_apply, ref3, ref18]
  rfl

theorem ref29 (i : (⟨2, ![8192, 11008]⟩ : Shape).Idx) : val_main_v29 (F := Ideal) h w cw cb i = gateAt h w cw cb (i 0).val (i 1).val := by
  rw [val_main_v29_apply, val_main_v28_apply, val_main_v27_apply, ref20, val_main_v26_apply, val_main_v21_apply, ref3, ref25]
  exact congrArg₂ (· + ·) (at2_eq cb _) rfl

theorem ref30 (i : (⟨2, ![8192, 11008]⟩ : Shape).Idx) : val_main_v30 (F := Ideal) h w cw cb i
    = gateAt h w cw cb (i 0).val (i 1).val * Ideal.div (Ideal.ofBits .f32 0x3F800000#32)
        (Ideal.ofBits .f32 0x3F800000#32 + Ideal.exp (-gateAt h w cw cb (i 0).val (i 1).val)) := by
  rw [val_main_v30_apply, val_main_call0_v5_apply, val_main_call0_v4_apply, val_main_call0_cst_0_apply, val_main_call0_v3_apply,
    val_main_call0_v2_apply, val_main_call0_cst_apply, val_main_call0_v1_apply, val_main_call0_v0_apply, ref29]
  rfl

/-- The hidden units' first columns. -/
theorem ref33 (i : (⟨2, ![8192, 10752]⟩ : Shape).Idx) : val_main_v33 (F := Ideal) h w g cw cb i
    = gateAt h w cw cb (i 0).val (i 1).val * Ideal.div (Ideal.ofBits .f32 0x3F800000#32)
        (Ideal.ofBits .f32 0x3F800000#32 + Ideal.exp (-gateAt h w cw cb (i 0).val (i 1).val)) * dotAt h g (256 + (i 0).val) (i 1).val := by
  rw [val_main_v33_apply, val_main_v32_apply, val_main_v31_apply, ref30, ref5]
  rfl

/-- The gate is a number, of numbers. -/
theorem gate_num (hh : ∀ i, IsNum (h i)) (hw : ∀ i, IsNum (w i)) (hcw : ∀ i, IsNum (cw i)) (hcb : ∀ i, IsNum (cb i)) (i j : ℕ) :
    IsNum (gateAt h w cw cb i j) := by
  have n2 : ∀ {a b : ℕ} (x : (⟨2, ![a, b]⟩ : Shape).Idx → EReal), (∀ i, IsNum (x i)) → ∀ r s, IsNum (at2 x r s) := fun x hx r s => by
    unfold at2
    split
    · exact hx _
    · exact ⟨0, rfl⟩
  have nd : ∀ r, IsNum (dotAt h w r j) := fun r => IsNum.sum _ _ fun k _ => (n2 h hh _ _).mul (n2 w hw _ _)
  exact (n2 cb hcb _ _).add ((((nd _).mul (n2 cw hcw _ _)).add ((nd _).mul (n2 cw hcw _ _))).add ((nd _).mul (n2 cw hcw _ _)))

end

end Cert.Lin.Up

end
-- ==== Proof.Up.lean ====
/- The gated up-projection and the cast it carries along: the blocks the kernel loads and its two results as functions of the arguments. -/
module

public import proofs.«01_k».proof.Proof.UpBlock
public import proofs.«01_k».proof.Proof.UpRef
public import proofs.«01_k».proof.Proof.Offset
public import proofs.«01_k».proof.Proof.Gen.Kernel2Ideal.Value

@[expose] public section

set_option maxRecDepth 20000

noncomputable section

namespace Cert.Lin.Up

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel2Ideal Cert.Kernel2Ideal.Gen Cert.Attn

variable (m : (ℓ : Loc nD τ sig) → Buf (Elt Ideal) ℓ)

theorem idx0 : ∀ t : Fin cfg0.N, win0_0.index t (0 : Fin 2) = 240 + 1024 * (t.val / 21) ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 21 := (by decide +kernel : ∀ t : Fin grid0.N, _)
theorem idx2 : ∀ t : Fin cfg0.N, win0_2.index t (0 : Fin 2) = 0 ∧ win0_2.index t (1 : Fin 2) = t.val % 21 := (by decide +kernel : ∀ t : Fin grid0.N, _)
theorem idx3 : ∀ t : Fin cfg0.N, win0_3.index t (0 : Fin 2) = 0 ∧ win0_3.index t (1 : Fin 2) = t.val % 21 := (by decide +kernel : ∀ t : Fin grid0.N, _)
theorem idx4 : ∀ t : Fin cfg0.N, win0_4.index t (0 : Fin 2) = 0 ∧ win0_4.index t (1 : Fin 2) = t.val % 21 := (by decide +kernel : ∀ t : Fin grid0.N, _)
theorem idx5 : ∀ t : Fin cfg0.N, win0_5.index t (0 : Fin 2) = min t.val 85 ∧ win0_5.index t (1 : Fin 2) = 0 := (by decide +kernel : ∀ t : Fin grid0.N, _)
theorem idx6 : ∀ t : Fin cfg0.N, win0_6.index t (0 : Fin 2) = t.val / 21 ∧ win0_6.index t (1 : Fin 2) = t.val % 21 := (by decide +kernel : ∀ t : Fin grid0.N, _)
theorem idx7 : ∀ t : Fin cfg0.N, win0_7.index t (0 : Fin 2) = min t.val 85 ∧ win0_7.index t (1 : Fin 2) = 0 := (by decide +kernel : ∀ t : Fin grid0.N, _)

theorem blk0 (c : Dev nD) (t : Fin cfg0.N) (y : S1056x4096.Idx) : iblk (F := Ideal) m c 0 t y
    = at2 (a := 8704) (b := 4096) (m ((c : Thread nD τ).loc main_arg0)) (240 + 1024 * (t.val / 21) + (y 0).val) (y 1).val := by
  obtain ⟨e0, e1⟩ := idx0 t
  rw [← V_main_arg0 m c]
  show V m c main_arg0 (((cfg0.win 0).blk t).view.emb y) = _
  refine (at2_eq (a := 8704) (b := 4096) (V m c main_arg0) _).trans ?_
  show at2 (V m c main_arg0) (win0_0.index t (0 : Fin 2) + 1 * (y 0).val) (win0_0.index t (1 : Fin 2) + 1 * (y 1).val) = _
  rw [e0, e1]; congr 1 <;> ring

theorem blk1 (c : Dev nD) (t : Fin cfg0.N) (y : S4096x512.Idx) : X0_1 (F := Ideal) m c t y
    = at2 (a := 4096) (b := 11008) (m ((c : Thread nD τ).loc main_arg1)) (y 0).val (512 * (t.val % 21) + (y 1).val) := by
  obtain ⟨e0, e1⟩ := idx1 t
  unfold X0_1 Pipeline.Window.fill
  rw [dif_pos (moved0_1 t y), ← V_main_arg1 m c]
  show V m c main_arg1 (((cfg0.win 1).blk t).view.emb _) = _
  refine (at2_eq (a := 4096) (b := 11008) (V m c main_arg1) _).trans ?_
  show at2 (V m c main_arg1) (win0_1.index t (0 : Fin 2) * 4096 + 1 * (y 0).val) (win0_1.index t (1 : Fin 2) * 512 + 1 * (y 1).val) = _
  rw [e0, e1]; congr 1 <;> ring

theorem blk2 (c : Dev nD) (t : Fin cfg0.N) (y : S4096x512.Idx) : X0_2 (F := Ideal) m c t y
    = at2 (a := 4096) (b := 11008) (m ((c : Thread nD τ).loc main_arg2)) (y 0).val (512 * (t.val % 21) + (y 1).val) := by
  obtain ⟨e0, e1⟩ := idx2 t
  unfold X0_2 Pipeline.Window.fill
  rw [dif_pos (moved0_2 t y), ← V_main_arg2 m c]
  show V m c main_arg2 (((cfg0.win 2).blk t).view.emb _) = _
  refine (at2_eq (a := 4096) (b := 11008) (V m c main_arg2) _).trans ?_
  show at2 (V m c main_arg2) (win0_2.index t (0 : Fin 2) * 4096 + 1 * (y 0).val) (win0_2.index t (1 : Fin 2) * 512 + 1 * (y 1).val) = _
  rw [e0, e1]; congr 1 <;> ring

theorem blk3 (c : Dev nD) (t : Fin cfg0.N) (y : S3x512.Idx) : X0_3 (F := Ideal) m c t y
    = at2 (a := 3) (b := 11008) (m ((c : Thread nD τ).loc main_arg3)) (y 0).val (512 * (t.val % 21) + (y 1).val) := by
  obtain ⟨e0, e1⟩ := idx3 t
  unfold X0_3 Pipeline.Window.fill
  rw [dif_pos (moved0_3 t y), ← V_main_arg3 m c]
  show V m c main_arg3 (((cfg0.win 3).blk t).view.emb _) = _
  refine (at2_eq (a := 3) (b := 11008) (V m c main_arg3) _).trans ?_
  show at2 (V m c main_arg3) (win0_3.index t (0 : Fin 2) * 3 + 1 * (y 0).val) (win0_3.index t (1 : Fin 2) * 512 + 1 * (y 1).val) = _
  rw [e0, e1]; congr 1 <;> ring

theorem blk4 (c : Dev nD) (t : Fin cfg0.N) (y : S1x512.Idx) : X0_4 (F := Ideal) m c t y
    = at2 (a := 1) (b := 11008) (m ((c : Thread nD τ).loc main_arg4)) (y 0).val (512 * (t.val % 21) + (y 1).val) := by
  obtain ⟨e0, e1⟩ := idx4 t
  unfold X0_4 Pipeline.Window.fill
  rw [dif_pos (moved0_4 t y), ← V_main_arg4 m c]
  show V m c main_arg4 (((cfg0.win 4).blk t).view.emb _) = _
  refine (at2_eq (a := 1) (b := 11008) (V m c main_arg4) _).trans ?_
  show at2 (V m c main_arg4) (win0_4.index t (0 : Fin 2) * 1 + 1 * (y 0).val) (win0_4.index t (1 : Fin 2) * 512 + 1 * (y 1).val) = _
  rw [e0, e1]; congr 1 <;> ring

theorem blk5 (c : Dev nD) (t : Fin cfg0.N) (y : S128x4096.Idx) : iblk (F := Ideal) m c 5 t y
    = at2 (a := 11008) (b := 4096) (m ((c : Thread nD τ).loc main_arg5)) (128 * min t.val 85 + (y 0).val) (y 1).val := by
  obtain ⟨e0, e1⟩ := idx5 t
  rw [← V_main_arg5 m c]
  show V m c main_arg5 (((cfg0.win 5).blk t).view.emb y) = _
  refine (at2_eq (a := 11008) (b := 4096) (V m c main_arg5) _).trans ?_
  show at2 (V m c main_arg5) (win0_5.index t (0 : Fin 2) * 128 + 1 * (y 0).val) (win0_5.index t (1 : Fin 2) * 4096 + 1 * (y 1).val) = _
  rw [e0, e1]; congr 1 <;> ring

/-- Rows of a staged block, loaded from row `o` on. -/
theorem read_at {sig : RefSig} {κ : Kind} {sp : Space} {a b d o : ℕ} {e : EltTy} {q : Memref sig κ sp ⟨2, ![a, b]⟩ e} (hq : q.IsWhole) (inb)
    (x : Vec Ideal ⟨2, ![a, b]⟩ e) (X : ℕ → ℕ → Elt Ideal e) (hx : ∀ y, x y = X (y 0).val (y 1).val) (y : (⟨2, ![d, b]⟩ : Shape).Idx) :
    View.readAt (Elt Ideal) q.view (Rect.unit (s := ⟨2, ![a, b]⟩) ![o, 0] ![d, b] inb).toLoadRect (hq.unread x) y = X (o + (y 0).val) (y 1).val := by
  rw [View.readAt_apply, hq.read_unread]
  refine (hx _).trans ?_
  show X (o + 1 * (y 0).val) (0 + 1 * (y 1).val) = _
  rw [Nat.one_mul, Nat.one_mul, Nat.zero_add]

section
variable (c : Dev nD) (i : grid0.Coords) (arg2 : Memref sig .tc .vmem S1056x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S128x4096 .f32) (harg7 : arg7.IsWhole) (arg8 : Memref sig .tc .vmem S1024x512 .bf16) (harg8 : arg8.IsWhole) (arg9 : Memref sig .tc .vmem S128x4096 .bf16) (harg9 : arg9.IsWhole)
  (x0 : Vec Ideal S1056x4096 .bf16) (x1 : Vec Ideal S4096x512 .bf16) (x2 : Vec Ideal S4096x512 .bf16) (x3 : Vec Ideal S3x512 .f32) (x4 : Vec Ideal S1x512 .f32) (x5 : Vec Ideal S128x4096 .f32)
  (H W G C B D : ℕ → ℕ → EReal)

/-- One entry of the block of hidden units, from the blocks at natural coordinates. -/
def unitAt (H W G C B : ℕ → ℕ → EReal) (r j : ℕ) : EReal :=
  (Ideal.ofBits .f32 0x3F000000#32 * blockGate H W (B 0) (C 0) (C 1) (C 2) r j
    + Ideal.ofBits .f32 0x3F000000#32 * blockGate H W (B 0) (C 0) (C 1) (C 2) r j
      * Ideal.tanh (Ideal.ofBits .f32 0x3F000000#32 * blockGate H W (B 0) (C 0) (C 1) (C 2) r j)) * rowDot H G (16 + r) j

include harg2 in
theorem pieces6 (hx : ∀ y, x0 y = H (y 0).val (y 1).val) (hw : ∀ y, x1 y = W (y 0).val (y 1).val) (hg : ∀ y, x2 y = G (y 0).val (y 1).val)
    (hc : ∀ y, x3 y = C (y 0).val (y 1).val) (hb : ∀ y, x4 y = B (y 0).val (y 1).val) :
    Holds2 (A := 1024) (B := 512) (e := .bf16) (unitAt H W G C B) (kernelRun0_A (F := Ideal) c i arg2 harg2 arg3 harg3 arg4 harg4 arg5 harg5 arg6 harg6 arg7 harg7 arg8 harg8 arg9 harg9 x0 x1 x2 x3 x4 x5).1 := by
  refine Holds2.cons (fun y => ?_) Holds2.nil
  have row : ∀ (o : ℕ) (y : S1x512.Idx), o + (y 0).val = o := fun o y => by
    have : (y 0).val < 1 := (y 0).isLt
    omega
  refine (block_units _ _ _ _ _ _ H W (B 0) (C 0) (C 1) (C 2) _ _ G
    (fun y => (read_at harg2 _ x0 H hx y).trans (by rw [Nat.zero_add])) (fun y => (read_at harg3 _ x1 W hw y).trans (by rw [Nat.zero_add]))
    (fun y => (read_at harg6 _ x4 B hb y).trans (by rw [row])) (fun y => (read_at harg5 _ x3 C hc y).trans (by rw [row]))
    (fun y => (read_at harg5 _ x3 C hc y).trans (by rw [row])) (fun y => (read_at harg5 _ x3 C hc y).trans (by rw [row]))
    (fun y => read_at harg2 _ x0 H hx y) (fun y => (read_at harg4 _ x2 G hg y).trans (by rw [Nat.zero_add])) y).trans ?_
  show unitAt H W G C B (y 0).val (y 1).val = unitAt H W G C B (0 + 1 * (y 0).val) (0 + 1 * (y 1).val)
  rw [Nat.one_mul, Nat.one_mul, Nat.zero_add, Nat.zero_add]

theorem pieces7 (hd : ∀ y, x5 y = D (y 0).val (y 1).val) :
    Holds2 (A := 128) (B := 4096) (e := .bf16) D (kernelRun0_A (F := Ideal) c i arg2 harg2 arg3 harg3 arg4 harg4 arg5 harg5 arg6 harg6 arg7 harg7 arg8 harg8 arg9 harg9 x0 x1 x2 x3 x4 x5).2.1 := by
  refine Holds2.cons (fun y => ?_) Holds2.nil
  refine (read_at harg7 _ x5 D hd y).trans ?_
  show D (0 + (y 0).val) (y 1).val = D (0 + 1 * (y 0).val) (0 + 1 * (y 1).val)
  rw [Nat.one_mul, Nat.one_mul, Nat.zero_add, Nat.zero_add]

/-- The block of hidden units that the body leaves. -/
theorem out6_at (hx : ∀ y, x0 y = H (y 0).val (y 1).val) (hw : ∀ y, x1 y = W (y 0).val (y 1).val) (hg : ∀ y, x2 y = G (y 0).val (y 1).val)
    (hc : ∀ y, x3 y = C (y 0).val (y 1).val) (hb : ∀ y, x4 y = B (y 0).val (y 1).val) (y : S1024x512.Idx) :
    out0_A_6 (F := Ideal) c i arg2 harg2 arg3 harg3 arg4 harg4 arg5 harg5 arg6 harg6 arg7 harg7 arg8 harg8 arg9 harg9 x0 x1 x2 x3 x4 x5 y = unitAt H W G C B (y 0).val (y 1).val := by
  have p := pieces6 c i arg2 harg2 arg3 harg3 arg4 harg4 arg5 harg5 arg6 harg6 arg7 harg7 arg8 harg8 arg9 harg9 x0 x1 x2 x3 x4 x5 H W G C B hx hw hg hc hb
  have q := cover0_A_6 (F := Ideal) c i arg2 harg2 arg3 harg3 arg4 harg4 arg5 harg5 arg6 harg6 arg7 harg7 arg8 harg8 arg9 harg9 x0 x1 x2 x3 x4 x5
  unfold out0_A_6
  generalize (kernelRun0_A (F := Ideal) c i arg2 harg2 arg3 harg3 arg4 harg4 arg5 harg5 arg6 harg6 arg7 harg7 arg8 harg8 arg9 harg9 x0 x1 x2 x3 x4 x5).1 = L at p q
  exact read2 (A := 1024) (B := 512) (e := .bf16) VO0_6 _ (unitAt H W G C B) L p q y

/-- The block of cast weights that it leaves. -/
theorem out7_at (hd : ∀ y, x5 y = D (y 0).val (y 1).val) (y : S128x4096.Idx) :
    out0_A_7 (F := Ideal) c i arg2 harg2 arg3 harg3 arg4 harg4 arg5 harg5 arg6 harg6 arg7 harg7 arg8 harg8 arg9 harg9 x0 x1 x2 x3 x4 x5 y = D (y 0).val (y 1).val := by
  have p := pieces7 c i arg2 harg2 arg3 harg3 arg4 harg4 arg5 harg5 arg6 harg6 arg7 harg7 arg8 harg8 arg9 harg9 x0 x1 x2 x3 x4 x5 D hd
  have q := cover0_A_7 (F := Ideal) c i arg2 harg2 arg3 harg3 arg4 harg4 arg5 harg5 arg6 harg6 arg7 harg7 arg8 harg8 arg9 harg9 x0 x1 x2 x3 x4 x5
  unfold out0_A_7
  generalize (kernelRun0_A (F := Ideal) c i arg2 harg2 arg3 harg3 arg4 harg4 arg5 harg5 arg6 harg6 arg7 harg7 arg8 harg8 arg9 harg9 x0 x1 x2 x3 x4 x5).2.1 = L at p q
  exact read2 (A := 128) (B := 4096) (e := .bf16) VO0_7 _ D L p q y

end

end Cert.Lin.Up

end
-- ==== Proof.UpValue.lean ====
/- The gated up-projection and the cast it carries along: both results are the reference's, and the reference's frame. -/
module

public import proofs.«01_k».proof.Defs
public import proofs.«01_k».proof.Proof.Up
public import proofs.«01_k».proof.Proof.Gen.Reference2Ideal.Run
public import proofs.«01_k».proof.Proof.Gen.Pre_finite_gate
public import Idealize.ShloMosaic.Adequacy

@[expose] public section

set_option maxRecDepth 20000

noncomputable section

namespace Cert.Lin.Up

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel2Ideal Cert.Kernel2Ideal.Gen Cert.Attn

/-- The hidden unit `j` of token `i`, as the kernel writes its gate. -/
def hidAt (h : (⟨2, ![8704, 4096]⟩ : Shape).Idx → EReal) (w g : (⟨2, ![4096, 11008]⟩ : Shape).Idx → EReal)
    (cw : (⟨2, ![3, 11008]⟩ : Shape).Idx → EReal) (cb : (⟨2, ![1, 11008]⟩ : Shape).Idx → EReal) (i j : ℕ) : EReal :=
  (Ideal.ofBits .f32 0x3F000000#32 * gateAt h w cw cb i j
    + Ideal.ofBits .f32 0x3F000000#32 * gateAt h w cw cb i j * Ideal.tanh (Ideal.ofBits .f32 0x3F000000#32 * gateAt h w cw cb i j)) * dotAt h g (256 + i) j

section
variable (h : (⟨2, ![8704, 4096]⟩ : Shape).Idx → EReal) (w g : (⟨2, ![4096, 11008]⟩ : Shape).Idx → EReal)
  (cw : (⟨2, ![3, 11008]⟩ : Shape).Idx → EReal) (cb : (⟨2, ![1, 11008]⟩ : Shape).Idx → EReal)

theorem rowDot_eq (v : (⟨2, ![4096, 11008]⟩ : Shape).Idx → EReal) (o p r q j : ℕ) :
    rowDot (fun r k => at2 h (240 + o + r) k) (fun k j => at2 v k (q + j)) (p + r) j = dotAt h v (240 + p + (o + r)) (q + j) := by
  unfold rowDot dotAt
  refine Finset.sum_congr rfl fun k _ => ?_
  exact congrArg (fun n => at2 h n k.val * at2 v k.val (q + j)) (by omega)

/-- An entry of a block is the entry of the whole there. -/
theorem unit_hid (o q r j : ℕ) : unitAt (fun r k => at2 h (240 + o + r) k) (fun k j => at2 w k (q + j)) (fun k j => at2 g k (q + j))
    (fun a j => at2 cw a (q + j)) (fun a j => at2 cb a (q + j)) r j = hidAt h w g cw cb (o + r) (q + j) := by
  have e : blockGate (fun r k => at2 h (240 + o + r) k) (fun k j => at2 w k (q + j)) (fun j => at2 cb 0 (q + j))
      (fun j => at2 cw 0 (q + j)) (fun j => at2 cw 1 (q + j)) (fun j => at2 cw 2 (q + j)) r j = gateAt h w cw cb (o + r) (q + j) := by
    unfold blockGate gateAt
    rw [rowDot_eq, rowDot_eq, rowDot_eq]
  unfold unitAt hidAt
  rw [e, rowDot_eq]

/-- The kernel's hidden units are the reference's, of numbers. -/
theorem hid_ref (hh : ∀ i, IsNum (h i)) (hw : ∀ i, IsNum (w i)) (hcw : ∀ i, IsNum (cw i)) (hcb : ∀ i, IsNum (cb i)) (i : (⟨2, ![8192, 10752]⟩ : Shape).Idx) :
    hidAt h w g cw cb (i 0).val (i 1).val = Cert.Reference2Ideal.Read.val_main_v33 (F := Ideal) h w g cw cb i := by
  rw [ref33]
  unfold hidAt
  rw [silu (gate_num h w cw cb hh hw hcw hcb _ _)]

theorem cast_ref (d : (⟨2, ![11008, 4096]⟩ : Shape).Idx → EReal) (i : (⟨2, ![11008, 4096]⟩ : Shape).Idx) :
    at2 d (i 0).val (i 1).val = Cert.Reference2Ideal.Read.val_main_v34 (F := Ideal) d i := (at2_eq d i).symm

end

section
variable (m : (ℓ : Loc nD τ sig) → Buf (Elt Ideal) ℓ)

/-- The two blocks that the body leaves at a point. -/
theorem outs6 (c : Dev nD) (t : Fin cfg0.N) : (outsAt0 (F := Ideal) m c t).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (X0_3 m c t) (X0_4 m c t) (iblk m c 5 t) := by
  rw [outsAt0]

theorem outs7 (c : Dev nD) (t : Fin cfg0.N) : (outsAt0 (F := Ideal) m c t).2 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (X0_3 m c t) (X0_4 m c t) (iblk m c 5 t) := by
  rw [outsAt0]

/-- The block of hidden units that the kernel leaves at a point. -/
theorem block6 (c : Dev nD) (t : Fin cfg0.N) (y : S1024x512.Idx) : out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (X0_3 m c t) (X0_4 m c t) (iblk m c 5 t) y
    = unitAt (fun r k => at2 (a := 8704) (b := 4096) (m ((c : Thread nD τ).loc main_arg0)) (240 + 1024 * (t.val / 21) + r) k)
        (fun k j => at2 (a := 4096) (b := 11008) (m ((c : Thread nD τ).loc main_arg1)) k (512 * (t.val % 21) + j))
        (fun k j => at2 (a := 4096) (b := 11008) (m ((c : Thread nD τ).loc main_arg2)) k (512 * (t.val % 21) + j))
        (fun k j => at2 (a := 3) (b := 11008) (m ((c : Thread nD τ).loc main_arg3)) k (512 * (t.val % 21) + j))
        (fun k j => at2 (a := 1) (b := 11008) (m ((c : Thread nD τ).loc main_arg4)) k (512 * (t.val % 21) + j)) (y 0).val (y 1).val := by
  exact out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (X0_3 m c t) (X0_4 m c t) (iblk m c 5 t) _ _ _ _ _ (blk0 m c t) (blk1 m c t) (blk2 m c t) (blk3 m c t) (blk4 m c t) y

/-- The block of cast weights that it leaves. -/
theorem block7 (c : Dev nD) (t : Fin cfg0.N) (y : S128x4096.Idx) : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (X0_3 m c t) (X0_4 m c t) (iblk m c 5 t) y
    = at2 (a := 11008) (b := 4096) (m ((c : Thread nD τ).loc main_arg5)) (128 * min t.val 85 + (y 0).val) (y 1).val := by
  exact out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (X0_1 m c t) (X0_2 m c t) (X0_3 m c t) (X0_4 m c t) (iblk m c 5 t) (fun r j => at2 (a := 11008) (b := 4096) (m ((c : Thread nD τ).loc main_arg5)) (128 * min t.val 85 + r) j) (blk5 m c t) y

/-- The hidden units. -/
theorem final6 (c : Dev nD) : (dats (F := Ideal) m 0 c).arrAt 6 cfg0.N = fun i : S8192x10752.Idx =>
    hidAt (m ((c : Thread nD τ).loc main_arg0)) (m ((c : Thread nD τ).loc main_arg1)) (m ((c : Thread nD τ).loc main_arg2))
      (m ((c : Thread nD τ).loc main_arg3)) (m ((c : Thread nD τ).loc main_arg4)) (i 0).val (i 1).val := by
  refine (dats (F := Ideal) m 0 c).arrAt_eq_of_covers 6 _ (by decide +kernel) fun t hf y => ?_
  show (dats (F := Ideal) m 0 c).after 6 t y =
    hidAt (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y 0).val (((cfg0.win 6).blk t).view.emb y 1).val
  obtain ⟨e0, e1⟩ := idx6 t
  have h0 : (((cfg0.win 6).blk t).view.emb y 0).val = win0_6.index t (0 : Fin 2) * 1024 + 1 * (y 0).val := rfl
  have h1 : (((cfg0.win 6).blk t).view.emb y 1).val = win0_6.index t (1 : Fin 2) * 512 + 1 * (y 1).val := rfl
  rw [after0_6, outs6, h0, h1, e0, e1, Nat.one_mul, Nat.one_mul, Nat.mul_comm _ 1024, Nat.mul_comm _ 512, ← unit_hid]
  exact block6 m c t y

/-- The cast weights. -/
theorem final7 (c : Dev nD) : (dats (F := Ideal) m 0 c).arrAt 7 cfg0.N
    = fun i : S11008x4096.Idx => at2 (a := 11008) (b := 4096) (m ((c : Thread nD τ).loc main_arg5)) (i 0).val (i 1).val := by
  refine (dats (F := Ideal) m 0 c).arrAt_eq_of_covers 7 _ (by decide +kernel) fun t hf y => ?_
  show (dats (F := Ideal) m 0 c).after 7 t y = at2 (a := 11008) (b := 4096) (m ((c : Thread nD τ).loc main_arg5))
    (((cfg0.win 7).blk t).view.emb y 0).val (((cfg0.win 7).blk t).view.emb y 1).val
  obtain ⟨e0, e1⟩ := idx7 t
  have h0 : (((cfg0.win 7).blk t).view.emb y 0).val = win0_7.index t (0 : Fin 2) * 128 + 1 * (y 0).val := rfl
  have h1 : (((cfg0.win 7).blk t).view.emb y 1).val = win0_7.index t (1 : Fin 2) * 4096 + 1 * (y 1).val := rfl
  rw [after0_7, outs7, h0, h1, e0, e1, Nat.one_mul, Nat.one_mul, Nat.mul_comm _ 128, Nat.zero_mul, Nat.zero_add]
  exact block7 m c t y

end

/-- What the precondition says of the arguments the gate is made of. -/
theorem gate_numbers [Cert.Pre_finite_gate.Facts] (a0 : S8704x4096.Idx → EReal) (a1 a2 : S4096x11008.Idx → EReal) (a3 : S3x11008.Idx → EReal)
    (a4 : S1x11008.Idx → EReal) (a5 : S11008x4096.Idx → EReal) (h : Cert.Pre_finite_gate.fn (F := Ideal) a0 a1 a2 a3 a4 a5 = fun _ => 1#1) :
    (∀ i, IsNum (a0 i)) ∧ (∀ i, IsNum (a1 i)) ∧ (∀ i, IsNum (a3 i)) ∧ ∀ i, IsNum (a4 i) := by
  have h := congrFun h (fun a => a.elim0)
  unfold Cert.Pre_finite_gate.fn Cert.Pre_finite_gate.fn_part1 at h
  simp only [andi] at h
  obtain ⟨h013, h4⟩ := IntOp.andi_eq_one.mp h
  obtain ⟨h01, h3⟩ := IntOp.andi_eq_one.mp h013
  obtain ⟨h0, h1⟩ := IntOp.andi_eq_one.mp h01
  exact ⟨isNum_of_all (fun _ => top_bf16) h0, isNum_of_all (fun _ => top_bf16) h1, isNum_of_all (fun _ => top_f32) h3, isNum_of_all (fun _ => top_f32) h4⟩

end Cert.Lin.Up

namespace Cert.Proof

open Idealize.ShloMosaic Idealize.ShloMosaic.TcCoe Idealize.SL.Sem

theorem reference2_frame : Cert.quiescent_Reference2Ideal (hReference2Ideal := Cert.Reference2Ideal.Gen.facts) := fun m g _ =>
  (θ_run (Cert.Reference2Ideal.defs (F := Ideal)) _ _).mono (fun r h => And.intro (fun c => (h c).2.2)
    (sem_eq_zero_of_no_sems (by decide) r.2)) (Cert.Reference2Ideal.Value.run (F := Ideal) m g)

/-- Both results of the up-projection are the reference's. -/
theorem values2 : Cert.algebraic_Kernel2Ideal_Reference2Ideal_pre_finite_gate (hKernel2Ideal := Cert.Kernel2Ideal.Gen.facts)
    (hReference2Ideal := Cert.Reference2Ideal.Gen.facts) (hPre_finite_gate := Cert.Pre_finite_gate.Gen.facts) := by
  intro m g m' g' hp ha
  refine ⟨_, _, (θ_run _ _ _).mono (fun _ h c => h c) (Cert.Kernel2Ideal.Value.run_blocks (F := Ideal) m g),
    (θ_run _ _ _).mono (fun r h c => ?_) (Cert.Reference2Ideal.Value.run (F := Ideal) m' g')⟩
  obtain ⟨e0, e1, e2, e3, e4, e5⟩ := ha c
  obtain ⟨n0, n1, n3, n4⟩ := Cert.Lin.Up.gate_numbers _ _ _ _ _ _ (hp c)
  obtain ⟨h0, h1, hr⟩ := h c
  refine ⟨h0.trans ((Cert.Reference2Ideal.Read.val_main_v33_eq (F := Ideal) m' c).trans ?_), h1.trans ?_, hr⟩
  · rw [e0, e1, e2, e3, e4]
    exact ((Cert.Lin.Up.final6 m c).trans (funext fun i => Cert.Lin.Up.hid_ref _ _ _ _ _ n0 n1 n3 n4 i)).symm
  · rw [e5]
    exact ((Cert.Lin.Up.final7 m c).trans (funext fun i => Cert.Lin.Up.cast_ref _ i)).symm

end Cert.Proof

end
-- ==== Proof.Tail.lean ====
/- The gated up-projection of the last columns: its block, its result and the reference's. -/
module

public import proofs.«01_k».proof.Proof.UpValue
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_tail

@[expose] public section

set_option maxRecDepth 20000

noncomputable section

namespace Cert.Lin.Tail

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel6Ideal Cert.Kernel6Ideal.Gen Cert.Attn Cert.Lin.Up

/-- Over all columns the two references are the same. -/
theorem whole_ref (h : (⟨2, ![8704, 4096]⟩ : Shape).Idx → EReal) (w g : (⟨2, ![4096, 11008]⟩ : Shape).Idx → EReal)
    (cw : (⟨2, ![3, 11008]⟩ : Shape).Idx → EReal) (cb : (⟨2, ![1, 11008]⟩ : Shape).Idx → EReal) :
    Cert.Reference6Ideal.Read.val_main_v31 (F := Ideal) h w g cw cb = Cert.Reference2Ideal.Read.val_main_v31 (F := Ideal) h w g cw cb := rfl

/-- The reference's last columns. -/
theorem tail_ref (h : (⟨2, ![8704, 4096]⟩ : Shape).Idx → EReal) (w g : (⟨2, ![4096, 11008]⟩ : Shape).Idx → EReal)
    (cw : (⟨2, ![3, 11008]⟩ : Shape).Idx → EReal) (cb : (⟨2, ![1, 11008]⟩ : Shape).Idx → EReal)
    (hh : ∀ i, IsNum (h i)) (hw : ∀ i, IsNum (w i)) (hcw : ∀ i, IsNum (cw i)) (hcb : ∀ i, IsNum (cb i)) (i : (⟨2, ![8192, 256]⟩ : Shape).Idx) :
    hidAt h w g cw cb (i 0).val (10752 + (i 1).val) = Cert.Reference6Ideal.Read.val_main_v33 (F := Ideal) h w g cw cb i := by
  rw [Cert.Reference6Ideal.Read.val_main_v33_apply, Cert.Reference6Ideal.Read.val_main_v32_apply, whole_ref,
    Cert.Reference2Ideal.Read.val_main_v31_apply, ref30, ref5]
  unfold hidAt
  rw [silu (gate_num h w cw cb hh hw hcw hcb _ _)]
  rfl

/-- A number by a nonlinearity of itself. -/
theorem halves {a b : EReal} (e : a = b) : a + a * Ideal.tanh a = b + b * Ideal.tanh b := by rw [e]

/-- What the kernel stores of a block. -/
theorem tail_units (x : Vec Ideal S1056x4096 .bf16) (w : Vec Ideal S4096x256 .bf16) (v : Vec Ideal S1024x4096 .bf16) (g : Vec Ideal S4096x256 .bf16)
    (b c₀ c₁ c₂ : Vec Ideal S1x256 .f32) (H W G C B : ℕ → ℕ → EReal)
    (hx : ∀ y, x y = H (y 0).val (y 1).val) (hw : ∀ y, w y = W (y 0).val (y 1).val) (hv : ∀ y, v y = H (16 + (y 0).val) (y 1).val)
    (hg : ∀ y, g y = G (y 0).val (y 1).val) (hb : ∀ y, b y = B 0 (y 1).val)
    (h₀ : ∀ y, c₀ y = C 0 (y 1).val) (h₁ : ∀ y, c₁ y = C 1 (y 1).val) (h₂ : ∀ y, c₂ y = C 2 (y 1).val) (y : S1024x256.Idx) :
    k0_pay1 (F := Ideal) x w v g b c₀ c₁ c₂ y = unitAt H W G C B (y 0).val (y 1).val := by
  have hz := mm (M := 1056) (K := 4096) (N := 256) (φ₁ := .bf16) (φ₂ := .bf16) x w H W hx hw
  unfold k0_pay1 unitAt
  refine congrArg₂ (fun a b : EReal => a * b) (halves (congrArg (Ideal.ofBits .f32 0x3F000000#32 * ·) ?_))
    (mm (M := 1024) (K := 4096) (N := 256) (φ₁ := .bf16) (φ₂ := .bf16) v g (fun r k => H (16 + r) k) G hv hg y)
  refine congrArg₂ (· + ·) (spread b _ (B 0) hb y) (congrArg₂ (· + ·) (congrArg₂ (· + ·) (congrArg₂ (· * ·) ?_ (spread c₀ _ (C 0) h₀ y))
    (congrArg₂ (· * ·) ?_ (spread c₁ _ (C 1) h₁ y))) (congrArg₂ (· * ·) ?_ (spread c₂ _ (C 2) h₂ y)))
  · exact turned _ 1#32 _ _ (rowDot H W) hz 15 (fun r hr => by show 15 + r = (16 + r + 1056 - 1) % 1056; omega) y
  · exact inner _ _ (rowDot H W) hz y
  · exact turned _ 1055#32 _ _ (rowDot H W) hz 17 (fun r hr => by show 17 + r = (16 + r + 1056 - 1055) % 1056; omega) y

section
variable (m : (ℓ : Loc nD τ sig) → Buf (Elt Ideal) ℓ)

theorem idx0 : ∀ t : Fin cfg0.N, win0_0.index t (0 : Fin 2) = 240 + 1024 * t.val ∧ win0_0.index t (1 : Fin 2) = 0 := (by decide +kernel : ∀ t : Fin grid0.N, _)
theorem idx1 : ∀ t : Fin cfg0.N, win0_1.index t (0 : Fin 2) = 0 ∧ win0_1.index t (1 : Fin 2) = 42 := (by decide +kernel : ∀ t : Fin grid0.N, _)
theorem idx2 : ∀ t : Fin cfg0.N, win0_2.index t (0 : Fin 2) = 0 ∧ win0_2.index t (1 : Fin 2) = 42 := (by decide +kernel : ∀ t : Fin grid0.N, _)
theorem idx3 : ∀ t : Fin cfg0.N, win0_3.index t (0 : Fin 2) = 0 ∧ win0_3.index t (1 : Fin 2) = 42 := (by decide +kernel : ∀ t : Fin grid0.N, _)
theorem idx4 : ∀ t : Fin cfg0.N, win0_4.index t (0 : Fin 2) = 0 ∧ win0_4.index t (1 : Fin 2) = 42 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem blk0 (c : Dev nD) (t : Fin cfg0.N) (y : S1056x4096.Idx) : iblk (F := Ideal) m c 0 t y
    = at2 (a := 8704) (b := 4096) (m ((c : Thread nD τ).loc main_arg0)) (240 + 1024 * t.val + (y 0).val) (y 1).val := by
  obtain ⟨e0, e1⟩ := idx0 t
  rw [← V_main_arg0 m c]
  show V m c main_arg0 (((cfg0.win 0).blk t).view.emb y) = _
  refine (at2_eq (a := 8704) (b := 4096) (V m c main_arg0) _).trans ?_
  show at2 (V m c main_arg0) (win0_0.index t (0 : Fin 2) + 1 * (y 0).val) (win0_0.index t (1 : Fin 2) + 1 * (y 1).val) = _
  rw [e0, e1]; congr 1 <;> ring

theorem blk1 (c : Dev nD) (t : Fin cfg0.N) (y : S4096x256.Idx) : iblk (F := Ideal) m c 1 t y
    = at2 (a := 4096) (b := 11008) (m ((c : Thread nD τ).loc main_arg1)) (y 0).val (10752 + (y 1).val) := by
  obtain ⟨e0, e1⟩ := idx1 t
  rw [← V_main_arg1 m c]
  show V m c main_arg1 (((cfg0.win 1).blk t).view.emb y) = _
  refine (at2_eq (a := 4096) (b := 11008) (V m c main_arg1) _).trans ?_
  show at2 (V m c main_arg1) (win0_1.index t (0 : Fin 2) * 4096 + 1 * (y 0).val) (win0_1.index t (1 : Fin 2) * 256 + 1 * (y 1).val) = _
  rw [e0, e1]; congr 1 <;> ring

theorem blk2 (c : Dev nD) (t : Fin cfg0.N) (y : S4096x256.Idx) : iblk (F := Ideal) m c 2 t y
    = at2 (a := 4096) (b := 11008) (m ((c : Thread nD τ).loc main_arg2)) (y 0).val (10752 + (y 1).val) := by
  obtain ⟨e0, e1⟩ := idx2 t
  rw [← V_main_arg2 m c]
  show V m c main_arg2 (((cfg0.win 2).blk t).view.emb y) = _
  refine (at2_eq (a := 4096) (b := 11008) (V m c main_arg2) _).trans ?_
  show at2 (V m c main_arg2) (win0_2.index t (0 : Fin 2) * 4096 + 1 * (y 0).val) (win0_2.index t (1 : Fin 2) * 256 + 1 * (y 1).val) = _
  rw [e0, e1]; congr 1 <;> ring

theorem blk3 (c : Dev nD) (t : Fin cfg0.N) (y : S3x256.Idx) : iblk (F := Ideal) m c 3 t y
    = at2 (a := 3) (b := 11008) (m ((c : Thread nD τ).loc main_arg3)) (y 0).val (10752 + (y 1).val) := by
  obtain ⟨e0, e1⟩ := idx3 t
  rw [← V_main_arg3 m c]
  show V m c main_arg3 (((cfg0.win 3).blk t).view.emb y) = _
  refine (at2_eq (a := 3) (b := 11008) (V m c main_arg3) _).trans ?_
  show at2 (V m c main_arg3) (win0_3.index t (0 : Fin 2) * 3 + 1 * (y 0).val) (win0_3.index t (1 : Fin 2) * 256 + 1 * (y 1).val) = _
  rw [e0, e1]; congr 1 <;> ring

theorem blk4 (c : Dev nD) (t : Fin cfg0.N) (y : S1x256.Idx) : iblk (F := Ideal) m c 4 t y
    = at2 (a := 1) (b := 11008) (m ((c : Thread nD τ).loc main_arg4)) (y 0).val (10752 + (y 1).val) := by
  obtain ⟨e0, e1⟩ := idx4 t
  rw [← V_main_arg4 m c]
  show V m c main_arg4 (((cfg0.win 4).blk t).view.emb y) = _
  refine (at2_eq (a := 1) (b := 11008) (V m c main_arg4) _).trans ?_
  show at2 (V m c main_arg4) (win0_4.index t (0 : Fin 2) * 1 + 1 * (y 0).val) (win0_4.index t (1 : Fin 2) * 256 + 1 * (y 1).val) = _
  rw [e0, e1]; congr 1 <;> ring

/-- A row of a block. -/
theorem row_at {Val : EltTy → Type} {e : EltTy} {a o : ℕ} (inb) (w : (⟨2, ![a, 256]⟩ : Shape).Idx → Val e) (W : ℕ → ℕ → Val e)
    (hW : ∀ y, w y = W (y 0).val (y 1).val) (y : S1x256.Idx) :
    View.ld w (Rect.unit (s := ⟨2, ![a, 256]⟩) ![o, 0] ![1, 256] inb) y = W o (y 1).val := by
  refine (loaded_at inb w W hW y).trans ?_
  have h : (y 0).val < 1 := (y 0).isLt
  rw [show o + (y 0).val = o by omega]

/-- The block of hidden units that the kernel leaves at a point. -/
theorem block5 (c : Dev nD) (t : Fin cfg0.N) (y : S1024x256.Idx) :
    out0_5 (F := Ideal) (iblk m c 0 t) (iblk m c 1 t) (iblk m c 2 t) (iblk m c 3 t) (iblk m c 4 t) y = unitAt
    (fun r k => at2 (a := 8704) (b := 4096) (m ((c : Thread nD τ).loc main_arg0)) (240 + 1024 * t.val + r) k)
    (fun k j => at2 (a := 4096) (b := 11008) (m ((c : Thread nD τ).loc main_arg1)) k (10752 + j))
    (fun k j => at2 (a := 4096) (b := 11008) (m ((c : Thread nD τ).loc main_arg2)) k (10752 + j))
    (fun k j => at2 (a := 3) (b := 11008) (m ((c : Thread nD τ).loc main_arg3)) k (10752 + j))
    (fun k j => at2 (a := 1) (b := 11008) (m ((c : Thread nD τ).loc main_arg4)) k (10752 + j)) (y 0).val (y 1).val := by
  unfold out0_5
  rw [stored, loaded, loaded, loaded, loaded]
  exact tail_units _ _ _ _ _ _ _ _
    (fun r k => at2 (a := 8704) (b := 4096) (m ((c : Thread nD τ).loc main_arg0)) (240 + 1024 * t.val + r) k)
    (fun k j => at2 (a := 4096) (b := 11008) (m ((c : Thread nD τ).loc main_arg1)) k (10752 + j))
    (fun k j => at2 (a := 4096) (b := 11008) (m ((c : Thread nD τ).loc main_arg2)) k (10752 + j))
    (fun k j => at2 (a := 3) (b := 11008) (m ((c : Thread nD τ).loc main_arg3)) k (10752 + j))
    (fun k j => at2 (a := 1) (b := 11008) (m ((c : Thread nD τ).loc main_arg4)) k (10752 + j))
    (blk0 m c t) (blk1 m c t)
    (fun y => loaded_at (Val := Elt Ideal) (e := .bf16) (a := 1056) (b := 4096) (c := 1024) (o := 16) _ _ (fun r k => at2 (a := 8704) (b := 4096) (m ((c : Thread nD τ).loc main_arg0)) (240 + 1024 * t.val + r) k) (blk0 m c t) y)
    (blk2 m c t) (fun y => (blk4 m c t y).trans (by have h : (y 0).val < 1 := (y 0).isLt; rw [show (y 0).val = 0 by omega]))
    (row_at (Val := Elt Ideal) (e := .f32) _ _ (fun k j => at2 (a := 3) (b := 11008) (m ((c : Thread nD τ).loc main_arg3)) k (10752 + j)) (blk3 m c t))
    (row_at (Val := Elt Ideal) (e := .f32) _ _ (fun k j => at2 (a := 3) (b := 11008) (m ((c : Thread nD τ).loc main_arg3)) k (10752 + j)) (blk3 m c t))
    (row_at (Val := Elt Ideal) (e := .f32) _ _ (fun k j => at2 (a := 3) (b := 11008) (m ((c : Thread nD τ).loc main_arg3)) k (10752 + j)) (blk3 m c t)) y

/-- The hidden units of the last columns. -/
theorem final5 (c : Dev nD) : (dats (F := Ideal) m 0 c).arrAt 5 cfg0.N = fun i : S8192x256.Idx =>
    hidAt (m ((c : Thread nD τ).loc main_arg0)) (m ((c : Thread nD τ).loc main_arg1)) (m ((c : Thread nD τ).loc main_arg2)) (m ((c : Thread nD τ).loc main_arg3)) (m ((c : Thread nD τ).loc main_arg4)) (i 0).val (10752 + (i 1).val) := by
  refine (dats (F := Ideal) m 0 c).arrAt_eq_of_covers 5 _ (by decide +kernel) fun t hf y => ?_
  show (dats (F := Ideal) m 0 c).after 5 t y =
    hidAt (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y 0).val (10752 + (((cfg0.win 5).blk t).view.emb y 1).val)
  obtain ⟨e0, e1⟩ := idx5 t
  have h0 : (((cfg0.win 5).blk t).view.emb y 0).val = win0_5.index t (0 : Fin 2) * 1024 + 1 * (y 0).val := rfl
  have h1 : (((cfg0.win 5).blk t).view.emb y 1).val = win0_5.index t (1 : Fin 2) * 256 + 1 * (y 1).val := rfl
  rw [after0_5, h0, h1, e0, e1, Nat.one_mul, Nat.one_mul, Nat.mul_comm _ 1024, Nat.zero_mul, Nat.zero_add, ← unit_hid]
  exact block5 m c t y

end

/-- What the precondition says of the arguments the gate is made of. -/
theorem tail_numbers [Cert.Pre_finite_tail.Facts] (a0 : S8704x4096.Idx → EReal) (a1 a2 : S4096x11008.Idx → EReal) (a3 : S3x11008.Idx → EReal)
    (a4 : S1x11008.Idx → EReal) (h : Cert.Pre_finite_tail.fn (F := Ideal) a0 a1 a2 a3 a4 = fun _ => 1#1) :
    (∀ i, IsNum (a0 i)) ∧ (∀ i, IsNum (a1 i)) ∧ (∀ i, IsNum (a3 i)) ∧ ∀ i, IsNum (a4 i) := by
  have h := congrFun h (fun a => a.elim0)
  unfold Cert.Pre_finite_tail.fn Cert.Pre_finite_tail.fn_part1 at h
  simp only [andi] at h
  obtain ⟨h013, h4⟩ := IntOp.andi_eq_one.mp h
  obtain ⟨h01, h3⟩ := IntOp.andi_eq_one.mp h013
  obtain ⟨h0, h1⟩ := IntOp.andi_eq_one.mp h01
  exact ⟨isNum_of_all (fun _ => top_bf16) h0, isNum_of_all (fun _ => top_bf16) h1, isNum_of_all (fun _ => top_f32) h3, isNum_of_all (fun _ => top_f32) h4⟩

end Cert.Lin.Tail

namespace Cert.Proof

open Idealize.ShloMosaic Idealize.ShloMosaic.TcCoe Idealize.SL.Sem

theorem reference6_frame : Cert.quiescent_Reference6Ideal (hReference6Ideal := Cert.Reference6Ideal.Gen.facts) := fun m g _ =>
  (θ_run (Cert.Reference6Ideal.defs (F := Ideal)) _ _).mono (fun r h => And.intro (fun c => (h c).2)
    (sem_eq_zero_of_no_sems (by decide) r.2)) (Cert.Reference6Ideal.Value.run (F := Ideal) m g)

/-- The up-projection's last columns are the reference's. -/
theorem values6 : Cert.algebraic_Kernel6Ideal_Reference6Ideal_pre_finite_tail (hKernel6Ideal := Cert.Kernel6Ideal.Gen.facts)
    (hReference6Ideal := Cert.Reference6Ideal.Gen.facts) (hPre_finite_tail := Cert.Pre_finite_tail.Gen.facts) := by
  intro m g m' g' hp ha
  refine ⟨_, (θ_run _ _ _).mono (fun _ h c => h c) (Cert.Kernel6Ideal.Value.run_blocks (F := Ideal) m g),
    (θ_run _ _ _).mono (fun r h c => ?_) (Cert.Reference6Ideal.Value.run (F := Ideal) m' g')⟩
  obtain ⟨e0, e1, e2, e3, e4⟩ := ha c
  obtain ⟨n0, n1, n3, n4⟩ := Cert.Lin.Tail.tail_numbers _ _ _ _ _ (hp c)
  obtain ⟨h0, hr⟩ := h c
  refine ⟨h0.trans ((Cert.Reference6Ideal.Read.val_main_v33_eq (F := Ideal) m' c).trans ?_), hr⟩
  rw [e0, e1, e2, e3, e4]
  exact ((Cert.Lin.Tail.final5 m c).trans (funext fun i => Cert.Lin.Tail.tail_ref _ _ _ _ _ n0 n1 n3 n4 i)).symm

end Cert.Proof

end
-- ==== Proof.Modulate.lean ====
/- A normalised row, scaled by one plus a row and shifted by another. -/
module

public import proofs.«01_k».proof.Proof.Norm

@[expose] public section

noncomputable section

namespace Cert.Lin

open Idealize.ShloMosaic hiding ix1 ix2 ix3 ix4 eq_ix1 eq_ix2 eq_ix3 eq_ix4
open Idealize.ShloMosaic.ValueIdx Cert.Attn

/-- The normalised row `X` at `j`, times one plus `S`, plus `T`. -/
def modAt (X g S T : ℕ → EReal) (j : ℕ) : EReal := normed X g j * (Ideal.ofBits .f32 0x3F800000#32 + S j) + T j

/-- A row spread over all rows. -/
theorem over_rows {M : ℕ} (s : FVec Ideal ⟨2, ![1, 4096]⟩ .f32) (h : (⟨2, ![1, 4096]⟩ : Shape).Broadcasts ⟨2, ![M, 4096]⟩)
    (S : ℕ → EReal) (hS : ∀ y, s y = S (y 1).val) (y : (⟨2, ![M, 4096]⟩ : Shape).Idx) :
    broadcastTo ⟨2, ![M, 4096]⟩ s h y = S (y 1).val := by
  obtain ⟨r, c, rfl⟩ : ∃ (a : Fin M) (b : Fin 4096), y = ix2 a b := ⟨_, _, eq_ix2 y⟩
  rw [broadcastTo_1b_ab_apply, hS]
  rfl

/-- What the kernels compute of a block of rows. -/
theorem modulated {M : ℕ} (x : FVec Ideal ⟨2, ![M, 4096]⟩ .f32) (X : ℕ → ℕ → EReal) (hx : ∀ y, x y = X (y 0).val (y 1).val)
    (h : (⟨2, ![M, 4096]⟩ : Shape).Reduces [1] ⟨1, ![M]⟩) (hφ) (hacc) (hc : (⟨1, ![M]⟩ : Shape).ShapeCasts ⟨2, ![M, 1]⟩)
    (hb : (⟨2, ![M, 1]⟩ : Shape).Broadcasts ⟨2, ![M, 4096]⟩) (g s t : FVec Ideal ⟨2, ![1, 4096]⟩ .f32)
    (hg hs ht : (⟨2, ![1, 4096]⟩ : Shape).Broadcasts ⟨2, ![M, 4096]⟩) (G S T : ℕ → ℕ → EReal) (hG : ∀ y, g y = G (y 0).val (y 1).val)
    (hS : ∀ y, s y = S (y 0).val (y 1).val) (hT : ∀ y, t y = T (y 0).val (y 1).val) (hk) (y : (⟨2, ![M, 4096]⟩ : Shape).Idx) :
    truncf .bf16 (addf (mulf (mulf (mulf x (broadcastTo ⟨2, ![M, 4096]⟩ (rsqrt (addf (divf
        (shapeCast ⟨2, ![M, 1]⟩ (multiReduction .add [1] ⟨1, ![M]⟩ (mulf x x) 0x00000000#32 h hφ hacc) hc)
        (broadcast ⟨2, ![M, 1]⟩ (Scalar.ofBits (F := Ideal) .f32 0x45800000#32)))
        (broadcast ⟨2, ![M, 1]⟩ (Scalar.ofBits (F := Ideal) .f32 0x358637BD#32)))) hb))
      (broadcastTo ⟨2, ![M, 4096]⟩ g hg))
      (broadcastTo ⟨2, ![M, 4096]⟩ (addf (broadcast ⟨2, ![1, 4096]⟩ (Scalar.ofBits (F := Ideal) .f32 0x3F800000#32)) s) hs))
      (broadcastTo ⟨2, ![M, 4096]⟩ t ht)) hk y = modAt (X (y 0).val) (G 0) (S 0) (T 0) (y 1).val := by
  have row : ∀ y : (⟨2, ![1, 4096]⟩ : Shape).Idx, (y 0).val = 0 := fun y => by
    have : (y 0).val < 1 := (y 0).isLt
    omega
  refine congrArg₂ (fun a b : EReal => a + b) (congrArg₂ (fun a b : EReal => a * b) (normed_apply x X hx h hφ hacc hc hb g hg G hG y)
    (over_rows _ hs (fun j => Ideal.ofBits .f32 0x3F800000#32 + S 0 j) (fun y => ?_) y)) (over_rows t ht (T 0) (fun y => ?_) y)
  · exact congrArg (Ideal.ofBits .f32 0x3F800000#32 + ·) ((hS y).trans (by rw [row y]))
  · rw [hT, row y]

end Cert.Lin

end
-- ==== Proof.Whole.lean ====
/- A staged block that is loaded or stored whole. -/
module

public import proofs.«01_k».proof.Proof.Offset
public import proofs.«01_k».proof.Proof.Dense

@[expose] public section

noncomputable section

namespace Cert.Lin

open Idealize.ShloMosaic hiding ix1 ix2 ix3 ix4 eq_ix1 eq_ix2 eq_ix3 eq_ix4
open Idealize.ShloMosaic.ValueIdx Cert.Attn

/-- A staged block, loaded whole. -/
theorem whole_read {sig : RefSig} {κ : Kind} {sp : Space} {a b : ℕ} {e : EltTy} {q : Memref sig κ sp ⟨2, ![a, b]⟩ e} (hq : q.IsWhole) (inb)
    (x : Vec Ideal ⟨2, ![a, b]⟩ e) (y : (⟨2, ![a, b]⟩ : Shape).Idx) :
    View.readAt (Elt Ideal) q.view (Rect.unit (s := ⟨2, ![a, b]⟩) ![0, 0] ![a, b] inb).toLoadRect (hq.unread x) y = x y := by
  rw [View.readAt_apply, hq.read_unread]
  refine congrArg x (funext fun d => Fin.ext ?_)
  match d with
  | ⟨0, _⟩ => show 0 + 1 * (y 0).val = _; rw [Nat.one_mul, Nat.zero_add]; rfl
  | ⟨1, _⟩ => show 0 + 1 * (y 1).val = _; rw [Nat.one_mul, Nat.zero_add]; rfl

/-- A buffer loaded whole after one store of all of it. -/
theorem whole_back {sig : RefSig} {κ : Kind} {sp : Space} {a b : ℕ} {e : EltTy} (v : View sig κ sp ⟨2, ![a, b]⟩ e) (inb inb')
    (w : (⟨2, ![a, b]⟩ : Shape).Idx → Elt Ideal e) (y : (⟨2, ![a, b]⟩ : Shape).Idx) :
    v.readCov [(⟨Rect.unit (s := ⟨2, ![a, b]⟩) ![0, 0] ![a, b] inb, w⟩ : View.Piece (Elt Ideal) ⟨2, ![a, b]⟩ e)]
      (Rect.unit (s := ⟨2, ![a, b]⟩) ![0, 0] ![a, b] inb').toLoadRect y = w y := by
  rw [View.readCov_eq_canon', stored]
  refine congrArg w (funext fun d => Fin.ext ?_)
  match d with
  | ⟨0, _⟩ => show 0 + 1 * (y 0).val = _; rw [Nat.one_mul, Nat.zero_add]; rfl
  | ⟨1, _⟩ => show 0 + 1 * (y 1).val = _; rw [Nat.one_mul, Nat.zero_add]; rfl

/-- A block that a whole store leaves. -/
theorem whole_held {A B : ℕ} {e : EltTy} {G : ℕ → ℕ → Elt Ideal e} {inb} {v : (⟨2, ![A, B]⟩ : Shape).Idx → Elt Ideal e}
    (h : ∀ y, v y = G (y 0).val (y 1).val) :
    Holds2 G [(⟨Rect.unit (s := ⟨2, ![A, B]⟩) ![0, 0] ![A, B] inb, v⟩ : View.Piece (Elt Ideal) ⟨2, ![A, B]⟩ e)] :=
  Holds2.cons (fun y => by
    show v y = G (0 + 1 * (y 0).val) (0 + 1 * (y 1).val)
    rw [Nat.one_mul, Nat.one_mul, Nat.zero_add, Nat.zero_add]
    exact h y) Holds2.nil

end Cert.Lin

end
-- ==== Proof.Context.lean ====
/- The keys and values of the context: the kernel's result and the reference's. -/
module

public import proofs.«01_k».proof.Proof.Modulate
public import proofs.«01_k».proof.Proof.Whole
public import proofs.«01_k».proof.Proof.Gen.Kernel7Ideal.Value
public import proofs.«01_k».proof.Proof.Gen.Reference7Ideal.Run
public import proofs.«01_k».proof.Proof.Gen.Reference7Ideal.Read
public import proofs.«01_k».proof.Defs

@[expose] public section

set_option maxRecDepth 20000

noncomputable section

namespace Cert.Lin.Context

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel7Ideal Cert.Kernel7Ideal.Gen Cert.Attn

/-- An entry of the context's keys and values: a modulated row by a column of the projection's last ones. -/
def ctxAt (x : ℕ → ℕ → EReal) (g s h : ℕ → EReal) (w : ℕ → ℕ → EReal) (r j : ℕ) : EReal := ∑ k : Fin 4096, modAt (x r) g s h k.val * w k.val j

section
variable (x : (⟨2, ![256, 4096]⟩ : Shape).Idx → EReal) (g s h : (⟨2, ![1, 4096]⟩ : Shape).Idx → EReal) (w : (⟨2, ![4096, 10240]⟩ : Shape).Idx → EReal)

theorem ref7 (i : (⟨2, ![256, 1]⟩ : Shape).Idx) : Cert.Reference7Ideal.Read.val_main_v7 (F := Ideal) x i = scaleOf (at2 x (i 0).val) := by
  rw [Cert.Reference7Ideal.Read.val_main_v7_apply, Cert.Reference7Ideal.Read.val_main_v6_apply, Cert.Reference7Ideal.Read.val_main_v4_apply,
    Cert.Reference7Ideal.Read.val_main_v2_apply, Cert.Reference7Ideal.Read.val_main_v1_apply, Cert.Reference7Ideal.Read.val_main_v3_apply,
    Cert.Reference7Ideal.Read.val_main_cst_0_apply, Cert.Reference7Ideal.Read.val_main_v5_apply, Cert.Reference7Ideal.Read.val_main_cst_1_apply,
    Cert.Reference7Ideal.Read.val_main_cst_apply]
  refine congrArg (fun u : EReal => Ideal.rsqrt (Ideal.div u (Ideal.ofBits .f32 0x45800000#32) + Ideal.ofBits .f32 0x358637BD#32)) ?_
  refine (congrArg (· + _) zero_word).trans ((zero_add _).trans ?_)
  refine Finset.sum_congr rfl fun k _ => ?_
  rw [Cert.Reference7Ideal.Read.val_main_v0_apply]
  exact congrArg₂ (· * ·) (at2_eq x _) (at2_eq x _)

theorem ref17 (i : (⟨2, ![256, 4096]⟩ : Shape).Idx) : Cert.Reference7Ideal.Read.val_main_v17 (F := Ideal) x g s h i
    = modAt (at2 x (i 0).val) (at2 g 0) (at2 s 0) (at2 h 0) (i 1).val := by
  rw [Cert.Reference7Ideal.Read.val_main_v17_apply, Cert.Reference7Ideal.Read.val_main_v15_apply, Cert.Reference7Ideal.Read.val_main_v11_apply,
    Cert.Reference7Ideal.Read.val_main_v9_apply, Cert.Reference7Ideal.Read.val_main_v8_apply, ref7, Cert.Reference7Ideal.Read.val_main_v10_apply,
    Cert.Reference7Ideal.Read.val_main_v14_apply, Cert.Reference7Ideal.Read.val_main_v13_apply, Cert.Reference7Ideal.Read.val_main_v12_apply,
    Cert.Reference7Ideal.Read.val_main_cst_2_apply, Cert.Reference7Ideal.Read.val_main_v16_apply]
  exact congrArg₂ (fun a b : EReal => a + b) (congrArg₂ (fun a b : EReal => a * b) (congrArg₂ (fun a b : EReal => a * b)
    (congrArg₂ (fun a b : EReal => a * b) (at2_eq x i) rfl) (at2_eq g _)) (congrArg (Ideal.ofBits .f32 0x3F800000#32 + ·) (at2_eq s _))) (at2_eq h _)

theorem ref21 (i : (⟨2, ![256, 4096]⟩ : Shape).Idx) : Cert.Reference7Ideal.Read.val_main_v21 (F := Ideal) x g s h w i
    = ctxAt (at2 x) (at2 g 0) (at2 s 0) (at2 h 0) (fun k j => at2 w k (6144 + j)) (i 0).val (i 1).val := by
  rw [Cert.Reference7Ideal.Read.val_main_v21_apply]
  refine (Cert.Reference7Ideal.Read.val_main_v20_apply x g s h w i).trans (Finset.sum_congr rfl fun k _ => ?_)
  rw [ref17, Cert.Reference7Ideal.Read.val_main_v19_apply, Cert.Reference7Ideal.Read.val_main_v18_apply]
  exact congrArg₂ (fun a b : EReal => a * b) rfl (at2_eq w _)

end

/-- The rows the kernel keeps. -/
theorem kept_rows (x : Vec Ideal S256x4096 .f32) (g s h : Vec Ideal S1x4096 .f32) (X G S T : ℕ → ℕ → EReal)
    (hx : ∀ y, x y = X (y 0).val (y 1).val) (hg : ∀ y, g y = G (y 0).val (y 1).val) (hs : ∀ y, s y = S (y 0).val (y 1).val)
    (hh : ∀ y, h y = T (y 0).val (y 1).val) (y : S256x4096.Idx) :
    k0_pay1 (F := Ideal) x g s h y = modAt (X (y 0).val) (G 0) (S 0) (T 0) (y 1).val := by
  unfold k0_pay1
  exact (shapeCast_apply _ _ y y rfl).trans (modulated (M := 256) x X hx _ _ _ _ _ g s h _ _ _ G S T hg hs hh _ y)

/-- A block of the result from the rows kept. -/
theorem block_of (v : Vec Ideal S256x4096 .bf16) (w : Vec Ideal S4096x1024 .bf16) (P W : ℕ → ℕ → EReal)
    (hv : ∀ y, v y = P (y 0).val (y 1).val) (hw : ∀ y, w y = W (y 0).val (y 1).val) (y : S256x1024.Idx) :
    k0_pay2 (F := Ideal) v w y = ∑ k : Fin 4096, P (y 0).val k.val * W k.val (y 1).val := by
  unfold k0_pay2
  exact mm (M := 256) (K := 4096) (N := 1024) (φ₁ := .bf16) (φ₂ := .bf16) v w P W hv hw y

section
variable (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S256x4096 .bf16) (harg7 : arg7.IsWhole)
  (x0 : Vec Ideal S256x4096 .f32) (x1 x2 x3 : Vec Ideal S1x4096 .f32) (x4 : Vec Ideal S4096x1024 .bf16) (xs : Vec Ideal S256x4096 .bf16)
  (X G S T W P : ℕ → ℕ → EReal)

/-- What the first point keeps. -/
theorem scratch_at (hc0 : cond0_0 i) (hx : ∀ y, x0 y = X (y 0).val (y 1).val) (hg : ∀ y, x1 y = G (y 0).val (y 1).val)
    (hs : ∀ y, x2 y = S (y 0).val (y 1).val) (hh : ∀ y, x3 y = T (y 0).val (y 1).val) (y : S256x4096.Idx) :
    sout0_A_0 (F := Ideal) c i arg1 harg1 arg2 harg2 arg3 harg3 arg4 harg4 arg5 harg5 arg6 harg6 arg7 harg7 hc0 x0 x1 x2 x3 x4 y = modAt (X (y 0).val) (G 0) (S 0) (T 0) (y 1).val := by
  have p : Holds2 (A := 256) (B := 4096) (e := .bf16) (fun r j => modAt (X r) (G 0) (S 0) (T 0) j) (kernelRun0_A (F := Ideal) c i arg1 harg1 arg2 harg2 arg3 harg3 arg4 harg4 arg5 harg5 arg6 harg6 arg7 harg7 hc0 x0 x1 x2 x3 x4).2.1 :=
    whole_held fun y => kept_rows _ _ _ _ X G S T (fun y => (whole_read harg1 _ x0 y).trans (hx y)) (fun y => (whole_read harg2 _ x1 y).trans (hg y))
      (fun y => (whole_read harg3 _ x2 y).trans (hs y)) (fun y => (whole_read harg4 _ x3 y).trans (hh y)) y
  have q := scover0_A_0 (F := Ideal) c i arg1 harg1 arg2 harg2 arg3 harg3 arg4 harg4 arg5 harg5 arg6 harg6 arg7 harg7 hc0 x0 x1 x2 x3 x4
  unfold sout0_A_0
  generalize (kernelRun0_A (F := Ideal) c i arg1 harg1 arg2 harg2 arg3 harg3 arg4 harg4 arg5 harg5 arg6 harg6 arg7 harg7 hc0 x0 x1 x2 x3 x4).2.1 = L at p q
  exact read2 (A := 256) (B := 4096) (e := .bf16) VS0_0 _ (fun r j => modAt (X r) (G 0) (S 0) (T 0) j) L p q y

/-- The block the first point leaves. -/
theorem first_at (hc0 : cond0_0 i) (hx : ∀ y, x0 y = X (y 0).val (y 1).val) (hg : ∀ y, x1 y = G (y 0).val (y 1).val)
    (hs : ∀ y, x2 y = S (y 0).val (y 1).val) (hh : ∀ y, x3 y = T (y 0).val (y 1).val) (hw : ∀ y, x4 y = W (y 0).val (y 1).val) (y : S256x1024.Idx) :
    out0_A_5 (F := Ideal) c i arg1 harg1 arg2 harg2 arg3 harg3 arg4 harg4 arg5 harg5 arg6 harg6 arg7 harg7 hc0 x0 x1 x2 x3 x4 y = ctxAt X (G 0) (S 0) (T 0) W (y 0).val (y 1).val := by
  have p : Holds2 (A := 256) (B := 1024) (e := .bf16) (ctxAt X (G 0) (S 0) (T 0) W) (kernelRun0_A (F := Ideal) c i arg1 harg1 arg2 harg2 arg3 harg3 arg4 harg4 arg5 harg5 arg6 harg6 arg7 harg7 hc0 x0 x1 x2 x3 x4).1 :=
    whole_held fun y => block_of _ _ (fun r j => modAt (X r) (G 0) (S 0) (T 0) j) W (fun y => (whole_back _ _ _ _ y).trans
      (kept_rows _ _ _ _ X G S T (fun y => (whole_read harg1 _ x0 y).trans (hx y)) (fun y => (whole_read harg2 _ x1 y).trans (hg y))
      (fun y => (whole_read harg3 _ x2 y).trans (hs y)) (fun y => (whole_read harg4 _ x3 y).trans (hh y)) y))
      (fun y => (whole_read harg5 _ x4 y).trans (hw y)) y
  have q := cover0_A_5 (F := Ideal) c i arg1 harg1 arg2 harg2 arg3 harg3 arg4 harg4 arg5 harg5 arg6 harg6 arg7 harg7 hc0 x0 x1 x2 x3 x4
  unfold out0_A_5
  generalize (kernelRun0_A (F := Ideal) c i arg1 harg1 arg2 harg2 arg3 harg3 arg4 harg4 arg5 harg5 arg6 harg6 arg7 harg7 hc0 x0 x1 x2 x3 x4).1 = L at p q
  exact read2 (A := 256) (B := 1024) (e := .bf16) VO0_5 _ (ctxAt X (G 0) (S 0) (T 0) W) L p q y

/-- The block a later point leaves, of the rows kept. -/
theorem later_at (hc0 : ¬cond0_0 i) (hp : ∀ y, xs y = P (y 0).val (y 1).val) (hw : ∀ y, x4 y = W (y 0).val (y 1).val) (y : S256x1024.Idx) :
    out0_B_5 (F := Ideal) c i arg1 harg1 arg2 harg2 arg3 harg3 arg4 harg4 arg5 harg5 arg6 harg6 arg7 harg7 hc0 x0 x1 x2 x3 x4 xs y = ∑ k : Fin 4096, P (y 0).val k.val * W k.val (y 1).val := by
  have p : Holds2 (A := 256) (B := 1024) (e := .bf16) (fun r j => ∑ k : Fin 4096, P r k.val * W k.val j) (kernelRun0_B (F := Ideal) c i arg1 harg1 arg2 harg2 arg3 harg3 arg4 harg4 arg5 harg5 arg6 harg6 arg7 harg7 hc0 x0 x1 x2 x3 x4 xs).1 :=
    whole_held fun y => block_of _ _ P W (fun y => (whole_read harg7 _ xs y).trans (hp y)) (fun y => (whole_read harg5 _ x4 y).trans (hw y)) y
  have q := cover0_B_5 (F := Ideal) c i arg1 harg1 arg2 harg2 arg3 harg3 arg4 harg4 arg5 harg5 arg6 harg6 arg7 harg7 hc0 x0 x1 x2 x3 x4 xs
  unfold out0_B_5
  generalize (kernelRun0_B (F := Ideal) c i arg1 harg1 arg2 harg2 arg3 harg3 arg4 harg4 arg5 harg5 arg6 harg6 arg7 harg7 hc0 x0 x1 x2 x3 x4 xs).1 = L at p q
  exact read2 (A := 256) (B := 1024) (e := .bf16) VO0_5 _ (fun r j => ∑ k : Fin 4096, P r k.val * W k.val j) L p q y

end

section
variable (m : (ℓ : Loc nD τ sig) → Buf (Elt Ideal) ℓ)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 6 + t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)

theorem blk0 (c : Dev nD) (t : Fin cfg0.N) (y : S256x4096.Idx) : iblk (F := Ideal) m c 0 t y
    = at2 (a := 256) (b := 4096) (m ((c : Thread nD τ).loc main_arg0)) ((y 0).val) ((y 1).val) := by
  obtain ⟨e0, e1⟩ := idx0 t
  rw [← V_main_arg0 m c]
  show V m c main_arg0 (((cfg0.win 0).blk t).view.emb y) = _
  refine (at2_eq (a := 256) (b := 4096) (V m c main_arg0) _).trans ?_
  show at2 (V m c main_arg0) (win0_0.index t (0 : Fin 2) * 256 + 1 * (y 0).val) (win0_0.index t (1 : Fin 2) * 4096 + 1 * (y 1).val) = _
  rw [e0, e1]; congr 1 <;> ring

theorem blk1 (c : Dev nD) (t : Fin cfg0.N) (y : S1x4096.Idx) : iblk (F := Ideal) m c 1 t y
    = at2 (a := 1) (b := 4096) (m ((c : Thread nD τ).loc main_arg1)) ((y 0).val) ((y 1).val) := by
  obtain ⟨e0, e1⟩ := idx1 t
  rw [← V_main_arg1 m c]
  show V m c main_arg1 (((cfg0.win 1).blk t).view.emb y) = _
  refine (at2_eq (a := 1) (b := 4096) (V m c main_arg1) _).trans ?_
  show at2 (V m c main_arg1) (win0_1.index t (0 : Fin 2) * 1 + 1 * (y 0).val) (win0_1.index t (1 : Fin 2) * 4096 + 1 * (y 1).val) = _
  rw [e0, e1]; congr 1 <;> ring

theorem blk2 (c : Dev nD) (t : Fin cfg0.N) (y : S1x4096.Idx) : iblk (F := Ideal) m c 2 t y
    = at2 (a := 1) (b := 4096) (m ((c : Thread nD τ).loc main_arg2)) ((y 0).val) ((y 1).val) := by
  obtain ⟨e0, e1⟩ := idx2 t
  rw [← V_main_arg2 m c]
  show V m c main_arg2 (((cfg0.win 2).blk t).view.emb y) = _
  refine (at2_eq (a := 1) (b := 4096) (V m c main_arg2) _).trans ?_
  show at2 (V m c main_arg2) (win0_2.index t (0 : Fin 2) * 1 + 1 * (y 0).val) (win0_2.index t (1 : Fin 2) * 4096 + 1 * (y 1).val) = _
  rw [e0, e1]; congr 1 <;> ring

theorem blk3 (c : Dev nD) (t : Fin cfg0.N) (y : S1x4096.Idx) : iblk (F := Ideal) m c 3 t y
    = at2 (a := 1) (b := 4096) (m ((c : Thread nD τ).loc main_arg3)) ((y 0).val) ((y 1).val) := by
  obtain ⟨e0, e1⟩ := idx3 t
  rw [← V_main_arg3 m c]
  show V m c main_arg3 (((cfg0.win 3).blk t).view.emb y) = _
  refine (at2_eq (a := 1) (b := 4096) (V m c main_arg3) _).trans ?_
  show at2 (V m c main_arg3) (win0_3.index t (0 : Fin 2) * 1 + 1 * (y 0).val) (win0_3.index t (1 : Fin 2) * 4096 + 1 * (y 1).val) = _
  rw [e0, e1]; congr 1 <;> ring

theorem blk4 (c : Dev nD) (t : Fin cfg0.N) (y : S4096x1024.Idx) : iblk (F := Ideal) m c 4 t y
    = at2 (a := 4096) (b := 10240) (m ((c : Thread nD τ).loc main_arg4)) ((y 0).val) (6144 + (1024 * t.val + (y 1).val)) := by
  obtain ⟨e0, e1⟩ := idx4 t
  rw [← V_main_arg4 m c]
  show V m c main_arg4 (((cfg0.win 4).blk t).view.emb y) = _
  refine (at2_eq (a := 4096) (b := 10240) (V m c main_arg4) _).trans ?_
  show at2 (V m c main_arg4) (win0_4.index t (0 : Fin 2) * 4096 + 1 * (y 0).val) (win0_4.index t (1 : Fin 2) * 1024 + 1 * (y 1).val) = _
  rw [e0, e1]; congr 1 <;> ring

/-- The first point keeps the modulated rows. -/
theorem kept_first (c : Dev nD) (t : Fin cfg0.N) (h : t.val % 4 = 0) (y : S256x4096.Idx) : (outsAt0 (F := Ideal) m c t.val t.isLt).2 y
    = modAt (at2 (a := 256) (b := 4096) (m ((c : Thread nD τ).loc main_arg0)) (y 0).val) (at2 (a := 1) (b := 4096) (m ((c : Thread nD τ).loc main_arg1)) 0) (at2 (a := 1) (b := 4096) (m ((c : Thread nD τ).loc main_arg2)) 0) (at2 (a := 1) (b := 4096) (m ((c : Thread nD τ).loc main_arg3)) 0) (y 1).val := by
  rw [outsAt0_A m c t h]
  have e := scratch_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)
    (at2 (a := 256) (b := 4096) (m ((c : Thread nD τ).loc main_arg0))) (at2 (a := 1) (b := 4096) (m ((c : Thread nD τ).loc main_arg1))) (at2 (a := 1) (b := 4096) (m ((c : Thread nD τ).loc main_arg2))) (at2 (a := 1) (b := 4096) (m ((c : Thread nD τ).loc main_arg3))) ((hcond0_0 t).mpr h) (blk0 m c t) (blk1 m c t) (blk2 m c t) (blk3 m c t) y
  dsimp only
  exact e

/-- A later point keeps what it finds. -/
theorem kept_later (c : Dev nD) (t : Fin cfg0.N) (h : ¬t.val % 4 = 0) : (outsAt0 (F := Ideal) m c t.val t.isLt).2
    = (outsAt0 (F := Ideal) m c (t.val - 1) (Nat.lt_of_le_of_lt (Nat.sub_le _ _) t.isLt)).2 := by
  rw [outsAt0_B m c t h]
  rfl

/-- Every point leaves the modulated rows kept. -/
theorem kept (c : Dev nD) : ∀ (n : ℕ) (hn : n < cfg0.N) (y : S256x4096.Idx), (outsAt0 (F := Ideal) m c n hn).2 y
    = modAt (at2 (a := 256) (b := 4096) (m ((c : Thread nD τ).loc main_arg0)) (y 0).val) (at2 (a := 1) (b := 4096) (m ((c : Thread nD τ).loc main_arg1)) 0) (at2 (a := 1) (b := 4096) (m ((c : Thread nD τ).loc main_arg2)) 0) (at2 (a := 1) (b := 4096) (m ((c : Thread nD τ).loc main_arg3)) 0) (y 1).val := by
  intro n
  induction n with
  | zero => exact fun hn y => kept_first m c ⟨0, hn⟩ (Nat.zero_mod _) y
  | succ n ih =>
    intro hn y
    by_cases h : (n + 1) % 4 = 0
    · exact kept_first m c ⟨n + 1, hn⟩ h y
    · exact (congrFun (kept_later m c ⟨n + 1, hn⟩ h) y).trans (ih _ y)

/-- The block of keys and values that the kernel leaves at a point. -/
theorem block5 (c : Dev nD) (t : Fin cfg0.N) (y : S256x1024.Idx) : (outsAt0 (F := Ideal) m c t.val t.isLt).1 y
    = ctxAt (at2 (a := 256) (b := 4096) (m ((c : Thread nD τ).loc main_arg0))) (at2 (a := 1) (b := 4096) (m ((c : Thread nD τ).loc main_arg1)) 0) (at2 (a := 1) (b := 4096) (m ((c : Thread nD τ).loc main_arg2)) 0) (at2 (a := 1) (b := 4096) (m ((c : Thread nD τ).loc main_arg3)) 0)
      (fun k j => at2 (a := 4096) (b := 10240) (m ((c : Thread nD τ).loc main_arg4)) k (6144 + (1024 * t.val + j))) (y 0).val (y 1).val := by
  by_cases h : t.val % 4 = 0
  · rw [outsAt0_A m c t h]
    have e := first_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)
      (at2 (a := 256) (b := 4096) (m ((c : Thread nD τ).loc main_arg0))) (at2 (a := 1) (b := 4096) (m ((c : Thread nD τ).loc main_arg1))) (at2 (a := 1) (b := 4096) (m ((c : Thread nD τ).loc main_arg2))) (at2 (a := 1) (b := 4096) (m ((c : Thread nD τ).loc main_arg3))) (fun k j => at2 (a := 4096) (b := 10240) (m ((c : Thread nD τ).loc main_arg4)) k (6144 + (1024 * t.val + j))) ((hcond0_0 t).mpr h)
      (blk0 m c t) (blk1 m c t) (blk2 m c t) (blk3 m c t) (blk4 m c t) y
    dsimp only
    exact e
  · have k := kept m c (t.val - 1) (Nat.lt_of_le_of_lt (Nat.sub_le _ _) t.isLt)
    rw [outsAt0_B m c t h]
    have e := later_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ (fun k j => at2 (a := 4096) (b := 10240) (m ((c : Thread nD τ).loc main_arg4)) k (6144 + (1024 * t.val + j)))
      (fun r j => modAt (at2 (a := 256) (b := 4096) (m ((c : Thread nD τ).loc main_arg0)) r) (at2 (a := 1) (b := 4096) (m ((c : Thread nD τ).loc main_arg1)) 0) (at2 (a := 1) (b := 4096) (m ((c : Thread nD τ).loc main_arg2)) 0) (at2 (a := 1) (b := 4096) (m ((c : Thread nD τ).loc main_arg3)) 0) j) (fun z => h ((hcond0_0 t).mp z)) k (blk4 m c t) y
    dsimp only
    exact e

/-- The keys and values of the context. -/
theorem final5 (c : Dev nD) : (dats (F := Ideal) m 0 c).arrAt 5 cfg0.N = fun i : S256x4096.Idx =>
    ctxAt (at2 (a := 256) (b := 4096) (m ((c : Thread nD τ).loc main_arg0))) (at2 (a := 1) (b := 4096) (m ((c : Thread nD τ).loc main_arg1)) 0) (at2 (a := 1) (b := 4096) (m ((c : Thread nD τ).loc main_arg2)) 0) (at2 (a := 1) (b := 4096) (m ((c : Thread nD τ).loc main_arg3)) 0)
      (fun k j => at2 (a := 4096) (b := 10240) (m ((c : Thread nD τ).loc main_arg4)) k (6144 + j)) (i 0).val (i 1).val := by
  refine (dats (F := Ideal) m 0 c).arrAt_eq_of_covers 5 _ (by decide +kernel) fun t hf y => ?_
  show (dats (F := Ideal) m 0 c).after 5 t y =
    ctxAt (at2 (a := 256) (b := 4096) (m ((c : Thread nD τ).loc main_arg0))) (at2 (a := 1) (b := 4096) (m ((c : Thread nD τ).loc main_arg1)) 0) (at2 (a := 1) (b := 4096) (m ((c : Thread nD τ).loc main_arg2)) 0) (at2 (a := 1) (b := 4096) (m ((c : Thread nD τ).loc main_arg3)) 0)
      (fun k j => at2 (a := 4096) (b := 10240) (m ((c : Thread nD τ).loc main_arg4)) k (6144 + j)) (((cfg0.win 5).blk t).view.emb y 0).val (((cfg0.win 5).blk t).view.emb y 1).val
  obtain ⟨e0, e1⟩ := idx5 t
  have h0 : (((cfg0.win 5).blk t).view.emb y 0).val = win0_5.index t (0 : Fin 2) * 256 + 1 * (y 0).val := rfl
  have h1 : (((cfg0.win 5).blk t).view.emb y 1).val = win0_5.index t (1 : Fin 2) * 1024 + 1 * (y 1).val := rfl
  rw [after0_5, h0, h1, e0, e1, Nat.one_mul, Nat.one_mul, Nat.mul_comm _ 1024, Nat.zero_mul, Nat.zero_add]
  exact block5 m c t y

end

end Cert.Lin.Context

namespace Cert.Proof

open Idealize.ShloMosaic Idealize.ShloMosaic.TcCoe Idealize.SL.Sem

theorem reference7_frame : Cert.quiescent_Reference7Ideal (hReference7Ideal := Cert.Reference7Ideal.Gen.facts) := fun m g _ =>
  (θ_run (Cert.Reference7Ideal.defs (F := Ideal)) _ _).mono (fun r h => And.intro (fun c => (h c).2)
    (sem_eq_zero_of_no_sems (by decide) r.2)) (Cert.Reference7Ideal.Value.run (F := Ideal) m g)

/-- The context's keys and values are the reference's. -/
theorem values7 : Cert.algebraic_Kernel7Ideal_Reference7Ideal (hKernel7Ideal := Cert.Kernel7Ideal.Gen.facts)
    (hReference7Ideal := Cert.Reference7Ideal.Gen.facts) := by
  intro m g m' g' _ ha
  refine ⟨_, (θ_run _ _ _).mono (fun _ h c => h c) (Cert.Kernel7Ideal.Value.run_blocks (F := Ideal) m g),
    (θ_run _ _ _).mono (fun r h c => ?_) (Cert.Reference7Ideal.Value.run (F := Ideal) m' g')⟩
  obtain ⟨e0, e1, e2, e3, e4⟩ := ha c
  obtain ⟨h0, hr⟩ := h c
  refine ⟨h0.trans ?_, hr⟩
  rw [e0, e1, e2, e3, e4]
  exact (Cert.Reference7Ideal.Read.val_main_v21_eq (F := Ideal) _ _ _ _ _).trans
    ((Cert.Lin.Context.final5 m c).trans (funext fun i => (Cert.Lin.Context.ref21 _ _ _ _ _ i).symm)).symm

end Cert.Proof

end
-- ==== Proof.NormMod.lean ====
/- The normalised and modulated rows: the kernel's result and the reference's. -/
module

public import proofs.«01_k».proof.Proof.Modulate
public import proofs.«01_k».proof.Proof.Gen.Kernel8Ideal.Value
public import proofs.«01_k».proof.Proof.Gen.Reference8Ideal.Run
public import proofs.«01_k».proof.Proof.Gen.Reference8Ideal.Read
public import proofs.«01_k».proof.Defs

@[expose] public section

set_option maxRecDepth 20000

noncomputable section

namespace Cert.Lin.Rows

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel8Ideal Cert.Kernel8Ideal.Gen Cert.Attn

/-- The modulated rows of an array. -/
def rowsAt (x : (⟨2, ![8192, 4096]⟩ : Shape).Idx → EReal) (g s h : (⟨2, ![1, 4096]⟩ : Shape).Idx → EReal) (r j : ℕ) : EReal :=
  modAt (at2 x r) (at2 g 0) (at2 s 0) (at2 h 0) j

section
variable (x : (⟨2, ![8192, 4096]⟩ : Shape).Idx → EReal) (g s h : (⟨2, ![1, 4096]⟩ : Shape).Idx → EReal)

theorem ref7 (i : (⟨2, ![8192, 1]⟩ : Shape).Idx) : Cert.Reference8Ideal.Read.val_main_v7 (F := Ideal) x i = scaleOf (at2 x (i 0).val) := by
  rw [Cert.Reference8Ideal.Read.val_main_v7_apply, Cert.Reference8Ideal.Read.val_main_v6_apply, Cert.Reference8Ideal.Read.val_main_v4_apply,
    Cert.Reference8Ideal.Read.val_main_v2_apply, Cert.Reference8Ideal.Read.val_main_v1_apply, Cert.Reference8Ideal.Read.val_main_v3_apply,
    Cert.Reference8Ideal.Read.val_main_cst_0_apply, Cert.Reference8Ideal.Read.val_main_v5_apply, Cert.Reference8Ideal.Read.val_main_cst_1_apply,
    Cert.Reference8Ideal.Read.val_main_cst_apply]
  refine congrArg (fun u : EReal => Ideal.rsqrt (Ideal.div u (Ideal.ofBits .f32 0x45800000#32) + Ideal.ofBits .f32 0x358637BD#32)) ?_
  refine (congrArg (· + _) zero_word).trans ((zero_add _).trans ?_)
  refine Finset.sum_congr rfl fun k _ => ?_
  rw [Cert.Reference8Ideal.Read.val_main_v0_apply]
  exact congrArg₂ (· * ·) (at2_eq x _) (at2_eq x _)

theorem ref17 (i : (⟨2, ![8192, 4096]⟩ : Shape).Idx) : Cert.Reference8Ideal.Read.val_main_v17 (F := Ideal) x g s h i
    = rowsAt x g s h (i 0).val (i 1).val := by
  rw [Cert.Reference8Ideal.Read.val_main_v17_apply, Cert.Reference8Ideal.Read.val_main_v15_apply, Cert.Reference8Ideal.Read.val_main_v11_apply,
    Cert.Reference8Ideal.Read.val_main_v9_apply, Cert.Reference8Ideal.Read.val_main_v8_apply, ref7, Cert.Reference8Ideal.Read.val_main_v10_apply,
    Cert.Reference8Ideal.Read.val_main_v14_apply, Cert.Reference8Ideal.Read.val_main_v13_apply, Cert.Reference8Ideal.Read.val_main_v12_apply,
    Cert.Reference8Ideal.Read.val_main_cst_2_apply, Cert.Reference8Ideal.Read.val_main_v16_apply]
  exact congrArg₂ (fun a b : EReal => a + b) (congrArg₂ (fun a b : EReal => a * b) (congrArg₂ (fun a b : EReal => a * b)
    (congrArg₂ (fun a b : EReal => a * b) (at2_eq x i) rfl) (at2_eq g _)) (congrArg (Ideal.ofBits .f32 0x3F800000#32 + ·) (at2_eq s _))) (at2_eq h _)

end

section
variable (m : (ℓ : Loc nD τ sig) → Buf (Elt Ideal) ℓ)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem blk0 (c : Dev nD) (t : Fin cfg0.N) (y : S256x4096.Idx) : iblk (F := Ideal) m c 0 t y
    = at2 (a := 8192) (b := 4096) (m ((c : Thread nD τ).loc main_arg0)) (256 * t.val + (y 0).val) (y 1).val := by
  obtain ⟨e0, e1⟩ := idx0 t
  rw [← V_main_arg0 m c]
  show V m c main_arg0 (((cfg0.win 0).blk t).view.emb y) = _
  refine (at2_eq (a := 8192) (b := 4096) (V m c main_arg0) _).trans ?_
  show at2 (V m c main_arg0) (win0_0.index t (0 : Fin 2) * 256 + 1 * (y 0).val) (win0_0.index t (1 : Fin 2) * 4096 + 1 * (y 1).val) = _
  rw [e0, e1]; congr 1 <;> ring

theorem blk1 (c : Dev nD) (t : Fin cfg0.N) (y : S1x4096.Idx) : iblk (F := Ideal) m c 1 t y
    = at2 (a := 1) (b := 4096) (m ((c : Thread nD τ).loc main_arg1)) (y 0).val (y 1).val := by
  obtain ⟨e0, e1⟩ := idx1 t
  rw [← V_main_arg1 m c]
  show V m c main_arg1 (((cfg0.win 1).blk t).view.emb y) = _
  refine (at2_eq (a := 1) (b := 4096) (V m c main_arg1) _).trans ?_
  show at2 (V m c main_arg1) (win0_1.index t (0 : Fin 2) * 1 + 1 * (y 0).val) (win0_1.index t (1 : Fin 2) * 4096 + 1 * (y 1).val) = _
  rw [e0, e1]; congr 1 <;> ring

theorem blk2 (c : Dev nD) (t : Fin cfg0.N) (y : S1x4096.Idx) : iblk (F := Ideal) m c 2 t y
    = at2 (a := 1) (b := 4096) (m ((c : Thread nD τ).loc main_arg2)) (y 0).val (y 1).val := by
  obtain ⟨e0, e1⟩ := idx2 t
  rw [← V_main_arg2 m c]
  show V m c main_arg2 (((cfg0.win 2).blk t).view.emb y) = _
  refine (at2_eq (a := 1) (b := 4096) (V m c main_arg2) _).trans ?_
  show at2 (V m c main_arg2) (win0_2.index t (0 : Fin 2) * 1 + 1 * (y 0).val) (win0_2.index t (1 : Fin 2) * 4096 + 1 * (y 1).val) = _
  rw [e0, e1]; congr 1 <;> ring

theorem blk3 (c : Dev nD) (t : Fin cfg0.N) (y : S1x4096.Idx) : iblk (F := Ideal) m c 3 t y
    = at2 (a := 1) (b := 4096) (m ((c : Thread nD τ).loc main_arg3)) (y 0).val (y 1).val := by
  obtain ⟨e0, e1⟩ := idx3 t
  rw [← V_main_arg3 m c]
  show V m c main_arg3 (((cfg0.win 3).blk t).view.emb y) = _
  refine (at2_eq (a := 1) (b := 4096) (V m c main_arg3) _).trans ?_
  show at2 (V m c main_arg3) (win0_3.index t (0 : Fin 2) * 1 + 1 * (y 0).val) (win0_3.index t (1 : Fin 2) * 4096 + 1 * (y 1).val) = _
  rw [e0, e1]; congr 1 <;> ring

/-- The block of rows that the kernel leaves at a point. -/
theorem block4 (c : Dev nD) (t : Fin cfg0.N) (y : S256x4096.Idx) :
    out0_4 (F := Ideal) (iblk m c 0 t) (iblk m c 1 t) (iblk m c 2 t) (iblk m c 3 t) y
      = rowsAt (m ((c : Thread nD τ).loc main_arg0)) (m ((c : Thread nD τ).loc main_arg1)) (m ((c : Thread nD τ).loc main_arg2)) (m ((c : Thread nD τ).loc main_arg3)) (256 * t.val + (y 0).val) (y 1).val := by
  unfold out0_4
  rw [stored, loaded, loaded, loaded, loaded]
  unfold k0_pay1
  exact modulated (M := 256) _ (fun r k => at2 (a := 8192) (b := 4096) (m ((c : Thread nD τ).loc main_arg0)) (256 * t.val + r) k) (blk0 m c t) _ _ _ _ _ _ _ _ _ _ _
    (at2 (a := 1) (b := 4096) (m ((c : Thread nD τ).loc main_arg1))) (at2 (a := 1) (b := 4096) (m ((c : Thread nD τ).loc main_arg2))) (at2 (a := 1) (b := 4096) (m ((c : Thread nD τ).loc main_arg3)))
    (blk1 m c t) (blk2 m c t) (blk3 m c t) _ y

/-- The modulated rows. -/
theorem final4 (c : Dev nD) : (dats (F := Ideal) m 0 c).arrAt 4 cfg0.N = fun i : S8192x4096.Idx =>
    rowsAt (m ((c : Thread nD τ).loc main_arg0)) (m ((c : Thread nD τ).loc main_arg1)) (m ((c : Thread nD τ).loc main_arg2)) (m ((c : Thread nD τ).loc main_arg3)) (i 0).val (i 1).val := by
  refine (dats (F := Ideal) m 0 c).arrAt_eq_of_covers 4 _ (by decide +kernel) fun t hf y => ?_
  show (dats (F := Ideal) m 0 c).after 4 t y =
    rowsAt (m ((c : Thread nD τ).loc main_arg0)) (m ((c : Thread nD τ).loc main_arg1)) (m ((c : Thread nD τ).loc main_arg2)) (m ((c : Thread nD τ).loc main_arg3)) (((cfg0.win 4).blk t).view.emb y 0).val (((cfg0.win 4).blk t).view.emb y 1).val
  obtain ⟨e0, e1⟩ := idx4 t
  have h0 : (((cfg0.win 4).blk t).view.emb y 0).val = win0_4.index t (0 : Fin 2) * 256 + 1 * (y 0).val := rfl
  have h1 : (((cfg0.win 4).blk t).view.emb y 1).val = win0_4.index t (1 : Fin 2) * 4096 + 1 * (y 1).val := rfl
  rw [after0_4, h0, h1, e0, e1, Nat.one_mul, Nat.one_mul, Nat.mul_comm _ 256, Nat.zero_mul, Nat.zero_add]
  exact block4 m c t y

end

end Cert.Lin.Rows

namespace Cert.Proof

open Idealize.ShloMosaic Idealize.ShloMosaic.TcCoe Idealize.SL.Sem

theorem reference8_frame : Cert.quiescent_Reference8Ideal (hReference8Ideal := Cert.Reference8Ideal.Gen.facts) := fun m g _ =>
  (θ_run (Cert.Reference8Ideal.defs (F := Ideal)) _ _).mono (fun r h => And.intro (fun c => (h c).2)
    (sem_eq_zero_of_no_sems (by decide) r.2)) (Cert.Reference8Ideal.Value.run (F := Ideal) m g)

/-- The normalised and modulated rows are the reference's. -/
theorem values8 : Cert.algebraic_Kernel8Ideal_Reference8Ideal (hKernel8Ideal := Cert.Kernel8Ideal.Gen.facts)
    (hReference8Ideal := Cert.Reference8Ideal.Gen.facts) := by
  intro m g m' g' _ ha
  refine ⟨_, (θ_run _ _ _).mono (fun _ h c => h c) (Cert.Kernel8Ideal.Value.run_blocks (F := Ideal) m g),
    (θ_run _ _ _).mono (fun r h c => ?_) (Cert.Reference8Ideal.Value.run (F := Ideal) m' g')⟩
  obtain ⟨e0, e1, e2, e3⟩ := ha c
  obtain ⟨h0, hr⟩ := h c
  refine ⟨h0.trans ?_, hr⟩
  rw [e0, e1, e2, e3]
  exact (Cert.Reference8Ideal.Read.val_main_v18_eq (F := Ideal) _ _ _ _).trans
    ((Cert.Lin.Rows.final4 m c).trans (funext fun i => (Cert.Lin.Rows.ref17 _ _ _ _ i).symm)).symm

end Cert.Proof

end
-- ==== Proof.Adaln.lean ====
/- The parameters the rows are modulated by, made of the conditioning: the kernel's result and the reference's. -/
module

public import proofs.«01_k».proof.Proof.Silu
public import proofs.«01_k».proof.Proof.Dense
public import proofs.«01_k».proof.Proof.Gen.Kernel9Ideal.Value
public import proofs.«01_k».proof.Proof.Gen.Reference9Ideal.Run
public import proofs.«01_k».proof.Proof.Gen.Reference9Ideal.Read
public import proofs.«01_k».proof.Defs

@[expose] public section

set_option maxRecDepth 20000

noncomputable section

namespace Cert.Lin.Params

open Idealize.ShloMosaic hiding ix1 ix2 ix3 ix4 eq_ix1 eq_ix2 eq_ix3 eq_ix4
open Idealize.ShloMosaic.ValueIdx Idealize.ShloMosaic.TcCoe Idealize.ShloMosaic.StableHlo Cert.Kernel9Ideal Cert.Kernel9Ideal.Gen Cert.Attn

/-- A number by one over one plus the exponential of its negative. -/
def gated (x : EReal) : EReal := x * Ideal.logistic x

/-- A column of parameters of a row of the conditioning. -/
def paramAt (x : ℕ → ℕ → EReal) (w b : ℕ → ℕ → EReal) (r j : ℕ) : EReal := (∑ k : Fin 4096, gated (x r k.val) * w k.val j) + b 0 j

/-- The reference's parameters. -/
theorem ref3 (x : (⟨2, ![16, 4096]⟩ : Shape).Idx → EReal) (w : (⟨2, ![4096, 24576]⟩ : Shape).Idx → EReal) (b : (⟨2, ![1, 24576]⟩ : Shape).Idx → EReal)
    (i : (⟨2, ![16, 24576]⟩ : Shape).Idx) : Cert.Reference9Ideal.Read.val_main_v3 (F := Ideal) x w b i = paramAt (at2 x) (at2 w) (at2 b) (i 0).val (i 1).val := by
  rw [Cert.Reference9Ideal.Read.val_main_v3_apply, Cert.Reference9Ideal.Read.val_main_v1_apply, Cert.Reference9Ideal.Read.val_main_v2_apply]
  refine congrArg₂ (fun a b : EReal => a + b) (Finset.sum_congr rfl fun k _ => congrArg₂ (fun a b : EReal => a * b) ?_ (at2_eq w _)) (at2_eq b _)
  rw [Cert.Reference9Ideal.Read.val_main_v0_apply, Cert.Reference9Ideal.Read.val_main_call0_v5_apply, Cert.Reference9Ideal.Read.val_main_call0_v4_apply,
    Cert.Reference9Ideal.Read.val_main_call0_cst_0_apply, Cert.Reference9Ideal.Read.val_main_call0_v3_apply, Cert.Reference9Ideal.Read.val_main_call0_v2_apply,
    Cert.Reference9Ideal.Read.val_main_call0_cst_apply, Cert.Reference9Ideal.Read.val_main_call0_v1_apply, Cert.Reference9Ideal.Read.val_main_call0_v0_apply,
    at2_eq x _]
  refine congrArg (at2 x (i 0).val k.val * ·) ?_
  show Ideal.div (Ideal.ofBits .f32 0x3F800000#32) (Ideal.ofBits .f32 0x3F800000#32 + Ideal.exp (-at2 x (i 0).val k.val)) = _
  rw [one_word]
  rfl

section
variable (m : (ℓ : Loc nD τ sig) → Buf (Elt Ideal) ℓ)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)

theorem blk0 (c : Dev nD) (t : Fin cfg0.N) (y : S16x4096.Idx) : iblk (F := Ideal) m c 0 t y
    = at2 (a := 16) (b := 4096) (m ((c : Thread nD τ).loc main_arg0)) (y 0).val (y 1).val := by
  obtain ⟨e0, e1⟩ := idx0 t
  rw [← V_main_arg0 m c]
  show V m c main_arg0 (((cfg0.win 0).blk t).view.emb y) = _
  refine (at2_eq (a := 16) (b := 4096) (V m c main_arg0) _).trans ?_
  show at2 (V m c main_arg0) (win0_0.index t (0 : Fin 2) * 16 + 1 * (y 0).val) (win0_0.index t (1 : Fin 2) * 4096 + 1 * (y 1).val) = _
  rw [e0, e1]; congr 1 <;> ring

theorem blk1 (c : Dev nD) (t : Fin cfg0.N) (y : S4096x512.Idx) : iblk (F := Ideal) m c 1 t y
    = at2 (a := 4096) (b := 24576) (m ((c : Thread nD τ).loc main_arg1)) (y 0).val (512 * t.val + (y 1).val) := by
  obtain ⟨e0, e1⟩ := idx1 t
  rw [← V_main_arg1 m c]
  show V m c main_arg1 (((cfg0.win 1).blk t).view.emb y) = _
  refine (at2_eq (a := 4096) (b := 24576) (V m c main_arg1) _).trans ?_
  show at2 (V m c main_arg1) (win0_1.index t (0 : Fin 2) * 4096 + 1 * (y 0).val) (win0_1.index t (1 : Fin 2) * 512 + 1 * (y 1).val) = _
  rw [e0, e1]; congr 1 <;> ring

theorem blk2 (c : Dev nD) (t : Fin cfg0.N) (y : S1x512.Idx) : iblk (F := Ideal) m c 2 t y
    = at2 (a := 1) (b := 24576) (m ((c : Thread nD τ).loc main_arg2)) (y 0).val (512 * t.val + (y 1).val) := by
  obtain ⟨e0, e1⟩ := idx2 t
  rw [← V_main_arg2 m c]
  show V m c main_arg2 (((cfg0.win 2).blk t).view.emb y) = _
  refine (at2_eq (a := 1) (b := 24576) (V m c main_arg2) _).trans ?_
  show at2 (V m c main_arg2) (win0_2.index t (0 : Fin 2) * 1 + 1 * (y 0).val) (win0_2.index t (1 : Fin 2) * 512 + 1 * (y 1).val) = _
  rw [e0, e1]; congr 1 <;> ring

/-- What the kernel stores of a block. -/
theorem params (x : Vec Ideal S16x4096 .f32) (w : Vec Ideal S4096x512 .f32) (b : Vec Ideal S1x512 .f32) (X W B : ℕ → ℕ → EReal)
    (hx : ∀ y, x y = X (y 0).val (y 1).val) (hw : ∀ y, w y = W (y 0).val (y 1).val) (hb : ∀ y, b y = B (y 0).val (y 1).val) (y : S16x512.Idx) :
    k0_pay1 (F := Ideal) x w b y = paramAt X W B (y 0).val (y 1).val := by
  unfold k0_pay1
  refine congrArg₂ (fun a b : EReal => a + b) (mm (M := 16) (K := 4096) (N := 512) (φ₁ := .bf16) (φ₂ := .bf16) _ _ (fun r k => gated (X r k)) W
    (fun y => ?_) hw y) ?_
  · show x y * Ideal.logistic (x y) = _
    rw [hx]
    rfl
  · obtain ⟨r, c, rfl⟩ : ∃ (a : Fin 16) (b : Fin 512), y = ix2 a b := ⟨_, _, eq_ix2 y⟩
    refine (broadcastTo_1b_ab_apply _ _ _ _).trans ((hb _).trans rfl)

/-- The block of parameters that the kernel leaves at a point. -/
theorem block3 (c : Dev nD) (t : Fin cfg0.N) (y : S16x512.Idx) :
    out0_3 (F := Ideal) (iblk m c 0 t) (iblk m c 1 t) (iblk m c 2 t) y
      = paramAt (at2 (a := 16) (b := 4096) (m ((c : Thread nD τ).loc main_arg0))) (at2 (a := 4096) (b := 24576) (m ((c : Thread nD τ).loc main_arg1)))
          (at2 (a := 1) (b := 24576) (m ((c : Thread nD τ).loc main_arg2))) (y 0).val (512 * t.val + (y 1).val) := by
  unfold out0_3
  rw [stored, loaded, loaded, loaded]
  exact params _ _ _ _ (fun k j => at2 (a := 4096) (b := 24576) (m ((c : Thread nD τ).loc main_arg1)) k (512 * t.val + j))
    (fun k j => at2 (a := 1) (b := 24576) (m ((c : Thread nD τ).loc main_arg2)) k (512 * t.val + j)) (blk0 m c t) (blk1 m c t) (blk2 m c t) y

/-- The parameters. -/
theorem final3 (c : Dev nD) : (dats (F := Ideal) m 0 c).arrAt 3 cfg0.N = fun i : S16x24576.Idx =>
    paramAt (at2 (a := 16) (b := 4096) (m ((c : Thread nD τ).loc main_arg0))) (at2 (a := 4096) (b := 24576) (m ((c : Thread nD τ).loc main_arg1)))
      (at2 (a := 1) (b := 24576) (m ((c : Thread nD τ).loc main_arg2))) (i 0).val (i 1).val := by
  refine (dats (F := Ideal) m 0 c).arrAt_eq_of_covers 3 _ (by decide +kernel) fun t hf y => ?_
  show (dats (F := Ideal) m 0 c).after 3 t y =
    paramAt (at2 (a := 16) (b := 4096) (m ((c : Thread nD τ).loc main_arg0))) (at2 (a := 4096) (b := 24576) (m ((c : Thread nD τ).loc main_arg1)))
      (at2 (a := 1) (b := 24576) (m ((c : Thread nD τ).loc main_arg2))) (((cfg0.win 3).blk t).view.emb y 0).val (((cfg0.win 3).blk t).view.emb y 1).val
  obtain ⟨e0, e1⟩ := idx3 t
  have h0 : (((cfg0.win 3).blk t).view.emb y 0).val = win0_3.index t (0 : Fin 2) * 16 + 1 * (y 0).val := rfl
  have h1 : (((cfg0.win 3).blk t).view.emb y 1).val = win0_3.index t (1 : Fin 2) * 512 + 1 * (y 1).val := rfl
  rw [after0_3, h0, h1, e0, e1, Nat.one_mul, Nat.one_mul, Nat.mul_comm _ 512, Nat.zero_mul, Nat.zero_add]
  exact block3 m c t y

end

end Cert.Lin.Params

namespace Cert.Proof

open Idealize.ShloMosaic Idealize.ShloMosaic.TcCoe Idealize.SL.Sem

theorem reference9_frame : Cert.quiescent_Reference9Ideal (hReference9Ideal := Cert.Reference9Ideal.Gen.facts) := fun m g _ =>
  (θ_run (Cert.Reference9Ideal.defs (F := Ideal)) _ _).mono (fun r h => And.intro (fun c => (h c).2)
    (sem_eq_zero_of_no_sems (by decide) r.2)) (Cert.Reference9Ideal.Value.run (F := Ideal) m g)

/-- The parameters are the reference's. -/
theorem values9 : Cert.algebraic_Kernel9Ideal_Reference9Ideal (hKernel9Ideal := Cert.Kernel9Ideal.Gen.facts)
    (hReference9Ideal := Cert.Reference9Ideal.Gen.facts) := by
  intro m g m' g' _ ha
  refine ⟨_, (θ_run _ _ _).mono (fun _ h c => h c) (Cert.Kernel9Ideal.Value.run_blocks (F := Ideal) m g),
    (θ_run _ _ _).mono (fun r h c => ?_) (Cert.Reference9Ideal.Value.run (F := Ideal) m' g')⟩
  obtain ⟨e0, e1, e2⟩ := ha c
  obtain ⟨h0, hr⟩ := h c
  refine ⟨h0.trans ?_, hr⟩
  rw [e0, e1, e2]
  exact (Cert.Reference9Ideal.Read.val_main_v3_eq (F := Ideal) _ _ _).trans
    ((Cert.Lin.Params.final3 m c).trans (funext fun i => (Cert.Lin.Params.ref3 _ _ _ i).symm)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9Ideal.Value
public import proofs.«01_k».proof.Proof.Gen.Pre_finite_gate
public import proofs.«01_k».proof.Proof.Gen.Pre_finite_tail
public import proofs.«01_k».proof.Proof.Value
public import proofs.«01_k».proof.Proof.Layer
public import proofs.«01_k».proof.Proof.UpValue
public import proofs.«01_k».proof.Proof.Tail
public import proofs.«01_k».proof.Proof.Context
public import proofs.«01_k».proof.Proof.NormMod
public import proofs.«01_k».proof.Proof.Adaln
public import Idealize.ShloMosaic.Adequacy
public import Idealize.ShloMosaic.Init

@[expose] public section

noncomputable section

namespace Cert.Proof

open Idealize.ShloMosaic Idealize.SL.Sem Cert.Kernel

/-- The reference runs, leaves its arguments and declares no semaphore. -/
theorem reference_frame : Cert.quiescent_ReferenceIdeal (hReferenceIdeal := Cert.ReferenceIdeal.Gen.facts) := fun m g _ =>
  (θ_run (Cert.ReferenceIdeal.defs (F := Ideal)) _ _).mono (fun r h => And.intro (fun c => (h c).2.2)
    (sem_eq_zero_of_no_sems (by decide) r.2)) (Cert.ReferenceIdeal.Value.run (F := Ideal) m g)

/-- The idealised kernel and the idealised reference leave the same results when the scores are finite. -/
theorem values : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp ha
  refine ⟨_, _, (θ_run _ _ _).mono (fun _ h c => h c) (Cert.Attn.run_end (F := Ideal) m g), (θ_run _ _ _).mono (fun r h c => ?_) (Cert.Attn.ref_end m' g')⟩
  obtain ⟨e0, e1, e2, e3⟩ := ha c
  obtain ⟨h0, h1, hr⟩ := h c
  refine ⟨h0.trans ?_, h1.trans ?_, hr⟩
  · rw [e0, e1, e2]
    exact (Cert.Attn.attn_value m g c (Cert.Attn.pre_numbers _ _ _ _ (hp c))).symm
  · rw [e3]
    exact (Cert.Attn.cast_value m g c).symm

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite_scores.Gen.facts, Cert.Pre_finite_gate.Gen.facts, Cert.Pre_finite_tail.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  fun m g _ => Cert.Kernel2Ideal.Gen.frame m g,
  reference2_frame,
  fun m g _ => reference2_frame m g trivial,
  fun m g _ => Cert.Kernel3.Gen.frame m g,
  fun m g _ => Cert.Kernel3Ideal.Gen.frame m g,
  reference3_frame,
  fun m g _ => Cert.Kernel4.Gen.frame m g,
  fun m g _ => Cert.Kernel4Ideal.Gen.frame m g,
  reference4_frame,
  fun m g _ => Cert.Kernel5.Gen.frame m g,
  fun m g _ => Cert.Kernel5Ideal.Gen.frame m g,
  reference5_frame,
  fun m g _ => Cert.Kernel6.Gen.frame m g,
  fun m g _ => Cert.Kernel6Ideal.Gen.frame m g,
  fun m g _ => Cert.Kernel6Ideal.Gen.frame m g,
  reference6_frame,
  fun m g _ => reference6_frame m g trivial,
  fun m g _ => Cert.Kernel7.Gen.frame m g,
  fun m g _ => Cert.Kernel7Ideal.Gen.frame m g,
  reference7_frame,
  fun m g _ => Cert.Kernel8.Gen.frame m g,
  fun m g _ => Cert.Kernel8Ideal.Gen.frame m g,
  reference8_frame,
  fun m g _ => Cert.Kernel9.Gen.frame m g,
  fun m g _ => Cert.Kernel9Ideal.Gen.frame m g,
  reference9_frame,
  IdealRules.named_const.statement Cert.KernelIdeal.κ "scale" .f32 0x3DB504F3#32 _ rfl,
  values,
  trivial,
  values2,
  trivial,
  values3,
  trivial,
  values4,
  trivial,
  values5,
  trivial,
  values6,
  trivial,
  values7,
  trivial,
  values8,
  trivial,
  values9⟩

end Cert.Proof

end
